-- ==== Defs.lean ====
def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_finite_down [hPre_finite_down : Cert.Pre_finite_down.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_finite_down.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4)) (m ((c.tc : Thread Cert.DownLossIdeal.nD Cert.DownLossIdeal.τ).loc Cert.DownLossIdeal.main_arg5)) (m ((c.tc : Thread Cert.DownLossIdeal.nD Cert.DownLossIdeal.τ).loc Cert.DownLossIdeal.main_arg6))) = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_finite_down [hPre_finite_down : Cert.Pre_finite_down.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_finite_down.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4)) (m ((c.tc : Thread Cert.DownLossRefIdeal.nD Cert.DownLossRefIdeal.τ).loc Cert.DownLossRefIdeal.main_arg5)) (m ((c.tc : Thread Cert.DownLossRefIdeal.nD Cert.DownLossRefIdeal.τ).loc Cert.DownLossRefIdeal.main_arg6))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_up [hPre_finite_up : Cert.Pre_finite_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_up [hPre_finite_up : Cert.Pre_finite_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_finite_ffn [hPre_finite_ffn : Cert.Pre_finite_ffn.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_finite_ffn.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5))) = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_finite_ffn [hPre_finite_ffn : Cert.Pre_finite_ffn.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_finite_ffn.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5))) = (fun _ => 1#1)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4)
      ∧ r.2.mem ((c.tc : Thread Cert.DownLoss.nD Cert.DownLoss.τ).loc Cert.DownLoss.main_arg5) = m ((c.tc : Thread Cert.DownLoss.nD Cert.DownLoss.τ).loc Cert.DownLoss.main_arg5)
      ∧ r.2.mem ((c.tc : Thread Cert.DownLoss.nD Cert.DownLoss.τ).loc Cert.DownLoss.main_arg6) = m ((c.tc : Thread Cert.DownLoss.nD Cert.DownLoss.τ).loc Cert.DownLoss.main_arg6))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
      ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5)
      ∧ r.2.mem ((c.tc : Thread Cert.DownLossIdeal.nD Cert.DownLossIdeal.τ).loc Cert.DownLossIdeal.main_arg6) = m ((c.tc : Thread Cert.DownLossIdeal.nD Cert.DownLossIdeal.τ).loc Cert.DownLossIdeal.main_arg6))
      ∧ r.2.sem = fun _ => 0)

def quiescent_DownLossIdeal_pre_finite_down [hDownLossIdeal : Cert.DownLossIdeal.Facts] [hPre_finite_down : Cert.Pre_finite_down.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_finite_down m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
      ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5)
      ∧ r.2.mem ((c.tc : Thread Cert.DownLossIdeal.nD Cert.DownLossIdeal.τ).loc Cert.DownLossIdeal.main_arg6) = m ((c.tc : Thread Cert.DownLossIdeal.nD Cert.DownLossIdeal.τ).loc Cert.DownLossIdeal.main_arg6))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4)
      ∧ r.2.mem ((c.tc : Thread Cert.DownLossRefIdeal.nD Cert.DownLossRefIdeal.τ).loc Cert.DownLossRefIdeal.main_arg5) = m ((c.tc : Thread Cert.DownLossRefIdeal.nD Cert.DownLossRefIdeal.τ).loc Cert.DownLossRefIdeal.main_arg5)
      ∧ r.2.mem ((c.tc : Thread Cert.DownLossRefIdeal.nD Cert.DownLossRefIdeal.τ).loc Cert.DownLossRefIdeal.main_arg6) = m ((c.tc : Thread Cert.DownLossRefIdeal.nD Cert.DownLossRefIdeal.τ).loc Cert.DownLossRefIdeal.main_arg6))
      ∧ r.2.sem = fun _ => 0)

def quiescent_DownLossRefIdeal_pre_finite_down [hDownLossRefIdeal : Cert.DownLossRefIdeal.Facts] [hPre_finite_down : Cert.Pre_finite_down.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_finite_down m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4)
      ∧ r.2.mem ((c.tc : Thread Cert.DownLossRefIdeal.nD Cert.DownLossRefIdeal.τ).loc Cert.DownLossRefIdeal.main_arg5) = m ((c.tc : Thread Cert.DownLossRefIdeal.nD Cert.DownLossRefIdeal.τ).loc Cert.DownLossRefIdeal.main_arg5)
      ∧ r.2.mem ((c.tc : Thread Cert.DownLossRefIdeal.nD Cert.DownLossRefIdeal.τ).loc Cert.DownLossRefIdeal.main_arg6) = m ((c.tc : Thread Cert.DownLossRefIdeal.nD Cert.DownLossRefIdeal.τ).loc Cert.DownLossRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6)
      ∧ r.2.mem ((c.tc : Thread Cert.FfnUp.nD Cert.FfnUp.τ).loc Cert.FfnUp.main_arg7) = m ((c.tc : Thread Cert.FfnUp.nD Cert.FfnUp.τ).loc Cert.FfnUp.main_arg7)
      ∧ r.2.mem ((c.tc : Thread Cert.FfnUp.nD Cert.FfnUp.τ).loc Cert.FfnUp.main_arg8) = m ((c.tc : Thread Cert.FfnUp.nD Cert.FfnUp.τ).loc Cert.FfnUp.main_arg8))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpIdeal_pre_finite_up [hFfnUpIdeal : Cert.FfnUpIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnUpRefIdeal_pre_finite_up [hFfnUpRefIdeal : Cert.FfnUpRefIdeal.Facts] [hPre_finite_up : Cert.Pre_finite_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownIdeal_pre_finite_ffn [hFfnDownIdeal : Cert.FfnDownIdeal.Facts] [hPre_finite_ffn : Cert.Pre_finite_ffn.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_finite_ffn m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def quiescent_FfnDownRefIdeal_pre_finite_ffn [hFfnDownRefIdeal : Cert.FfnDownRefIdeal.Facts] [hPre_finite_ffn : Cert.Pre_finite_ffn.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_finite_ffn m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def preserves_DownLoss_DownLossIdeal : Prop :=
  True

def algebraic_DownLossIdeal_DownLossRefIdeal_pre_finite_down [hDownLossIdeal : Cert.DownLossIdeal.Facts] [hDownLossRefIdeal : Cert.DownLossRefIdeal.Facts] [hPre_finite_down : Cert.Pre_finite_down.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_finite_down m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)
      ∧ m' ((c.tc : Thread Cert.DownLossRefIdeal.nD Cert.DownLossRefIdeal.τ).loc Cert.DownLossRefIdeal.main_arg5) = m ((c.tc : Thread Cert.DownLossIdeal.nD Cert.DownLossIdeal.τ).loc Cert.DownLossIdeal.main_arg5)
      ∧ m' ((c.tc : Thread Cert.DownLossRefIdeal.nD Cert.DownLossRefIdeal.τ).loc Cert.DownLossRefIdeal.main_arg6) = m ((c.tc : Thread Cert.DownLossIdeal.nD Cert.DownLossIdeal.τ).loc Cert.DownLossIdeal.main_arg6)) →
    ∃ (v0 : (c : Dev Cert.DownLossIdeal.nD) → Buf (Elt Ideal) ((c.tc : Thread Cert.DownLossIdeal.nD Cert.DownLossIdeal.τ).loc Cert.DownLossIdeal.main_v11_0)) (v1 : (c : Dev Cert.DownLossIdeal.nD) → Buf (Elt Ideal) ((c.tc : Thread Cert.DownLossIdeal.nD Cert.DownLossIdeal.τ).loc Cert.DownLossIdeal.main_v11_1)) (v2 : (c : Dev Cert.DownLossIdeal.nD) → Buf (Elt Ideal) ((c.tc : Thread Cert.DownLossIdeal.nD Cert.DownLossIdeal.τ).loc Cert.DownLossIdeal.main_v11_2)) (v3 : (c : Dev Cert.DownLossIdeal.nD) → Buf (Elt Ideal) ((c.tc : Thread Cert.DownLossIdeal.nD Cert.DownLossIdeal.τ).loc Cert.DownLossIdeal.main_v11_3)) (v4 : (c : Dev Cert.DownLossIdeal.nD) → Buf (Elt Ideal) ((c.tc : Thread Cert.DownLossIdeal.nD Cert.DownLossIdeal.τ).loc Cert.DownLossIdeal.main_v11_4)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v11_0) = v0 c
          ∧ r.2.mem ((c.tc : Thread Cert.DownLossIdeal.nD Cert.DownLossIdeal.τ).loc Cert.DownLossIdeal.main_v11_1) = v1 c
          ∧ r.2.mem ((c.tc : Thread Cert.DownLossIdeal.nD Cert.DownLossIdeal.τ).loc Cert.DownLossIdeal.main_v11_2) = v2 c
          ∧ r.2.mem ((c.tc : Thread Cert.DownLossIdeal.nD Cert.DownLossIdeal.τ).loc Cert.DownLossIdeal.main_v11_3) = v3 c
          ∧ r.2.mem ((c.tc : Thread Cert.DownLossIdeal.nD Cert.DownLossIdeal.τ).loc Cert.DownLossIdeal.main_v11_4) = v4 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
          ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5)
          ∧ r.2.mem ((c.tc : Thread Cert.DownLossIdeal.nD Cert.DownLossIdeal.τ).loc Cert.DownLossIdeal.main_arg6) = m ((c.tc : Thread Cert.DownLossIdeal.nD Cert.DownLossIdeal.τ).loc Cert.DownLossIdeal.main_arg6))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v73) = v0 c
          ∧ r.2.mem ((c.tc : Thread Cert.DownLossRefIdeal.nD Cert.DownLossRefIdeal.τ).loc Cert.DownLossRefIdeal.main_v75) = v1 c
          ∧ r.2.mem ((c.tc : Thread Cert.DownLossRefIdeal.nD Cert.DownLossRefIdeal.τ).loc Cert.DownLossRefIdeal.main_v76) = v2 c
          ∧ r.2.mem ((c.tc : Thread Cert.DownLossRefIdeal.nD Cert.DownLossRefIdeal.τ).loc Cert.DownLossRefIdeal.main_v72) = v3 c
          ∧ r.2.mem ((c.tc : Thread Cert.DownLossRefIdeal.nD Cert.DownLossRefIdeal.τ).loc Cert.DownLossRefIdeal.main_v77) = v4 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4)
          ∧ r.2.mem ((c.tc : Thread Cert.DownLossRefIdeal.nD Cert.DownLossRefIdeal.τ).loc Cert.DownLossRefIdeal.main_arg5) = m' ((c.tc : Thread Cert.DownLossRefIdeal.nD Cert.DownLossRefIdeal.τ).loc Cert.DownLossRefIdeal.main_arg5)
          ∧ r.2.mem ((c.tc : Thread Cert.DownLossRefIdeal.nD Cert.DownLossRefIdeal.τ).loc Cert.DownLossRefIdeal.main_arg6) = m' ((c.tc : Thread Cert.DownLossRefIdeal.nD Cert.DownLossRefIdeal.τ).loc Cert.DownLossRefIdeal.main_arg6))

def preserves_AttnBwd_AttnBwdIdeal : Prop :=
  IdealRules.named_const.Statement Cert.AttnBwdIdeal.κ "mask" .f32 0xF149F2CA#32 ⊥
  ∧ IdealRules.named_const.Statement Cert.AttnBwdIdeal.κ "scale2" .f32 0x3E16C740#32 (((3424635 / 33554432) * (Real.log 2)⁻¹ : ℝ) : EReal)

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v55_0)) (v1 : (c : Dev Cert.AttnBwdIdeal.nD) → Buf (Elt Ideal) ((c.tc : Thread Cert.AttnBwdIdeal.nD Cert.AttnBwdIdeal.τ).loc Cert.AttnBwdIdeal.main_v55_1)) (v2 : (c : Dev Cert.AttnBwdIdeal.nD) → Buf (Elt Ideal) ((c.tc : Thread Cert.AttnBwdIdeal.nD Cert.AttnBwdIdeal.τ).loc Cert.AttnBwdIdeal.main_v55_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v55_0) = v0 c
          ∧ r.2.mem ((c.tc : Thread Cert.AttnBwdIdeal.nD Cert.AttnBwdIdeal.τ).loc Cert.AttnBwdIdeal.main_v55_1) = v1 c
          ∧ r.2.mem ((c.tc : Thread Cert.AttnBwdIdeal.nD Cert.AttnBwdIdeal.τ).loc Cert.AttnBwdIdeal.main_v55_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v77) = v0 c
          ∧ r.2.mem ((c.tc : Thread Cert.AttnBwdRefIdeal.nD Cert.AttnBwdRefIdeal.τ).loc Cert.AttnBwdRefIdeal.main_v80) = v1 c
          ∧ r.2.mem ((c.tc : Thread Cert.AttnBwdRefIdeal.nD Cert.AttnBwdRefIdeal.τ).loc Cert.AttnBwdRefIdeal.main_v83) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v15_0)) (v1 : (c : Dev Cert.OutProjIdeal.nD) → Buf (Elt Ideal) ((c.tc : Thread Cert.OutProjIdeal.nD Cert.OutProjIdeal.τ).loc Cert.OutProjIdeal.main_v15_1)) (v2 : (c : Dev Cert.OutProjIdeal.nD) → Buf (Elt Ideal) ((c.tc : Thread Cert.OutProjIdeal.nD Cert.OutProjIdeal.τ).loc Cert.OutProjIdeal.main_v15_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v15_0) = v0 c
          ∧ r.2.mem ((c.tc : Thread Cert.OutProjIdeal.nD Cert.OutProjIdeal.τ).loc Cert.OutProjIdeal.main_v15_1) = v1 c
          ∧ r.2.mem ((c.tc : Thread Cert.OutProjIdeal.nD Cert.OutProjIdeal.τ).loc Cert.OutProjIdeal.main_v15_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v16) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_v19) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnUp_FfnUpIdeal : Prop :=
  True

def algebraic_FfnUpIdeal_FfnUpRefIdeal_pre_finite_up [hFfnUpIdeal : Cert.FfnUpIdeal.Facts] [hFfnUpRefIdeal : Cert.FfnUpRefIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)
      ∧ m' ((c.tc : Thread Cert.FfnUpRefIdeal.nD Cert.FfnUpRefIdeal.τ).loc Cert.FfnUpRefIdeal.main_arg7) = m ((c.tc : Thread Cert.FfnUpIdeal.nD Cert.FfnUpIdeal.τ).loc Cert.FfnUpIdeal.main_arg7)
      ∧ m' ((c.tc : Thread Cert.FfnUpRefIdeal.nD Cert.FfnUpRefIdeal.τ).loc Cert.FfnUpRefIdeal.main_arg8) = m ((c.tc : Thread Cert.FfnUpIdeal.nD Cert.FfnUpIdeal.τ).loc Cert.FfnUpIdeal.main_arg8)) →
    ∃ (v0 : (c : Dev Cert.FfnUpIdeal.nD) → Buf (Elt Ideal) ((c.tc : Thread Cert.FfnUpIdeal.nD Cert.FfnUpIdeal.τ).loc Cert.FfnUpIdeal.main_v31_0)) (v1 : (c : Dev Cert.FfnUpIdeal.nD) → Buf (Elt Ideal) ((c.tc : Thread Cert.FfnUpIdeal.nD Cert.FfnUpIdeal.τ).loc Cert.FfnUpIdeal.main_v31_1)) (v2 : (c : Dev Cert.FfnUpIdeal.nD) → Buf (Elt Ideal) ((c.tc : Thread Cert.FfnUpIdeal.nD Cert.FfnUpIdeal.τ).loc Cert.FfnUpIdeal.main_v31_2)) (v3 : (c : Dev Cert.FfnUpIdeal.nD) → Buf (Elt Ideal) ((c.tc : Thread Cert.FfnUpIdeal.nD Cert.FfnUpIdeal.τ).loc Cert.FfnUpIdeal.main_v31_3)) (v4 : (c : Dev Cert.FfnUpIdeal.nD) → Buf (Elt Ideal) ((c.tc : Thread Cert.FfnUpIdeal.nD Cert.FfnUpIdeal.τ).loc Cert.FfnUpIdeal.main_v31_4)) (v5 : (c : Dev Cert.FfnUpIdeal.nD) → Buf (Elt Ideal) ((c.tc : Thread Cert.FfnUpIdeal.nD Cert.FfnUpIdeal.τ).loc Cert.FfnUpIdeal.main_v31_5)) (v6 : (c : Dev Cert.FfnUpIdeal.nD) → Buf (Elt Ideal) ((c.tc : Thread Cert.FfnUpIdeal.nD Cert.FfnUpIdeal.τ).loc Cert.FfnUpIdeal.main_v31_6)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v31_0) = v0 c
          ∧ r.2.mem ((c.tc : Thread Cert.FfnUpIdeal.nD Cert.FfnUpIdeal.τ).loc Cert.FfnUpIdeal.main_v31_1) = v1 c
          ∧ r.2.mem ((c.tc : Thread Cert.FfnUpIdeal.nD Cert.FfnUpIdeal.τ).loc Cert.FfnUpIdeal.main_v31_2) = v2 c
          ∧ r.2.mem ((c.tc : Thread Cert.FfnUpIdeal.nD Cert.FfnUpIdeal.τ).loc Cert.FfnUpIdeal.main_v31_3) = v3 c
          ∧ r.2.mem ((c.tc : Thread Cert.FfnUpIdeal.nD Cert.FfnUpIdeal.τ).loc Cert.FfnUpIdeal.main_v31_4) = v4 c
          ∧ r.2.mem ((c.tc : Thread Cert.FfnUpIdeal.nD Cert.FfnUpIdeal.τ).loc Cert.FfnUpIdeal.main_v31_5) = v5 c
          ∧ r.2.mem ((c.tc : Thread Cert.FfnUpIdeal.nD Cert.FfnUpIdeal.τ).loc Cert.FfnUpIdeal.main_v31_6) = v6 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
          ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
          ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v118) = v0 c
          ∧ r.2.mem ((c.tc : Thread Cert.FfnUpRefIdeal.nD Cert.FfnUpRefIdeal.τ).loc Cert.FfnUpRefIdeal.main_v120) = v1 c
          ∧ r.2.mem ((c.tc : Thread Cert.FfnUpRefIdeal.nD Cert.FfnUpRefIdeal.τ).loc Cert.FfnUpRefIdeal.main_v59) = v2 c
          ∧ r.2.mem ((c.tc : Thread Cert.FfnUpRefIdeal.nD Cert.FfnUpRefIdeal.τ).loc Cert.FfnUpRefIdeal.main_v66) = v3 c
          ∧ r.2.mem ((c.tc : Thread Cert.FfnUpRefIdeal.nD Cert.FfnUpRefIdeal.τ).loc Cert.FfnUpRefIdeal.main_v121) = v4 c
          ∧ r.2.mem ((c.tc : Thread Cert.FfnUpRefIdeal.nD Cert.FfnUpRefIdeal.τ).loc Cert.FfnUpRefIdeal.main_v117) = v5 c
          ∧ r.2.mem ((c.tc : Thread Cert.FfnUpRefIdeal.nD Cert.FfnUpRefIdeal.τ).loc Cert.FfnUpRefIdeal.main_v122) = v6 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6)
          ∧ r.2.mem ((c.tc : Thread Cert.FfnUpRefIdeal.nD Cert.FfnUpRefIdeal.τ).loc Cert.FfnUpRefIdeal.main_arg7) = m' ((c.tc : Thread Cert.FfnUpRefIdeal.nD Cert.FfnUpRefIdeal.τ).loc Cert.FfnUpRefIdeal.main_arg7)
          ∧ r.2.mem ((c.tc : Thread Cert.FfnUpRefIdeal.nD Cert.FfnUpRefIdeal.τ).loc Cert.FfnUpRefIdeal.main_arg8) = m' ((c.tc : Thread Cert.FfnUpRefIdeal.nD Cert.FfnUpRefIdeal.τ).loc Cert.FfnUpRefIdeal.main_arg8))

def preserves_FfnDown_FfnDownIdeal : Prop :=
  True

def algebraic_FfnDownIdeal_FfnDownRefIdeal_pre_finite_ffn [hFfnDownIdeal : Cert.FfnDownIdeal.Facts] [hFfnDownRefIdeal : Cert.FfnDownRefIdeal.Facts] [hPre_finite_ffn : Cert.Pre_finite_ffn.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_finite_ffn m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v63_0)) (v1 : (c : Dev Cert.FfnDownIdeal.nD) → Buf (Elt Ideal) ((c.tc : Thread Cert.FfnDownIdeal.nD Cert.FfnDownIdeal.τ).loc Cert.FfnDownIdeal.main_v63_1)) (v2 : (c : Dev Cert.FfnDownIdeal.nD) → Buf (Elt Ideal) ((c.tc : Thread Cert.FfnDownIdeal.nD Cert.FfnDownIdeal.τ).loc Cert.FfnDownIdeal.main_v63_2)) (v3 : (c : Dev Cert.FfnDownIdeal.nD) → Buf (Elt Ideal) ((c.tc : Thread Cert.FfnDownIdeal.nD Cert.FfnDownIdeal.τ).loc Cert.FfnDownIdeal.main_v63_3)) (v4 : (c : Dev Cert.FfnDownIdeal.nD) → Buf (Elt Ideal) ((c.tc : Thread Cert.FfnDownIdeal.nD Cert.FfnDownIdeal.τ).loc Cert.FfnDownIdeal.main_v63_4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v63_0) = v0 c
          ∧ r.2.mem ((c.tc : Thread Cert.FfnDownIdeal.nD Cert.FfnDownIdeal.τ).loc Cert.FfnDownIdeal.main_v63_1) = v1 c
          ∧ r.2.mem ((c.tc : Thread Cert.FfnDownIdeal.nD Cert.FfnDownIdeal.τ).loc Cert.FfnDownIdeal.main_v63_2) = v2 c
          ∧ r.2.mem ((c.tc : Thread Cert.FfnDownIdeal.nD Cert.FfnDownIdeal.τ).loc Cert.FfnDownIdeal.main_v63_3) = v3 c
          ∧ r.2.mem ((c.tc : Thread Cert.FfnDownIdeal.nD Cert.FfnDownIdeal.τ).loc Cert.FfnDownIdeal.main_v63_4) = v4 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v92) = v0 c
          ∧ r.2.mem ((c.tc : Thread Cert.FfnDownRefIdeal.nD Cert.FfnDownRefIdeal.τ).loc Cert.FfnDownRefIdeal.main_v87) = v1 c
          ∧ r.2.mem ((c.tc : Thread Cert.FfnDownRefIdeal.nD Cert.FfnDownRefIdeal.τ).loc Cert.FfnDownRefIdeal.main_v89) = v2 c
          ∧ r.2.mem ((c.tc : Thread Cert.FfnDownRefIdeal.nD Cert.FfnDownRefIdeal.τ).loc Cert.FfnDownRefIdeal.main_v94) = v3 c
          ∧ r.2.mem ((c.tc : Thread Cert.FfnDownRefIdeal.nD Cert.FfnDownRefIdeal.τ).loc Cert.FfnDownRefIdeal.main_v95) = v4 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5))

def Claim : Prop :=
  ∃ (hDownLoss : Cert.DownLoss.Facts) (hDownLossIdeal : Cert.DownLossIdeal.Facts) (hDownLossRefIdeal : Cert.DownLossRefIdeal.Facts) (hAttnBwd : Cert.AttnBwd.Facts) (hAttnBwdIdeal : Cert.AttnBwdIdeal.Facts) (hAttnBwdRefIdeal : Cert.AttnBwdRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPre_finite_down : Cert.Pre_finite_down.Facts) (hPre_finite_attn : Cert.Pre_finite_attn.Facts) (hPre_finite_up : Cert.Pre_finite_up.Facts) (hPre_finite_ffn : Cert.Pre_finite_ffn.Facts),
    quiescent_DownLoss (hDownLoss := hDownLoss)
    ∧ quiescent_DownLossIdeal (hDownLossIdeal := hDownLossIdeal)
    ∧ quiescent_DownLossIdeal_pre_finite_down (hDownLossIdeal := hDownLossIdeal) (hPre_finite_down := hPre_finite_down)
    ∧ quiescent_DownLossRefIdeal (hDownLossRefIdeal := hDownLossRefIdeal)
    ∧ quiescent_DownLossRefIdeal_pre_finite_down (hDownLossRefIdeal := hDownLossRefIdeal) (hPre_finite_down := hPre_finite_down)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpIdeal_pre_finite_up (hFfnUpIdeal := hFfnUpIdeal) (hPre_finite_up := hPre_finite_up)
    ∧ quiescent_FfnUpRefIdeal (hFfnUpRefIdeal := hFfnUpRefIdeal)
    ∧ quiescent_FfnUpRefIdeal_pre_finite_up (hFfnUpRefIdeal := hFfnUpRefIdeal) (hPre_finite_up := hPre_finite_up)
    ∧ quiescent_FfnDown (hFfnDown := hFfnDown)
    ∧ quiescent_FfnDownIdeal (hFfnDownIdeal := hFfnDownIdeal)
    ∧ quiescent_FfnDownIdeal_pre_finite_ffn (hFfnDownIdeal := hFfnDownIdeal) (hPre_finite_ffn := hPre_finite_ffn)
    ∧ quiescent_FfnDownRefIdeal (hFfnDownRefIdeal := hFfnDownRefIdeal)
    ∧ quiescent_FfnDownRefIdeal_pre_finite_ffn (hFfnDownRefIdeal := hFfnDownRefIdeal) (hPre_finite_ffn := hPre_finite_ffn)
    ∧ preserves_DownLoss_DownLossIdeal
    ∧ algebraic_DownLossIdeal_DownLossRefIdeal_pre_finite_down (hDownLossIdeal := hDownLossIdeal) (hDownLossRefIdeal := hDownLossRefIdeal) (hPre_finite_down := hPre_finite_down)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal_pre_finite_up (hFfnUpIdeal := hFfnUpIdeal) (hFfnUpRefIdeal := hFfnUpRefIdeal) (hPre_finite_up := hPre_finite_up)
    ∧ preserves_FfnDown_FfnDownIdeal
    ∧ algebraic_FfnDownIdeal_FfnDownRefIdeal_pre_finite_ffn (hFfnDownIdeal := hFfnDownIdeal) (hFfnDownRefIdeal := hFfnDownRefIdeal) (hPre_finite_ffn := hPre_finite_ffn)
-- ==== Pre_finite_attn.lean ====
abbrev S1x4096x8x64 : Shape := ⟨4, ![1, 4096, 8, 64]⟩
abbrev S1x4096x8x32 : Shape := ⟨4, ![1, 4096, 8, 32]⟩
abbrev S1x4096x32 : Shape := ⟨3, ![1, 4096, 32]⟩
abbrev S1x4096x512 : Shape := ⟨3, ![1, 4096, 512]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x8x32 : S_.BroadcastsInDim S1x4096x8x32 (![] : Fin 0 → Fin S1x4096x8x32.rank)
  reducesTo_S1x4096x8x32_S_d0_1_2_3 : S1x4096x8x32.ReducesTo [0, 1, 2, 3] S_
  bcast_S_S1x4096x32 : S_.BroadcastsInDim S1x4096x32 (![] : Fin 0 → Fin S1x4096x32.rank)
  reducesTo_S1x4096x32_S_d0_1_2 : S1x4096x32.ReducesTo [0, 1, 2] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_arg4 : FVec F S1x4096x8x64 .f32) (main_arg5 : FVec F S1x4096x512 .f32) (main_v13 : IVec S_ 1) (main_v16 : IVec S1x4096x32 1) : IVec S_ 1 :=
  let main_c_5 : IVec S_ 1 := constantI S_ 1 1#1
  let main_v17 : IVec S_ 1 := (fun x v => Host.reduce IntOp.andi x v reducesTo_S1x4096x32_S_d0_1_2 h_S_) main_v16 main_c_5
  let main_v18 : IVec S_ 1 := andi main_v13 main_v17
  let main_v19 : FVec F S1x4096x8x64 .f32 := Host.absf main_arg4
  let main_cst_6 : FVec F S_ .f32 := constant S_ .f32 0x7F800000#32
  let main_v20 : FVec F S1x4096x8x64 .f32 := broadcastInDim S1x4096x8x64 ![] bcast_S_S1x4096x8x64 main_cst_6
  let main_v21 : IVec S1x4096x8x64 1 := cmpf .olt main_v19 main_v20
  let main_c_7 : IVec S_ 1 := constantI S_ 1 1#1
  let main_v22 : IVec S_ 1 := (fun x v => Host.reduce IntOp.andi x v reducesTo_S1x4096x8x64_S_d0_1_2_3 h_S_) main_v21 main_c_7
  let main_v23 : IVec S_ 1 := andi main_v18 main_v22
  let main_v24 : FVec F S1x4096x512 .f32 := Host.absf main_arg5
  let main_cst_8 : FVec F S_ .f32 := constant S_ .f32 0x7F800000#32
  let main_v25 : FVec F S1x4096x512 .f32 := broadcastInDim S1x4096x512 ![] bcast_S_S1x4096x512 main_cst_8
  let main_v26 : IVec S1x4096x512 1 := cmpf .olt main_v24 main_v25
  let main_c_9 : IVec S_ 1 := constantI S_ 1 1#1
  let main_v27 : IVec S_ 1 := (fun x v => Host.reduce IntOp.andi x v reducesTo_S1x4096x512_S_d0_1_2 h_S_) main_v26 main_c_9
  let main_v28 : IVec S_ 1 := andi main_v23 main_v27
  main_v28

def fn {F : FTy → Type} [FloatOps F] (main_arg0 : FVec F S1x4096x8x64 .f32) (main_arg1 : FVec F S1x4096x8x32 .f32) (main_arg2 : FVec F S1x4096x8x64 .f32) (main_arg3 : FVec F S1x4096x32 .f32) (main_arg4 : FVec F S1x4096x8x64 .f32) (main_arg5 : FVec F S1x4096x512 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x8x32 .f32 := Host.absf main_arg1
  let main_cst_0 : FVec F S_ .f32 := constant S_ .f32 0x7F800000#32
  let main_v5 : FVec F S1x4096x8x32 .f32 := broadcastInDim S1x4096x8x32 ![] bcast_S_S1x4096x8x32 main_cst_0
  let main_v6 : IVec S1x4096x8x32 1 := cmpf .olt main_v4 main_v5
  let main_c_1 : IVec S_ 1 := constantI S_ 1 1#1
  let main_v7 : IVec S_ 1 := (fun x v => Host.reduce IntOp.andi x v reducesTo_S1x4096x8x32_S_d0_1_2_3 h_S_) main_v6 main_c_1
  let main_v8 : IVec S_ 1 := andi main_v3 main_v7
  let main_v9 : FVec F S1x4096x8x64 .f32 := Host.absf main_arg2
  let main_cst_2 : FVec F S_ .f32 := constant S_ .f32 0x7F800000#32
  let main_v10 : FVec F S1x4096x8x64 .f32 := broadcastInDim S1x4096x8x64 ![] bcast_S_S1x4096x8x64 main_cst_2
  let main_v11 : IVec S1x4096x8x64 1 := cmpf .olt main_v9 main_v10
  let main_c_3 : IVec S_ 1 := constantI S_ 1 1#1
  let main_v12 : IVec S_ 1 := (fun x v => Host.reduce IntOp.andi x v reducesTo_S1x4096x8x64_S_d0_1_2_3 h_S_) main_v11 main_c_3
  let main_v13 : IVec S_ 1 := andi main_v8 main_v12
  let main_v14 : FVec F S1x4096x32 .f32 := Host.absf main_arg3
  let main_cst_4 : FVec F S_ .f32 := constant S_ .f32 0x7F800000#32
  let main_v15 : FVec F S1x4096x32 .f32 := broadcastInDim S1x4096x32 ![] bcast_S_S1x4096x32 main_cst_4
  let main_v16 : IVec S1x4096x32 1 := cmpf .olt main_v14 main_v15
  fn_part1 (F := F) main_arg4 main_arg5 main_v13 main_v16
-- ==== Pre_finite_down.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x6144 : Shape := ⟨2, ![1, 6144]⟩
abbrev S1x1024 : Shape := ⟨2, ![1, 1024]⟩
abbrev S_ : Shape := ⟨0, ![]⟩

class Facts : Prop where
  bcast_S_S1x4096x2816 : S_.BroadcastsInDim S1x4096x2816 (![] : Fin 0 → Fin S1x4096x2816.rank)
  reducesTo_S1x4096x2816_S_d0_1_2 : S1x4096x2816.ReducesTo [0, 1, 2] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x6144 .f32) (main_arg5 : FVec F S1x6144 .f32) (main_arg6 : FVec F S1x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x6144 .f32 := Host.absf main_arg4
  let main_cst_6 : FVec F S_ .f32 := constant S_ .f32 0x7F800000#32
  let main_v20 : FVec F S1x6144 .f32 := broadcastInDim S1x6144 ![] bcast_S_S1x6144 main_cst_6
  let main_v21 : IVec S1x6144 1 := cmpf .olt main_v19 main_v20
  let main_c_7 : IVec S_ 1 := constantI S_ 1 1#1
  let main_v22 : IVec S_ 1 := (fun x v => Host.reduce IntOp.andi x v reducesTo_S1x6144_S_d0_1 h_S_) main_v21 main_c_7
  let main_v23 : IVec S_ 1 := andi main_v18 main_v22
  let main_v24 : FVec F S1x6144 .f32 := Host.absf main_arg5
  let main_cst_8 : FVec F S_ .f32 := constant S_ .f32 0x7F800000#32
  let main_v25 : FVec F S1x6144 .f32 := broadcastInDim S1x6144 ![] bcast_S_S1x6144 main_cst_8
  let main_v26 : IVec S1x6144 1 := cmpf .olt main_v24 main_v25
  let main_c_9 : IVec S_ 1 := constantI S_ 1 1#1
  let main_v27 : IVec S_ 1 := (fun x v => Host.reduce IntOp.andi x v reducesTo_S1x6144_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S1x4096x2816 .f32) (main_arg1 : FVec F S1x2816x1024 .f32) (main_arg2 : FVec F S1x4096x1024 .f32) (main_arg3 : FVec F S1x4096x1024 .f32) (main_arg4 : FVec F S1x6144 .f32) (main_arg5 : FVec F S1x6144 .f32) (main_arg6 : FVec F S1x1024 .f32) : IVec S_ 1 :=
  let main_v0 : FVec F S1x4096x2816 .f32 := Host.absf main_arg0
  let main_cst : FVec F S_ .f32 := constant S_ .f32 0x7F800000#32
  let main_v1 : FVec F S1x4096x2816 .f32 := broadcastInDim S1x4096x2816 ![] bcast_S_S1x4096x2816 main_cst
  let main_v2 : IVec S1x4096x2816 1 := cmpf .olt main_v0 main_v1
  let main_c : IVec S_ 1 := constantI S_ 1 1#1
  let main_v3 : IVec S_ 1 := (fun x v => Host.reduce IntOp.andi x v reducesTo_S1x4096x2816_S_d0_1_2 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_arg6 main_v13 main_v16
-- ==== Pre_finite_ffn.lean ====
abbrev S1x4096x1024 : Shape := ⟨3, ![1, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S1x4096x1024 .f32) (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4096x1024 .f32) (main_arg1 : FVec F S1x1024x5632 .f32) (main_arg2 : FVec F S1x3x5632 .f32) (main_arg3 : FVec F S1x5632 .f32) (main_arg4 : FVec F S1x2816x1024 .f32) (main_arg5 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  let main_v9 : FVec F S1x3x5632 .f32 := Host.absf main_arg2
  let main_cst_2 : FVec F S_ .f32 := constant S_ .f32 0x7F800000#32
  let main_v10 : FVec F S1x3x5632 .f32 := broadcastInDim S1x3x5632 ![] bcast_S_S1x3x5632 main_cst_2
  let main_v11 : IVec S1x3x5632 1 := cmpf .olt main_v9 main_v10
  let main_c_3 : IVec S_ 1 := constantI S_ 1 1#1
  let main_v12 : IVec S_ 1 := (fun x v => Host.reduce IntOp.andi x v reducesTo_S1x3x5632_S_d0_1_2 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_arg4 main_arg5 main_v13 main_v16
-- ==== Pre_finite_up.lean ====
abbrev S1x4096x1024 : Shape := ⟨3, ![1, 4096, 1024]⟩
abbrev S1x1024x5632 : Shape := ⟨3, ![1, 1024, 5632]⟩
abbrev S1x6144 : Shape := ⟨2, ![1, 6144]⟩
abbrev S1x1024 : Shape := ⟨2, ![1, 1024]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x4096x5632 : S_.BroadcastsInDim S1x4096x5632 (![] : Fin 0 → Fin S1x4096x5632.rank)
  reducesTo_S1x4096x5632_S_d0_1_2 : S1x4096x5632.ReducesTo [0, 1, 2] S_

variable [Facts]

def fn_part2 {F : FTy → Type} [FloatOps F] (main_arg7 : FVec F S1x4096x1024 .f32) (main_arg8 : FVec F S1x4096x5632 .f32) (main_v33 : IVec S_ 1) : IVec S_ 1 :=
  let main_v34 : FVec F S1x4096x1024 .f32 := Host.absf main_arg7
  let main_cst_12 : FVec F S_ .f32 := constant S_ .f32 0x7F800000#32
  let main_v35 : FVec F S1x4096x1024 .f32 := broadcastInDim S1x4096x1024 ![] bcast_S_S1x4096x1024 main_cst_12
  let main_v36 : IVec S1x4096x1024 1 := cmpf .olt main_v34 main_v35
  let main_c_13 : IVec S_ 1 := constantI S_ 1 1#1
  let main_v37 : IVec S_ 1 := (fun x v => Host.reduce IntOp.andi x v reducesTo_S1x4096x1024_S_d0_1_2 h_S_) main_v36 main_c_13
  let main_v38 : IVec S_ 1 := andi main_v33 main_v37
  let main_v39 : FVec F S1x4096x5632 .f32 := Host.absf main_arg8
  let main_cst_14 : FVec F S_ .f32 := constant S_ .f32 0x7F800000#32
  let main_v40 : FVec F S1x4096x5632 .f32 := broadcastInDim S1x4096x5632 ![] bcast_S_S1x4096x5632 main_cst_14
  let main_v41 : IVec S1x4096x5632 1 := cmpf .olt main_v39 main_v40
  let main_c_15 : IVec S_ 1 := constantI S_ 1 1#1
  let main_v42 : IVec S_ 1 := (fun x v => Host.reduce IntOp.andi x v reducesTo_S1x4096x5632_S_d0_1_2 h_S_) main_v41 main_c_15
  let main_v43 : IVec S_ 1 := andi main_v38 main_v42
  main_v43

def fn_part1 {F : FTy → Type} [FloatOps F] (main_arg4 : FVec F S1x6144 .f32) (main_arg5 : FVec F S1x1024 .f32) (main_arg6 : FVec F S1x1024 .f32) (main_arg7 : FVec F S1x4096x1024 .f32) (main_arg8 : FVec F S1x4096x5632 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1x6144 .f32 := Host.absf main_arg4
  let main_cst_6 : FVec F S_ .f32 := constant S_ .f32 0x7F800000#32
  let main_v20 : FVec F S1x6144 .f32 := broadcastInDim S1x6144 ![] bcast_S_S1x6144 main_cst_6
  let main_v21 : IVec S1x6144 1 := cmpf .olt main_v19 main_v20
  let main_c_7 : IVec S_ 1 := constantI S_ 1 1#1
  let main_v22 : IVec S_ 1 := (fun x v => Host.reduce IntOp.andi x v reducesTo_S1x6144_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_v33

def fn {F : FTy → Type} [FloatOps F] (main_arg0 : FVec F S1x4096x1024 .f32) (main_arg1 : FVec F S1x4096x1024 .f32) (main_arg2 : FVec F S1x1024x5632 .f32) (main_arg3 : FVec F S1x6144 .f32) (main_arg4 : FVec F S1x6144 .f32) (main_arg5 : FVec F S1x1024 .f32) (main_arg6 : FVec F S1x1024 .f32) (main_arg7 : FVec F S1x4096x1024 .f32) (main_arg8 : FVec F S1x4096x5632 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x6144 .f32 := Host.absf main_arg3
  let main_cst_4 : FVec F S_ .f32 := constant S_ .f32 0x7F800000#32
  let main_v15 : FVec F S1x6144 .f32 := broadcastInDim S1x6144 ![] bcast_S_S1x6144 main_cst_4
  let main_v16 : IVec S1x6144 1 := cmpf .olt main_v14 main_v15
  fn_part1 (F := F) main_arg4 main_arg5 main_arg6 main_arg7 main_arg8 main_v13 main_v16
-- ==== DownLoss.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x6144 : Shape := ⟨2, ![1, 6144]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S6x1024 : Shape := ⟨2, ![6, 1024]⟩
abbrev S4096x1024 : Shape := ⟨2, ![4096, 1024]⟩
abbrev S1x128 : Shape := ⟨2, ![1, 128]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 17
  | .smem => 0
  | _ => 0

abbrev bufTy : (tb : Table) → Fin (tcTables nBuf tb) → BufTy
  | .hbm, ⟨0, _⟩ => ⟨S1x4096x2816, .f32⟩
  | .hbm, ⟨1, _⟩ => ⟨S1x2816x1024, .f32⟩
  | .hbm, ⟨2, _⟩ => ⟨S1x4096x1024, .f32⟩
  | .hbm, ⟨3, _⟩ => ⟨S1x4096x1024, .f32⟩
  | .hbm, ⟨4, _⟩ => ⟨S1x6144, .f32⟩
  | .hbm, ⟨5, _⟩ => ⟨S1x6144, .f32⟩
  | .hbm, ⟨6, _⟩ => ⟨S1x1024, .f32⟩
  | .hbm, ⟨7, _⟩ => ⟨S4096x2816, .f32⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S2816x1024, .f32⟩
  | .hbm, ⟨12, _⟩ => ⟨S2816x1024, .bf16⟩
  | .hbm, ⟨13, _⟩ => ⟨S4x704x1024, .bf16⟩
  | .hbm, ⟨14, _⟩ => ⟨S6x1024, .f32⟩
  | .hbm, ⟨15, _⟩ => ⟨S6x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x128, .f32⟩
  | .hbm, ⟨21, _⟩ => ⟨S1x1024, .f32⟩
  | .hbm, ⟨22, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S6x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DownLossRefIdeal.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S1x6144 : Shape := ⟨2, ![1, 6144]⟩
abbrev S1x1024 : Shape := ⟨2, ![1, 1024]⟩
abbrev S2816x1024 : Shape := ⟨2, ![2816, 1024]⟩
abbrev S1024 : Shape := ⟨1, ![1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096 : Shape := ⟨1, ![4096]⟩
abbrev S4096x1024 : Shape := ⟨2, ![4096, 1024]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S1x2816x1024, .f32⟩
  | .hbm, ⟨2, _⟩ => ⟨S1x4096x1024, .f32⟩
  | .hbm, ⟨3, _⟩ => ⟨S1x4096x1024, .f32⟩
  | .hbm, ⟨4, _⟩ => ⟨S1x6144, .f32⟩
  | .hbm, ⟨5, _⟩ => ⟨S1x6144, .f32⟩
  | .hbm, ⟨6, _⟩ => ⟨S1x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2816x1024, .f32⟩
  | .hbm, ⟨15, _⟩ => ⟨S1x4096x1024, .f32⟩
  | .hbm, ⟨16, _⟩ => ⟨S1024, .f32⟩
  | .hbm, ⟨17, _⟩ => ⟨S1x1x1024, .f32⟩
  | .hbm, ⟨18, _⟩ => ⟨S1x4096x1024, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096, .f32⟩
  | .hbm, ⟨48, _⟩ => ⟨S_, .f32⟩
  | .hbm, ⟨49, _⟩ => ⟨S1x4096, .f32⟩
  | .hbm, ⟨50, _⟩ => ⟨S1x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1x4096, .f32⟩
  | .hbm, ⟨59, _⟩ => ⟨S_, .f32⟩
  | .hbm, ⟨60, _⟩ => ⟨S1x4096, .f32⟩
  | .hbm, ⟨61, _⟩ => ⟨S1x4096, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S_, .f32⟩
  | .hbm, ⟨68, _⟩ => ⟨S1x1024, .f32⟩
  | .hbm, ⟨69, _⟩ => ⟨S1x1x1024, .f32⟩
  | .hbm, ⟨70, _⟩ => ⟨S1x4096x1024, .f32⟩
  | .hbm, ⟨71, _⟩ => ⟨S_, .f32⟩
  | .hbm, ⟨72, _⟩ => ⟨S1x1024, .f32⟩
  | .hbm, ⟨73, _⟩ => ⟨S1x1x1024, .f32⟩
  | .hbm, ⟨74, _⟩ => ⟨S1x4096x1024, .f32⟩
  | .hbm, ⟨75, _⟩ => ⟨S1x4096x1024, .f32⟩
  | .hbm, ⟨76, _⟩ => ⟨S_, .f32⟩
  | .hbm, ⟨77, _⟩ => ⟨S1024, .f32⟩
  | .hbm, ⟨78, _⟩ => ⟨S1x4096x1024, .f32⟩
  | .hbm, ⟨79, _⟩ => ⟨S_, .f32⟩
  | .hbm, ⟨80, _⟩ => ⟨S1x4096, .f32⟩
  | .hbm, ⟨81, _⟩ => ⟨S1x4096x1, .f32⟩
  | .hbm, ⟨82, _⟩ => ⟨S1x4096x1024, .f32⟩
  | .hbm, ⟨83, _⟩ => ⟨S1x4096x1024, .f32⟩
  | .hbm, ⟨84, _⟩ => ⟨S1x4096x1, .f32⟩
  | .hbm, ⟨85, _⟩ => ⟨S_, .f32⟩
  | .hbm, ⟨86, _⟩ => ⟨S1x4096x1, .f32⟩
  | .hbm, ⟨87, _⟩ => ⟨S1x4096x1, .f32⟩
  | .hbm, ⟨88, _⟩ => ⟨S_, .f32⟩
  | .hbm, ⟨89, _⟩ => ⟨S4096, .f32⟩
  | .hbm, ⟨90, _⟩ => ⟨S1x4096, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x128, .f32⟩
  | .hbm, ⟨103, _⟩ => ⟨S1x1024, .f32⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== AttnBwd.lean ====
abbrev S1x4096x8x64 : Shape := ⟨4, ![1, 4096, 8, 64]⟩
abbrev S1x4096x8x32 : Shape := ⟨4, ![1, 4096, 8, 32]⟩
abbrev S1x4096x32 : Shape := ⟨3, ![1, 4096, 32]⟩
abbrev S1x4096x512 : Shape := ⟨3, ![1, 4096, 512]⟩
abbrev S1x4096x1x32 : Shape := ⟨4, ![1, 4096, 1, 32]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096x1 : Shape := ⟨3, ![8, 4096, 1]⟩
abbrev S1x4096x8 : Shape := ⟨3, ![1, 4096, 8]⟩
abbrev S1x4096x8x1 : Shape := ⟨4, ![1, 4096, 8, 1]⟩
abbrev S4096x8x1 : Shape := ⟨3, ![4096, 8, 1]⟩
abbrev S1x4096x8x96 : Shape := ⟨4, ![1, 4096, 8, 96]⟩
abbrev S1x4096x8x128 : Shape := ⟨4, ![1, 4096, 8, 128]⟩
abbrev S4096x1024 : Shape := ⟨2, ![4096, 1024]⟩
abbrev S1x4096x8x65 : Shape := ⟨4, ![1, 4096, 8, 65]⟩
abbrev S4096x256 : Shape := ⟨2, ![4096, 256]⟩
abbrev S512x256 : Shape := ⟨2, ![512, 256]⟩
abbrev S2x4096x1 : Shape := ⟨3, ![2, 4096, 1]⟩
abbrev S2x512x128 : Shape := ⟨3, ![2, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S1x512x128 : Shape := ⟨3, ![1, 512, 128]⟩
abbrev S1024x512 : Shape := ⟨2, ![1024, 512]⟩
abbrev S1024x128 : Shape := ⟨2, ![1024, 128]⟩

abbrev nBuf : Space → Nat
  | .hbm => 99
  | .vmem => 20
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x8x32, .f32⟩
  | .hbm, ⟨2, _⟩ => ⟨S1x4096x8x64, .f32⟩
  | .hbm, ⟨3, _⟩ => ⟨S1x4096x32, .f32⟩
  | .hbm, ⟨4, _⟩ => ⟨S1x4096x8x64, .f32⟩
  | .hbm, ⟨5, _⟩ => ⟨S1x4096x512, .f32⟩
  | .hbm, ⟨6, _⟩ => ⟨S1x4096x1x32, .f32⟩
  | .hbm, ⟨7, _⟩ => ⟨S1x4096x8x32, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x8x4096x4096, .f32⟩
  | .hbm, ⟨28, _⟩ => ⟨S1x8x4096x4096, .f32⟩
  | .hbm, ⟨29, _⟩ => ⟨S1x8x4096x4096, .f32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x1x4096x4096, .i1⟩
  | .hbm, ⟨36, _⟩ => ⟨S_, .f32⟩
  | .hbm, ⟨37, _⟩ => ⟨S1x8x4096x4096, .f32⟩
  | .hbm, ⟨38, _⟩ => ⟨S1x8x4096x4096, .f32⟩
  | .hbm, ⟨39, _⟩ => ⟨S_, .f32⟩
  | .hbm, ⟨40, _⟩ => ⟨S_, .f32⟩
  | .hbm, ⟨41, _⟩ => ⟨S1x8x4096x4096, .i1⟩
  | .hbm, ⟨42, _⟩ => ⟨S1x8x4096x4096, .f32⟩
  | .hbm, ⟨43, _⟩ => ⟨S1x8x4096x4096, .f32⟩
  | .hbm, ⟨44, _⟩ => ⟨S_, .f32⟩
  | .hbm, ⟨45, _⟩ => ⟨S1x8x4096, .f32⟩
  | .hbm, ⟨46, _⟩ => ⟨S1x8x4096x1, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S1x8x4096x1, .f32⟩
  | .hbm, ⟨53, _⟩ => ⟨S1x8x4096x4096, .f32⟩
  | .hbm, ⟨54, _⟩ => ⟨S1x8x4096x4096, .f32⟩
  | .hbm, ⟨55, _⟩ => ⟨S1x8x64x4096, .f32⟩
  | .hbm, ⟨56, _⟩ => ⟨S1x4096x8x64, .f32⟩
  | .hbm, ⟨57, _⟩ => ⟨S1x8x4096x1, .f32⟩
  | .hbm, ⟨58, _⟩ => ⟨S1x8x4096x1, .f32⟩
  | .hbm, ⟨59, _⟩ => ⟨S_, .f32⟩
  | .hbm, ⟨60, _⟩ => ⟨S_, .f32⟩
  | .hbm, ⟨61, _⟩ => ⟨S1x8x4096x1, .f32⟩
  | .hbm, ⟨62, _⟩ => ⟨S1x8x4096x1, .f32⟩
  | .hbm, ⟨63, _⟩ => ⟨S8x4096x1, .f32⟩
  | .hbm, ⟨64, _⟩ => ⟨S1x4096x8x64, .f32⟩
  | .hbm, ⟨65, _⟩ => ⟨S1x4096x8x64, .f32⟩
  | .hbm, ⟨66, _⟩ => ⟨S_, .f32⟩
  | .hbm, ⟨67, _⟩ => ⟨S1x4096x8, .f32⟩
  | .hbm, ⟨68, _⟩ => ⟨S1x4096x8x1, .f32⟩
  | .hbm, ⟨69, _⟩ => ⟨S4096x8x1, .f32⟩
  | .hbm, ⟨70, _⟩ => ⟨S8x4096x1, .f32⟩
  | .hbm, ⟨71, _⟩ => ⟨S1x4096x8x96, .f32⟩
  | .hbm, ⟨72, _⟩ => ⟨S_, .i32⟩
  | .hbm, ⟨73, _⟩ => ⟨S_, .f32⟩
  | .hbm, ⟨74, _⟩ => ⟨S1x4096x8x128, .f32⟩
  | .hbm, ⟨75, _⟩ => ⟨S4096x1024, .f32⟩
  | .hbm, ⟨76, _⟩ => ⟨S4096x1024, .bf16⟩
  | .hbm, ⟨77, _⟩ => ⟨S1x4096x8x96, .f32⟩
  | .hbm, ⟨78, _⟩ => ⟨S_, .i32⟩
  | .hbm, ⟨79, _⟩ => ⟨S_, .f32⟩
  | .hbm, ⟨80, _⟩ => ⟨S1x4096x8x128, .f32⟩
  | .hbm, ⟨81, _⟩ => ⟨S4096x1024, .f32⟩
  | .hbm, ⟨82, _⟩ => ⟨S4096x1024, .bf16⟩
  | .hbm, ⟨83, _⟩ => ⟨S_, .f32⟩
  | .hbm, ⟨84, _⟩ => ⟨S1x4096x8x1, .f32⟩
  | .hbm, ⟨85, _⟩ => ⟨S1x4096x8x65, .f32⟩
  | .hbm, ⟨86, _⟩ => ⟨S_, .i32⟩
  | .hbm, ⟨87, _⟩ => ⟨S_, .f32⟩
  | .hbm, ⟨88, _⟩ => ⟨S1x4096x8x128, .f32⟩
  | .hbm, ⟨89, _⟩ => ⟨S4096x1024, .f32⟩
  | .hbm, ⟨90, _⟩ => ⟨S4096x1024, .bf16⟩
  | .hbm, ⟨91, _⟩ => ⟨S_, .i32⟩
  | .hbm, ⟨92, _⟩ => ⟨S_, .f32⟩
  | .hbm, ⟨93, _⟩ => ⟨S1x4096x8x128, .f32⟩
  | .hbm, ⟨94, _⟩ => ⟨S4096x1024, .f32⟩
  | .hbm, ⟨95, _⟩ => ⟨S4096x1024, .bf16⟩
  | .hbm, ⟨96, _⟩ => ⟨S4096x1024, .f32⟩
  | .hbm, ⟨97, _⟩ => ⟨S4096x1024, .f32⟩
  | .hbm, ⟨98, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S2x4096x1, .f32⟩
  | .local _ .vmem, ⟨9, _⟩ => ⟨S2x4096x1, .f32⟩
  | .local _ .vmem, ⟨10, _⟩ => ⟨S2x4096x1, .f32⟩
  | .local _ .vmem, ⟨11, _⟩ => ⟨S2x4096x1, .f32⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S2x512x128, .f32⟩
  | .local _ .vmem, ⟨19, _⟩ => ⟨S2x512x128, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_5 : Ref sig .tc := ⟨.hbm, 72, rfl⟩
abbrev main_call2_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_6 : Ref sig .tc := ⟨.hbm, 78, rfl⟩
abbrev main_call3_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_c_8 : Ref sig .tc := ⟨.hbm, 86, rfl⟩
abbrev main_call4_v0 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_9 : Ref sig .tc := ⟨.hbm, 91, rfl⟩
abbrev main_call5_v0 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55_0 : Ref sig .tc := ⟨.hbm, 96, rfl⟩
abbrev main_v55_1 : Ref sig .tc := ⟨.hbm, 97, rfl⟩
abbrev main_v55_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let c8_i32 : BitVec 32 := 8#32
  let arg1 : BitVec 32 := BitVec.ofNat 32 (i 1).val
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c1_i32_11 : BitVec 32 := 1#32
  let v22 : BitVec 1 := Scalar.cmpi .eq v21 c1_i32_11
  let v23 : BitVec 32 := Scalar.extui v22
  let c0_i32_12 : BitVec 32 := 0#32
  let v24 : BitVec 1 := Scalar.cmpi .ne v23 c0_i32_12
  v24

def k0_mult1 (i : grid0.Coords) : BitVec 32 :=
  let arg1 : BitVec 32 := BitVec.ofNat 32 (i 1).val
  let c512_i32 : BitVec 32 := 512#32
  let v69 : BitVec 32 := Scalar.muli arg1 c512_i32
  v69
def k0_off1 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v71 : Index := Scalar.indexCast v70
  let c0_49 : Index := 0#32
  ![v71.toNat, 0]
def k0_off2 (i : grid0.Coords) : Fin 3 → Nat :=
  let c0_58 : Index := 0#32
  let arg1 : BitVec 32 := BitVec.ofNat 32 (i 1).val
  let c512_i32 : BitVec 32 := 512#32
  let v69 : BitVec 32 := Scalar.muli arg1 c512_i32
  let v70 : BitVec 32 := v69
  let v93 : Index := Scalar.indexCast v70
  let c0_59 : Index := 0#32
  ![0, v93.toNat, 0]
def k0_off3 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v133 : Index := Scalar.indexCast v70
  let c128_83 : Index := 128#32
  ![v133.toNat, 128]
def k0_off4 (i : grid0.Coords) : Fin 3 → Nat :=
  let c1_93 : Index := 1#32
  let arg1 : BitVec 32 := BitVec.ofNat 32 (i 1).val
  let c512_i32 : BitVec 32 := 512#32
  let v69 : BitVec 32 := Scalar.muli arg1 c512_i32
  let v70 : BitVec 32 := v69
  let v155 : Index := Scalar.indexCast v70
  let c0_94 : Index := 0#32
  ![1, v155.toNat, 0]
def k0_cond3 (i : grid0.Coords) : BitVec 1 :=
  let c8_i32 : BitVec 32 := 8#32
  let arg1 : BitVec 32 := BitVec.ofNat 32 (i 1).val
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_13 : BitVec 32 := 0#32
  let v25 : BitVec 1 := Scalar.cmpi .eq v21 c0_i32_13
  let v26 : BitVec 32 := Scalar.extui v25
  let c0_i32_14 : BitVec 32 := 0#32
  let v27 : BitVec 1 := Scalar.cmpi .ne v26 c0_i32_14
  v27

def k0_mult2 (i : grid0.Coords) : BitVec 32 :=
  let arg1 : BitVec 32 := BitVec.ofNat 32 (i 1).val
  let c512_i32 : BitVec 32 := 512#32
  let v69 : BitVec 32 := Scalar.muli arg1 c512_i32
  v69
def k0_mult3 (i : grid0.Coords) : BitVec 32 :=
  let arg1 : BitVec 32 := BitVec.ofNat 32 (i 1).val
  let c0_i32_53 : BitVec 32 := 0#32
  let v75 : BitVec 32 := Scalar.addi arg1 c0_i32_53
  let c512_i32_54 : BitVec 32 := 512#32
  let v76 : BitVec 32 := Scalar.muli v75 c512_i32_54
  v76
def k0_off5 (i : grid0.Coords) (c0_i32_53 : BitVec 32) : Fin 2 → Nat :=
  let arg1 : BitVec 32 := BitVec.ofNat 32 (i 1).val
  let v75 : BitVec 32 := Scalar.addi arg1 c0_i32_53
  let c512_i32_54 : BitVec 32 := 512#32
  let v76 : BitVec 32 := Scalar.muli v75 c512_i32_54
  let v77 : BitVec 32 := v76
  let v78 : Index := Scalar.indexCast v77
  let c0_55 : Index := 0#32
  ![v78.toNat, 0]
def k0_off6 (i : grid0.Coords) (c0_i32_53 : BitVec 32) : Fin 3 → Nat :=
  let c0_62 : Index := 0#32
  let arg1 : BitVec 32 := BitVec.ofNat 32 (i 1).val
  let v75 : BitVec 32 := Scalar.addi arg1 c0_i32_53
  let c512_i32_54 : BitVec 32 := 512#32
  let v76 : BitVec 32 := Scalar.muli v75 c512_i32_54
  let v77 : BitVec 32 := v76
  let v98 : Index := Scalar.indexCast v77
  let c0_63 : Index := 0#32
  ![0, v98.toNat, 0]
def k0_mult4 (i : grid0.Coords) : BitVec 32 :=
  let arg1 : BitVec 32 := BitVec.ofNat 32 (i 1).val
  let c1_i32_71 : BitVec 32 := 1#32
  let v122 : BitVec 32 := Scalar.addi arg1 c1_i32_71
  let c512_i32_72 : BitVec 32 := 512#32
  let v123 : BitVec 32 := Scalar.muli v122 c512_i32_72
  v123
def k0_off7 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v161 : Index := Scalar.indexCast v70
  let c0_89 : Index := 0#32
  ![v161.toNat, 0]
def k0_mult5 (i : grid0.Coords) : BitVec 32 :=
  let arg1 : BitVec 32 := BitVec.ofNat 32 (i 1).val
  let c0_i32_106 : BitVec 32 := 0#32
  let v184 : BitVec 32 := Scalar.addi arg1 c0_i32_106
  let c512_i32_107 : BitVec 32 := 512#32
  let v185 : BitVec 32 := Scalar.muli v184 c512_i32_107
  v185
def k0_off8 (i : grid0.Coords) (c0_i32_106 : BitVec 32) : Fin 2 → Nat :=
  let arg1 : BitVec 32 := BitVec.ofNat 32 (i 1).val
  let v184 : BitVec 32 := Scalar.addi arg1 c0_i32_106
  let c512_i32_107 : BitVec 32 := 512#32
  let v185 : BitVec 32 := Scalar.muli v184 c512_i32_107
  let v186 : BitVec 32 := v185
  let v187 : Index := Scalar.indexCast v186
  let c128_108 : Index := 128#32
  ![v187.toNat, 128]
def k0_off9 (i : grid0.Coords) (c0_i32_106 : BitVec 32) : Fin 3 → Nat :=
  let c1_116 : Index := 1#32
  let arg1 : BitVec 32 := BitVec.ofNat 32 (i 1).val
  let v184 : BitVec 32 := Scalar.addi arg1 c0_i32_106
  let c512_i32_107 : BitVec 32 := 512#32
  let v185 : BitVec 32 := Scalar.muli v184 c512_i32_107
  let v186 : BitVec 32 := v185
  let v207 : Index := Scalar.indexCast v186
  let c0_117 : Index := 0#32
  ![1, v207.toNat, 0]
def k0_mult6 (i : grid0.Coords) : BitVec 32 :=
  let arg1 : BitVec 32 := BitVec.ofNat 32 (i 1).val
  let c1_i32_125 : BitVec 32 := 1#32
  let v231 : BitVec 32 := Scalar.addi arg1 c1_i32_125
  let c512_i32_126 : BitVec 32 := 512#32
  let v232 : BitVec 32 := Scalar.muli v231 c512_i32_126
  v232
def k0_off10 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v270 : Index := Scalar.indexCast v70
  let c128_143 : Index := 128#32
  ![v270.toNat, 128]
@[reducible] def k0_t1_loop (i : grid0.Coords) : Scf.Loop 32 :=
  let c0_i32_25 : BitVec 32 := 0#32
  let c8_i32_16 : BitVec 32 := 8#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_27 : BitVec 32 := 1#32
  ⟨c0_i32_25, v52, c1_i32_27⟩
def k0_mult7 (i : grid0.Coords) (k0_t1 : Fin (k0_t1_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c512_i32 : BitVec 32 := 512#32
  let v71 : BitVec 32 := Scalar.muli v70 c512_i32
  v71
def k0_mult8 (i : grid0.Coords) (k0_t1 : Fin (k0_t1_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c0_i32_54 : BitVec 32 := 0#32
  let v77 : BitVec 32 := Scalar.addi v70 c0_i32_54
  let c512_i32_55 : BitVec 32 := 512#32
  let v78 : BitVec 32 := Scalar.muli v77 c512_i32_55
  v78
def k0_off11 (i : grid0.Coords) (k0_t1 : Fin (k0_t1_loop i).trips) (c0_i32_54 : BitVec 32) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let v77 : BitVec 32 := Scalar.addi v70 c0_i32_54
  let c512_i32_55 : BitVec 32 := 512#32
  let v78 : BitVec 32 := Scalar.muli v77 c512_i32_55
  let v79 : BitVec 32 := v78
  let v80 : Index := Scalar.indexCast v79
  let c0_56 : Index := 0#32
  ![v80.toNat, 0]
def k0_off12 (i : grid0.Coords) (k0_t1 : Fin (k0_t1_loop i).trips) (c0_i32_54 : BitVec 32) : Fin 3 → Nat :=
  let c0_60 : Index := 0#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let v77 : BitVec 32 := Scalar.addi v70 c0_i32_54
  let c512_i32_55 : BitVec 32 := 512#32
  let v78 : BitVec 32 := Scalar.muli v77 c512_i32_55
  let v79 : BitVec 32 := v78
  let v89 : Index := Scalar.indexCast v79
  let c0_61 : Index := 0#32
  ![0, v89.toNat, 0]
def k0_mult9 (i : grid0.Coords) (k0_t1 : Fin (k0_t1_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c1_i32_69 : BitVec 32 := 1#32
  let v113 : BitVec 32 := Scalar.addi v70 c1_i32_69
  let c512_i32_70 : BitVec 32 := 512#32
  let v114 : BitVec 32 := Scalar.muli v113 c512_i32_70
  v114
def k0_off13 (i : grid0.Coords) (k0_t1 : Fin (k0_t1_loop i).trips) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c512_i32 : BitVec 32 := 512#32
  let v71 : BitVec 32 := Scalar.muli v70 c512_i32
  let v72 : BitVec 32 := v71
  let v152 : Index := Scalar.indexCast v72
  let c0_87 : Index := 0#32
  ![v152.toNat, 0]
def k0_mult10 (i : grid0.Coords) (k0_t1 : Fin (k0_t1_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c0_i32_104 : BitVec 32 := 0#32
  let v175 : BitVec 32 := Scalar.addi v70 c0_i32_104
  let c512_i32_105 : BitVec 32 := 512#32
  let v176 : BitVec 32 := Scalar.muli v175 c512_i32_105
  v176
def k0_off14 (i : grid0.Coords) (k0_t1 : Fin (k0_t1_loop i).trips) (c0_i32_104 : BitVec 32) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let v175 : BitVec 32 := Scalar.addi v70 c0_i32_104
  let c512_i32_105 : BitVec 32 := 512#32
  let v176 : BitVec 32 := Scalar.muli v175 c512_i32_105
  let v177 : BitVec 32 := v176
  let v178 : Index := Scalar.indexCast v177
  let c128_106 : Index := 128#32
  ![v178.toNat, 128]
def k0_off15 (i : grid0.Coords) (k0_t1 : Fin (k0_t1_loop i).trips) (c0_i32_104 : BitVec 32) : Fin 3 → Nat :=
  let c1_110 : Index := 1#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let v175 : BitVec 32 := Scalar.addi v70 c0_i32_104
  let c512_i32_105 : BitVec 32 := 512#32
  let v176 : BitVec 32 := Scalar.muli v175 c512_i32_105
  let v177 : BitVec 32 := v176
  let v187 : Index := Scalar.indexCast v177
  let c0_111 : Index := 0#32
  ![1, v187.toNat, 0]
def k0_mult11 (i : grid0.Coords) (k0_t1 : Fin (k0_t1_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c1_i32_119 : BitVec 32 := 1#32
  let v211 : BitVec 32 := Scalar.addi v70 c1_i32_119
  let c512_i32_120 : BitVec 32 := 512#32
  let v212 : BitVec 32 := Scalar.muli v211 c512_i32_120
  v212
def k0_off16 (i : grid0.Coords) (k0_t1 : Fin (k0_t1_loop i).trips) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c1_i32_27 : BitVec 32 := 1#32
  let arg13 : BitVec 32 := Scf.iv c0_i32_25 c1_i32_27 k0_t1
  let v69 : BitVec 32 := Scalar.muli c2_i32_49 arg13
  let v70 : BitVec 32 := Scalar.addi v29 v69
  let c512_i32 : BitVec 32 := 512#32
  let v71 : BitVec 32 := Scalar.muli v70 c512_i32
  let v72 : BitVec 32 := v71
  let v250 : Index := Scalar.indexCast v72
  let c128_137 : Index := 128#32
  ![v250.toNat, 128]
@[reducible] def k0_t2_loop (i : grid0.Coords) : Scf.Loop 32 :=
  let c0_i32_25 : BitVec 32 := 0#32
  let c8_i32_16 : BitVec 32 := 8#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let v49 : BitVec 32 := Scalar.addi c0_i32_25 v48
  let c1_i32_28 : BitVec 32 := 1#32
  ⟨v52, v49, c1_i32_28⟩
def k0_mult12 (i : grid0.Coords) (k0_t2 : Fin (k0_t2_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c512_i32 : BitVec 32 := 512#32
  let v71 : BitVec 32 := Scalar.muli v70 c512_i32
  v71
def k0_mult13 (i : grid0.Coords) (k0_t2 : Fin (k0_t2_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c0_i32_54 : BitVec 32 := 0#32
  let v77 : BitVec 32 := Scalar.addi v70 c0_i32_54
  let c512_i32_55 : BitVec 32 := 512#32
  let v78 : BitVec 32 := Scalar.muli v77 c512_i32_55
  v78
def k0_off17 (i : grid0.Coords) (k0_t2 : Fin (k0_t2_loop i).trips) (c0_i32_54 : BitVec 32) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let v77 : BitVec 32 := Scalar.addi v70 c0_i32_54
  let c512_i32_55 : BitVec 32 := 512#32
  let v78 : BitVec 32 := Scalar.muli v77 c512_i32_55
  let v79 : BitVec 32 := v78
  let v80 : Index := Scalar.indexCast v79
  let c0_56 : Index := 0#32
  ![v80.toNat, 0]
def k0_off18 (i : grid0.Coords) (k0_t2 : Fin (k0_t2_loop i).trips) (c0_i32_54 : BitVec 32) : Fin 3 → Nat :=
  let c0_60 : Index := 0#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let v77 : BitVec 32 := Scalar.addi v70 c0_i32_54
  let c512_i32_55 : BitVec 32 := 512#32
  let v78 : BitVec 32 := Scalar.muli v77 c512_i32_55
  let v79 : BitVec 32 := v78
  let v89 : Index := Scalar.indexCast v79
  let c0_61 : Index := 0#32
  ![0, v89.toNat, 0]
def k0_mult14 (i : grid0.Coords) (k0_t2 : Fin (k0_t2_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c1_i32_69 : BitVec 32 := 1#32
  let v113 : BitVec 32 := Scalar.addi v70 c1_i32_69
  let c512_i32_70 : BitVec 32 := 512#32
  let v114 : BitVec 32 := Scalar.muli v113 c512_i32_70
  v114
def k0_off19 (i : grid0.Coords) (k0_t2 : Fin (k0_t2_loop i).trips) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c512_i32 : BitVec 32 := 512#32
  let v71 : BitVec 32 := Scalar.muli v70 c512_i32
  let v72 : BitVec 32 := v71
  let v152 : Index := Scalar.indexCast v72
  let c0_87 : Index := 0#32
  ![v152.toNat, 0]
def k0_mult15 (i : grid0.Coords) (k0_t2 : Fin (k0_t2_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c0_i32_104 : BitVec 32 := 0#32
  let v175 : BitVec 32 := Scalar.addi v70 c0_i32_104
  let c512_i32_105 : BitVec 32 := 512#32
  let v176 : BitVec 32 := Scalar.muli v175 c512_i32_105
  v176
def k0_off20 (i : grid0.Coords) (k0_t2 : Fin (k0_t2_loop i).trips) (c0_i32_104 : BitVec 32) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let v175 : BitVec 32 := Scalar.addi v70 c0_i32_104
  let c512_i32_105 : BitVec 32 := 512#32
  let v176 : BitVec 32 := Scalar.muli v175 c512_i32_105
  let v177 : BitVec 32 := v176
  let v178 : Index := Scalar.indexCast v177
  let c128_106 : Index := 128#32
  ![v178.toNat, 128]
def k0_off21 (i : grid0.Coords) (k0_t2 : Fin (k0_t2_loop i).trips) (c0_i32_104 : BitVec 32) : Fin 3 → Nat :=
  let c1_110 : Index := 1#32
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let v175 : BitVec 32 := Scalar.addi v70 c0_i32_104
  let c512_i32_105 : BitVec 32 := 512#32
  let v176 : BitVec 32 := Scalar.muli v175 c512_i32_105
  let v177 : BitVec 32 := v176
  let v187 : Index := Scalar.indexCast v177
  let c0_111 : Index := 0#32
  ![1, v187.toNat, 0]
def k0_mult16 (i : grid0.Coords) (k0_t2 : Fin (k0_t2_loop i).trips) : BitVec 32 :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c1_i32_119 : BitVec 32 := 1#32
  let v211 : BitVec 32 := Scalar.addi v70 c1_i32_119
  let c512_i32_120 : BitVec 32 := 512#32
  let v212 : BitVec 32 := Scalar.muli v211 c512_i32_120
  v212
def k0_off22 (i : grid0.Coords) (k0_t2 : Fin (k0_t2_loop i).trips) : Fin 2 → Nat :=
  let arg1 : BitVec 32 := BitVec.ofNat 32 (i 1).val
  let c2_i32_15 : BitVec 32 := 2#32
  let v28 : BitVec 32 := Scalar.addi arg1 c2_i32_15
  let c8_i32 : BitVec 32 := 8#32
  let v11 : BitVec 32 := Scalar.subi c8_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v29 : BitVec 32 := Scalar.subi v28 v21
  let c2_i32_49 : BitVec 32 := 2#32
  let c0_i32_25 : BitVec 32 := 0#32
  let c8_i32_16 : BitVec 32 := 8#32
  let v30 : BitVec 32 := Scalar.subi c8_i32_16 v29
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v30 c2_i32_17
  let c0_i32_22 : BitVec 32 := 0#32
  let v44 : BitVec 1 := Scalar.cmpi .ne v43 c0_i32_22
  let v45 : BitVec 1 := Scalar.andi v42 v44
  let v31 : BitVec 32 := Scalar.divsi v30 c2_i32_17
  let c1_i32_23 : BitVec 32 := 1#32
  let v46 : BitVec 32 := Scalar.subi v31 c1_i32_23
  let v47 : BitVec 32 := Scalar.select v45 v46 v31
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_28 : BitVec 32 := 1#32
  let arg13 : BitVec 32 := Scf.iv v52 c1_i32_28 k0_t2
  let v69 : BitVec 32 := Scalar.muli c2_i32_49 arg13
  let v70 : BitVec 32 := Scalar.addi v29 v69
  let c512_i32 : BitVec 32 := 512#32
  let v71 : BitVec 32 := Scalar.muli v70 c512_i32
  let v72 : BitVec 32 := v71
  let v250 : Index := Scalar.indexCast v72
  let c128_137 : Index := 128#32
  ![v250.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "mask" => some ⊥
  | "scale2" => some (((3424635 / 33554432) * (Real.log 2)⁻¹ : ℝ) : EReal)
  | _ => none
-- ==== AttnBwdRefIdeal.lean ====
abbrev S1x4096x8x64 : Shape := ⟨4, ![1, 4096, 8, 64]⟩
abbrev S1x4096x8x32 : Shape := ⟨4, ![1, 4096, 8, 32]⟩
abbrev S1x4096x32 : Shape := ⟨3, ![1, 4096, 32]⟩
abbrev S1x4096x512 : Shape := ⟨3, ![1, 4096, 512]⟩
abbrev S1x4096x1x32 : Shape := ⟨4, ![1, 4096, 1, 32]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096 : Shape := ⟨2, ![8, 4096]⟩
abbrev S1x8x4096x32 : Shape := ⟨4, ![1, 8, 4096, 32]⟩
abbrev S1x8x4096x64 : Shape := ⟨4, ![1, 8, 4096, 64]⟩
abbrev S1x4096x8x128 : Shape := ⟨4, ![1, 4096, 8, 128]⟩
abbrev S4096x1024 : Shape := ⟨2, ![4096, 1024]⟩

abbrev nBuf : Space → Nat
  | .hbm => 132
  | .vmem => 0
  | .smem => 0
  | _ => 0

abbrev hbmTy0_0 (i : Nat) : BufTy := match i % 128 with
  | 0 => ⟨S1x4096x8x64, .f32⟩
  | 1 => ⟨S1x4096x8x32, .f32⟩
  | 2 => ⟨S1x4096x8x64, .f32⟩
  | 3 => ⟨S1x4096x32, .f32⟩
  | 4 => ⟨S1x4096x8x64, .f32⟩
  | 5 => ⟨S1x4096x512, .f32⟩
  | 6 => ⟨S1x4096x1x32, .f32⟩
  | 7 => ⟨S1x4096x8x32, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S1x8x4096x4096, .f32⟩
  | 28 => ⟨S1x8x4096x4096, .f32⟩
  | 29 => ⟨S1x8x4096x4096, .f32⟩
  | 30 => ⟨S1x4096, .i32⟩
  | 31 => ⟨S4096x1, .i32⟩
  | 32 => ⟨S4096x4096, .i32⟩
  | 33 => ⟨S4096x4096, .i32⟩
  | 34 => ⟨S4096x4096, .i1⟩
  | 35 => ⟨S1x1x4096x4096, .i1⟩
  | 36 => ⟨S_, .f32⟩
  | 37 => ⟨S1x8x4096x4096, .f32⟩
  | 38 => ⟨S1x8x4096x4096, .f32⟩
  | 39 => ⟨S_, .f32⟩
  | 40 => ⟨S_, .f32⟩
  | 41 => ⟨S1x8x4096x4096, .i1⟩
  | 42 => ⟨S1x8x4096x4096, .f32⟩
  | 43 => ⟨S1x8x4096x4096, .f32⟩
  | 44 => ⟨S_, .f32⟩
  | 45 => ⟨S1x8x4096x4096, .f32⟩
  | 46 => ⟨S_, .f32⟩
  | 47 => ⟨S1x8x4096, .f32⟩
  | 48 => ⟨S1x8x4096x1, .f32⟩
  | 49 => ⟨S1x8x4096x4096, .f32⟩
  | 50 => ⟨S1x8x4096x4096, .i1⟩
  | 51 => ⟨S1x8x4096x4096, .f32⟩
  | 52 => ⟨S_, .f32⟩
  | 53 => ⟨S1x8x4096, .f32⟩
  | 54 => ⟨S_, .f32⟩
  | 55 => ⟨S1x8x4096, .f32⟩
  | 56 => ⟨S1x8x4096, .f32⟩
  | 57 => ⟨S_, .f32⟩
  | 58 => ⟨S1x8x4096, .f32⟩
  | 59 => ⟨S1x8x4096, .i1⟩
  | 60 => ⟨S_, .f32⟩
  | 61 => ⟨S1x8x4096, .f32⟩
  | 62 => ⟨S1x8x4096, .i1⟩
  | 63 => ⟨S_, .f32⟩
  | 64 => ⟨S1x8x4096, .f32⟩
  | 65 => ⟨S_, .f32⟩
  | 66 => ⟨S1x8x4096, .f32⟩
  | 67 => ⟨S_, .f32⟩
  | 68 => ⟨S1x8x4096, .f32⟩
  | 69 => ⟨S1x8x4096, .f32⟩
  | 70 => ⟨S1x8x4096, .f32⟩
  | 71 => ⟨S1x8x4096x1, .f32⟩
  | 72 => ⟨S1x8x4096x4096, .f32⟩
  | 73 => ⟨S1x8x4096x4096, .f32⟩
  | 74 => ⟨S1x8x4096x4096, .f32⟩
  | 75 => ⟨S_, .f32⟩
  | 76 => ⟨S1x8x4096, .f32⟩
  | 77 => ⟨S1x8x4096x1, .f32⟩
  | 78 => ⟨S1x8x4096x4096, .f32⟩
  | 79 => ⟨S1x8x4096x4096, .f32⟩
  | 80 => ⟨S1x8x4096x1, .f32⟩
  | 81 => ⟨S_, .f32⟩
  | 82 => ⟨S1x8x4096x1, .f32⟩
  | 83 => ⟨S1x8x4096x1, .f32⟩
  | 84 => ⟨S1x8x64x4096, .f32⟩
  | 85 => ⟨S1x4096x8x64, .f32⟩
  | 86 => ⟨S1x4096x8x64, .f32⟩
  | 87 => ⟨S1x8x64x4096, .f32⟩
  | 88 => ⟨S1x8x4096x4096, .f32⟩
  | 89 => ⟨S1x8x64x4096, .f32⟩
  | 90 => ⟨S1x4096x8x64, .f32⟩
  | 91 => ⟨S1x8x4096x4096, .f32⟩
  | 92 => ⟨S1x8x4096x4096, .f32⟩
  | 93 => ⟨S1x8x4096x4096, .f32⟩
  | 94 => ⟨S_, .f32⟩
  | 95 => ⟨S1x8x4096, .f32⟩
  | 96 => ⟨S1x8x4096x1, .f32⟩
  | 97 => ⟨S1x8x4096x1, .f32⟩
  | 98 => ⟨S1x8x4096x4096, .f32⟩
  | 99 => ⟨S1x8x4096x4096, .f32⟩
  | 100 => ⟨S_, .f32⟩
  | 101 => ⟨S8x4096, .f32⟩
  | 102 => ⟨S1x8x4096, .f32⟩
  | 103 => ⟨S1x8x4096x4096, .f32⟩
  | 104 => ⟨S1x8x4096x4096, .f32⟩
  | 105 => ⟨S1x8x4096x4096, .f32⟩
  | 106 => ⟨S_, .f32⟩
  | 107 => ⟨S1x8x4096x4096, .f32⟩
  | 108 => ⟨S1x8x4096x4096, .f32⟩
  | 109 => ⟨S_, .f32⟩
  | 110 => ⟨S1x8x4096x4096, .f32⟩
  | 111 => ⟨S1x8x4096x4096, .f32⟩
  | 112 => ⟨S1x8x4096x32, .f32⟩
  | 113 => ⟨S1x4096x8x32, .f32⟩
  | 114 => ⟨S1x8x4096x32, .f32⟩
  | 115 => ⟨S1x4096x8x32, .f32⟩
  | 116 => ⟨S1x8x4096x64, .f32⟩
  | 117 => ⟨S1x4096x8x64, .f32⟩
  | 118 => ⟨S1x8x4096x64, .f32⟩
  | 119 => ⟨S1x4096x8x64, .f32⟩
  | 120 => ⟨S_, .f32⟩
  | 121 => ⟨S1x4096x8x32, .f32⟩
  | 122 => ⟨S1x4096x8x128, .f32⟩
  | 123 => ⟨S4096x1024, .f32⟩
  | 124 => ⟨S_, .f32⟩
  | 125 => ⟨S1x4096x8x32, .f32⟩
  | 126 => ⟨S1x4096x8x128, .f32⟩
  | 127 => ⟨S4096x1024, .f32⟩
  | _ => ⟨S1x4096x8x64, .f32⟩

abbrev hbmTy0_1 (i : Nat) : BufTy := match i % 128 with
  | 0 => ⟨S_, .f32⟩
  | 1 => ⟨S1x4096x8x64, .f32⟩
  | 2 => ⟨S1x4096x8x128, .f32⟩
  | 3 => ⟨S4096x1024, .f32⟩
  | _ => ⟨S1x4096x8x64, .f32⟩

abbrev hbmTy (i : Nat) : BufTy := match i / 128 with
  | 0 => hbmTy0_0 i
  | 1 => hbmTy0_1 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_v15_1 : Ref sig .tc := ⟨.hbm, 41, rfl⟩
abbrev main_call1_v2 : Ref sig .tc := ⟨.hbm, 42, rfl⟩
abbrev main_v15_0 : Ref sig .tc := ⟨.hbm, 43, rfl⟩
abbrev main_call1_cst : Ref sig .tc := ⟨.hbm, 44, rfl⟩
abbrev main_v15_2 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_12 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_cst : Ref sig .tc := ⟨.hbm, 106, rfl⟩
abbrev main_call2_v0 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_14 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_15 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_16 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩

abbrev nD : Nat := 1
abbrev τ : Topo := Topo.v7x

variable {F : FTy → Type} [FloatOps F]
-- ==== OutProj.lean ====
abbrev S1x4096x512 : Shape := ⟨3, ![1, 4096, 512]⟩
abbrev S1x1024x1024 : Shape := ⟨3, ![1, 1024, 1024]⟩
abbrev S1x4096x1024 : Shape := ⟨3, ![1, 4096, 1024]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S1024x1024 : Shape := ⟨2, ![1024, 1024]⟩
abbrev S512x1024 : Shape := ⟨2, ![512, 1024]⟩
abbrev S8x64x1024 : Shape := ⟨3, ![8, 64, 1024]⟩
abbrev S8x128x1024 : Shape := ⟨3, ![8, 128, 1024]⟩
abbrev S1536x1024 : Shape := ⟨2, ![1536, 1024]⟩
abbrev S8x4096x1 : Shape := ⟨3, ![8, 4096, 1]⟩
abbrev S512x512 : Shape := ⟨2, ![512, 512]⟩
abbrev S8x512x1 : Shape := ⟨3, ![8, 512, 1]⟩
abbrev S1024x1536 : Shape := ⟨2, ![1024, 1536]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 26
  | .vmem => 12
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x1024x1024, .f32⟩
  | .hbm, ⟨3, _⟩ => ⟨S1x4096x1024, .f32⟩
  | .hbm, ⟨4, _⟩ => ⟨S4096x512, .f32⟩
  | .hbm, ⟨5, _⟩ => ⟨S4096x512, .bf16⟩
  | .hbm, ⟨6, _⟩ => ⟨S4096x8x64, .bf16⟩
  | .hbm, ⟨7, _⟩ => ⟨S_, .i32⟩
  | .hbm, ⟨8, _⟩ => ⟨S_, .bf16⟩
  | .hbm, ⟨9, _⟩ => ⟨S4096x8x128, .bf16⟩
  | .hbm, ⟨10, _⟩ => ⟨S4096x1024, .bf16⟩
  | .hbm, ⟨11, _⟩ => ⟨S1024x1024, .f32⟩
  | .hbm, ⟨12, _⟩ => ⟨S1024x1024, .bf16⟩
  | .hbm, ⟨13, _⟩ => ⟨S512x1024, .bf16⟩
  | .hbm, ⟨14, _⟩ => ⟨S8x64x1024, .bf16⟩
  | .hbm, ⟨15, _⟩ => ⟨S_, .i32⟩
  | .hbm, ⟨16, _⟩ => ⟨S_, .bf16⟩
  | .hbm, ⟨17, _⟩ => ⟨S8x128x1024, .bf16⟩
  | .hbm, ⟨18, _⟩ => ⟨S1024x1024, .bf16⟩
  | .hbm, ⟨19, _⟩ => ⟨S512x1024, .bf16⟩
  | .hbm, ⟨20, _⟩ => ⟨S1536x1024, .bf16⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S4096x512, .f32⟩
  | .hbm, ⟨25, _⟩ => ⟨S8x4096x1, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S8x512x1, .f32⟩
  | .local _ .vmem, ⟨10, _⟩ => ⟨S8x512x1, .f32⟩
  | .local _ .vmem, ⟨11, _⟩ => ⟨S1024x1536, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S1x4096x512 : Shape := ⟨3, ![1, 4096, 512]⟩
abbrev S1x1024x1024 : Shape := ⟨3, ![1, 1024, 1024]⟩
abbrev S1x4096x1024 : Shape := ⟨3, ![1, 4096, 1024]⟩
abbrev S1024x1024 : Shape := ⟨2, ![1024, 1024]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4096x8 : Shape := ⟨2, ![4096, 8]⟩
abbrev S8x4096 : Shape := ⟨2, ![8, 4096]⟩
abbrev S8x4096x1 : Shape := ⟨3, ![8, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x1024x1024, .f32⟩
  | .hbm, ⟨3, _⟩ => ⟨S1x4096x1024, .f32⟩
  | .hbm, ⟨4, _⟩ => ⟨S1x4096x1024, .f32⟩
  | .hbm, ⟨5, _⟩ => ⟨S1024x1024, .f32⟩
  | .hbm, ⟨6, _⟩ => ⟨S1x4096x1024, .f32⟩
  | .hbm, ⟨7, _⟩ => ⟨S1x4096x1024, .f32⟩
  | .hbm, ⟨8, _⟩ => ⟨S1x4096x512, .f32⟩
  | .hbm, ⟨9, _⟩ => ⟨S1x4096x512, .f32⟩
  | .hbm, ⟨10, _⟩ => ⟨S4096x512, .f32⟩
  | .hbm, ⟨11, _⟩ => ⟨S4096x8x64, .f32⟩
  | .hbm, ⟨12, _⟩ => ⟨S_, .i32⟩
  | .hbm, ⟨13, _⟩ => ⟨S_, .f32⟩
  | .hbm, ⟨14, _⟩ => ⟨S4096x8x128, .f32⟩
  | .hbm, ⟨15, _⟩ => ⟨S4096x1024, .f32⟩
  | .hbm, ⟨16, _⟩ => ⟨S4096x512, .f32⟩
  | .hbm, ⟨17, _⟩ => ⟨S4096x8x64, .f32⟩
  | .hbm, ⟨18, _⟩ => ⟨S4096x512, .f32⟩
  | .hbm, ⟨19, _⟩ => ⟨S4096x8x64, .f32⟩
  | .hbm, ⟨20, _⟩ => ⟨S4096x8x64, .f32⟩
  | .hbm, ⟨21, _⟩ => ⟨S_, .f32⟩
  | .hbm, ⟨22, _⟩ => ⟨S4096x8, .f32⟩
  | .hbm, ⟨23, _⟩ => ⟨S4096x1024, .bf16⟩
  | .hbm, ⟨24, _⟩ => ⟨S4096x512, .f32⟩
  | .hbm, ⟨25, _⟩ => ⟨S8x4096, .f32⟩
  | .hbm, ⟨26, _⟩ => ⟨S8x4096x1, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnUp.lean ====
abbrev S1x4096x1024 : Shape := ⟨3, ![1, 4096, 1024]⟩
abbrev S1x1024x5632 : Shape := ⟨3, ![1, 1024, 5632]⟩
abbrev S1x6144 : Shape := ⟨2, ![1, 6144]⟩
abbrev S1x1024 : Shape := ⟨2, ![1, 1024]⟩
abbrev S1x4096x5632 : Shape := ⟨3, ![1, 4096, 5632]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2x4x704 : Shape := ⟨4, ![4096, 2, 4, 704]⟩
abbrev S4x2x4096x704 : Shape := ⟨4, ![4, 2, 4096, 704]⟩
abbrev S1024x5632 : Shape := ⟨2, ![1024, 5632]⟩
abbrev S5632x1024 : Shape := ⟨2, ![5632, 1024]⟩
abbrev S8x704x1024 : Shape := ⟨3, ![8, 704, 1024]⟩
abbrev S6x1024 : Shape := ⟨2, ![6, 1024]⟩
abbrev S4x2x512x704 : Shape := ⟨4, ![4, 2, 512, 704]⟩
abbrev S512x1024 : Shape := ⟨2, ![512, 1024]⟩
abbrev S1x1x512x704 : Shape := ⟨4, ![1, 1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 50
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x5632, .f32⟩
  | .hbm, ⟨3, _⟩ => ⟨S1x6144, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x4096x1024, .f32⟩
  | .hbm, ⟨8, _⟩ => ⟨S1x4096x5632, .f32⟩
  | .hbm, ⟨9, _⟩ => ⟨S1x6144, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x2x4x704, .f32⟩
  | .hbm, ⟨33, _⟩ => ⟨S4x2x4096x704, .f32⟩
  | .hbm, ⟨34, _⟩ => ⟨S4x2x4096x704, .bf16⟩
  | .hbm, ⟨35, _⟩ => ⟨S1024x5632, .f32⟩
  | .hbm, ⟨36, _⟩ => ⟨S5632x1024, .f32⟩
  | .hbm, ⟨37, _⟩ => ⟨S5632x1024, .bf16⟩
  | .hbm, ⟨38, _⟩ => ⟨S8x704x1024, .bf16⟩
  | .hbm, ⟨39, _⟩ => ⟨S6x1024, .f32⟩
  | .hbm, ⟨40, _⟩ => ⟨S6x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .local _ .vmem, ⟨0, _⟩ => ⟨S4x2x512x704, .bf16⟩
  | .local _ .vmem, ⟨1, _⟩ => ⟨S4x2x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S6x1024, .f32⟩
  | .local _ .vmem, ⟨10, _⟩ => ⟨S6x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnUpRefIdeal.lean ====
abbrev S1x4096x1024 : Shape := ⟨3, ![1, 4096, 1024]⟩
abbrev S1x1024x5632 : Shape := ⟨3, ![1, 1024, 5632]⟩
abbrev S1x6144 : Shape := ⟨2, ![1, 6144]⟩
abbrev S1x1024 : Shape := ⟨2, ![1, 1024]⟩
abbrev S1x4096x5632 : Shape := ⟨3, ![1, 4096, 5632]⟩
abbrev S1024 : Shape := ⟨1, ![1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S1024x5632 : Shape := ⟨2, ![1024, 5632]⟩
abbrev S4096 : Shape := ⟨1, ![4096]⟩
abbrev S4096x1024 : Shape := ⟨2, ![4096, 1024]⟩

abbrev nBuf : Space → Nat
  | .hbm => 157
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024x5632, .f32⟩
  | 3 => ⟨S1x6144, .f32⟩
  | 4 => ⟨S1x6144, .f32⟩
  | 5 => ⟨S1x1024, .f32⟩
  | 6 => ⟨S1x1024, .f32⟩
  | 7 => ⟨S1x4096x1024, .f32⟩
  | 8 => ⟨S1x4096x5632, .f32⟩
  | 9 => ⟨S1x6144, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1024, .f32⟩
  | 17 => ⟨S1024, .f32⟩
  | 18 => ⟨S1x1x1024, .f32⟩
  | 19 => ⟨S1x4096x1024, .f32⟩
  | 20 => ⟨S_, .f32⟩
  | 21 => ⟨S1x4096, .f32⟩
  | 22 => ⟨S1x4096x1, .f32⟩
  | 23 => ⟨S_, .f32⟩
  | 24 => ⟨S1x4096x1, .f32⟩
  | 25 => ⟨S1x4096x1, .f32⟩
  | 26 => ⟨S_, .f32⟩
  | 27 => ⟨S1x4096x1, .f32⟩
  | 28 => ⟨S1x4096x1, .f32⟩
  | 29 => ⟨S1x4096x1, .f32⟩
  | 30 => ⟨S1x4096x1, .f32⟩
  | 31 => ⟨S_, .f32⟩
  | 32 => ⟨S1x4096x1, .f32⟩
  | 33 => ⟨S1x4096x1, .f32⟩
  | 34 => ⟨S1x4096x1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S_, .f32⟩
  | 44 => ⟨S1x4096, .f32⟩
  | 45 => ⟨S1x4096x1, .f32⟩
  | 46 => ⟨S_, .f32⟩
  | 47 => ⟨S1x4096x1, .f32⟩
  | 48 => ⟨S1x4096x1, .f32⟩
  | 49 => ⟨S_, .f32⟩
  | 50 => ⟨S1x4096x1, .f32⟩
  | 51 => ⟨S1x4096x1, .f32⟩
  | 52 => ⟨S1x4096x1, .f32⟩
  | 53 => ⟨S1x4096x1, .f32⟩
  | 54 => ⟨S_, .f32⟩
  | 55 => ⟨S1x4096x1, .f32⟩
  | 56 => ⟨S1x4096x1, .f32⟩
  | 57 => ⟨S1x4096x1024, .f32⟩
  | 58 => ⟨S1x4096x1024, .f32⟩
  | 59 => ⟨S1x1x1024, .f32⟩
  | 60 => ⟨S1x4096x1024, .f32⟩
  | 61 => ⟨S1x4096x1024, .f32⟩
  | 62 => ⟨S1x1x1024, .f32⟩
  | 63 => ⟨S_, .f32⟩
  | 64 => ⟨S1x1x1024, .f32⟩
  | 65 => ⟨S1x1x1024, .f32⟩
  | 66 => ⟨S1x4096x1024, .f32⟩
  | 67 => ⟨S1x4096x1024, .f32⟩
  | 68 => ⟨S1x1x1024, .f32⟩
  | 69 => ⟨S1x4096x1024, .f32⟩
  | 70 => ⟨S1x4096x1024, .f32⟩
  | 71 => ⟨S1024x5632, .f32⟩
  | 72 => ⟨S1x4096x5632, .f32⟩
  | 73 => ⟨S1x4096x1024, .f32⟩
  | 74 => ⟨S_, .f32⟩
  | 75 => ⟨S1x1024, .f32⟩
  | 76 => ⟨S1x1x1024, .f32⟩
  | 77 => ⟨S_, .f32⟩
  | 78 => ⟨S1024, .f32⟩
  | 79 => ⟨S1x1024, .f32⟩
  | 80 => ⟨S1x4096x1024, .f32⟩
  | 81 => ⟨S_, .f32⟩
  | 82 => ⟨S1x1024, .f32⟩
  | 83 => ⟨S1x1x1024, .f32⟩
  | 84 => ⟨S1x4096x1024, .f32⟩
  | 85 => ⟨S1x4096x1024, .f32⟩
  | 86 => ⟨S_, .f32⟩
  | 87 => ⟨S1024, .f32⟩
  | 88 => ⟨S1x1024, .f32⟩
  | 89 => ⟨S1x4096x1024, .f32⟩
  | 90 => ⟨S_, .f32⟩
  | 91 => ⟨S1x1024, .f32⟩
  | 92 => ⟨S1x1x1024, .f32⟩
  | 93 => ⟨S1x4096x1024, .f32⟩
  | 94 => ⟨S1x4096x1024, .f32⟩
  | 95 => ⟨S_, .f32⟩
  | 96 => ⟨S1024, .f32⟩
  | 97 => ⟨S1x4096x1024, .f32⟩
  | 98 => ⟨S_, .f32⟩
  | 99 => ⟨S1x4096, .f32⟩
  | 100 => ⟨S1x4096x1, .f32⟩
  | 101 => ⟨S1x4096x1024, .f32⟩
  | 102 => ⟨S1x4096x1024, .f32⟩
  | 103 => ⟨S1x4096x1024, .f32⟩
  | 104 => ⟨S1x4096x1, .f32⟩
  | 105 => ⟨S_, .f32⟩
  | 106 => ⟨S1x4096x1, .f32⟩
  | 107 => ⟨S1x4096x1, .f32⟩
  | 108 => ⟨S_, .f32⟩
  | 109 => ⟨S4096, .f32⟩
  | 110 => ⟨S1x4096, .f32⟩
  | 111 => ⟨S1x4096x1024, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x4096x1024, .f32⟩
  | 120 => ⟨S_, .f32⟩
  | 121 => ⟨S1x1024, .f32⟩
  | 122 => ⟨S1x1x1024, .f32⟩
  | 123 => ⟨S1x4096x1024, .f32⟩
  | 124 => ⟨S_, .f32⟩
  | 125 => ⟨S1x1024, .f32⟩
  | 126 => ⟨S1x1x1024, .f32⟩
  | 127 => ⟨S1x4096x1024, .f32⟩
  | _ => ⟨S1x4096x1024, .f32⟩

abbrev hbmTy0_1 (i : Nat) : BufTy := match i % 128 with
  | 0 => ⟨S1x4096x1024, .f32⟩
  | 1 => ⟨S_, .f32⟩
  | 2 => ⟨S1024, .f32⟩
  | 3 => ⟨S1x4096x1024, .f32⟩
  | 4 => ⟨S_, .f32⟩
  | 5 => ⟨S1x4096, .f32⟩
  | 6 => ⟨S1x4096x1, .f32⟩
  | 7 => ⟨S1x4096x1024, .f32⟩
  | 8 => ⟨S1x4096x1024, .f32⟩
  | 9 => ⟨S1x4096x1, .f32⟩
  | 10 => ⟨S_, .f32⟩
  | 11 => ⟨S1x4096x1, .f32⟩
  | 12 => ⟨S1x4096x1, .f32⟩
  | 13 => ⟨S_, .f32⟩
  | 14 => ⟨S4096, .f32⟩
  | 15 => ⟨S1x4096, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S_, .f32⟩
  | 22 => ⟨S1024, .f32⟩
  | 23 => ⟨S1x1024, .f32⟩
  | 24 => ⟨S4096x1024, .f32⟩
  | 25 => ⟨S4096x1024, .f32⟩
  | 26 => ⟨S4096x1024, .bf16⟩
  | 27 => ⟨S1x1024, .f32⟩
  | 28 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_23 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]
-- ==== FfnDown.lean ====
abbrev S1x4096x1024 : Shape := ⟨3, ![1, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S1x4096x5632 : Shape := ⟨3, ![1, 4096, 5632]⟩
abbrev S3x5632 : Shape := ⟨2, ![3, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4096x2816 : Shape := ⟨3, ![1, 4096, 2816]⟩
abbrev S3x8x704 : Shape := ⟨3, ![3, 8, 704]⟩
abbrev S8x3x704 : Shape := ⟨3, ![8, 3, 704]⟩
abbrev S2816x1024 : Shape := ⟨2, ![2816, 1024]⟩
abbrev S4x704x1024 : Shape := ⟨3, ![4, 704, 1024]⟩
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x2x4096x704 : Shape := ⟨4, ![4, 2, 4096, 704]⟩
abbrev S4x2x3x704 : Shape := ⟨4, ![4, 2, 3, 704]⟩
abbrev S4x2x1x704 : Shape := ⟨4, ![4, 2, 1, 704]⟩
abbrev S4x2x704x1024 : Shape := ⟨4, ![4, 2, 704, 1024]⟩
abbrev S512x1024 : Shape := ⟨2, ![512, 1024]⟩
abbrev S1x704x1024 : Shape := ⟨3, ![1, 704, 1024]⟩
abbrev S1x512x704 : Shape := ⟨3, ![1, 512, 704]⟩
abbrev S1x3x704 : Shape := ⟨3, ![1, 3, 704]⟩
abbrev S1x2x512x704 : Shape := ⟨4, ![1, 2, 512, 704]⟩
abbrev S1x2x3x704 : Shape := ⟨4, ![1, 2, 3, 704]⟩
abbrev S1x2x1x704 : Shape := ⟨4, ![1, 2, 1, 704]⟩
abbrev S1x2x704x1024 : Shape := ⟨4, ![1, 2, 704, 1024]⟩
abbrev S8x704 : Shape := ⟨2, ![8, 704]⟩
abbrev S704x1024 : Shape := ⟨2, ![704, 1024]⟩
abbrev S1024x704 : Shape := ⟨2, ![1024, 704]⟩
abbrev S256x1024 : Shape := ⟨2, ![256, 1024]⟩
abbrev S256x704 : Shape := ⟨2, ![256, 704]⟩
abbrev S1x256x704 : Shape := ⟨3, ![1, 256, 704]⟩
abbrev S264x704 : Shape := ⟨2, ![264, 704]⟩
abbrev S1x1x704 : Shape := ⟨3, ![1, 1, 704]⟩
abbrev S1x704 : Shape := ⟨2, ![1, 704]⟩
abbrev S1x1x256x704 : Shape := ⟨4, ![1, 1, 256, 704]⟩
abbrev S1x1x1x704 : Shape := ⟨4, ![1, 1, 1, 704]⟩
abbrev S704 : Shape := ⟨1, ![704]⟩
abbrev S512x704 : Shape := ⟨2, ![512, 704]⟩
abbrev S1x1x512x704 : Shape := ⟨4, ![1, 1, 512, 704]⟩
abbrev S1x1x704x1024 : Shape := ⟨4, ![1, 1, 704, 1024]⟩

abbrev nBuf : Space → Nat
  | .hbm => 83
  | .vmem => 36
  | .smem => 0
  | _ => 0

abbrev bufTy : (tb : Table) → Fin (tcTables nBuf tb) → BufTy
  | .hbm, ⟨0, _⟩ => ⟨S1x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x4096x1024, .f32⟩
  | .hbm, ⟨6, _⟩ => ⟨S1024x5632, .f32⟩
  | .hbm, ⟨7, _⟩ => ⟨S1x4096x5632, .f32⟩
  | .hbm, ⟨8, _⟩ => ⟨S3x5632, .f32⟩
  | .hbm, ⟨9, _⟩ => ⟨S5632, .f32⟩
  | .hbm, ⟨10, _⟩ => ⟨S_, .f32⟩
  | .hbm, ⟨11, _⟩ => ⟨S1x2x5632, .f32⟩
  | .hbm, ⟨12, _⟩ => ⟨S1x4098x5632, .f32⟩
  | .hbm, ⟨13, _⟩ => ⟨S1x4096x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x4096x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S1x1x5632, .f32⟩
  | .hbm, ⟨34, _⟩ => ⟨S1x4096x5632, .f32⟩
  | .hbm, ⟨35, _⟩ => ⟨S1x4096x5632, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S_, .f32⟩
  | .hbm, ⟨40, _⟩ => ⟨S1x4096x2816, .f32⟩
  | .hbm, ⟨41, _⟩ => ⟨S1x4096x2816, .f32⟩
  | .hbm, ⟨42, _⟩ => ⟨S_, .f32⟩
  | .hbm, ⟨43, _⟩ => ⟨S1x4096x2816, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S3x5632, .f32⟩
  | .hbm, ⟨49, _⟩ => ⟨S3x8x704, .f32⟩
  | .hbm, ⟨50, _⟩ => ⟨S8x3x704, .f32⟩
  | .hbm, ⟨51, _⟩ => ⟨S2816x1024, .f32⟩
  | .hbm, ⟨52, _⟩ => ⟨S2816x1024, .bf16⟩
  | .hbm, ⟨53, _⟩ => ⟨S4x704x1024, .bf16⟩
  | .hbm, ⟨54, _⟩ => ⟨S4096x1024, .f32⟩
  | .hbm, ⟨55, _⟩ => ⟨S4096x1024, .bf16⟩
  | .hbm, ⟨56, _⟩ => ⟨S1x4096x2816, .f32⟩
  | .hbm, ⟨57, _⟩ => ⟨S4096x2816, .f32⟩
  | .hbm, ⟨58, _⟩ => ⟨S4096x4x704, .f32⟩
  | .hbm, ⟨59, _⟩ => ⟨S4x4096x704, .f32⟩
  | .hbm, ⟨60, _⟩ => ⟨S1x4096x2816, .f32⟩
  | .hbm, ⟨61, _⟩ => ⟨S4096x2816, .f32⟩
  | .hbm, ⟨62, _⟩ => ⟨S4096x4x704, .f32⟩
  | .hbm, ⟨63, _⟩ => ⟨S4x4096x704, .f32⟩
  | .hbm, ⟨64, _⟩ => ⟨S1x4096x2816, .f32⟩
  | .hbm, ⟨65, _⟩ => ⟨S4096x2816, .f32⟩
  | .hbm, ⟨66, _⟩ => ⟨S4096x4x704, .f32⟩
  | .hbm, ⟨67, _⟩ => ⟨S4x4096x704, .f32⟩
  | .hbm, ⟨68, _⟩ => ⟨S1x4096x2816, .f32⟩
  | .hbm, ⟨69, _⟩ => ⟨S4096x2816, .f32⟩
  | .hbm, ⟨70, _⟩ => ⟨S4096x4x704, .f32⟩
  | .hbm, ⟨71, _⟩ => ⟨S4x4096x704, .f32⟩
  | .hbm, ⟨72, _⟩ => ⟨S4096x2816, .f32⟩
  | .hbm, ⟨73, _⟩ => ⟨S4096x4x704, .f32⟩
  | .hbm, ⟨74, _⟩ => ⟨S4x4096x704, .f32⟩
  | .hbm, ⟨75, _⟩ => ⟨S4x4096x704, .bf16⟩
  | .hbm, ⟨76, _⟩ => ⟨S4096x1024, .f32⟩
  | .hbm, ⟨77, _⟩ => ⟨S4096x1024, .bf16⟩
  | .hbm, ⟨78, _⟩ => ⟨S4x2x4096x704, .bf16⟩
  | .hbm, ⟨79, _⟩ => ⟨S4x2x3x704, .f32⟩
  | .hbm, ⟨80, _⟩ => ⟨S4x2x1x704, .f32⟩
  | .hbm, ⟨81, _⟩ => ⟨S4x704x1024, .bf16⟩
  | .hbm, ⟨82, _⟩ => ⟨S4x2x704x1024, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x512x704, .bf16⟩
  | .local _ .vmem, ⟨17, _⟩ => ⟨S1x512x704, .bf16⟩
  | .local _ .vmem, ⟨18, _⟩ => ⟨S512x1024, .bf16⟩
  | .local _ .vmem, ⟨19, _⟩ => ⟨S512x1024, .bf16⟩
  | .local _ .vmem, ⟨20, _⟩ => ⟨S1x2x512x704, .bf16⟩
  | .local _ .vmem, ⟨21, _⟩ => ⟨S1x2x512x704, .bf16⟩
  | .local _ .vmem, ⟨22, _⟩ => ⟨S1x2x3x704, .f32⟩
  | .local _ .vmem, ⟨23, _⟩ => ⟨S1x2x3x704, .f32⟩
  | .local _ .vmem, ⟨24, _⟩ => ⟨S1x2x1x704, .f32⟩
  | .local _ .vmem, ⟨25, _⟩ => ⟨S1x2x1x704, .f32⟩
  | .local _ .vmem, ⟨26, _⟩ => ⟨S1x704x1024, .bf16⟩
  | .local _ .vmem, ⟨27, _⟩ => ⟨S1x704x1024, .bf16⟩
  | .local _ .vmem, ⟨28, _⟩ => ⟨S1x2x704x1024, .bf16⟩
  | .local _ .vmem, ⟨29, _⟩ => ⟨S1x2x704x1024, .bf16⟩
  | .local _ .vmem, ⟨30, _⟩ => ⟨S8x704, .f32⟩
  | .local _ .vmem, ⟨31, _⟩ => ⟨S8x704, .f32⟩
  | .local _ .vmem, ⟨32, _⟩ => ⟨S704x1024, .f32⟩
  | .local _ .vmem, ⟨33, _⟩ => ⟨S704x1024, .f32⟩
  | .local _ .vmem, ⟨34, _⟩ => ⟨S704x1024, .f32⟩
  | .local _ .vmem, ⟨35, _⟩ => ⟨S1024x704, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v323 : BitVec 1 := Scalar.cmpi .eq arg1 c7_i32
  let v324 : BitVec 32 := Scalar.extui v323
  let c0_i32_276 : BitVec 32 := 0#32
  let v325 : BitVec 1 := Scalar.cmpi .ne v324 c0_i32_276
  v325

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x3x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x1x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnDownRefIdeal.lean ====
abbrev S1x4096x1024 : Shape := ⟨3, ![1, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S1x4096x5632 : Shape := ⟨3, ![1, 4096, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩
abbrev S1x4096x2816 : Shape := ⟨3, ![1, 4096, 2816]⟩
abbrev S1024x2816 : Shape := ⟨2, ![1024, 2816]⟩
abbrev S5632x1024 : Shape := ⟨2, ![5632, 1024]⟩
abbrev S4096x5632 : Shape := ⟨2, ![4096, 5632]⟩
abbrev S4096x2x4x704 : Shape := ⟨4, ![4096, 2, 4, 704]⟩
abbrev S4x2x4096x704 : Shape := ⟨4, ![4, 2, 4096, 704]⟩
abbrev S3x2x4x704 : Shape := ⟨4, ![3, 2, 4, 704]⟩
abbrev S4x2x3x704 : Shape := ⟨4, ![4, 2, 3, 704]⟩
abbrev S2x4x1x704 : Shape := ⟨4, ![2, 4, 1, 704]⟩
abbrev S4x2x1x704 : Shape := ⟨4, ![4, 2, 1, 704]⟩
abbrev S1024x2x4x704 : Shape := ⟨4, ![1024, 2, 4, 704]⟩
abbrev S4x2x704x1024 : Shape := ⟨4, ![4, 2, 704, 1024]⟩
abbrev S4x704x1024 : Shape := ⟨3, ![4, 704, 1024]⟩

abbrev nBuf : Space → Nat
  | .hbm => 135
  | .vmem => 0
  | .smem => 0
  | _ => 0

abbrev hbmTy0_0 (i : Nat) : BufTy := match i % 128 with
  | 0 => ⟨S1x4096x1024, .f32⟩
  | 1 => ⟨S1x1024x5632, .f32⟩
  | 2 => ⟨S1x3x5632, .f32⟩
  | 3 => ⟨S1x5632, .f32⟩
  | 4 => ⟨S1x2816x1024, .f32⟩
  | 5 => ⟨S1x4096x1024, .f32⟩
  | 6 => ⟨S1024x5632, .f32⟩
  | 7 => ⟨S1x4096x5632, .f32⟩
  | 8 => ⟨S3x5632, .f32⟩
  | 9 => ⟨S5632, .f32⟩
  | 10 => ⟨S2816x1024, .f32⟩
  | 11 => ⟨S_, .f32⟩
  | 12 => ⟨S1x2x5632, .f32⟩
  | 13 => ⟨S1x4098x5632, .f32⟩
  | 14 => ⟨S_, .f32⟩
  | 15 => ⟨S1x2x5632, .f32⟩
  | 16 => ⟨S1x4096x5632, .f32⟩
  | 17 => ⟨S1x5632, .f32⟩
  | 18 => ⟨S5632, .f32⟩
  | 19 => ⟨S1x1x5632, .f32⟩
  | 20 => ⟨S1x4096x5632, .f32⟩
  | 21 => ⟨S1x4096x5632, .f32⟩
  | 22 => ⟨S1x4096x5632, .f32⟩
  | 23 => ⟨S1x5632, .f32⟩
  | 24 => ⟨S5632, .f32⟩
  | 25 => ⟨S1x1x5632, .f32⟩
  | 26 => ⟨S1x4096x5632, .f32⟩
  | 27 => ⟨S1x4096x5632, .f32⟩
  | 28 => ⟨S1x4096x5632, .f32⟩
  | 29 => ⟨S1x4096x5632, .f32⟩
  | 30 => ⟨S1x5632, .f32⟩
  | 31 => ⟨S5632, .f32⟩
  | 32 => ⟨S1x1x5632, .f32⟩
  | 33 => ⟨S1x4096x5632, .f32⟩
  | 34 => ⟨S1x4096x5632, .f32⟩
  | 35 => ⟨S1x4096x5632, .f32⟩
  | 36 => ⟨S1x1x5632, .f32⟩
  | 37 => ⟨S1x4096x5632, .f32⟩
  | 38 => ⟨S1x4096x5632, .f32⟩
  | 39 => ⟨S1x4096x2816, .f32⟩
  | 40 => ⟨S1x4096x2816, .f32⟩
  | 41 => ⟨S1x4096x2816, .f32⟩
  | 42 => ⟨S_, .f32⟩
  | 43 => ⟨S1x4096x2816, .f32⟩
  | 44 => ⟨S1x4096x2816, .f32⟩
  | 45 => ⟨S_, .f32⟩
  | 46 => ⟨S1x4096x2816, .f32⟩
  | 47 => ⟨S1x4096x2816, .f32⟩
  | 48 => ⟨S_, .f32⟩
  | 49 => ⟨S1x4096x2816, .f32⟩
  | 50 => ⟨S1x4096x2816, .f32⟩
  | 51 => ⟨S1x4096x2816, .f32⟩
  | 52 => ⟨S1x4096x2816, .f32⟩
  | 53 => ⟨S1x4096x2816, .f32⟩
  | 54 => ⟨S1x4096x2816, .f32⟩
  | 55 => ⟨S1x4096x1024, .f32⟩
  | 56 => ⟨S1024x2816, .f32⟩
  | 57 => ⟨S2816x1024, .f32⟩
  | 58 => ⟨S1x4096x2816, .f32⟩
  | 59 => ⟨S1x4096x2816, .f32⟩
  | 60 => ⟨S1x4096x2816, .f32⟩
  | 61 => ⟨S_, .f32⟩
  | 62 => ⟨S1x4096x5632, .f32⟩
  | 63 => ⟨S1x4096x2816, .f32⟩
  | 64 => ⟨S1x4096x2816, .f32⟩
  | 65 => ⟨S1x4096x2816, .f32⟩
  | 66 => ⟨S1x4096x2816, .f32⟩
  | 67 => ⟨S_, .f32⟩
  | 68 => ⟨S1x4096x5632, .f32⟩
  | 69 => ⟨S1x4096x5632, .f32⟩
  | 70 => ⟨S_, .f32⟩
  | 71 => ⟨S1x5632, .f32⟩
  | 72 => ⟨S1x1x5632, .f32⟩
  | 73 => ⟨S_, .f32⟩
  | 74 => ⟨S5632, .f32⟩
  | 75 => ⟨S1x4096x5632, .f32⟩
  | 76 => ⟨S_, .f32⟩
  | 77 => ⟨S1x5632, .f32⟩
  | 78 => ⟨S1x1x5632, .f32⟩
  | 79 => ⟨S1x4096x5632, .f32⟩
  | 80 => ⟨S1x4096x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S1x4098x5632, .f32⟩
  | 88 => ⟨S1x4096x5632, .f32⟩
  | 89 => ⟨S_, .f32⟩
  | 90 => ⟨S1x5632, .f32⟩
  | 91 => ⟨S1x1x5632, .f32⟩
  | 92 => ⟨S1x4096x5632, .f32⟩
  | 93 => ⟨S1x4096x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S1x4098x5632, .f32⟩
  | 102 => ⟨S1x4098x5632, .f32⟩
  | 103 => ⟨S1x4096x5632, .f32⟩
  | 104 => ⟨S_, .f32⟩
  | 105 => ⟨S1x5632, .f32⟩
  | 106 => ⟨S1x1x5632, .f32⟩
  | 107 => ⟨S1x4096x5632, .f32⟩
  | 108 => ⟨S1x4096x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S1x4098x5632, .f32⟩
  | 117 => ⟨S1x4098x5632, .f32⟩
  | 118 => ⟨S1x2x5632, .f32⟩
  | 119 => ⟨S1x4096x5632, .f32⟩
  | 120 => ⟨S5632x1024, .f32⟩
  | 121 => ⟨S1024x5632, .f32⟩
  | 122 => ⟨S4096x5632, .f32⟩
  | 123 => ⟨S4096x2x4x704, .f32⟩
  | 124 => ⟨S4x2x4096x704, .f32⟩
  | 125 => ⟨S3x2x4x704, .f32⟩
  | 126 => ⟨S4x2x3x704, .f32⟩
  | 127 => ⟨S2x4x1x704, .f32⟩
  | _ => ⟨S1x4096x1024, .f32⟩

abbrev hbmTy0_1 (i : Nat) : BufTy := match i % 128 with
  | 0 => ⟨S4x2x1x704, .f32⟩
  | 1 => ⟨S1024x2x4x704, .f32⟩
  | 2 => ⟨S4x2x704x1024, .f32⟩
  | 3 => ⟨S4x2x4096x704, .bf16⟩
  | 4 => ⟨S4x704x1024, .f32⟩
  | 5 => ⟨S4x704x1024, .bf16⟩
  | 6 => ⟨S4x2x704x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v32_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v32_1 : Ref sig .tc := ⟨.hbm, 51, rfl⟩
abbrev main_v32_0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== Proof.Lift.lean ====
/- Extended reals that are real numbers. The ideal value of every array here is an extended real; where the arguments are
   finite each one is a real number, and the lemmas of this module carry the coercion `ℝ → EReal` outward through sums,
   quotients, roots and the printed float words, so that an equation of the programs becomes one of real numbers. -/
module

public import Idealize.ShloMosaic.Lib.Pointwise
public import Idealize.ShloMosaic.Lib.ReduceAll
public import Idealize.ShloMosaic.Lib.IdealHost
public import Idealize.ShloMosaic.Lib.Pipeline.ValueKit

@[expose] public section

set_option maxRecDepth 16384

noncomputable section

namespace Cert.Lift

open Idealize.ShloMosaic

/-- A real array as an array of extended reals. -/
def cv {s : Shape} (a : s.Idx → ℝ) : s.Idx → EReal := fun i => ((a i : ℝ) : EReal)

theorem cv_apply {s : Shape} (a : s.Idx → ℝ) (i : s.Idx) : cv a i = ((a i : ℝ) : EReal) := rfl

/-- A finite sum of real numbers. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a nonzero real number. -/
theorem div_coe (x y : ℝ) (h : y ≠ 0) : Ideal.div (x : EReal) (y : EReal) = ((x / y : ℝ) : EReal) := by
  rw [Ideal.div_coe h, ← EReal.coe_mul, div_eq_mul_one_div x y]

/-- The reciprocal root of a positive real number. -/
theorem rsqrt_coe (x : ℝ) (h : 0 < x) : Ideal.rsqrt (x : EReal) = (((Real.sqrt x)⁻¹ : ℝ) : EReal) := by
  rw [Ideal.rsqrt_coe, if_neg (not_lt.2 h.le), if_neg h.ne']

/-- The float word of 1024. -/
theorem w1024 : Ideal.ofBits .f32 0x44800000#32 = ((1024 : ℝ) : EReal) := by
  simp [Ideal.ofBits, Ideal.ieee, -EReal.coe_mul]; norm_num

/-- The float word of 1/1024. -/
theorem w1024inv : Ideal.ofBits .f32 0x3A800000#32 = ((1 / 1024 : ℝ) : EReal) := by
  simp [Ideal.ofBits, Ideal.ieee, -EReal.coe_mul]; norm_num

/-- The float word of 1/2. -/
theorem whalf : Ideal.ofBits .f32 0x3F000000#32 = ((1 / 2 : ℝ) : EReal) := by
  simp [Ideal.ofBits, Ideal.ieee, -EReal.coe_mul]; norm_num

/-- The float word of −1/2. -/
theorem wneghalf : Ideal.ofBits .f32 0xBF000000#32 = ((-(1 / 2) : ℝ) : EReal) := by
  simp [Ideal.ofBits, Ideal.ieee, -EReal.coe_mul]; norm_num

/-- The float word of 1. -/
theorem wone : Ideal.ofBits .f32 0x3F800000#32 = ((1 : ℝ) : EReal) := by
  simp [Ideal.ofBits, Ideal.ieee, -EReal.coe_mul]; norm_num

/-- The float word of 2. -/
theorem wtwo : Ideal.ofBits .f32 0x40000000#32 = ((2 : ℝ) : EReal) := by
  simp [Ideal.ofBits, Ideal.ieee, -EReal.coe_mul]; norm_num

/-- The number whose float word stands for 1e-6 in the norms. -/
def eps : ℝ := 8796093 / 8796093022208

theorem eps_pos : 0 < eps := by norm_num [eps]

theorem weps : Ideal.ofBits .f32 0x358637BD#32 = ((eps : ℝ) : EReal) := by
  simp [Ideal.ofBits, Ideal.ieee, -EReal.coe_mul]; norm_num [eps]

/-- A one-bit word of a decision is 1 exactly when the decision holds. -/
theorem ofBool_one {p : Prop} [Decidable p] (h : BitVec.ofBool (decide p) = 1#1) : p := by
  by_contra hp; simp [hp] at h

/-- An extended real whose absolute value is below `+∞` is a real number. -/
theorem real_of_abs_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : max x (-x) < ⊤ := by
    have := ofBool_one (p := max x (-x) < Ideal.ofBits .f32 0x7F800000#32) h
    rwa [htop] at this
  rw [max_lt_iff] at h'
  induction x using EReal.rec with
  | bot => simp at h'
  | coe r => exact ⟨r, rfl⟩
  | top => simp at h'

/-- The printed test that an array is finite (`|a| < +∞` at every index) makes the array a real one. -/
theorem real_of_all {s t u : Shape} {axes : List (Fin s.rank)} [Subsingleton t.Idx] (a : FVec Ideal s .f32)
    (top : FVec Ideal s .f32) (htop : ∀ i, top i = FloatOps.ofBits (F := Ideal) .f32 0x7F800000#32) (init : u.Idx → BitVec 1)
    (h : s.ReducesTo axes t) (hu : 0 < u.numel) (j : t.Idx)
    (e : Host.reduce IntOp.andi (cmpf .olt (Host.absf a) top) init h hu j = 1#1) : ∃ r : s.Idx → ℝ, a = cv r := by
  have hi : ∀ i, ∃ r : ℝ, a i = (r : EReal) := fun i => by
    have := Host.reduce_andi_all _ init h hu j e i
    refine real_of_abs_lt (a i) ?_
    rw [← htop i]; exact this
  choose r hr using hi
  exact ⟨r, funext hr⟩

/-- A host sum in which one element alone reduces into the index `j` is that element. -/
theorem hostReduceAdd_one {s t : Shape} {axes : List (Fin s.rank)} (h : s.ReducesTo axes t) (x : s.Idx → EReal) (init : EReal)
    (j : t.Idx) (i : s.Idx) (hi : ∀ i', h.drop i' = j ↔ i' = i) : Ideal.hostReduceAdd h x init j = init + x i := by
  unfold Ideal.hostReduceAdd
  rw [Finset.filter_congr (fun i' _ => hi i'), Finset.filter_eq', if_pos (Finset.mem_univ _), Finset.sum_singleton]

/-- A host sum over two leading axes of one element. -/
theorem hostReduceAdd_lead2 {n : ℕ} (h : (⟨3, ![1, 1, n]⟩ : Shape).ReducesTo [0, 1] ⟨1, ![n]⟩) (x : (⟨3, ![1, 1, n]⟩ : Shape).Idx → EReal)
    (init : EReal) (j : Fin n) : Ideal.hostReduceAdd h x init (ix1 j) = init + x (ix3 0 0 j) := by
  refine hostReduceAdd_one h x init _ _ fun i => ?_
  have e : (h.drop i 0 : ℕ) = i 2 := rfl
  have h0 : (i 0 : ℕ) < 1 := (i 0).isLt
  have h1 : (i 1 : ℕ) < 1 := (i 1).isLt
  constructor
  · intro he
    rw [he] at e
    funext a
    match a with
    | ⟨0, _⟩ => exact Fin.ext (by show (i 0 : ℕ) = 0; omega)
    | ⟨1, _⟩ => exact Fin.ext (by show (i 1 : ℕ) = 0; omega)
    | ⟨2, _⟩ => exact Fin.ext e.symm
  · rintro rfl
    funext a
    match a with
    | ⟨0, _⟩ => exact Fin.ext e

/-- A host sum over the first and last axes, both of one element. -/
theorem hostReduceAdd_ends2 {n : ℕ} (h : (⟨3, ![1, n, 1]⟩ : Shape).ReducesTo [0, 2] ⟨1, ![n]⟩) (x : (⟨3, ![1, n, 1]⟩ : Shape).Idx → EReal)
    (init : EReal) (j : Fin n) : Ideal.hostReduceAdd h x init (ix1 j) = init + x (ix3 0 j 0) := by
  refine hostReduceAdd_one h x init _ _ fun i => ?_
  have e : (h.drop i 0 : ℕ) = i 1 := rfl
  have h0 : (i 0 : ℕ) < 1 := (i 0).isLt
  have h1 : (i 2 : ℕ) < 1 := (i 2).isLt
  constructor
  · intro he
    rw [he] at e
    funext a
    match a with
    | ⟨0, _⟩ => exact Fin.ext (by show (i 0 : ℕ) = 0; omega)
    | ⟨1, _⟩ => exact Fin.ext e.symm
    | ⟨2, _⟩ => exact Fin.ext (by show (i 2 : ℕ) = 0; omega)
  · rintro rfl
    funext a
    match a with
    | ⟨0, _⟩ => exact Fin.ext e

/-- A sum over all rows, taken tile by tile and each tile in two halves. -/
theorem sum_halves {T h N : ℕ} (F : Fin N → ℝ) (hN : N = T * (h + h)) :
    ∑ t : Fin T, (∑ i : Fin h, F ⟨t * (h + h) + 0 + i, by
        have := Nat.mul_le_mul_right (h + h) (Nat.succ_le_of_lt t.isLt); have := i.isLt; rw [Nat.succ_mul] at *; omega⟩
      + ∑ i : Fin h, F ⟨t * (h + h) + h + i, by
        have := Nat.mul_le_mul_right (h + h) (Nat.succ_le_of_lt t.isLt); have := i.isLt; rw [Nat.succ_mul] at *; omega⟩)
      = ∑ s, F s := by
  subst hN
  rw [← Fin.sum_mul_add_congr (S := T) (n := h + h) (F := fun t k => F ⟨t.val * (h + h) + k.val, by
    have := Nat.mul_le_mul_right (h + h) (Nat.succ_le_of_lt t.isLt); have := k.isLt; rw [Nat.succ_mul] at *; omega⟩)
    (fun s k hl => rfl) rfl]
  refine Finset.sum_congr rfl fun t _ => ?_
  rw [Fin.sum_univ_add]
  congr 1
  exact Finset.sum_congr rfl fun i _ => congrArg F (Fin.ext (by simp only [Fin.val_natAdd]; ring))

/-- A load of a rectangle of a matrix, at one entry. -/
theorem ld2 {Val : EltTy → Type} {e : EltTy} {R C r c : ℕ} (X : (⟨2, ![R, C]⟩ : Shape).Idx → Val e) (o p : ℕ)
    (inb : ∀ a, (![o, p] : Fin 2 → ℕ) a + (![r, c] : Fin 2 → ℕ) a ≤ (⟨2, ![R, C]⟩ : Shape).size a) (i : Fin r) (j : Fin c)
    (i' : Fin R) (j' : Fin C) (hi : i'.val = o + i) (hj : j'.val = p + j) :
    View.ld X (Rect.unit (s := ⟨2, ![R, C]⟩) ![o, p] ![r, c] inb) (ix2 i j) = X (ix2 i' j') :=
  View.ld_unit_apply_of X _ _ inb _ _ fun a => match a with
    | ⟨0, _⟩ => hi
    | ⟨1, _⟩ => hj

/-- A load of a rectangle of a three-axis array, at one entry. -/
theorem ld3 {Val : EltTy → Type} {e : EltTy} {Q R C q r c : ℕ} (X : (⟨3, ![Q, R, C]⟩ : Shape).Idx → Val e) (n o p : ℕ)
    (inb : ∀ a, (![n, o, p] : Fin 3 → ℕ) a + (![q, r, c] : Fin 3 → ℕ) a ≤ (⟨3, ![Q, R, C]⟩ : Shape).size a) (h : Fin q) (i : Fin r)
    (j : Fin c) (h' : Fin Q) (i' : Fin R) (j' : Fin C) (hh : h'.val = n + h) (hi : i'.val = o + i) (hj : j'.val = p + j) :
    View.ld X (Rect.unit (s := ⟨3, ![Q, R, C]⟩) ![n, o, p] ![q, r, c] inb) (ix3 h i j) = X (ix3 h' i' j') :=
  View.ld_unit_apply_of X _ _ inb _ _ fun a => match a with
    | ⟨0, _⟩ => hh
    | ⟨1, _⟩ => hi
    | ⟨2, _⟩ => hj

/-- A load of a rectangle of a four-axis array, at one entry. -/
theorem ld4 {Val : EltTy → Type} {e : EltTy} {P Q R C p q r c : ℕ} (X : (⟨4, ![P, Q, R, C]⟩ : Shape).Idx → Val e) (l n o u : ℕ)
    (inb : ∀ a, (![l, n, o, u] : Fin 4 → ℕ) a + (![p, q, r, c] : Fin 4 → ℕ) a ≤ (⟨4, ![P, Q, R, C]⟩ : Shape).size a) (g : Fin p)
    (h : Fin q) (i : Fin r) (j : Fin c) (g' : Fin P) (h' : Fin Q) (i' : Fin R) (j' : Fin C) (hg : g'.val = l + g) (hh : h'.val = n + h)
    (hi : i'.val = o + i) (hj : j'.val = u + j) :
    View.ld X (Rect.unit (s := ⟨4, ![P, Q, R, C]⟩) ![l, n, o, u] ![p, q, r, c] inb) (ix4 g h i j) = X (ix4 g' h' i' j') :=
  View.ld_unit_apply_of X _ _ inb _ _ fun a => match a with
    | ⟨0, _⟩ => hg
    | ⟨1, _⟩ => hh
    | ⟨2, _⟩ => hi
    | ⟨3, _⟩ => hj

end Cert.Lift
-- ==== Proof.Rms.lean ====
/- A row divided by its root mean square, and the derivative of that division. `rinv` is the reciprocal root mean square of a row,
   `rbwd` the gradient of the row as the kernels write it, and `vjp_eq` the same gradient as the chain rule writes it: through the
   sum of squares, with the factor `−½·v^(-3/2)`. -/
module

public import proofs.«01_k».proof.Proof.Lift
public import Mathlib.Analysis.SpecialFunctions.Pow.Real

@[expose] public section

noncomputable section

namespace Cert.Rms

open Cert.Lift Idealize.ShloMosaic

variable {n : ℕ}

/-- The mean of the squares of a row, with the norm's epsilon added. `D` is the width of the row. -/
def var (D : ℝ) (f : Fin n → ℝ) : ℝ := (∑ j, f j * f j) / D + eps

/-- One over the root mean square of a row. -/
def rinv (D : ℝ) (f : Fin n → ℝ) : ℝ := (Real.sqrt (var D f))⁻¹

/-- The gradient of the row `f` when `d` is the gradient of the row over its root mean square. -/
def rbwd (D : ℝ) (f d : Fin n → ℝ) (i : Fin n) : ℝ :=
  rinv D f * (d i - f i * rinv D f * ((∑ j, d j * (f j * rinv D f)) / D))

theorem var_pos (D : ℝ) (hD : 0 < D) (f : Fin n → ℝ) : 0 < var D f :=
  add_pos_of_nonneg_of_pos (div_nonneg (Finset.sum_nonneg fun j _ => mul_self_nonneg _) hD.le) eps_pos

/-- The square of the reciprocal root mean square is the reciprocal of the mean square. -/
theorem rinv_sq (D : ℝ) (hD : 0 < D) (f : Fin n → ℝ) : rinv D f * rinv D f = (var D f)⁻¹ := by
  unfold rinv
  rw [← mul_inv, Real.mul_self_sqrt (var_pos D hD f).le]

/-- The chain rule's gradient is the kernels' one. -/
theorem vjp_eq (D : ℝ) (hD : 0 < D) (f d : Fin n → ℝ) (i : Fin n) :
    d i * rinv D f + (f i * ((∑ j, f j * d j) * (-(1 / 2) * (rinv D f / var D f)) / D)
      + (∑ j, f j * d j) * (-(1 / 2) * (rinv D f / var D f)) / D * f i) = rbwd D f d i := by
  have e : rinv D f / var D f = rinv D f * (rinv D f * rinv D f) := by rw [rinv_sq D hD, div_eq_mul_inv]
  have s : ∑ j, d j * (f j * rinv D f) = (∑ j, f j * d j) * rinv D f := by
    rw [Finset.sum_mul]; exact Finset.sum_congr rfl fun j _ => by ring
  unfold rbwd
  rw [e, s]
  ring

/-- The reciprocal root mean square as an extended real: the form the programs print. -/
theorem lift_rinv (D : ℝ) (hD : 0 < D) (f : Fin n → ℝ) :
    Ideal.rsqrt (((∑ j, f j * f j) / D + eps : ℝ) : EReal) = ((rinv D f : ℝ) : EReal) :=
  rsqrt_coe _ (var_pos D hD f)

end Cert.Rms
-- ==== Proof.DownLossSpec.lean ====
/- The down projection with the loss, over real numbers: the product of the activations with the weight, the row normalised, gated
   and added to the residual stream, half the mean square of the error against the target, and the gradients of that loss. The
   kernel's module and the reference's one both end in these functions. -/
module

public import proofs.«01_k».proof.Proof.Rms

@[expose] public section

noncomputable section

namespace Cert.DownSpec

open Idealize.ShloMosaic Cert.Lift Cert.Rms

/-- The arguments, as real arrays: the activations, the weight, the residual stream, the target, the projected conditioning, its bias,
    and the norm's scale. -/
structure Args where
  act : (⟨3, ![1, 4096, 2816]⟩ : Shape).Idx → ℝ
  w : (⟨3, ![1, 2816, 1024]⟩ : Shape).Idx → ℝ
  x : (⟨3, ![1, 4096, 1024]⟩ : Shape).Idx → ℝ
  t : (⟨3, ![1, 4096, 1024]⟩ : Shape).Idx → ℝ
  ca : (⟨2, ![1, 6144]⟩ : Shape).Idx → ℝ
  cb : (⟨2, ![1, 6144]⟩ : Shape).Idx → ℝ
  g : (⟨2, ![1, 1024]⟩ : Shape).Idx → ℝ

variable (a : Args)

/-- The projected row. -/
def f (s : Fin 4096) (c : Fin 1024) : ℝ := ∑ k : Fin 2816, a.act (ix3 0 s k) * a.w (ix3 0 k c)

/-- The gate: the last sixth of the conditioning. -/
def gt (c : Fin 1024) : ℝ := a.ca (ix2 0 ⟨5120 + c, by omega⟩) + a.cb (ix2 0 ⟨5120 + c, by omega⟩)

/-- The row over its root mean square. -/
def hat (s : Fin 4096) (c : Fin 1024) : ℝ := f a s c * rinv 1024 (f a s)

/-- The error of the layer's output. -/
def err (s : Fin 4096) (c : Fin 1024) : ℝ := a.x (ix3 0 s c) + gt a c * (hat a s c * a.g (ix2 0 c)) - a.t (ix3 0 s c)

/-- The loss. -/
def loss : ℝ := 1 / 2 * ∑ s, (∑ c, err a s c * err a s c) / 1024

/-- The gradient of the residual stream. -/
def dX (s : Fin 4096) (c : Fin 1024) : ℝ := err a s c * (1 / 1024)

/-- The gradient of the projected row. -/
def dF (s : Fin 4096) (c : Fin 1024) : ℝ := rbwd 1024 (f a s) (fun c => dX a s c * gt a c * a.g (ix2 0 c)) c

/-- The gradient of the gate. -/
def dGt (c : Fin 1024) : ℝ := ∑ s, dX a s c * (hat a s c * a.g (ix2 0 c))

/-- The gradient of the norm's scale. -/
def dG (c : Fin 1024) : ℝ := ∑ s, dX a s c * gt a c * hat a s c

end Cert.DownSpec
-- ==== Proof.DownLossPay.lean ====
/- What one point of the down projection's kernel computes on 256 of its rows, as real numbers: the product with the four weight
   blocks, the norm, the residual, the error, and the gradients. -/
module

public import proofs.«01_k».proof.Proof.Rms
public import proofs.«01_k».proof.Proof.Gen.DownLossIdeal.Skeleton

@[expose] public section

set_option maxRecDepth 16384

noncomputable section

namespace Cert.DownLossIdeal.Pay

open Cert.DownLossIdeal Cert.DownLossIdeal.Gen Idealize.ShloMosaic Cert.Lift Cert.Rms

/-- The gate's row: the projected conditioning with its bias. -/
theorem pay6 {v3 v5 : FVec Ideal S1x1024 .f32} {p q : Fin 1024 → ℝ} (h3 : ∀ j, v3 (ix2 0 j) = ((p j : ℝ) : EReal))
    (h5 : ∀ j, v5 (ix2 0 j) = ((q j : ℝ) : EReal)) (j : Fin 1024) : k0_pay6 (F := Ideal) v3 v5 (ix2 0 j) = ((p j + q j : ℝ) : EReal) := by
  pointwise [k0_pay6, h3, h5]
  simp only [← EReal.coe_add]

/-- The product of four blocks of columns with four blocks of weights. -/
def dot4 (a : Fin 4 → Fin 256 → Fin 704 → ℝ) (w : Fin 4 → Fin 704 → Fin 1024 → ℝ) (i : Fin 256) (c : Fin 1024) : ℝ :=
  ∑ k, a 0 i k * w 0 k c + ∑ k, a 1 i k * w 1 k c + ∑ k, a 2 i k * w 2 k c + ∑ k, a 3 i k * w 3 k c

variable {a0 a1 a2 a3 : FVec Ideal S1x256x704 .bf16} {w0 w1 w2 w3 : FVec Ideal S1x704x1024 .bf16}
  {a : Fin 4 → Fin 256 → Fin 704 → ℝ} {w : Fin 4 → Fin 704 → Fin 1024 → ℝ}

theorem pay8 (ha0 : ∀ i k, a0 (ix3 0 i k) = ((a 0 i k : ℝ) : EReal)) (ha1 : ∀ i k, a1 (ix3 0 i k) = ((a 1 i k : ℝ) : EReal))
    (ha2 : ∀ i k, a2 (ix3 0 i k) = ((a 2 i k : ℝ) : EReal)) (ha3 : ∀ i k, a3 (ix3 0 i k) = ((a 3 i k : ℝ) : EReal))
    (hw0 : ∀ k c, w0 (ix3 0 k c) = ((w 0 k c : ℝ) : EReal)) (hw1 : ∀ k c, w1 (ix3 0 k c) = ((w 1 k c : ℝ) : EReal))
    (hw2 : ∀ k c, w2 (ix3 0 k c) = ((w 2 k c : ℝ) : EReal)) (hw3 : ∀ k c, w3 (ix3 0 k c) = ((w 3 k c : ℝ) : EReal))
    (i : Fin 256) (c : Fin 1024) :
    k0_pay8 (F := Ideal) (k0_pay7 a0 w0 a1 w1 a2 w2) a3 w3 (ix2 i c) = ((dot4 a w i c : ℝ) : EReal) := by
  pointwise [k0_pay8, k0_pay7, ha0, ha1, ha2, ha3, hw0, hw1, hw2, hw3]
  simp only [← EReal.coe_mul, sum_coe, ← EReal.coe_add, dot4]

variable {v25 : FVec Ideal S256x1024 .f32} {f e hat : Fin 256 → Fin 1024 → ℝ} {r : Fin 256 → ℝ} {g gt p : Fin 1024 → ℝ}

section first
variable (h8 : ∀ i c, k0_pay8 (F := Ideal) v25 a3 w3 (ix2 i c) = ((f i c : ℝ) : EReal))
include h8

theorem pay9 (i : Fin 256) : k0_pay9 (F := Ideal) v25 a3 w3 (ix2 i 0) = ((rinv 1024 (f i) : ℝ) : EReal) := by
  pointwise [k0_pay9, h8]
  simp only [← EReal.coe_mul, sum_coe, w1024, weps, div_coe _ 1024 (by norm_num), ← EReal.coe_add,
    lift_rinv 1024 (by norm_num)]

theorem pay10 (i : Fin 256) (c : Fin 1024) :
    k0_pay10 (F := Ideal) v25 a3 w3 (ix2 i c) = ((f i c * rinv 1024 (f i) : ℝ) : EReal) := by
  pointwise [k0_pay10, h8, pay9 h8]
  simp only [← EReal.coe_mul]

variable {v8 v7 : FVec Ideal S1x1024 .f32} (hg : ∀ c, v8 (ix2 0 c) = ((g c : ℝ) : EReal))
include hg

theorem pay11 (i : Fin 256) (c : Fin 1024) :
    k0_pay11 (F := Ideal) v8 v25 a3 w3 (ix2 i c) = ((f i c * rinv 1024 (f i) * g c : ℝ) : EReal) := by
  pointwise [k0_pay11, pay10 h8, hg]
  simp only [← EReal.coe_mul]

variable (hgt : ∀ c, v7 (ix2 0 c) = ((gt c : ℝ) : EReal)) {v44 v49 : FVec Ideal S256x1024 .f32}
  {x t : Fin 256 → Fin 1024 → ℝ} (hx : ∀ i c, v44 (ix2 i c) = ((x i c : ℝ) : EReal)) (ht : ∀ i c, v49 (ix2 i c) = ((t i c : ℝ) : EReal))
include hgt hx ht

/-- The error of a row: the residual stream with the gated norm, less the target. -/
theorem pay12 (i : Fin 256) (c : Fin 1024) : k0_pay12 (F := Ideal) v7 v8 v25 a3 w3 v44 v49 (ix2 i c)
    = ((x i c + gt c * (f i c * rinv 1024 (f i) * g c) - t i c : ℝ) : EReal) := by
  pointwise [k0_pay12, pay11 h8 hg, hgt, hx, ht]
  simp only [← EReal.coe_mul, ← EReal.coe_add, ← EReal.coe_sub]

end first

/-- The loss of 256 rows added to what was there. -/
def lossPart (e : Fin 256 → Fin 1024 → ℝ) : ℝ := 1 / 2 * ∑ i, (∑ c, e i c * e i c) / 1024

theorem pay13 {v7 v8 : FVec Ideal S1x1024 .f32} {v44 v49 : FVec Ideal S256x1024 .f32} {v52 : FVec Ideal S1x128 .f32}
    (h12 : ∀ i c, k0_pay12 (F := Ideal) v7 v8 v25 a3 w3 v44 v49 (ix2 i c) = ((e i c : ℝ) : EReal)) (j : Fin 128) :
    k0_pay13 (F := Ideal) v7 v8 v25 a3 w3 v44 v49 v52 (ix2 0 j) = v52 (ix2 0 j) + ((lossPart e : ℝ) : EReal) := by
  pointwise [k0_pay13, h12]
  simp only [← EReal.coe_mul, sum_coe, w1024, whalf, div_coe _ 1024 (by norm_num), lossPart, Finset.sum_const,
    Finset.card_univ, Fintype.card_fin, one_smul]

section rest
variable {v51 v41 v43 : FVec Ideal S256x1024 .f32} (h51 : ∀ i c, v51 (ix2 i c) = ((e i c : ℝ) : EReal))
include h51

theorem pay14 (i : Fin 256) (c : Fin 1024) : k0_pay14 (F := Ideal) v51 (ix2 i c) = ((e i c * (1 / 1024) : ℝ) : EReal) := by
  pointwise [k0_pay14, h51]
  simp only [w1024inv, ← EReal.coe_mul]

theorem pay15 {v70 : FVec Ideal S1x1024 .f32} (h43 : ∀ i c, v43 (ix2 i c) = ((f i c : ℝ) : EReal)) (c : Fin 1024) :
    k0_pay15 (F := Ideal) v43 v51 v70 (ix2 0 c) = v70 (ix2 0 c) + ((∑ i, e i c * (1 / 1024) * f i c : ℝ) : EReal) := by
  pointwise [k0_pay15, pay14 h51, h43]
  simp only [← EReal.coe_mul, sum_coe]

variable {v7 v8 : FVec Ideal S1x1024 .f32} (hgt : ∀ c, v7 (ix2 0 c) = ((gt c : ℝ) : EReal))
include hgt

theorem pay16 (i : Fin 256) (c : Fin 1024) : k0_pay16 (F := Ideal) v7 v51 (ix2 i c) = ((e i c * (1 / 1024) * gt c : ℝ) : EReal) := by
  pointwise [k0_pay16, pay14 h51, hgt]
  simp only [← EReal.coe_mul]

variable (h41 : ∀ i c, v41 (ix2 i c) = ((hat i c : ℝ) : EReal))
include h41

theorem pay17 {v79 : FVec Ideal S1x1024 .f32} (c : Fin 1024) : k0_pay17 (F := Ideal) v7 v41 v51 v79 (ix2 0 c)
    = v79 (ix2 0 c) + ((∑ i, e i c * (1 / 1024) * gt c * hat i c : ℝ) : EReal) := by
  pointwise [k0_pay17, pay16 h51 hgt, h41]
  simp only [← EReal.coe_mul, sum_coe]

theorem pay18 {v39 : FVec Ideal S256x1 .f32} (hg : ∀ c, v8 (ix2 0 c) = ((g c : ℝ) : EReal))
    (h39 : ∀ i, v39 (ix2 i 0) = ((r i : ℝ) : EReal)) (i : Fin 256) (c : Fin 1024) :
    k0_pay18 (F := Ideal) v7 v8 v39 v41 v51 (ix2 i c) = ((r i * (e i c * (1 / 1024) * gt c * g c
      - hat i c * ((∑ j, e i j * (1 / 1024) * gt j * g j * hat i j) / 1024)) : ℝ) : EReal) := by
  pointwise [k0_pay18, pay16 h51 hgt, h41, hg, h39]
  simp only [← EReal.coe_mul, sum_coe, w1024, div_coe _ 1024 (by norm_num), ← EReal.coe_sub]

end rest

/-! ## The second half of the rows: the same lines, printed with other cuts -/

section second

theorem pay20 (ha0 : ∀ i k, a0 (ix3 0 i k) = ((a 0 i k : ℝ) : EReal)) (ha1 : ∀ i k, a1 (ix3 0 i k) = ((a 1 i k : ℝ) : EReal))
    (ha2 : ∀ i k, a2 (ix3 0 i k) = ((a 2 i k : ℝ) : EReal)) (ha3 : ∀ i k, a3 (ix3 0 i k) = ((a 3 i k : ℝ) : EReal))
    (hw0 : ∀ k c, w0 (ix3 0 k c) = ((w 0 k c : ℝ) : EReal)) (hw1 : ∀ k c, w1 (ix3 0 k c) = ((w 1 k c : ℝ) : EReal))
    (hw2 : ∀ k c, w2 (ix3 0 k c) = ((w 2 k c : ℝ) : EReal)) (hw3 : ∀ k c, w3 (ix3 0 k c) = ((w 3 k c : ℝ) : EReal))
    (i : Fin 256) (c : Fin 1024) :
    k0_pay20 (F := Ideal) (k0_pay19 a0) w0 a1 w1 a2 w2 a3 w3 (ix2 i c) = ((dot4 a w i c : ℝ) : EReal) := by
  pointwise [k0_pay20, k0_pay19, ha0, ha1, ha2, ha3, hw0, hw1, hw2, hw3]
  simp only [← EReal.coe_mul, sum_coe, ← EReal.coe_add, dot4]

variable {a0' : FVec Ideal S256x704 .bf16}
  (h20 : ∀ i c, k0_pay20 (F := Ideal) a0' w0 a1 w1 a2 w2 a3 w3 (ix2 i c) = ((f i c : ℝ) : EReal))
include h20

theorem pay21 (i : Fin 256) :
    k0_pay21 (F := Ideal) a0' w0 a1 w1 a2 w2 a3 w3 (ix2 i 0) = ((rinv 1024 (f i) : ℝ) : EReal) := by
  pointwise [k0_pay21, h20]
  simp only [← EReal.coe_mul, sum_coe, w1024, weps, div_coe _ 1024 (by norm_num), ← EReal.coe_add,
    lift_rinv 1024 (by norm_num)]

theorem pay22 (i : Fin 256) (c : Fin 1024) :
    k0_pay22 (F := Ideal) a0' w0 a1 w1 a2 w2 a3 w3 (ix2 i c) = ((f i c * rinv 1024 (f i) : ℝ) : EReal) := by
  pointwise [k0_pay22, h20, pay21 h20]
  simp only [← EReal.coe_mul]

omit h20

variable {v132 : FVec Ideal S256x1024 .f32} (h132 : ∀ i c, v132 (ix2 i c) = ((hat i c : ℝ) : EReal))
  {v7 v8 : FVec Ideal S1x1024 .f32} (hg : ∀ c, v8 (ix2 0 c) = ((g c : ℝ) : EReal))
include h132 hg

theorem pay24 (i : Fin 256) (c : Fin 1024) :
    k0_pay24 (F := Ideal) v132 (k0_pay23 v8) (ix2 i c) = ((hat i c * g c : ℝ) : EReal) := by
  pointwise [k0_pay24, k0_pay23, h132, hg]
  simp only [← EReal.coe_mul]

variable (hgt : ∀ c, v7 (ix2 0 c) = ((gt c : ℝ) : EReal)) {v135 v140 : FVec Ideal S256x1024 .f32}
include hgt

theorem pay25 {x t : Fin 256 → Fin 1024 → ℝ} (hx : ∀ i c, v135 (ix2 i c) = ((x i c : ℝ) : EReal))
    (ht : ∀ i c, v140 (ix2 i c) = ((t i c : ℝ) : EReal)) (i : Fin 256) (c : Fin 1024) :
    k0_pay25 (F := Ideal) v7 v132 (k0_pay23 v8) v135 v140 (ix2 i c)
      = ((x i c + gt c * (hat i c * g c) - t i c : ℝ) : EReal) := by
  pointwise [k0_pay25, pay24 h132 hg, hgt, hx, ht]
  simp only [← EReal.coe_mul, ← EReal.coe_add, ← EReal.coe_sub]

variable (h25 : ∀ i c, k0_pay25 (F := Ideal) v7 v132 (k0_pay23 v8) v135 v140 (ix2 i c) = ((e i c : ℝ) : EReal))
include h25

omit h132 hg hgt in
theorem pay26 {v143 : FVec Ideal S1x128 .f32} (j : Fin 128) : k0_pay26 (F := Ideal) v7 v132 (k0_pay23 v8) v135 v140 v143 (ix2 0 j)
    = v143 (ix2 0 j) + ((lossPart e : ℝ) : EReal) := by
  pointwise [k0_pay26, h25]
  simp only [← EReal.coe_mul, sum_coe, w1024, whalf, div_coe _ 1024 (by norm_num), lossPart, Finset.sum_const,
    Finset.card_univ, Fintype.card_fin, one_smul]

omit h132 hg hgt in
theorem pay27 (i : Fin 256) (c : Fin 1024) :
    k0_pay27 (F := Ideal) v7 v132 (k0_pay23 v8) v135 v140 (ix2 i c) = ((e i c * (1 / 1024) : ℝ) : EReal) := by
  pointwise [k0_pay27, h25]
  simp only [w1024inv, ← EReal.coe_mul]

omit hgt in
theorem pay28 {v161 : FVec Ideal S1x1024 .f32} (c : Fin 1024) : k0_pay28 (F := Ideal) v7 v132 (k0_pay23 v8) v135 v140 v161 (ix2 0 c)
    = v161 (ix2 0 c) + ((∑ i, e i c * (1 / 1024) * (hat i c * g c) : ℝ) : EReal) := by
  pointwise [k0_pay28, pay27 h25, pay24 h132 hg]
  simp only [← EReal.coe_mul, sum_coe]

omit h132 hg in
theorem pay29 (i : Fin 256) (c : Fin 1024) :
    k0_pay29 (F := Ideal) v7 v132 (k0_pay23 v8) v135 v140 (ix2 i c) = ((e i c * (1 / 1024) * gt c : ℝ) : EReal) := by
  pointwise [k0_pay29, pay27 h25, hgt]
  simp only [← EReal.coe_mul]

omit hg in
theorem pay1 {v170 : FVec Ideal S1x1024 .f32} (c : Fin 1024) :
    k0_pay1 (F := Ideal) v132 (k0_pay29 v7 v132 (k0_pay23 v8) v135 v140) v170 (ix2 0 c)
      = v170 (ix2 0 c) + ((∑ i, e i c * (1 / 1024) * gt c * hat i c : ℝ) : EReal) := by
  pointwise [k0_pay1, pay29 hgt h25, h132]
  simp only [← EReal.coe_mul, sum_coe]

theorem pay2 {v130 : FVec Ideal S256x1 .f32} (h130 : ∀ i, v130 (ix2 i 0) = ((r i : ℝ) : EReal)) (i : Fin 256) (c : Fin 1024) :
    k0_pay2 (F := Ideal) v8 v130 v132 (k0_pay29 v7 v132 (k0_pay23 v8) v135 v140) (ix2 i c) = ((r i * (e i c * (1 / 1024) * gt c * g c
      - hat i c * ((∑ j, e i j * (1 / 1024) * gt j * g j * hat i j) / 1024)) : ℝ) : EReal) := by
  pointwise [k0_pay2, pay29 hgt h25, h132, hg, h130]
  simp only [← EReal.coe_mul, sum_coe, w1024, div_coe _ 1024 (by norm_num), ← EReal.coe_sub]

end second

end Cert.DownLossIdeal.Pay
-- ==== Proof.DownLossArr.lean ====
/- The arrays the down projection's kernel leaves, entry by entry: each is the real function `Cert.DownSpec` names. One point takes
   512 rows in two halves; the loss and the two row gradients are accumulated over the eight points. -/
module

public import proofs.«01_k».proof.Proof.DownLossSpec
public import proofs.«01_k».proof.Proof.DownLossPay
public import proofs.«01_k».proof.Proof.Gen.DownLossIdeal.Value

@[expose] public section

set_option maxRecDepth 16384

noncomputable section

namespace Cert.DownLossIdeal.Arr

open Cert.DownLossIdeal Cert.DownLossIdeal.Gen Cert.DownLossIdeal.Pay Cert.DownSpec
open Idealize.ShloMosaic Idealize.ShloMosaic.TcCoe Idealize.SL.Sem Cert.Lift Cert.Rms

/-! ## One half of a point's rows -/

/-- The blocks one half of a point loads, as real arrays: `r i` is the array's row behind the block's row `i`. -/
structure Half (a : Args) (r : Fin 256 → Fin 4096) (a0 a1 a2 a3 : FVec Ideal S1x256x704 .bf16) (w0 w1 w2 w3 : FVec Ideal S1x704x1024 .bf16)
    (v3 v5 v8 : FVec Ideal S1x1024 .f32) (vx vt : FVec Ideal S256x1024 .f32) : Prop where
  ha0 : ∀ i k, a0 (ix3 0 i k) = ((a.act (ix3 0 (r i) ⟨(0 : Fin 4) * 704 + k, by omega⟩) : ℝ) : EReal)
  ha1 : ∀ i k, a1 (ix3 0 i k) = ((a.act (ix3 0 (r i) ⟨(1 : Fin 4) * 704 + k, by omega⟩) : ℝ) : EReal)
  ha2 : ∀ i k, a2 (ix3 0 i k) = ((a.act (ix3 0 (r i) ⟨(2 : Fin 4) * 704 + k, by omega⟩) : ℝ) : EReal)
  ha3 : ∀ i k, a3 (ix3 0 i k) = ((a.act (ix3 0 (r i) ⟨(3 : Fin 4) * 704 + k, by omega⟩) : ℝ) : EReal)
  hw0 : ∀ k n, w0 (ix3 0 k n) = ((a.w (ix3 0 ⟨(0 : Fin 4) * 704 + k, by omega⟩ n) : ℝ) : EReal)
  hw1 : ∀ k n, w1 (ix3 0 k n) = ((a.w (ix3 0 ⟨(1 : Fin 4) * 704 + k, by omega⟩ n) : ℝ) : EReal)
  hw2 : ∀ k n, w2 (ix3 0 k n) = ((a.w (ix3 0 ⟨(2 : Fin 4) * 704 + k, by omega⟩ n) : ℝ) : EReal)
  hw3 : ∀ k n, w3 (ix3 0 k n) = ((a.w (ix3 0 ⟨(3 : Fin 4) * 704 + k, by omega⟩ n) : ℝ) : EReal)
  h3 : ∀ n : Fin 1024, v3 (ix2 0 n) = ((a.ca (ix2 0 ⟨5120 + n, by omega⟩) : ℝ) : EReal)
  h5 : ∀ n : Fin 1024, v5 (ix2 0 n) = ((a.cb (ix2 0 ⟨5120 + n, by omega⟩) : ℝ) : EReal)
  hg : ∀ n, v8 (ix2 0 n) = ((a.g (ix2 0 n) : ℝ) : EReal)
  hx : ∀ i n, vx (ix2 i n) = ((a.x (ix3 0 (r i) n) : ℝ) : EReal)
  ht : ∀ i n, vt (ix2 i n) = ((a.t (ix3 0 (r i) n) : ℝ) : EReal)

/-- Four blocks of 704 lanes are the whole contraction. -/
theorem dot4_eq (a : Args) (r : Fin 256 → Fin 4096) (i : Fin 256) (n : Fin 1024) :
    dot4 (fun j i k => a.act (ix3 0 (r i) ⟨j * 704 + k, by omega⟩)) (fun j k n => a.w (ix3 0 ⟨j * 704 + k, by omega⟩ n)) i n
      = f a (r i) n := by
  unfold f dot4
  rw [← Fin.sum_mul_add_congr (S := 4) (n := 704)
    (F := fun j k => a.act (ix3 0 (r i) ⟨j * 704 + k, by omega⟩) * a.w (ix3 0 ⟨j * 704 + k, by omega⟩ n)) (fun s k hl => rfl) rfl]
  simp only [Fin.sum_univ_four]

variable {a : Args} {r : Fin 256 → Fin 4096} {a0 a1 a2 a3 : FVec Ideal S1x256x704 .bf16} {w0 w1 w2 w3 : FVec Ideal S1x704x1024 .bf16}
  {v3 v5 v8 : FVec Ideal S1x1024 .f32} {vx vt : FVec Ideal S256x1024 .f32}

namespace Half

variable (h : Half a r a0 a1 a2 a3 w0 w1 w2 w3 v3 v5 v8 vx vt)
include h

theorem gate (n : Fin 1024) : k0_pay6 (F := Ideal) v3 v5 (ix2 0 n) = ((gt a n : ℝ) : EReal) := pay6 h.h3 h.h5 n

theorem f1 (i : Fin 256) (n : Fin 1024) : k0_pay8 (F := Ideal) (k0_pay7 a0 w0 a1 w1 a2 w2) a3 w3 (ix2 i n) = ((f a (r i) n : ℝ) : EReal) := by
  rw [← dot4_eq a r]
  exact pay8 h.ha0 h.ha1 h.ha2 h.ha3 h.hw0 h.hw1 h.hw2 h.hw3 i n

theorem err1 (i : Fin 256) (n : Fin 1024) : k0_pay12 (F := Ideal) (k0_pay6 v3 v5) v8 (k0_pay7 a0 w0 a1 w1 a2 w2) a3 w3 vx vt (ix2 i n)
    = ((err a (r i) n : ℝ) : EReal) := pay12 h.f1 h.hg h.gate h.hx h.ht i n

theorem loss1 {v : FVec Ideal S1x128 .f32} (j : Fin 128) :
    k0_pay13 (F := Ideal) (k0_pay6 v3 v5) v8 (k0_pay7 a0 w0 a1 w1 a2 w2) a3 w3 vx vt v (ix2 0 j)
      = v (ix2 0 j) + ((lossPart (fun i => err a (r i)) : ℝ) : EReal) := pay13 h.err1 j

theorem dX1 (i : Fin 256) (n : Fin 1024) :
    k0_pay14 (F := Ideal) (k0_pay12 (k0_pay6 v3 v5) v8 (k0_pay7 a0 w0 a1 w1 a2 w2) a3 w3 vx vt) (ix2 i n) = ((dX a (r i) n : ℝ) : EReal) :=
  pay14 h.err1 i n

theorem dGt1 {v : FVec Ideal S1x1024 .f32} (n : Fin 1024) :
    k0_pay15 (F := Ideal) (k0_pay11 v8 (k0_pay7 a0 w0 a1 w1 a2 w2) a3 w3)
      (k0_pay12 (k0_pay6 v3 v5) v8 (k0_pay7 a0 w0 a1 w1 a2 w2) a3 w3 vx vt) v (ix2 0 n)
      = v (ix2 0 n) + ((∑ i, dX a (r i) n * (hat a (r i) n * a.g (ix2 0 n)) : ℝ) : EReal) :=
  pay15 h.err1 (pay11 h.f1 h.hg) n

theorem dG1 {v : FVec Ideal S1x1024 .f32} (n : Fin 1024) :
    k0_pay17 (F := Ideal) (k0_pay6 v3 v5) (k0_pay10 (k0_pay7 a0 w0 a1 w1 a2 w2) a3 w3)
      (k0_pay12 (k0_pay6 v3 v5) v8 (k0_pay7 a0 w0 a1 w1 a2 w2) a3 w3 vx vt) v (ix2 0 n)
      = v (ix2 0 n) + ((∑ i, dX a (r i) n * gt a n * hat a (r i) n : ℝ) : EReal) :=
  pay17 h.err1 h.gate (pay10 h.f1) n

theorem dF1 (i : Fin 256) (n : Fin 1024) :
    k0_pay18 (F := Ideal) (k0_pay6 v3 v5) v8 (k0_pay9 (k0_pay7 a0 w0 a1 w1 a2 w2) a3 w3) (k0_pay10 (k0_pay7 a0 w0 a1 w1 a2 w2) a3 w3)
      (k0_pay12 (k0_pay6 v3 v5) v8 (k0_pay7 a0 w0 a1 w1 a2 w2) a3 w3 vx vt) (ix2 i n) = ((dF a (r i) n : ℝ) : EReal) :=
  pay18 h.err1 h.gate (pay10 h.f1) h.hg (pay9 h.f1) i n

theorem f2 (i : Fin 256) (n : Fin 1024) : k0_pay20 (F := Ideal) (k0_pay19 a0) w0 a1 w1 a2 w2 a3 w3 (ix2 i n) = ((f a (r i) n : ℝ) : EReal) := by
  rw [← dot4_eq a r]
  exact pay20 h.ha0 h.ha1 h.ha2 h.ha3 h.hw0 h.hw1 h.hw2 h.hw3 i n

theorem err2 (i : Fin 256) (n : Fin 1024) :
    k0_pay25 (F := Ideal) (k0_pay6 v3 v5) (k0_pay22 (k0_pay19 a0) w0 a1 w1 a2 w2 a3 w3) (k0_pay23 v8) vx vt (ix2 i n)
      = ((err a (r i) n : ℝ) : EReal) := pay25 (pay22 h.f2) h.hg h.gate h.hx h.ht i n

theorem loss2 {v : FVec Ideal S1x128 .f32} (j : Fin 128) :
    k0_pay26 (F := Ideal) (k0_pay6 v3 v5) (k0_pay22 (k0_pay19 a0) w0 a1 w1 a2 w2 a3 w3) (k0_pay23 v8) vx vt v (ix2 0 j)
      = v (ix2 0 j) + ((lossPart (fun i => err a (r i)) : ℝ) : EReal) := pay26 h.err2 j

theorem dX2 (i : Fin 256) (n : Fin 1024) :
    k0_pay27 (F := Ideal) (k0_pay6 v3 v5) (k0_pay22 (k0_pay19 a0) w0 a1 w1 a2 w2 a3 w3) (k0_pay23 v8) vx vt (ix2 i n)
      = ((dX a (r i) n : ℝ) : EReal) := pay27 h.err2 i n

theorem dGt2 {v : FVec Ideal S1x1024 .f32} (n : Fin 1024) :
    k0_pay28 (F := Ideal) (k0_pay6 v3 v5) (k0_pay22 (k0_pay19 a0) w0 a1 w1 a2 w2 a3 w3) (k0_pay23 v8) vx vt v (ix2 0 n)
      = v (ix2 0 n) + ((∑ i, dX a (r i) n * (hat a (r i) n * a.g (ix2 0 n)) : ℝ) : EReal) :=
  pay28 (pay22 h.f2) h.hg h.err2 n

theorem dG2 {v : FVec Ideal S1x1024 .f32} (n : Fin 1024) :
    k0_pay1 (F := Ideal) (k0_pay22 (k0_pay19 a0) w0 a1 w1 a2 w2 a3 w3)
      (k0_pay29 (k0_pay6 v3 v5) (k0_pay22 (k0_pay19 a0) w0 a1 w1 a2 w2 a3 w3) (k0_pay23 v8) vx vt) v (ix2 0 n)
      = v (ix2 0 n) + ((∑ i, dX a (r i) n * gt a n * hat a (r i) n : ℝ) : EReal) :=
  pay1 (pay22 h.f2) h.gate h.err2 n

theorem dF2 (i : Fin 256) (n : Fin 1024) :
    k0_pay2 (F := Ideal) v8 (k0_pay21 (k0_pay19 a0) w0 a1 w1 a2 w2 a3 w3) (k0_pay22 (k0_pay19 a0) w0 a1 w1 a2 w2 a3 w3)
      (k0_pay29 (k0_pay6 v3 v5) (k0_pay22 (k0_pay19 a0) w0 a1 w1 a2 w2 a3 w3) (k0_pay23 v8) vx vt) (ix2 i n) = ((dF a (r i) n : ℝ) : EReal) :=
  pay2 (pay22 h.f2) h.hg h.gate h.err2 (pay21 h.f2) i n

end Half

/-! ## The blocks a point loads -/

theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

variable (m : (ℓ : Loc nD τ sig) → Buf (Elt Ideal) ℓ) (c : Dev nD)

theorem readAct (j : Fin 4) (s : Fin 4096) (k : Fin 704) : V m c main_v3 (ix3 j s k)
    = m ((c : Thread nD τ).loc main_arg0) (ix3 0 s ⟨j * 704 + k, by omega⟩) := by
  entry_read
  pointwise

theorem readW (j : Fin 4) (k : Fin 704) (n : Fin 1024) : V m c main_v6 (ix3 j k n)
    = m ((c : Thread nD τ).loc main_arg1) (ix3 0 ⟨j * 704 + k, by omega⟩ n) := by
  entry_read
  pointwise

theorem readX (s : Fin 4096) (n : Fin 1024) : V m c main_v9 (ix2 s n) = m ((c : Thread nD τ).loc main_arg2) (ix3 0 s n) := by
  entry_read
  pointwise

theorem readT (s : Fin 4096) (n : Fin 1024) : V m c main_v10 (ix2 s n) = m ((c : Thread nD τ).loc main_arg3) (ix3 0 s n) := by
  entry_read
  pointwise

theorem readCa (n : Fin 1024) : V m c main_v7 (ix2 5 n) = m ((c : Thread nD τ).loc main_arg4) (ix2 0 ⟨5120 + n, by omega⟩) := by
  entry_read
  pointwise

theorem readCb (n : Fin 1024) : V m c main_v8 (ix2 5 n) = m ((c : Thread nD τ).loc main_arg5) (ix2 0 ⟨5120 + n, by omega⟩) := by
  entry_read
  pointwise

/-- The arguments are the real arrays `a`. -/
structure IsReal (a : Args) : Prop where
  h0 : m ((c : Thread nD τ).loc main_arg0) = cv a.act
  h1 : m ((c : Thread nD τ).loc main_arg1) = cv a.w
  h2 : m ((c : Thread nD τ).loc main_arg2) = cv a.x
  h3 : m ((c : Thread nD τ).loc main_arg3) = cv a.t
  h4 : m ((c : Thread nD τ).loc main_arg4) = cv a.ca
  h5 : m ((c : Thread nD τ).loc main_arg5) = cv a.cb
  h6 : m ((c : Thread nD τ).loc main_arg6) = cv a.g

/-- The array's row behind row `i` of the half that starts at `o` of point `t`. -/
def row (t : Fin cfg0.N) (o : ℕ) (ho : o ≤ 256) (i : Fin 256) : Fin 4096 :=
  ⟨t * (256 + 256) + o + i, by have : t.val < 8 := t.isLt; omega⟩

variable {m c}

theorem blkAct (t : Fin cfg0.N) (j : Fin 4) (i : Fin 512) (k : Fin 704) : iblk m c 0 t (ix3 j i k)
    = m ((c : Thread nD τ).loc main_arg0) (ix3 0 ⟨t * 512 + i, by have : t.val < 8 := t.isLt; omega⟩ ⟨j * 704 + k, by omega⟩) := by
  refine Eq.trans ?_ (readAct m c j _ k)
  exact congrArg (V m c main_v3) (by blk_ext [idx t])

theorem blkW (t : Fin cfg0.N) (j : Fin 4) (k : Fin 704) (n : Fin 1024) : iblk m c 1 t (ix3 j k n)
    = m ((c : Thread nD τ).loc main_arg1) (ix3 0 ⟨j * 704 + k, by omega⟩ n) := by
  refine Eq.trans ?_ (readW m c j k n)
  exact congrArg (V m c main_v6) (by blk_ext [idx t])

theorem blkX (t : Fin cfg0.N) (i : Fin 512) (n : Fin 1024) :
    iblk m c 2 t (ix2 i n) = m ((c : Thread nD τ).loc main_arg2) (ix3 0 ⟨t * 512 + i, by have : t.val < 8 := t.isLt; omega⟩ n) := by
  refine Eq.trans ?_ (readX m c _ n)
  exact congrArg (V m c main_v9) (by blk_ext [idx t])

theorem blkT (t : Fin cfg0.N) (i : Fin 512) (n : Fin 1024) :
    iblk m c 3 t (ix2 i n) = m ((c : Thread nD τ).loc main_arg3) (ix3 0 ⟨t * 512 + i, by have : t.val < 8 := t.isLt; omega⟩ n) := by
  refine Eq.trans ?_ (readT m c _ n)
  exact congrArg (V m c main_v10) (by blk_ext [idx t])

theorem blkCa (t : Fin cfg0.N) (n : Fin 1024) :
    iblk m c 4 t (ix2 5 n) = m ((c : Thread nD τ).loc main_arg4) (ix2 0 ⟨5120 + n, by omega⟩) := by
  refine Eq.trans ?_ (readCa m c n)
  exact congrArg (V m c main_v7) (by blk_ext [idx t])

theorem blkCb (t : Fin cfg0.N) (n : Fin 1024) :
    iblk m c 5 t (ix2 5 n) = m ((c : Thread nD τ).loc main_arg5) (ix2 0 ⟨5120 + n, by omega⟩) := by
  refine Eq.trans ?_ (readCb m c n)
  exact congrArg (V m c main_v8) (by blk_ext [idx t])

theorem blkG (t : Fin cfg0.N) (n : Fin 1024) : iblk m c 6 t (ix2 0 n) = m ((c : Thread nD τ).loc main_arg6) (ix2 0 n) := by
  blk_point [iblk, V, idx t]

/-- The block's row `o + i` is the array's row `row t o i`. -/
theorem row_eq (t : Fin cfg0.N) (o : ℕ) (ho : o ≤ 256) (i : Fin 256) (h) : (⟨t * 512 + (o + i.val), h⟩ : Fin 4096) = row t o ho i := by
  unfold row
  ext
  show t.val * 512 + (o + i.val) = t.val * (256 + 256) + o + i.val
  omega

theorem ldAct (t : Fin cfg0.N) (o : ℕ) (ho : o ≤ 256) (j : Fin 4) (jo : ℕ) (hj : j.val = jo) (inb) (i : Fin 256) (k : Fin 704) :
    View.ld (iblk m c 0 t) (Rect.unit ![jo, o, 0] ![1, 256, 704] inb) (ix3 0 i k)
      = m ((c : Thread nD τ).loc main_arg0) (ix3 0 (row t o ho i) ⟨j * 704 + k, by omega⟩) := by
  refine (ld3 (iblk m c 0 t) jo o 0 inb 0 i k j ⟨o + i, by omega⟩ k hj rfl (Nat.zero_add _).symm).trans ((blkAct t j _ k).trans ?_)
  rw [row_eq t o ho]

theorem ldW (t : Fin cfg0.N) (j : Fin 4) (jo : ℕ) (hj : j.val = jo) (inb) (k : Fin 704) (n : Fin 1024) :
    View.ld (iblk m c 1 t) (Rect.unit ![jo, 0, 0] ![1, 704, 1024] inb) (ix3 0 k n)
      = m ((c : Thread nD τ).loc main_arg1) (ix3 0 ⟨j * 704 + k, by omega⟩ n) :=
  (ld3 (iblk m c 1 t) jo 0 0 inb 0 k n j k n hj (Nat.zero_add _).symm (Nat.zero_add _).symm).trans (blkW t j k n)

theorem ldX (t : Fin cfg0.N) (o : ℕ) (ho : o ≤ 256) (inb) (i : Fin 256) (n : Fin 1024) :
    View.ld (iblk m c 2 t) (Rect.unit ![o, 0] ![256, 1024] inb) (ix2 i n)
      = m ((c : Thread nD τ).loc main_arg2) (ix3 0 (row t o ho i) n) := by
  refine (ld2 (iblk m c 2 t) o 0 inb i n ⟨o + i, by omega⟩ n rfl (Nat.zero_add _).symm).trans ((blkX t _ n).trans ?_)
  rw [row_eq t o ho]

theorem ldT (t : Fin cfg0.N) (o : ℕ) (ho : o ≤ 256) (inb) (i : Fin 256) (n : Fin 1024) :
    View.ld (iblk m c 3 t) (Rect.unit ![o, 0] ![256, 1024] inb) (ix2 i n)
      = m ((c : Thread nD τ).loc main_arg3) (ix3 0 (row t o ho i) n) := by
  refine (ld2 (iblk m c 3 t) o 0 inb i n ⟨o + i, by omega⟩ n rfl (Nat.zero_add _).symm).trans ((blkT t _ n).trans ?_)
  rw [row_eq t o ho]

theorem ldCa (t : Fin cfg0.N) (inb) (n : Fin 1024) : View.ld (iblk m c 4 t) (Rect.unit ![5, 0] ![1, 1024] inb) (ix2 0 n)
    = m ((c : Thread nD τ).loc main_arg4) (ix2 0 ⟨5120 + n, by omega⟩) :=
  (ld2 (iblk m c 4 t) 5 0 inb 0 n 5 n rfl (Nat.zero_add _).symm).trans (blkCa t n)

theorem ldCb (t : Fin cfg0.N) (inb) (n : Fin 1024) : View.ld (iblk m c 5 t) (Rect.unit ![5, 0] ![1, 1024] inb) (ix2 0 n)
    = m ((c : Thread nD τ).loc main_arg5) (ix2 0 ⟨5120 + n, by omega⟩) :=
  (ld2 (iblk m c 5 t) 5 0 inb 0 n 5 n rfl (Nat.zero_add _).symm).trans (blkCb t n)

theorem half (hr : IsReal m c a) (t : Fin cfg0.N) (o : ℕ) (ho : o ≤ 256) (i0 i1 i2 i3 j0 j1 j2 j3 k4 k5 l2 l3) :
    Half a (row t o ho)
      (View.ld (iblk m c 0 t) (Rect.unit ![0, o, 0] ![1, 256, 704] i0)) (View.ld (iblk m c 0 t) (Rect.unit ![1, o, 0] ![1, 256, 704] i1))
      (View.ld (iblk m c 0 t) (Rect.unit ![2, o, 0] ![1, 256, 704] i2)) (View.ld (iblk m c 0 t) (Rect.unit ![3, o, 0] ![1, 256, 704] i3))
      (View.ld (iblk m c 1 t) (Rect.unit ![0, 0, 0] ![1, 704, 1024] j0)) (View.ld (iblk m c 1 t) (Rect.unit ![1, 0, 0] ![1, 704, 1024] j1))
      (View.ld (iblk m c 1 t) (Rect.unit ![2, 0, 0] ![1, 704, 1024] j2)) (View.ld (iblk m c 1 t) (Rect.unit ![3, 0, 0] ![1, 704, 1024] j3))
      (View.ld (iblk m c 4 t) (Rect.unit ![5, 0] ![1, 1024] k4)) (View.ld (iblk m c 5 t) (Rect.unit ![5, 0] ![1, 1024] k5))
      (iblk m c 6 t)
      (View.ld (iblk m c 2 t) (Rect.unit ![o, 0] ![256, 1024] l2)) (View.ld (iblk m c 3 t) (Rect.unit ![o, 0] ![256, 1024] l3)) where
  ha0 i k := (ldAct t o ho 0 0 rfl i0 i k).trans (congrFun hr.h0 _)
  ha1 i k := (ldAct t o ho 1 1 rfl i1 i k).trans (congrFun hr.h0 _)
  ha2 i k := (ldAct t o ho 2 2 rfl i2 i k).trans (congrFun hr.h0 _)
  ha3 i k := (ldAct t o ho 3 3 rfl i3 i k).trans (congrFun hr.h0 _)
  hw0 k n := (ldW t 0 0 rfl j0 k n).trans (congrFun hr.h1 _)
  hw1 k n := (ldW t 1 1 rfl j1 k n).trans (congrFun hr.h1 _)
  hw2 k n := (ldW t 2 2 rfl j2 k n).trans (congrFun hr.h1 _)
  hw3 k n := (ldW t 3 3 rfl j3 k n).trans (congrFun hr.h1 _)
  h3 n := (ldCa t k4 n).trans (congrFun hr.h4 _)
  h5 n := (ldCb t k5 n).trans (congrFun hr.h5 _)
  hg n := (blkG t n).trans (congrFun hr.h6 _)
  hx i n := (ldX t o ho l2 i n).trans (congrFun hr.h2 _)
  ht i n := (ldT t o ho l3 i n).trans (congrFun hr.h3 _)

/-! ## The arrays -/

attribute [local irreducible] dX dF err hat gt f

/-- The array's row behind row `i` of point `t`'s block. -/
def prow (t : Fin cfg0.N) (i : Fin 512) : Fin 4096 := ⟨t * 512 + i, by have : t.val < 8 := t.isLt; omega⟩

theorem row_prow (t : Fin cfg0.N) (o : ℕ) (ho : o ≤ 256) (i : Fin 256) (j : Fin 512) (h : j.val = o + i) : row t o ho i = prow t j := by
  unfold row prow
  ext
  show t.val * (256 + 256) + o + i.val = t.val * 512 + j.val
  omega

/-- What a point leaves of the residual stream's gradient. -/
theorem point7 (hr : IsReal m c a) (t : Fin cfg0.N) (i : Fin 512) (n : Fin 1024) :
    (outsAt0 m c t.val t.isLt).1 (ix2 i n) = ((dX a (prow t i) n : ℝ) : EReal) := by
  by_cases h : t.val % 8 = 0
  all_goals
    first | rw [outsAt0_A m c t h] | rw [outsAt0_B m c t h]
    frame_out
    canon_tiles y h'
    case piece0 =>
      idx_vars y
      refine ((half hr t 256 (by decide) _ _ _ _ _ _ _ _ _ _ _ _).dX2 y0 y1).trans ?_
      rw [row_prow t 256 _ _ i h'0]
      rw [show y1 = n from Fin.ext h'1.symm]
    case piece1 =>
      idx_vars y
      refine ((half hr t 0 (by decide) _ _ _ _ _ _ _ _ _ _ _ _).dX1 y0 y1).trans ?_
      rw [row_prow t 0 _ _ i (h'0.trans (Nat.zero_add _).symm)]
      rw [show y1 = n from Fin.ext h'1.symm]

/-- The array of the residual stream's gradient. -/
theorem arr7 (hr : IsReal m c a) : (dats m 0 c).arrAt 7 cfg0.N = cv (fun i : S4096x1024.Idx => dX a (i 0) (i 1)) := by
  refine (dats m 0 c).arrAt_eq_of_covers 7 _ (by decide +kernel) fun t hf y => ?_
  blk_simp
  rw [after0_7]
  have e : (y : S512x1024.Idx) = ix2 (y 0) (y 1) := by blk_ext
  refine (congrArg _ e).trans ((point7 hr t _ _).trans ?_)
  refine congrArg (fun i : S4096x1024.Idx => ((dX a (i 0) (i 1) : ℝ) : EReal)) (?_ : ix2 (prow t (y 0)) (y 1) = _)
  unfold prow
  blk_ext [idx t]

/-- What a point leaves of the projected rows' gradient. -/
theorem point8 (hr : IsReal m c a) (t : Fin cfg0.N) (i : Fin 512) (n : Fin 1024) :
    (outsAt0 m c t.val t.isLt).2.1 (ix2 i n) = ((dF a (prow t i) n : ℝ) : EReal) := by
  by_cases h : t.val % 8 = 0
  all_goals
    first | rw [outsAt0_A m c t h] | rw [outsAt0_B m c t h]
    frame_out
    canon_tiles y h'
    case piece0 =>
      idx_vars y
      refine ((half hr t 256 (by decide) _ _ _ _ _ _ _ _ _ _ _ _).dF2 y0 y1).trans ?_
      rw [row_prow t 256 _ _ i h'0]
      rw [show y1 = n from Fin.ext h'1.symm]
    case piece1 =>
      idx_vars y
      refine ((half hr t 0 (by decide) _ _ _ _ _ _ _ _ _ _ _ _).dF1 y0 y1).trans ?_
      rw [row_prow t 0 _ _ i (h'0.trans (Nat.zero_add _).symm)]
      rw [show y1 = n from Fin.ext h'1.symm]

/-- The array of the projected rows' gradient. -/
theorem arr8 (hr : IsReal m c a) : (dats m 0 c).arrAt 8 cfg0.N = cv (fun i : S4096x1024.Idx => dF a (i 0) (i 1)) := by
  refine (dats m 0 c).arrAt_eq_of_covers 8 _ (by decide +kernel) fun t hf y => ?_
  blk_simp
  rw [after0_8]
  have e : (y : S512x1024.Idx) = ix2 (y 0) (y 1) := by blk_ext
  refine (congrArg _ e).trans ((point8 hr t _ _).trans ?_)
  refine congrArg (fun i : S4096x1024.Idx => ((dF a (i 0) (i 1) : ℝ) : EReal)) (?_ : ix2 (prow t (y 0)) (y 1) = _)
  unfold prow
  blk_ext [idx t]

/-- The loss of one point's rows. -/
def partLoss (a : Args) (t : Fin cfg0.N) : ℝ :=
  lossPart (fun i => err a (row t 0 (by decide) i)) + lossPart (fun i => err a (row t 256 (by decide) i))

/-- One point's part of the gate's gradient. -/
def partGt (a : Args) (t : Fin cfg0.N) (n : Fin 1024) : ℝ :=
  ∑ i, dX a (row t 0 (by decide) i) n * (hat a (row t 0 (by decide) i) n * a.g (ix2 0 n))
    + ∑ i, dX a (row t 256 (by decide) i) n * (hat a (row t 256 (by decide) i) n * a.g (ix2 0 n))

/-- One point's part of the scale's gradient. -/
def partG (a : Args) (t : Fin cfg0.N) (n : Fin 1024) : ℝ :=
  ∑ i, dX a (row t 0 (by decide) i) n * gt a n * hat a (row t 0 (by decide) i) n
    + ∑ i, dX a (row t 256 (by decide) i) n * gt a n * hat a (row t 256 (by decide) i) n

theorem zero128 (j : Fin 128) : k0_pay3 (F := Ideal) (ix2 0 j) = 0 := by pointwise [k0_pay3]
theorem zero4 (j : Fin 1024) : k0_pay4 (F := Ideal) (ix2 0 j) = 0 := by pointwise [k0_pay4]
theorem zero5 (j : Fin 1024) : k0_pay5 (F := Ideal) (ix2 0 j) = 0 := by pointwise [k0_pay5]

theorem step9A (hr : IsReal m c a) (t : Fin cfg0.N) (h : t.val % 8 = 0) (j : Fin 128) :
    (outsAt0 m c t.val t.isLt).2.2.1 (ix2 0 j) = 0 + ((partLoss a t : ℝ) : EReal) := by
  rw [outsAt0_A m c t h]
  frame_out
  refine ((half hr t 256 (by decide) _ _ _ _ _ _ _ _ _ _ _ _).loss2 j).trans
    ((congrArg (· + _) ((half hr t 0 (by decide) _ _ _ _ _ _ _ _ _ _ _ _).loss1 j)).trans ?_)
  rw [zero128, add_assoc, ← EReal.coe_add, partLoss]

theorem step9B (hr : IsReal m c a) (t : Fin cfg0.N) (h : ¬t.val % 8 = 0) (j : Fin 128) :
    (outsAt0 m c t.val t.isLt).2.2.1 (ix2 0 j) = (outsAt0 m c (t.val - 1) (Nat.lt_of_le_of_lt (Nat.sub_le _ _) t.isLt)).2.2.1 (ix2 0 j)
      + ((partLoss a t : ℝ) : EReal) := by
  rw [outsAt0_B m c t h]
  frame_out
  refine ((half hr t 256 (by decide) _ _ _ _ _ _ _ _ _ _ _ _).loss2 j).trans
    ((congrArg (· + _) ((half hr t 0 (by decide) _ _ _ _ _ _ _ _ _ _ _ _).loss1 j)).trans ?_)
  rw [add_assoc, ← EReal.coe_add, partLoss]

theorem step10A (hr : IsReal m c a) (t : Fin cfg0.N) (h : t.val % 8 = 0) (n : Fin 1024) :
    (outsAt0 m c t.val t.isLt).2.2.2.1 (ix2 0 n) = 0 + ((partGt a t n : ℝ) : EReal) := by
  rw [outsAt0_A m c t h]
  frame_out
  refine ((half hr t 256 (by decide) _ _ _ _ _ _ _ _ _ _ _ _).dGt2 n).trans
    ((congrArg (· + _) ((half hr t 0 (by decide) _ _ _ _ _ _ _ _ _ _ _ _).dGt1 n)).trans ?_)
  rw [zero4, add_assoc, ← EReal.coe_add, partGt]

theorem step10B (hr : IsReal m c a) (t : Fin cfg0.N) (h : ¬t.val % 8 = 0) (n : Fin 1024) :
    (outsAt0 m c t.val t.isLt).2.2.2.1 (ix2 0 n) = (outsAt0 m c (t.val - 1) (Nat.lt_of_le_of_lt (Nat.sub_le _ _) t.isLt)).2.2.2.1 (ix2 0 n)
      + ((partGt a t n : ℝ) : EReal) := by
  rw [outsAt0_B m c t h]
  frame_out
  refine ((half hr t 256 (by decide) _ _ _ _ _ _ _ _ _ _ _ _).dGt2 n).trans
    ((congrArg (· + _) ((half hr t 0 (by decide) _ _ _ _ _ _ _ _ _ _ _ _).dGt1 n)).trans ?_)
  rw [add_assoc, ← EReal.coe_add, partGt]

theorem step11A (hr : IsReal m c a) (t : Fin cfg0.N) (h : t.val % 8 = 0) (n : Fin 1024) :
    (outsAt0 m c t.val t.isLt).2.2.2.2 (ix2 0 n) = 0 + ((partG a t n : ℝ) : EReal) := by
  rw [outsAt0_A m c t h]
  frame_out
  refine ((half hr t 256 (by decide) _ _ _ _ _ _ _ _ _ _ _ _).dG2 n).trans
    ((congrArg (· + _) ((half hr t 0 (by decide) _ _ _ _ _ _ _ _ _ _ _ _).dG1 n)).trans ?_)
  rw [zero5, add_assoc, ← EReal.coe_add, partG]

theorem step11B (hr : IsReal m c a) (t : Fin cfg0.N) (h : ¬t.val % 8 = 0) (n : Fin 1024) :
    (outsAt0 m c t.val t.isLt).2.2.2.2 (ix2 0 n) = (outsAt0 m c (t.val - 1) (Nat.lt_of_le_of_lt (Nat.sub_le _ _) t.isLt)).2.2.2.2 (ix2 0 n)
      + ((partG a t n : ℝ) : EReal) := by
  rw [outsAt0_B m c t h]
  frame_out
  refine ((half hr t 256 (by decide) _ _ _ _ _ _ _ _ _ _ _ _).dG2 n).trans
    ((congrArg (· + _) ((half hr t 0 (by decide) _ _ _ _ _ _ _ _ _ _ _ _).dG1 n)).trans ?_)
  rw [add_assoc, ← EReal.coe_add, partG]

theorem sum_partGt (n : Fin 1024) : ∑ t, partGt a t n = dGt a n := by
  unfold dGt partGt row
  exact sum_halves (T := 8) (h := 256) (fun s => dX a s n * (hat a s n * a.g (ix2 0 n))) rfl

theorem sum_partG (n : Fin 1024) : ∑ t, partG a t n = dG a n := by
  unfold dG partG row
  exact sum_halves (T := 8) (h := 256) (fun s => dX a s n * gt a n * hat a s n) rfl

theorem sum_partLoss : ∑ t, partLoss a t = loss a := by
  unfold loss partLoss lossPart row
  simp only [← mul_add]
  rw [← Finset.mul_sum]
  exact congrArg (1 / 2 * ·) (sum_halves (T := 8) (h := 256) (fun s => (∑ n, err a s n * err a s n) / 1024) rfl)

/-- The array of the loss: the same number in every lane. -/
theorem arr9 (hr : IsReal m c a) : (dats m 0 c).arrAt 9 cfg0.N = cv (fun _ : S1x128.Idx => loss a) := by
  refine (dats m 0 c).arrAt_eq_of_after_last 9 t0_7 (by decide +kernel) _ fun y => ?_
  blk_simp
  rw [after0_9]
  have e : (y : S1x128.Idx) = ix2 0 (y 1) := by blk_ext
  refine (congrArg _ e).trans ((
    Pipeline.eq_sum_fin_of_reset_step_apply_last (fun n h j => (outsAt0 m c n h).2.2.1 (ix2 0 j)) 8 (fun _ => 0)
    (fun t _ => ((partLoss a t : ℝ) : EReal)) (fun t h j => step9A hr t h j) (fun t h j => step9B hr t h j) (le_of_eq N_0) t0_7 rfl (y 1)).trans ?_)
  rw [sum_coe, zero_add, sum_partLoss]
  rfl

/-- The array of the gate's gradient. -/
theorem arr10 (hr : IsReal m c a) : (dats m 0 c).arrAt 10 cfg0.N = cv (fun i : S1x1024.Idx => dGt a (i 1)) := by
  refine (dats m 0 c).arrAt_eq_of_after_last 10 t0_7 (by decide +kernel) _ fun y => ?_
  blk_simp
  rw [after0_10]
  have e : (y : S1x1024.Idx) = ix2 0 (y 1) := by blk_ext
  refine (congrArg _ e).trans ((
    Pipeline.eq_sum_fin_of_reset_step_apply_last (fun n h j => (outsAt0 m c n h).2.2.2.1 (ix2 0 j)) 8 (fun _ => 0)
    (fun t j => ((partGt a t j : ℝ) : EReal)) (fun t h j => step10A hr t h j) (fun t h j => step10B hr t h j) (le_of_eq N_0) t0_7 rfl (y 1)).trans ?_)
  rw [sum_coe, zero_add]
  exact congrArg (fun x : ℝ => (x : EReal)) (sum_partGt (a := a) (y 1))

/-- The array of the norm's scale's gradient. -/
theorem arr11 (hr : IsReal m c a) : (dats m 0 c).arrAt 11 cfg0.N = cv (fun i : S1x1024.Idx => dG a (i 1)) := by
  refine (dats m 0 c).arrAt_eq_of_after_last 11 t0_7 (by decide +kernel) _ fun y => ?_
  blk_simp
  rw [after0_11]
  have e : (y : S1x1024.Idx) = ix2 0 (y 1) := by blk_ext
  refine (congrArg _ e).trans ((
    Pipeline.eq_sum_fin_of_reset_step_apply_last (fun n h j => (outsAt0 m c n h).2.2.2.2 (ix2 0 j)) 8 (fun _ => 0)
    (fun t j => ((partG a t j : ℝ) : EReal)) (fun t h j => step11A hr t h j) (fun t h j => step11B hr t h j) (le_of_eq N_0) t0_7 rfl (y 1)).trans ?_)
  rw [sum_coe, zero_add]
  exact congrArg (fun x : ℝ => (x : EReal)) (sum_partG (a := a) (y 1))

end Cert.DownLossIdeal.Arr
-- ==== Proof.DownLossRef.lean ====
/- The reference of the down projection, entry by entry: on real arguments each of its results is the real function
   `Cert.DownSpec` names. The derivative of the norm comes as the chain rule writes it; `Cert.Rms.vjp_eq` turns it. -/
module

public import proofs.«01_k».proof.Proof.DownLossSpec
public import proofs.«01_k».proof.Proof.Gen.DownLossRefIdeal.Read

@[expose] public section

set_option maxRecDepth 16384

noncomputable section

namespace Cert.DownLossRefIdeal.Real

open Cert.DownLossRefIdeal Cert.DownLossRefIdeal.Read Cert.DownSpec
open Idealize.ShloMosaic Cert.Lift Cert.Rms

variable (a : Args)

theorem e8 (s : Fin 4096) (c : Fin 1024) : val_main_v8 (F := Ideal) (cv a.act) (cv a.w) (ix3 0 s c) = ((f a s c : ℝ) : EReal) := by
  pointwise [val_main_v8, val_main_v7, cv_apply]
  simp only [← EReal.coe_mul, sum_coe]
  rfl

theorem e6 (c : Fin 1024) : val_main_v6 (F := Ideal) (cv a.ca) (cv a.cb) (ix2 0 c) = ((gt a c : ℝ) : EReal) := by
  pointwise [val_main_v6, val_main_v0, cv_apply]
  simp only [← EReal.coe_add]
  rfl

theorem e17 (s : Fin 4096) : val_main_v17 (F := Ideal) (cv a.act) (cv a.w) (ix3 0 s 0) = ((var 1024 (f a s) : ℝ) : EReal) := by
  pointwise [val_main_v17, val_main_v15, val_main_v16, val_main_v14, val_main_v13, val_main_v12, val_main_v11, val_main_cst, val_main_cst_0, val_main_cst_1, e8]
  simp only [← EReal.coe_mul, sum_coe, w1024, weps, zero_add, div_coe _ 1024 (by norm_num), ← EReal.coe_add]
  rfl

theorem e18 (s : Fin 4096) : val_main_v18 (F := Ideal) (cv a.act) (cv a.w) (ix3 0 s 0) = ((rinv 1024 (f a s) : ℝ) : EReal) := by
  pointwise [val_main_v18, e17]
  exact lift_rinv 1024 (by norm_num) (f a s)

theorem e21 (s : Fin 4096) : val_main_v21 (F := Ideal) (cv a.act) (cv a.w) (ix3 0 s 0)
    = ((-(1 / 2) * (rinv 1024 (f a s) / var 1024 (f a s)) : ℝ) : EReal) := by
  pointwise [val_main_v21, val_main_v20, val_main_v19, val_main_cst_2, e17, e18]
  simp only [wneghalf, div_coe _ _ (var_pos 1024 (by norm_num) (f a s)).ne', ← EReal.coe_mul]

theorem e23 (s : Fin 4096) (c : Fin 1024) : val_main_v23 (F := Ideal) (cv a.act) (cv a.w) (ix3 0 s c) = ((hat a s c : ℝ) : EReal) := by
  pointwise [val_main_v23, val_main_v22, e8, e18]
  simp only [← EReal.coe_mul]
  rfl

theorem e26 (s : Fin 4096) (c : Fin 1024) : val_main_v26 (F := Ideal) (cv a.act) (cv a.w) (cv a.g) (ix3 0 s c)
    = ((hat a s c * a.g (ix2 0 c) : ℝ) : EReal) := by
  pointwise [val_main_v26, val_main_v25, val_main_v24, val_main_v9, e23, cv_apply]
  simp only [← EReal.coe_mul]

theorem e30 (s : Fin 4096) (c : Fin 1024) :
    val_main_v30 (F := Ideal) (cv a.act) (cv a.w) (cv a.x) (cv a.t) (cv a.ca) (cv a.cb) (cv a.g) (ix3 0 s c) = ((err a s c : ℝ) : EReal) := by
  pointwise [val_main_v30, val_main_v29, val_main_v28, val_main_v27, val_main_v10, e6, e26, cv_apply]
  simp only [← EReal.coe_mul, ← EReal.coe_add, ← EReal.coe_sub]
  rfl

theorem e44 (s : Fin 4096) (c : Fin 1024) :
    val_main_v44 (F := Ideal) (cv a.act) (cv a.w) (cv a.x) (cv a.t) (cv a.ca) (cv a.cb) (cv a.g) (ix3 0 s c) = ((dX a s c : ℝ) : EReal) := by
  pointwise [val_main_v44, val_main_v43, val_main_v42, val_main_v41, val_main_v40, val_main_v39, val_main_v33, val_main_v32, val_main_cst_3, val_main_cst_8,
    val_main_cst_9, val_main_cst_10, e30]
  simp only [whalf, wone, w1024, wtwo, ← EReal.coe_mul, div_coe _ 1024 (by norm_num)]
  refine congrArg (fun x : ℝ => (x : EReal)) ?_
  unfold dX
  ring

theorem e38 (j : (⟨0, ![]⟩ : Shape).Idx) :
    val_main_v38 (F := Ideal) (cv a.act) (cv a.w) (cv a.x) (cv a.t) (cv a.ca) (cv a.cb) (cv a.g) j = ((loss a : ℝ) : EReal) := by
  have h36 : ∀ s : Fin 4096, val_main_v36 (F := Ideal) (cv a.act) (cv a.w) (cv a.x) (cv a.t) (cv a.ca) (cv a.cb) (cv a.g) (ix2 0 s)
      = (((∑ c, err a s c * err a s c) / 1024 : ℝ) : EReal) := fun s => by
    pointwise [val_main_v36, val_main_v35, val_main_v34, val_main_v31, val_main_cst_4, val_main_cst_5, e30]
    simp only [← EReal.coe_mul, sum_coe, w1024, zero_add, div_coe _ 1024 (by norm_num)]
  pointwise [val_main_v38, val_main_v37, val_main_cst_7, val_main_cst_6]
  simp only [Fin.sum_univ_one, h36, sum_coe, whalf, zero_add, ← EReal.coe_mul]
  rfl

/-- The gradient behind the norm, as the reference multiplies it. -/
theorem e46 (s : Fin 4096) (c : Fin 1024) :
    val_main_v46 (F := Ideal) (cv a.act) (cv a.w) (cv a.x) (cv a.t) (cv a.ca) (cv a.cb) (cv a.g) (ix3 0 s c)
      = ((dX a s c * gt a c : ℝ) : EReal) := by
  pointwise [val_main_v46, val_main_v45, val_main_v10, e6, e44]
  simp only [← EReal.coe_mul]
  rw [mul_comm]

theorem e54 (s : Fin 4096) (c : Fin 1024) :
    val_main_v54 (F := Ideal) (cv a.act) (cv a.w) (cv a.x) (cv a.t) (cv a.ca) (cv a.cb) (cv a.g) (ix3 0 s c)
      = ((dX a s c * gt a c * a.g (ix2 0 c) : ℝ) : EReal) := by
  pointwise [val_main_v54, val_main_v53, val_main_v24, val_main_v9, e46, cv_apply]
  simp only [← EReal.coe_mul]

/-- The part of the row's gradient that runs through the mean of its squares. -/
theorem e63 (s : Fin 4096) :
    val_main_v63 (F := Ideal) (cv a.act) (cv a.w) (cv a.x) (cv a.t) (cv a.ca) (cv a.cb) (cv a.g) (ix3 0 s 0)
      = (((∑ c, f a s c * (dX a s c * gt a c * a.g (ix2 0 c))) * (-(1 / 2) * (rinv 1024 (f a s) / var 1024 (f a s))) / 1024 : ℝ) : EReal) := by
  pointwise [val_main_v63, val_main_v62, val_main_v61, val_main_v58, val_main_v57, val_main_v56, val_main_cst_14, val_main_cst_15, e8, e21, e54]
  simp only [← EReal.coe_mul, sum_coe, w1024, zero_add, div_coe _ 1024 (by norm_num)]

theorem e64 (s : Fin 4096) :
    val_main_v64 (F := Ideal) (cv a.act) (cv a.w) (cv a.x) (cv a.t) (cv a.ca) (cv a.cb) (cv a.g) (ix1 s)
      = (((∑ c, f a s c * (dX a s c * gt a c * a.g (ix2 0 c))) * (-(1 / 2) * (rinv 1024 (f a s) / var 1024 (f a s))) / 1024 : ℝ) : EReal) := by
  refine (hostReduceAdd_ends2 _ _ _ s).trans ?_
  refine (congrArg (_ + ·) (e63 a s)).trans ?_
  pointwise [val_main_cst_16]

theorem e70 (s : Fin 4096) (c : Fin 1024) :
    val_main_v70 (F := Ideal) (cv a.act) (cv a.w) (cv a.x) (cv a.t) (cv a.ca) (cv a.cb) (cv a.g) (ix3 0 s c) = ((dF a s c : ℝ) : EReal) := by
  pointwise [val_main_v70, val_main_v69, val_main_v68, val_main_v67, val_main_v66, val_main_v65, val_main_v60, val_main_v59, e8, e18, e54, e64]
  simp only [← EReal.coe_mul, ← EReal.coe_add]
  refine congrArg (fun x : ℝ => (x : EReal)) ?_
  unfold dF
  rw [← vjp_eq 1024 (by norm_num), add_assoc]

theorem e71 (c : Fin 1024) :
    val_main_v71 (F := Ideal) (cv a.act) (cv a.w) (cv a.x) (cv a.t) (cv a.ca) (cv a.cb) (cv a.g) (ix1 c) = ((dGt a c : ℝ) : EReal) := by
  refine (hostReduceAdd_lead2 _ _ _ c).trans ?_
  pointwise [val_main_v49, val_main_v48, val_main_v47, val_main_cst_11, val_main_cst_17, e44, e26]
  simp only [← EReal.coe_mul, sum_coe, zero_add]
  rfl

theorem e55 (c : Fin 1024) :
    val_main_v55 (F := Ideal) (cv a.act) (cv a.w) (cv a.x) (cv a.t) (cv a.ca) (cv a.cb) (cv a.g) (ix1 c) = ((dG a c : ℝ) : EReal) := by
  refine (hostReduceAdd_lead2 _ _ _ c).trans ?_
  pointwise [val_main_v52, val_main_v51, val_main_v50, val_main_cst_12, val_main_cst_13, e46, e23]
  simp only [← EReal.coe_mul, sum_coe, zero_add]
  refine congrArg (fun x : ℝ => (x : EReal)) ?_
  exact Finset.sum_congr rfl fun s _ => mul_comm _ _

/-! The five results. -/

theorem out73 : val_main_v73 (F := Ideal) (cv a.act) (cv a.w) (cv a.x) (cv a.t) (cv a.ca) (cv a.cb) (cv a.g)
    = cv (fun i : S4096x1024.Idx => dX a (i 0) (i 1)) := by
  funext i
  idx_vars i
  pointwise [val_main_v73, e44, cv_apply]

theorem out75 : val_main_v75 (F := Ideal) (cv a.act) (cv a.w) (cv a.x) (cv a.t) (cv a.ca) (cv a.cb) (cv a.g)
    = cv (fun i : S4096x1024.Idx => dF a (i 0) (i 1)) := by
  funext i
  idx_vars i
  pointwise [val_main_v75, val_main_v74, e70, cv_apply]

theorem out76 : val_main_v76 (F := Ideal) (cv a.act) (cv a.w) (cv a.x) (cv a.t) (cv a.ca) (cv a.cb) (cv a.g)
    = cv (fun _ : S1x128.Idx => loss a) := by
  funext i
  exact e38 a _

theorem out72 : val_main_v72 (F := Ideal) (cv a.act) (cv a.w) (cv a.x) (cv a.t) (cv a.ca) (cv a.cb) (cv a.g)
    = cv (fun i : S1x1024.Idx => dGt a (i 1)) := by
  funext i
  idx_vars i
  pointwise [val_main_v72, e71, cv_apply]

theorem out77 : val_main_v77 (F := Ideal) (cv a.act) (cv a.w) (cv a.x) (cv a.t) (cv a.ca) (cv a.cb) (cv a.g)
    = cv (fun i : S1x1024.Idx => dG a (i 1)) := by
  funext i
  idx_vars i
  pointwise [val_main_v77, e55, cv_apply]

end Cert.DownLossRefIdeal.Real
-- ==== Proof.DownLossPair.lean ====
/- The down projection with the loss: the kernel's five results are the reference's, for finite arguments. -/
module

public import proofs.«01_k».proof.Defs
public import proofs.«01_k».proof.Proof.DownLossArr
public import proofs.«01_k».proof.Proof.DownLossRef
public import proofs.«01_k».proof.Proof.Gen.Pre_finite_down
public import Idealize.ShloMosaic.Lib.Claim

@[expose] public section

set_option maxRecDepth 16384

noncomputable section

namespace Cert.DownLossPair

open Idealize.ShloMosaic Idealize.ShloMosaic.TcCoe Idealize.SL.Sem Cert.Lift Cert.DownSpec
open Cert.DownLossRefIdeal Cert.DownLossRefIdeal.Real Cert.DownLossIdeal.Arr

/-- A conjunction of one-bit words at an index. -/
theorem and_parts {s : Shape} {x y : IVec s 1} {i : s.Idx} (h : andi x y i = 1#1) : x i = 1#1 ∧ y i = 1#1 := IntOp.andi_eq_one.1 h

instance : Subsingleton (⟨0, ![]⟩ : Shape).Idx := ⟨fun _ _ => funext fun a => a.elim0⟩

/-- The precondition makes every argument a real array. -/
theorem args_real (m : (ℓ : Loc Cert.DownLossIdeal.nD Cert.DownLossIdeal.τ Cert.DownLossIdeal.sig) → Buf (Elt Ideal) ℓ)
    (hpre : Cert.Pre_DownLossIdeal_finite_down m) (c : Dev Cert.DownLossIdeal.nD) :
    ∃ a : Args, Cert.DownLossIdeal.Arr.IsReal m c a := by
  have h := congrFun (hpre c) (fun a => a.elim0)
  obtain ⟨h, h6⟩ := and_parts h
  obtain ⟨h, h5⟩ := and_parts h
  obtain ⟨h, h4⟩ := and_parts h
  obtain ⟨h, h3⟩ := and_parts h
  obtain ⟨h, h2⟩ := and_parts h
  obtain ⟨h0, h1⟩ := and_parts h
  obtain ⟨r0, e0⟩ := real_of_all _ _ (fun _ => rfl) _ _ _ _ h0
  obtain ⟨r1, e1⟩ := real_of_all _ _ (fun _ => rfl) _ _ _ _ h1
  obtain ⟨r2, e2⟩ := real_of_all _ _ (fun _ => rfl) _ _ _ _ h2
  obtain ⟨r3, e3⟩ := real_of_all _ _ (fun _ => rfl) _ _ _ _ h3
  obtain ⟨r4, e4⟩ := real_of_all _ _ (fun _ => rfl) _ _ _ _ h4
  obtain ⟨r5, e5⟩ := real_of_all _ _ (fun _ => rfl) _ _ _ _ h5
  obtain ⟨r6, e6⟩ := real_of_all _ _ (fun _ => rfl) _ _ _ _ h6
  exact ⟨⟨r0, r1, r2, r3, r4, r5, r6⟩, ⟨e0, e1, e2, e3, e4, e5, e6⟩⟩

theorem algebraic : Cert.algebraic_DownLossIdeal_DownLossRefIdeal_pre_finite_down := by
  pair_intro
  · run_from Cert.DownLossIdeal.Value.run_blocks m g
  · run_from Cert.DownLossRefIdeal.Value.run m' g'
    all_goals
      obtain ⟨a, hr⟩ := args_real m hpre c
    · exact (Read.val_main_v73_eq ..).trans
        ((by rw [hr.h0, hr.h1, hr.h2, hr.h3, hr.h4, hr.h5, hr.h6] : _ = _).trans ((out73 a).trans (arr7 hr).symm))
    · exact (Read.val_main_v75_eq m' c).trans
        ((by rw [hagree c |>.1, hagree c |>.2.1, hagree c |>.2.2.1, hagree c |>.2.2.2.1, hagree c |>.2.2.2.2.1, hagree c |>.2.2.2.2.2.1, hagree c |>.2.2.2.2.2.2, hr.h0, hr.h1, hr.h2, hr.h3, hr.h4, hr.h5, hr.h6] : _ = _).trans ((out75 a).trans (arr8 hr).symm))
    · exact (Read.val_main_v76_eq ..).trans
        ((by rw [hr.h0, hr.h1, hr.h2, hr.h3, hr.h4, hr.h5, hr.h6] : _ = _).trans ((out76 a).trans (arr9 hr).symm))
    · exact (Read.val_main_v72_eq ..).trans
        ((by rw [hr.h0, hr.h1, hr.h2, hr.h3, hr.h4, hr.h5, hr.h6] : _ = _).trans ((out72 a).trans (arr10 hr).symm))
    · exact (Read.val_main_v77_eq ..).trans
        ((by rw [hr.h0, hr.h1, hr.h2, hr.h3, hr.h4, hr.h5, hr.h6] : _ = _).trans ((out77 a).trans (arr11 hr).symm))

/-- The reference runs to its end and leaves its arguments. -/
theorem quiescent_ref : Cert.quiescent_DownLossRefIdeal := fun m ρ _ =>
  (θ_run Cert.DownLossRefIdeal.defs _ _).mono (fun r h => ⟨fun c => (h c).2.2.2.2.2, sem_eq_zero_of_no_sems (by decide) r.2⟩)
    (Cert.DownLossRefIdeal.Value.run (F := Ideal) m ρ)

end Cert.DownLossPair
-- ==== Proof.AttnBwdLoop.lean ====
/- One trip of the attention backward kernel's loop over the later pairs of query tiles, run symbolically. -/
module

public import proofs.«01_k».proof.Proof.Gen.AttnBwdIdeal.Loops
public import proofs.«01_k».proof.Proof.Gen.AttnBwdIdeal.Frame

@[expose] public section

set_option maxRecDepth 16384

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F] [Named F]

/-- The row a trip's first (`u = 0`) or second tile starts at. -/
abbrev rowAt (i : grid0.Coords) (k u : ℕ) : ℕ := 512 * ((i 1).val + 2 - (i 1).val % 2 + 2 * k + u)

theorem off11_eq0 : ∀ (i : grid0.Coords) (k : Fin (k0_t1_loop i).trips), k0_off11 i k 0#32 = ![rowAt i k.val 0, 0] := by decide +kernel
theorem off11_eq1 : ∀ (i : grid0.Coords) (k : Fin (k0_t1_loop i).trips), k0_off11 i k 1#32 = ![rowAt i k.val 1, 0] := by decide +kernel
theorem off14_eq0 : ∀ (i : grid0.Coords) (k : Fin (k0_t1_loop i).trips), k0_off14 i k 0#32 = ![rowAt i k.val 0, 128] := by decide +kernel
theorem off14_eq1 : ∀ (i : grid0.Coords) (k : Fin (k0_t1_loop i).trips), k0_off14 i k 1#32 = ![rowAt i k.val 1, 128] := by decide +kernel

instance (i : grid0.Coords) (k : Fin (k0_t1_loop i).trips) : ClosedOff (k0_off11 i k 0#32) := ⟨_, off11_eq0 i k⟩
instance (i : grid0.Coords) (k : Fin (k0_t1_loop i).trips) : ClosedOff (k0_off11 i k 1#32) := ⟨_, off11_eq1 i k⟩
instance (i : grid0.Coords) (k : Fin (k0_t1_loop i).trips) : ClosedOff (k0_off14 i k 0#32) := ⟨_, off14_eq0 i k⟩
instance (i : grid0.Coords) (k : Fin (k0_t1_loop i).trips) : ClosedOff (k0_off14 i k 1#32) := ⟨_, off14_eq1 i k⟩

variable (c : Dev nD) (i : grid0.Coords)
  (a2 : Memref sig .tc .vmem S4096x256 .bf16) (h2 : a2.IsWhole) (a3 : Memref sig .tc .vmem S512x256 .bf16) (h3 : a3.IsWhole)
  (a4 : Memref sig .tc .vmem S512x256 .bf16) (h4 : a4.IsWhole) (a5 : Memref sig .tc .vmem S4096x256 .bf16) (h5 : a5.IsWhole)
  (a6 : Memref sig .tc .vmem S2x4096x1 .f32) (h6 : a6.IsWhole) (a7 : Memref sig .tc .vmem S2x4096x1 .f32) (h7 : a7.IsWhole)
  (a8 : Memref sig .tc .vmem S4096x256 .f32) (h8 : a8.IsWhole) (a9 : Memref sig .tc .vmem S512x256 .f32) (h9 : a9.IsWhole)
  (a10 : Memref sig .tc .vmem S512x256 .f32) (h10 : a10.IsWhole) (a11 : Memref sig .tc .vmem S2x512x128 .f32) (h11 : a11.IsWhole)
  (a12 : Memref sig .tc .vmem S2x512x128 .f32) (h12 : a12.IsWhole)
  (x0 : Vec F S4096x256 .bf16) (x1 x2 : Vec F S512x256 .bf16) (x3 : Vec F S4096x256 .bf16) (x4 x5 : Vec F S2x4096x1 .f32)

/-- What a trip touches: the six inputs at their blocks, the query gradient and the two sums at some contents. -/
abbrev Trip (f8 : a8.view.ty.Contents (Elt F)) (f11 : a11.view.ty.Contents (Elt F)) (f12 : a12.view.ty.Contents (Elt F)) : sProp (MT nD τ sig Unit (Elt F) ℕ (UR sig nD τ) ℕ) :=
  iprop(owns (c : Thread nD τ) a2 fullShare x0 ∗ owns (c : Thread nD τ) a3 fullShare x1 ∗ owns (c : Thread nD τ) a4 fullShare x2
    ∗ owns (c : Thread nD τ) a5 fullShare x3 ∗ owns (c : Thread nD τ) a6 fullShare x4 ∗ owns (c : Thread nD τ) a7 fullShare x5
    ∗ (a8.view.loc (c : Thread nD τ) ↦[a8.view.set]{fullShare} f8)
    ∗ (a11.view.loc (c : Thread nD τ) ↦[a11.view.set]{fullShare} f11)
    ∗ (a12.view.loc (c : Thread nD τ) ↦[a12.view.set]{fullShare} f12))

set_option maxHeartbeats 2000000 in
/-- One trip: the pieces it leaves in the query gradient and in the two sums, with the run that leaves them. -/
def trip (k : Fin (k0_t1_loop i).trips) (y8 : Vec F S4096x256 .f32) (y11 y12 : Vec F S2x512x128 .f32) :
    Σ' (L8 : List (View.Piece (Elt F) S4096x256 .f32)), Σ' (L11 : List (View.Piece (Elt F) S2x512x128 .f32)), { L12 : List (View.Piece (Elt F) S2x512x128 .f32) //
      ∀ (v29 c8 : BitVec 32) (E : Set ℕ) (K : Unit → sProp (MT nD τ sig Unit (Elt F) ℕ (UR sig nD τ) ℕ)),
        iprop(Trip c a2 a3 a4 a5 a6 a7 a8 a11 a12 x0 x1 x2 x3 x4 x5 (h8.unread y8) (h11.unread y11) (h12.unread y12)
          ∗ (Trip c a2 a3 a4 a5 a6 a7 a8 a11 a12 x0 x1 x2 x3 x4 x5 (a8.view.writes (Elt F) (h8.unread y8) L8)
              (a11.view.writes (Elt F) (h11.unread y11) L11) (a12.view.writes (Elt F) (h12.unread y12) L12) -∗ K ()))
        ⊢ wp frame (wpE (defs₀ (F := F)) Variants.none c none) E (k0_t1_body i a2 h2 a3 h3 a4 h4 a5 h5 a6 h6 a7 h7 a8 h8 a9 h9 a10 h10 a11 h11 a12 h12 v29 c8 k ()) K } := by
  refine ⟨?_, ?_, ?_, fun v29 c8 E K => ?run⟩
  case run =>
    unfold k0_t1_body
    simp only [k0_part9_eq_skeleton, k0_part10_eq_skeleton, k0_part11_eq_skeleton, k0_part12_eq_skeleton, k0_part13_eq_skeleton]
    unfold Trip owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, H8, H11, H12⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexact H8
    isplitl [H11]; · iexact H11
    iexact H12

end Cert.AttnBwdIdeal.Hand

end
-- ==== Proof.AttnBwdPre.lean ====
/- The part of the attention backward kernel's body before its loop, run symbolically in the three cases of the key tile. -/
module

public import proofs.«01_k».proof.Proof.AttnBwdLoop
public import Idealize.ShloMosaic.Lib.WritesUnit

@[expose] public section

set_option maxRecDepth 16384

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F] [Named F]

variable (c : Dev nD) (i : grid0.Coords)
  (a2 : Memref sig .tc .vmem S4096x256 .bf16) (h2 : a2.IsWhole) (a3 : Memref sig .tc .vmem S512x256 .bf16) (h3 : a3.IsWhole)
  (a4 : Memref sig .tc .vmem S512x256 .bf16) (h4 : a4.IsWhole) (a5 : Memref sig .tc .vmem S4096x256 .bf16) (h5 : a5.IsWhole)
  (a6 : Memref sig .tc .vmem S2x4096x1 .f32) (h6 : a6.IsWhole) (a7 : Memref sig .tc .vmem S2x4096x1 .f32) (h7 : a7.IsWhole)
  (a8 : Memref sig .tc .vmem S4096x256 .f32) (h8 : a8.IsWhole) (a9 : Memref sig .tc .vmem S512x256 .f32) (h9 : a9.IsWhole)
  (a10 : Memref sig .tc .vmem S512x256 .f32) (h10 : a10.IsWhole) (a11 : Memref sig .tc .vmem S2x512x128 .f32) (h11 : a11.IsWhole)
  (a12 : Memref sig .tc .vmem S2x512x128 .f32) (h12 : a12.IsWhole)
  (x0 : Vec F S4096x256 .bf16) (x1 x2 : Vec F S512x256 .bf16) (x3 : Vec F S4096x256 .bf16) (x4 x5 : Vec F S2x4096x1 .f32)

/-- One store over a whole buffer leaves exactly what it stores. -/
theorem settle8 (a : Memref sig .tc .vmem S4096x256 .f32) (h : a.IsWhole) (f : a.view.ty.Contents (Elt F)) (inb) (X : Vec F S4096x256 .f32) :
    (View.loc (c : Thread nD τ) (a.access (Rect.unit (s := S4096x256) ![0, 0] ![4096, 256] inb)) ↦[a.view.set]{fullShare}
        View.write (Elt F) (a.access (Rect.unit (s := S4096x256) ![0, 0] ![4096, 256] inb)) f X Finset.univ : sProp (MT nD τ sig Unit (Elt F) ℕ (UR sig nD τ) ℕ))
      = (a.view.loc (c : Thread nD τ) ↦[a.view.set]{fullShare} h.unread X) := by
  have e : a.view.writes (Elt F) f [⟨Rect.unit (s := S4096x256) ![0, 0] ![4096, 256] inb, X⟩] = h.unread X :=
    h.eq_unread (by funext y; exact View.read_writes_cons_unit_of_mem a.view f inb X [] y y rfl fun a => by have := inb a; revert this; fin_cases a <;> intro h <;> exact (Nat.zero_add _).symm)
  exact congrArg (fun g => (a.view.loc (c : Thread nD τ) ↦[a.view.set]{fullShare} g : sProp (MT nD τ sig Unit (Elt F) ℕ (UR sig nD τ) ℕ))) e

theorem settle11 (a : Memref sig .tc .vmem S2x512x128 .f32) (h : a.IsWhole) (f : a.view.ty.Contents (Elt F)) (inb) (X : Vec F S2x512x128 .f32) :
    (View.loc (c : Thread nD τ) (a.access (Rect.unit (s := S2x512x128) ![0, 0, 0] ![2, 512, 128] inb)) ↦[a.view.set]{fullShare}
        View.write (Elt F) (a.access (Rect.unit (s := S2x512x128) ![0, 0, 0] ![2, 512, 128] inb)) f X Finset.univ : sProp (MT nD τ sig Unit (Elt F) ℕ (UR sig nD τ) ℕ))
      = (a.view.loc (c : Thread nD τ) ↦[a.view.set]{fullShare} h.unread X) := by
  have e : a.view.writes (Elt F) f [⟨Rect.unit (s := S2x512x128) ![0, 0, 0] ![2, 512, 128] inb, X⟩] = h.unread X :=
    h.eq_unread (by funext y; exact View.read_writes_cons_unit_of_mem a.view f inb X [] y y rfl fun a => by have := inb a; revert this; fin_cases a <;> intro h <;> exact (Nat.zero_add _).symm)
  exact congrArg (fun g => (a.view.loc (c : Thread nD τ) ↦[a.view.set]{fullShare} g : sProp (MT nD τ sig Unit (Elt F) ℕ (UR sig nD τ) ℕ))) e

/-- The body's condition that the key tile is the first one. -/
abbrev isFirst (i : grid0.Coords) : Prop :=
  Scalar.cmpi .ne (Scalar.extui (Scalar.cmpi .eq (BitVec.ofNat 32 (i 1).val) 0#32) : BitVec 32) 0#32 = 1#1

set_option maxHeartbeats 400000 in
/-- The first key tile: the query gradient is cleared, then the tile pair on the diagonal is added. -/
def preA (hc1 : isFirst i) (hc2 : ¬ k0_cond2 i = 1#1) (hc3 : k0_cond3 i = 1#1) (y8 : Vec F S4096x256 .f32) (y11 y12 : Vec F S2x512x128 .f32) (e8 : k0_pay106 = y8) (e11 : k0_pay107 = y11) (e12 : k0_pay108 = y12) :
    Σ' (L8 : List (View.Piece (Elt F) S4096x256 .f32)), Σ' (L11 : List (View.Piece (Elt F) S2x512x128 .f32)), { L12 : List (View.Piece (Elt F) S2x512x128 .f32) //
      ∀ (f8 : a8.view.ty.Contents (Elt F)) (f11 : a11.view.ty.Contents (Elt F)) (f12 : a12.view.ty.Contents (Elt F)) (E : Set ℕ) (K : (Σ' (_ : BitVec 32), BitVec 32) → sProp (MT nD τ sig Unit (Elt F) ℕ (UR sig nD τ) ℕ)),
        iprop(Trip c a2 a3 a4 a5 a6 a7 a8 a11 a12 x0 x1 x2 x3 x4 x5 f8 f11 f12
          ∗ (∀ r, Trip c a2 a3 a4 a5 a6 a7 a8 a11 a12 x0 x1 x2 x3 x4 x5 (a8.view.writes (Elt F) (h8.unread y8) L8) (a11.view.writes (Elt F) (h11.unread y11) L11) (a12.view.writes (Elt F) (h12.unread y12) L12) -∗ K r))
        ⊢ wp frame (wpE (defs₀ (F := F)) Variants.none c none) E (k0_part19 i a2 h2 a3 h3 a4 h4 a5 h5 a6 h6 a7 h7 a8 h8 a9 h9 a10 h10 a11 h11 a12 h12) K } := by
  refine ⟨?_, ?_, ?_, fun f8 f11 f12 E K => ?run⟩
  case run =>
    unfold Trip owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, H8, H11, H12⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    simp only [k0_part19_eq_skeleton]
    unfold k0_part19_skel
    simp only [k0_part1_eq_skeleton, k0_part2_eq_skeleton, k0_part3_eq_skeleton, k0_part4_eq_skeleton, k0_part5_eq_skeleton, k0_part6_eq_skeleton, k0_part7_eq_skeleton, k0_part8_eq_skeleton]

    simp only [dif_pos hc1, dif_neg hc2, dif_pos hc3, pure_bind, bind_assoc, Prog.bind_lift]
    sl_step; sl_step; sl_step; sl_step; sl_step; sl_step
    simp only [settle8 c a8 h8, settle11 c a11 h11, settle11 c a12 h12, e11, e12, e8]
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexact H8
    isplitl [H11]; · iexact H11
    iexact H12

set_option maxHeartbeats 400000 in
/-- A later even key tile: the tile pair on the diagonal is added. -/
def preB (hc1 : ¬ isFirst i) (hc2 : ¬ k0_cond2 i = 1#1) (hc3 : k0_cond3 i = 1#1) (y8 : Vec F S4096x256 .f32) (y11 y12 : Vec F S2x512x128 .f32) (e11 : k0_pay107 = y11) (e12 : k0_pay108 = y12) :
    Σ' (L8 : List (View.Piece (Elt F) S4096x256 .f32)), Σ' (L11 : List (View.Piece (Elt F) S2x512x128 .f32)), { L12 : List (View.Piece (Elt F) S2x512x128 .f32) //
      ∀ (f11 : a11.view.ty.Contents (Elt F)) (f12 : a12.view.ty.Contents (Elt F)) (E : Set ℕ) (K : (Σ' (_ : BitVec 32), BitVec 32) → sProp (MT nD τ sig Unit (Elt F) ℕ (UR sig nD τ) ℕ)),
        iprop(Trip c a2 a3 a4 a5 a6 a7 a8 a11 a12 x0 x1 x2 x3 x4 x5 (h8.unread y8) f11 f12
          ∗ (∀ r, Trip c a2 a3 a4 a5 a6 a7 a8 a11 a12 x0 x1 x2 x3 x4 x5 (a8.view.writes (Elt F) (h8.unread y8) L8) (a11.view.writes (Elt F) (h11.unread y11) L11) (a12.view.writes (Elt F) (h12.unread y12) L12) -∗ K r))
        ⊢ wp frame (wpE (defs₀ (F := F)) Variants.none c none) E (k0_part19 i a2 h2 a3 h3 a4 h4 a5 h5 a6 h6 a7 h7 a8 h8 a9 h9 a10 h10 a11 h11 a12 h12) K } := by
  refine ⟨?_, ?_, ?_, fun f11 f12 E K => ?run⟩
  case run =>
    unfold Trip owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, H8, H11, H12⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    simp only [k0_part19_eq_skeleton]
    unfold k0_part19_skel
    simp only [k0_part1_eq_skeleton, k0_part2_eq_skeleton, k0_part3_eq_skeleton, k0_part4_eq_skeleton, k0_part5_eq_skeleton, k0_part6_eq_skeleton, k0_part7_eq_skeleton, k0_part8_eq_skeleton]

    simp only [dif_neg hc1, dif_neg hc2, dif_pos hc3, pure_bind, bind_assoc, Prog.bind_lift]
    sl_step; sl_step; sl_step; sl_step
    simp only [settle8 c a8 h8, settle11 c a11 h11, settle11 c a12 h12, e11, e12]
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexact H8
    isplitl [H11]; · iexact H11
    iexact H12

set_option maxHeartbeats 400000 in
/-- An odd key tile: the one tile on the diagonal is added. -/
def preC (hc1 : ¬ isFirst i) (hc2 : k0_cond2 i = 1#1) (hc3 : ¬ k0_cond3 i = 1#1) (y8 : Vec F S4096x256 .f32) (y11 y12 : Vec F S2x512x128 .f32) (e11 : k0_pay107 = y11) (e12 : k0_pay108 = y12) :
    Σ' (L8 : List (View.Piece (Elt F) S4096x256 .f32)), Σ' (L11 : List (View.Piece (Elt F) S2x512x128 .f32)), { L12 : List (View.Piece (Elt F) S2x512x128 .f32) //
      ∀ (f11 : a11.view.ty.Contents (Elt F)) (f12 : a12.view.ty.Contents (Elt F)) (E : Set ℕ) (K : (Σ' (_ : BitVec 32), BitVec 32) → sProp (MT nD τ sig Unit (Elt F) ℕ (UR sig nD τ) ℕ)),
        iprop(Trip c a2 a3 a4 a5 a6 a7 a8 a11 a12 x0 x1 x2 x3 x4 x5 (h8.unread y8) f11 f12
          ∗ (∀ r, Trip c a2 a3 a4 a5 a6 a7 a8 a11 a12 x0 x1 x2 x3 x4 x5 (a8.view.writes (Elt F) (h8.unread y8) L8) (a11.view.writes (Elt F) (h11.unread y11) L11) (a12.view.writes (Elt F) (h12.unread y12) L12) -∗ K r))
        ⊢ wp frame (wpE (defs₀ (F := F)) Variants.none c none) E (k0_part19 i a2 h2 a3 h3 a4 h4 a5 h5 a6 h6 a7 h7 a8 h8 a9 h9 a10 h10 a11 h11 a12 h12) K } := by
  refine ⟨?_, ?_, ?_, fun f11 f12 E K => ?run⟩
  case run =>
    unfold Trip owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, H8, H11, H12⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    simp only [k0_part19_eq_skeleton]
    unfold k0_part19_skel
    simp only [k0_part1_eq_skeleton, k0_part2_eq_skeleton, k0_part3_eq_skeleton, k0_part4_eq_skeleton, k0_part5_eq_skeleton, k0_part6_eq_skeleton, k0_part7_eq_skeleton, k0_part8_eq_skeleton]

    simp only [dif_neg hc1, dif_pos hc2, dif_neg hc3, pure_bind, bind_assoc, Prog.bind_lift]
    sl_step; sl_step; sl_step; sl_step
    simp only [settle8 c a8 h8, settle11 c a11 h11, settle11 c a12 h12, e11, e12]
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexact H8
    isplitl [H11]; · iexact H11
    iexact H12

end Cert.AttnBwdIdeal.Hand

end
-- ==== Proof.AttnBwdBody.lean ====
/- The whole body of the attention backward kernel: its prologue, its loop and its two last stores. -/
module

public import proofs.«01_k».proof.Proof.AttnBwdPre

@[expose] public section

set_option maxRecDepth 16384

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F] [Named F]

variable (c : Dev nD) (i : grid0.Coords)
  (a2 : Memref sig .tc .vmem S4096x256 .bf16) (h2 : a2.IsWhole) (a3 : Memref sig .tc .vmem S512x256 .bf16) (h3 : a3.IsWhole)
  (a4 : Memref sig .tc .vmem S512x256 .bf16) (h4 : a4.IsWhole) (a5 : Memref sig .tc .vmem S4096x256 .bf16) (h5 : a5.IsWhole)
  (a6 : Memref sig .tc .vmem S2x4096x1 .f32) (h6 : a6.IsWhole) (a7 : Memref sig .tc .vmem S2x4096x1 .f32) (h7 : a7.IsWhole)
  (a8 : Memref sig .tc .vmem S4096x256 .f32) (h8 : a8.IsWhole) (a9 : Memref sig .tc .vmem S512x256 .f32) (h9 : a9.IsWhole)
  (a10 : Memref sig .tc .vmem S512x256 .f32) (h10 : a10.IsWhole) (a11 : Memref sig .tc .vmem S2x512x128 .f32) (h11 : a11.IsWhole)
  (a12 : Memref sig .tc .vmem S2x512x128 .f32) (h12 : a12.IsWhole)
  (x0 : Vec F S4096x256 .bf16) (x1 x2 : Vec F S512x256 .bf16) (x3 : Vec F S4096x256 .bf16) (x4 x5 : Vec F S2x4096x1 .f32)

/-- The query gradient and the two sums. -/
abbrev Acc (F : FTy → Type) : Type := Vec F S4096x256 .f32 × Vec F S2x512x128 .f32 × Vec F S2x512x128 .f32

/-- One trip, as a function of what it finds. -/
def step (k : Fin (k0_t1_loop i).trips) (y : Acc F) : Acc F :=
  (a8.view.read (Elt F) (a8.view.writes (Elt F) (h8.unread y.1) (trip c i a2 h2 a3 h3 a4 h4 a5 h5 a6 h6 a7 h7 a8 h8 a9 h9 a10 h10 a11 h11 a12 h12 x0 x1 x2 x3 x4 x5 k y.1 y.2.1 y.2.2).1),
   a11.view.read (Elt F) (a11.view.writes (Elt F) (h11.unread y.2.1) (trip c i a2 h2 a3 h3 a4 h4 a5 h5 a6 h6 a7 h7 a8 h8 a9 h9 a10 h10 a11 h11 a12 h12 x0 x1 x2 x3 x4 x5 k y.1 y.2.1 y.2.2).2.1),
   a12.view.read (Elt F) (a12.view.writes (Elt F) (h12.unread y.2.2) (trip c i a2 h2 a3 h3 a4 h4 a5 h5 a6 h6 a7 h7 a8 h8 a9 h9 a10 h10 a11 h11 a12 h12 x0 x1 x2 x3 x4 x5 k y.1 y.2.1 y.2.2).2.2.1))

/-- What the first `n` trips leave. -/
def st (y : Acc F) : ℕ → Acc F
  | 0 => y
  | n + 1 => if h : n < (k0_t1_loop i).trips then step c i a2 h2 a3 h3 a4 h4 a5 h5 a6 h6 a7 h7 a8 h8 a9 h9 a10 h10 a11 h11 a12 h12 x0 x1 x2 x3 x4 x5 ⟨n, h⟩ (st y n) else st y n

theorem st_succ (y : Acc F) (k : Fin (k0_t1_loop i).trips) :
    st c i a2 h2 a3 h3 a4 h4 a5 h5 a6 h6 a7 h7 a8 h8 a9 h9 a10 h10 a11 h11 a12 h12 x0 x1 x2 x3 x4 x5 y (k.val + 1) = step c i a2 h2 a3 h3 a4 h4 a5 h5 a6 h6 a7 h7 a8 h8 a9 h9 a10 h10 a11 h11 a12 h12 x0 x1 x2 x3 x4 x5 k (st c i a2 h2 a3 h3 a4 h4 a5 h5 a6 h6 a7 h7 a8 h8 a9 h9 a10 h10 a11 h11 a12 h12 x0 x1 x2 x3 x4 x5 y k.val) := by
  rw [st, dif_pos k.isLt]

/-- The loop, from what it finds to what its trips leave. -/
theorem loop1 (y : Acc F) (v29 c8 : BitVec 32) (E : Set ℕ) (β : Type) (kk : Unit → Prog (TpuEff nD τ sig (Elt F) Λ₀ .tc) β) (Q : β → sProp (MT nD τ sig Unit (Elt F) ℕ (UR sig nD τ) ℕ)) :
    iprop(Trip c a2 a3 a4 a5 a6 a7 a8 a11 a12 x0 x1 x2 x3 x4 x5 (h8.unread y.1) (h11.unread y.2.1) (h12.unread y.2.2)
      ∗ (Trip c a2 a3 a4 a5 a6 a7 a8 a11 a12 x0 x1 x2 x3 x4 x5 (h8.unread (st c i a2 h2 a3 h3 a4 h4 a5 h5 a6 h6 a7 h7 a8 h8 a9 h9 a10 h10 a11 h11 a12 h12 x0 x1 x2 x3 x4 x5 y (k0_t1_loop i).trips).1) (h11.unread (st c i a2 h2 a3 h3 a4 h4 a5 h5 a6 h6 a7 h7 a8 h8 a9 h9 a10 h10 a11 h11 a12 h12 x0 x1 x2 x3 x4 x5 y (k0_t1_loop i).trips).2.1) (h12.unread (st c i a2 h2 a3 h3 a4 h4 a5 h5 a6 h6 a7 h7 a8 h8 a9 h9 a10 h10 a11 h11 a12 h12 x0 x1 x2 x3 x4 x5 y (k0_t1_loop i).trips).2.2)
          -∗ wp frame (wpE (defs₀ (F := F)) Variants.none c none) E (kk ()) Q))
    ⊢ wp frame (wpE (defs₀ (F := F)) Variants.none c none) E
        (Scf.Loop.for (k0_t1_loop i) (k0_t1_ok i) ⟨⟩ (k0_t1_body i a2 h2 a3 h3 a4 h4 a5 h5 a6 h6 a7 h7 a8 h8 a9 h9 a10 h10 a11 h11 a12 h12 v29 c8) >>= kk) Q := by
  iintro ⟨H, Hk⟩
  iapply (Scf.wp_for_bind frame (wpE (defs₀ (F := F)) Variants.none c none) E _ _ _ (k0_t1_ok i) ⟨⟩ (k0_t1_body i a2 h2 a3 h3 a4 h4 a5 h5 a6 h6 a7 h7 a8 h8 a9 h9 a10 h10 a11 h11 a12 h12 v29 c8)
    (fun n _ => Trip c a2 a3 a4 a5 a6 a7 a8 a11 a12 x0 x1 x2 x3 x4 x5 (h8.unread (st c i a2 h2 a3 h3 a4 h4 a5 h5 a6 h6 a7 h7 a8 h8 a9 h9 a10 h10 a11 h11 a12 h12 x0 x1 x2 x3 x4 x5 y n).1) (h11.unread (st c i a2 h2 a3 h3 a4 h4 a5 h5 a6 h6 a7 h7 a8 h8 a9 h9 a10 h10 a11 h11 a12 h12 x0 x1 x2 x3 x4 x5 y n).2.1) (h12.unread (st c i a2 h2 a3 h3 a4 h4 a5 h5 a6 h6 a7 h7 a8 h8 a9 h9 a10 h10 a11 h11 a12 h12 x0 x1 x2 x3 x4 x5 y n).2.2)) ?body) $$ [H]
  case body =>
    intro k acc
    rw [st_succ]
    iintro H
    iapply ((trip c i a2 h2 a3 h3 a4 h4 a5 h5 a6 h6 a7 h7 a8 h8 a9 h9 a10 h10 a11 h11 a12 h12 x0 x1 x2 x3 x4 x5 k (st c i a2 h2 a3 h3 a4 h4 a5 h5 a6 h6 a7 h7 a8 h8 a9 h9 a10 h10 a11 h11 a12 h12 x0 x1 x2 x3 x4 x5 y k.val).1 (st c i a2 h2 a3 h3 a4 h4 a5 h5 a6 h6 a7 h7 a8 h8 a9 h9 a10 h10 a11 h11 a12 h12 x0 x1 x2 x3 x4 x5 y k.val).2.1 (st c i a2 h2 a3 h3 a4 h4 a5 h5 a6 h6 a7 h7 a8 h8 a9 h9 a10 h10 a11 h11 a12 h12 x0 x1 x2 x3 x4 x5 y k.val).2.2).2.2.2 v29 c8 E _)
    isplitl [H]; · iexact H
    iintro H
    unfold step
    rw [h8.unread_read, h11.unread_read, h12.unread_read]
    iexact H
  · iexact H
  iintro %acc H
  iapply Hk
  iexact H

/-- The loop whose trip count is even has nothing left over. -/
theorem trips2 : ∀ i : grid0.Coords, (k0_t2_loop i).trips = 0 := by decide +kernel

theorem loop2 (v29 c8 v52 : BitVec 32) (E : Set ℕ) (β : Type) (kk : Unit → Prog (TpuEff nD τ sig (Elt F) Λ₀ .tc) β) (Q : β → sProp (MT nD τ sig Unit (Elt F) ℕ (UR sig nD τ) ℕ)) :
    wp frame (wpE (defs₀ (F := F)) Variants.none c none) E (kk ()) Q
    ⊢ wp frame (wpE (defs₀ (F := F)) Variants.none c none) E (Scf.Loop.for (k0_t2_loop i) (k0_t2_ok i) ⟨⟩ (k0_t2_body i a2 h2 a3 h3 a4 h4 a5 h5 a6 h6 a7 h7 a8 h8 a9 h9 a10 h10 a11 h11 a12 h12 v29 c8 v52) >>= kk) Q :=
  Scf.wp_for0_bind' frame (wpE (defs₀ (F := F)) Variants.none c none) E _ _ _ (k0_t2_ok i) _ _ (trips2 i) _ _ _ .rfl

/-- What the body leaves in the key gradient and in the value gradient. -/
abbrev L9 (z : Vec F S2x512x128 .f32) : List (View.Piece (Elt F) S512x256 .f32) :=
  [⟨Rect.unit (s := S512x256) ![0, 128] S512x128.size inb_S512x256_S512x128_0_128, k0_pay1 (View.readAt (Elt F) a11.view (Rect.unit (s := S2x512x128) ![1, 0, 0] S1x512x128.size inb_S2x512x128_S1x512x128_1_0_0).toLoadRect (h11.unread z))⟩,
   ⟨Rect.unit (s := S512x256) ![0, 0] S512x128.size inb_S512x256_S512x128_0_0, k0_pay115 (View.readAt (Elt F) a11.view (Rect.unit (s := S2x512x128) ![0, 0, 0] S1x512x128.size inb_S2x512x128_S1x512x128_0_0_0).toLoadRect (h11.unread z))⟩]
abbrev L10 (z : Vec F S2x512x128 .f32) : List (View.Piece (Elt F) S512x256 .f32) :=
  [⟨Rect.unit (s := S512x256) ![0, 128] S512x128.size inb_S512x256_S512x128_0_128, k0_pay2 (View.readAt (Elt F) a12.view (Rect.unit (s := S2x512x128) ![1, 0, 0] S1x512x128.size inb_S2x512x128_S1x512x128_1_0_0).toLoadRect (h12.unread z))⟩,
   ⟨Rect.unit (s := S512x256) ![0, 0] S512x128.size inb_S512x256_S512x128_0_0, k0_pay116 (View.readAt (Elt F) a12.view (Rect.unit (s := S2x512x128) ![0, 0, 0] S1x512x128.size inb_S2x512x128_S1x512x128_0_0_0).toLoadRect (h12.unread z))⟩]

set_option maxHeartbeats 1000000 in
/-- The body, from a run of its prologue that leaves `y`. -/
theorem body_of (g8 : a8.view.ty.Contents (Elt F)) (f11 : a11.view.ty.Contents (Elt F)) (f12 : a12.view.ty.Contents (Elt F)) (y : Acc F) (z : Acc F)
    (hz : st c i a2 h2 a3 h3 a4 h4 a5 h5 a6 h6 a7 h7 a8 h8 a9 h9 a10 h10 a11 h11 a12 h12 x0 x1 x2 x3 x4 x5 y (k0_t1_loop i).trips = z) (E : Set ℕ)
    (hpre : ∀ K : (Σ' (_ : BitVec 32), BitVec 32) → sProp (MT nD τ sig Unit (Elt F) ℕ (UR sig nD τ) ℕ),
      iprop(Trip c a2 a3 a4 a5 a6 a7 a8 a11 a12 x0 x1 x2 x3 x4 x5 g8 f11 f12 ∗ (∀ r, Trip c a2 a3 a4 a5 a6 a7 a8 a11 a12 x0 x1 x2 x3 x4 x5 (h8.unread y.1) (h11.unread y.2.1) (h12.unread y.2.2) -∗ K r))
      ⊢ wp frame (wpE (defs₀ (F := F)) Variants.none c none) E (k0_part19 i a2 h2 a3 h3 a4 h4 a5 h5 a6 h6 a7 h7 a8 h8 a9 h9 a10 h10 a11 h11 a12 h12) K)
    (f9 : a9.view.ty.Contents (Elt F)) (f10 : a10.view.ty.Contents (Elt F)) (K : Unit → sProp (MT nD τ sig Unit (Elt F) ℕ (UR sig nD τ) ℕ)) :
    iprop(Trip c a2 a3 a4 a5 a6 a7 a8 a11 a12 x0 x1 x2 x3 x4 x5 g8 f11 f12
      ∗ (a9.view.loc (c : Thread nD τ) ↦[a9.view.set]{fullShare} f9) ∗ (a10.view.loc (c : Thread nD τ) ↦[a10.view.set]{fullShare} f10)
      ∗ (Trip c a2 a3 a4 a5 a6 a7 a8 a11 a12 x0 x1 x2 x3 x4 x5 (h8.unread z.1) (h11.unread z.2.1) (h12.unread z.2.2)
          ∗ (a9.view.loc (c : Thread nD τ) ↦[a9.view.set]{fullShare} a9.view.writes (Elt F) f9 (L9 a11 h11 z.2.1))
          ∗ (a10.view.loc (c : Thread nD τ) ↦[a10.view.set]{fullShare} a10.view.writes (Elt F) f10 (L10 a12 h12 z.2.2)) -∗ K ()))
    ⊢ wp frame (wpE (defs₀ (F := F)) Variants.none c none) E (cc0_attn_bwd i a2 h2 a3 h3 a4 h4 a5 h5 a6 h6 a7 h7 a8 h8 a9 h9 a10 h10 a11 h11 a12 h12) K := by
  iintro ⟨H, H9, H10, Hk⟩
  sl_unfold [cc0_attn_bwd]
  unfold cc0_attn_bwd_skel
  rw [wp_bind]
  iapply (hpre _)
  isplitl [H]; · iexact H
  iintro %r H
  obtain ⟨v29, c8⟩ := r
  simp only [k0_part20_eq_skeleton]
  unfold k0_part20_skel
  simp only [bind_assoc]
  iapply (loop1 c i a2 h2 a3 h3 a4 h4 a5 h5 a6 h6 a7 h7 a8 h8 a9 h9 a10 h10 a11 h11 a12 h12 x0 x1 x2 x3 x4 x5 y _ _ E _ _ _)
  isplitl [H]; · iexact H
  rw [hz]
  obtain ⟨z8, z11, z12⟩ := z
  unfold Trip owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H8, H11, H12⟩
  iapply (loop2 c i a2 h2 a3 h3 a4 h4 a5 h5 a6 h6 a7 h7 a8 h8 a9 h9 a10 h10 a11 h11 a12 h12 v29 c8 _ E _ _ _)
  sl_exec
  sl_step
  iapply Hk
  isplitl [H0 H1 H2 H3 H4 H5 H8 H11 H12]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H8]; · iexact H8
    isplitl [H11]; · iexact H11
    iexact H12
  isplitl [H9]; · iexact H9
  iexact H10

end Cert.AttnBwdIdeal.Hand

end
-- ==== Proof.AttnBwdFrame.lean ====
/- The attention backward kernel's run: what each grid point leaves, the body at every point, and the launch. -/
module

public import proofs.«01_k».proof.Proof.AttnBwdBody
public import Idealize.ShloMosaic.Lib.Claim

@[expose] public section

set_option maxRecDepth 16384

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Gen

variable {F : FTy → Type} [FloatOps F] [Named F]
variable (m : (ℓ : Loc nD τ sig) → Buf (Elt F) ℓ) (ρ : Dev nD → PrngReg)

/-- The two scratch buffers. -/
abbrev sc0 : Memref sig .tc .vmem S2x512x128 .f32 := Memref.whole cc0_scratch0
abbrev sc1 : Memref sig .tc .vmem S2x512x128 .f32 := Memref.whole cc0_scratch1
/-- The two outputs written whole at every point, seen through one staging buffer. -/
abbrev VO7 : View sig .tc .vmem S512x256 .f32 := (Memref.whole cc0_stg7_0 : Memref sig .tc .vmem S512x256 .f32).view
abbrev VO8 : View sig .tc .vmem S512x256 .f32 := (Memref.whole cc0_stg8_0 : Memref sig .tc .vmem S512x256 .f32).view

attribute [local irreducible] preA preB preC st trip

/-- Which of the three prologues a point runs. -/
theorem caseA : ∀ t : Fin cfg0.N, t.val % 8 = 0 → isFirst (grid0.coords t) ∧ ¬ k0_cond2 (grid0.coords t) = 1#1 ∧ k0_cond3 (grid0.coords t) = 1#1 :=
  (by decide +kernel : ∀ t : Fin grid0.N, t.val % 8 = 0 → isFirst (grid0.coords t) ∧ ¬ k0_cond2 (grid0.coords t) = 1#1 ∧ k0_cond3 (grid0.coords t) = 1#1)
theorem caseB : ∀ t : Fin cfg0.N, ¬ t.val % 8 = 0 → t.val % 2 = 0 → ¬ isFirst (grid0.coords t) ∧ ¬ k0_cond2 (grid0.coords t) = 1#1 ∧ k0_cond3 (grid0.coords t) = 1#1 :=
  (by decide +kernel : ∀ t : Fin grid0.N, ¬ t.val % 8 = 0 → t.val % 2 = 0 → ¬ isFirst (grid0.coords t) ∧ ¬ k0_cond2 (grid0.coords t) = 1#1 ∧ k0_cond3 (grid0.coords t) = 1#1)
theorem caseC : ∀ t : Fin cfg0.N, ¬ t.val % 8 = 0 → ¬ t.val % 2 = 0 → ¬ isFirst (grid0.coords t) ∧ k0_cond2 (grid0.coords t) = 1#1 ∧ ¬ k0_cond3 (grid0.coords t) = 1#1 :=
  (by decide +kernel : ∀ t : Fin grid0.N, ¬ t.val % 8 = 0 → ¬ t.val % 2 = 0 → ¬ isFirst (grid0.coords t) ∧ k0_cond2 (grid0.coords t) = 1#1 ∧ ¬ k0_cond3 (grid0.coords t) = 1#1)

/-- Prologue A at a point, and what it leaves. -/
abbrev prA (c : Dev nD) (t : Fin cfg0.N) (h : t.val % 8 = 0) :=
  preA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) (caseA t h).1 (caseA t h).2.1 (caseA t h).2.2 k0_pay106 k0_pay107 k0_pay108 rfl rfl rfl
def yA (c : Dev nD) (t : Fin cfg0.N) (h : t.val % 8 = 0) : Acc F :=
  ((win0_6.stage (cfg0.slots t 6)).view.read (Elt F) ((win0_6.stage (cfg0.slots t 6)).view.writes (Elt F) ((hstage0_6 ((cfg0.slots t 6).cast nbuf0_6)).unread k0_pay106) (prA m c t h).1),
   sc0.view.read (Elt F) (sc0.view.writes (Elt F) ((Memref.isWhole_whole _).unread k0_pay107) (prA m c t h).2.1),
   sc1.view.read (Elt F) (sc1.view.writes (Elt F) ((Memref.isWhole_whole _).unread k0_pay108) (prA m c t h).2.2.1))

/-- Prologue B at a point, and what it leaves. -/
abbrev prB (c : Dev nD) (t : Fin cfg0.N) (h : ¬ t.val % 8 = 0) (h2 : t.val % 2 = 0) (y8 : Vec F S4096x256 .f32) :=
  preB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) (caseB t h h2).1 (caseB t h h2).2.1 (caseB t h h2).2.2 y8 k0_pay107 k0_pay108 rfl rfl
def yB (c : Dev nD) (t : Fin cfg0.N) (h : ¬ t.val % 8 = 0) (h2 : t.val % 2 = 0) (y8 : Vec F S4096x256 .f32) : Acc F :=
  ((win0_6.stage (cfg0.slots t 6)).view.read (Elt F) ((win0_6.stage (cfg0.slots t 6)).view.writes (Elt F) ((hstage0_6 ((cfg0.slots t 6).cast nbuf0_6)).unread y8) (prB m c t h h2 y8).1),
   sc0.view.read (Elt F) (sc0.view.writes (Elt F) ((Memref.isWhole_whole _).unread k0_pay107) (prB m c t h h2 y8).2.1),
   sc1.view.read (Elt F) (sc1.view.writes (Elt F) ((Memref.isWhole_whole _).unread k0_pay108) (prB m c t h h2 y8).2.2.1))

/-- Prologue C at a point, and what it leaves. -/
abbrev prC (c : Dev nD) (t : Fin cfg0.N) (h : ¬ t.val % 8 = 0) (h2 : ¬ t.val % 2 = 0) (y8 : Vec F S4096x256 .f32) :=
  preC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) (caseC t h h2).1 (caseC t h h2).2.1 (caseC t h h2).2.2 y8 k0_pay107 k0_pay108 rfl rfl
def yC (c : Dev nD) (t : Fin cfg0.N) (h : ¬ t.val % 8 = 0) (h2 : ¬ t.val % 2 = 0) (y8 : Vec F S4096x256 .f32) : Acc F :=
  ((win0_6.stage (cfg0.slots t 6)).view.read (Elt F) ((win0_6.stage (cfg0.slots t 6)).view.writes (Elt F) ((hstage0_6 ((cfg0.slots t 6).cast nbuf0_6)).unread y8) (prC m c t h h2 y8).1),
   sc0.view.read (Elt F) (sc0.view.writes (Elt F) ((Memref.isWhole_whole _).unread k0_pay107) (prC m c t h h2 y8).2.1),
   sc1.view.read (Elt F) (sc1.view.writes (Elt F) ((Memref.isWhole_whole _).unread k0_pay108) (prC m c t h h2 y8).2.2.1))

/-- What the loop leaves, from what the prologue leaves. -/
def fin (c : Dev nD) (t : Fin cfg0.N) (y : Acc F) : Acc F :=
  st c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) y (k0_t1_loop (grid0.coords t)).trips

/-- A point, from the query gradient the point before left. -/
def at1 (c : Dev nD) (t : Fin cfg0.N) (y8 : Vec F S4096x256 .f32) : Acc F :=
  fin m c t (if h : t.val % 8 = 0 then yA m c t h else if h2 : t.val % 2 = 0 then yB m c t h h2 y8 else yC m c t h h2 y8)

/-- What the points leave, one after the other. -/
def accAt (c : Dev nD) : (n : ℕ) → n < cfg0.N → Acc F
  | 0, h => at1 m c ⟨0, h⟩ k0_pay106
  | n + 1, h => at1 m c ⟨n + 1, h⟩ (accAt c n (Nat.lt_of_succ_lt h)).1

theorem accAt_A (c : Dev nD) (t : Fin cfg0.N) (h : t.val % 8 = 0) : accAt m c t.val t.isLt = fin m c t (yA m c t h) := by
  obtain ⟨n, hn⟩ := t
  cases n with
  | zero => unfold accAt at1; rw [dif_pos h]
  | succ n => unfold accAt at1; rw [dif_pos h]

theorem accAt_B (c : Dev nD) (t : Fin cfg0.N) (h : ¬ t.val % 8 = 0) (h2 : t.val % 2 = 0) (hp : t.val - 1 < cfg0.N) :
    accAt m c t.val t.isLt = fin m c t (yB m c t h h2 (accAt m c (t.val - 1) hp).1) := by
  obtain ⟨n, hn⟩ := t
  cases n with
  | zero => exact absurd rfl h
  | succ n =>
    change at1 m c ⟨n + 1, hn⟩ (accAt m c n (Nat.lt_of_succ_lt hn)).1 = _
    unfold at1; rw [dif_neg h, dif_pos h2]; rfl

theorem accAt_C (c : Dev nD) (t : Fin cfg0.N) (h : ¬ t.val % 8 = 0) (h2 : ¬ t.val % 2 = 0) (hp : t.val - 1 < cfg0.N) :
    accAt m c t.val t.isLt = fin m c t (yC m c t h h2 (accAt m c (t.val - 1) hp).1) := by
  obtain ⟨n, hn⟩ := t
  cases n with
  | zero => exact absurd rfl h
  | succ n =>
    change at1 m c ⟨n + 1, hn⟩ (accAt m c n (Nat.lt_of_succ_lt hn)).1 = _
    unfold at1; rw [dif_neg h, dif_neg h2]; rfl

/-- The proof data: the inputs stay, the query gradient is what the points so far leave, the other two what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => VO7.read (Elt F) (VO7.writes (Elt F) VO7.junk (L9 sc0 (Memref.isWhole_whole _) (accAt m c t.val t.isLt).2.1))
    | ⟨8, _⟩ => VO8.read (Elt F) (VO8.writes (Elt F) VO8.junk (L10 sc1 (Memref.isWhole_whole _) (accAt m c t.val t.isLt).2.2))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t.val t.isLt).1 := by dsimp only [dats]
theorem after0_7 (c : Dev nD) (t : Fin cfg0.N) : (dats m 0 c).after 7 t = VO7.read (Elt F) (VO7.writes (Elt F) VO7.junk (L9 sc0 (Memref.isWhole_whole _) (accAt m c t.val t.isLt).2.1)) := by dsimp only [dats]
theorem after0_8 (c : Dev nD) (t : Fin cfg0.N) : (dats m 0 c).after 8 t = VO8.read (Elt F) (VO8.writes (Elt F) VO8.junk (L10 sc1 (Memref.isWhole_whole _) (accAt m c t.val t.isLt).2.2)) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- Between two first key tiles the query gradient's buffer keeps what the point before left. -/
theorem before0_6 (c : Dev nD) (t : Fin cfg0.N) (h : ¬ t.val % 8 = 0) (hp : t.val - 1 < cfg0.N) (d) :
    (dats m 0 c).before 6 t d = (accAt m c (t.val - 1) hp).1 := by
  rw [Dat.before_out_kept _ 6 rfl t (by omega) (Bool.eq_false_iff.mpr fun h' => by have := (flush0_6 _).mp h'; dsimp only at this; omega) (fun _ => rfl) (fun _ _ => rfl)]
  dsimp only [dats]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

theorem cover9 (z : Vec F S2x512x128 .f32) : ∀ y : S512x256.Idx, ∃ p ∈ L9 (F := F) sc0 (Memref.isWhole_whole _) z, y ∈ p.1.set :=
  View.cover_of_tiledL (L9 (F := F) sc0 (Memref.isWhole_whole _) z) S512x128.size (by sl_kernel_rfl)
theorem cover10 (z : Vec F S2x512x128 .f32) : ∀ y : S512x256.Idx, ∃ p ∈ L10 (F := F) sc1 (Memref.isWhole_whole _) z, y ∈ p.1.set :=
  View.cover_of_tiledL (L10 (F := F) sc1 (Memref.isWhole_whole _) z) S512x128.size (by sl_kernel_rfl)

/-- A point's body, from a run of its prologue: the invariant lends the two scratch buffers and takes them back. -/
theorem body_at (c : Dev nD) (t : Fin cfg0.N) (g8 : (win0_6.stage (cfg0.slots t 6)).view.ty.Contents (Elt F)) (y : Acc F) (hy : accAt m c t.val t.isLt = fin m c t y)
    (hpre : ∀ f11 f12 (K : (Σ' (_ : BitVec 32), BitVec 32) → sProp (MT nD τ sig Unit (Elt F) ℕ (UR sig nD τ) ℕ)),
      iprop(Trip c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) sc0 sc1 (iblk m c 0 t) (iblk m c 1 t) (iblk m c 2 t) (iblk m c 3 t) (iblk m c 4 t) (iblk m c 5 t) g8 f11 f12
        ∗ (∀ r, Trip c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) sc0 sc1 (iblk m c 0 t) (iblk m c 1 t) (iblk m c 2 t) (iblk m c 3 t) (iblk m c 4 t) (iblk m c 5 t) ((hstage0_6 ((cfg0.slots t 6).cast nbuf0_6)).unread y.1) ((Memref.isWhole_whole _).unread y.2.1) ((Memref.isWhole_whole _).unread y.2.2) -∗ K r))
      ⊢ wp frame (wpE (defs₀ (F := F)) Variants.none c none) Set.univ (k0_part19 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _)) K) :
    iprop((dats m 0 c).Φ t.castSucc ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ ((win0_6.stage (cfg0.slots t 6)).view.loc (c : Thread nD τ) ↦[(win0_6.stage (cfg0.slots t 6)).view.set]{fullShare} g8)
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
    ⊢ wp frame (wpE (defs₀ (F := F)) Variants.none c none) Set.univ (bodyAt0 t) (fun _ => bodyPost m c t) := by
  unfold bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, hy,
    show (dats m 0 c).Φ t.castSucc = Pipeline.ΦA spec0 c from rfl]
  unfold Pipeline.ΦA
  rw [scopedRest0_eq c]
  iintro ⟨⟨⟨⟨%f11, H11⟩, ⟨%f12, H12⟩⟩, HP⟩, Ho, H0, H1, H2, H3, H4, H5, H6, ⟨%d7, H7⟩, ⟨%d8, H8⟩⟩
  unfold owns
  icases H7 with ⟨%f7, %hf7, H7⟩
  icases H8 with ⟨%f8, %hf8, H8⟩
  iapply (body_of c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) g8 f11 f12 y (fin m c t y) rfl Set.univ (hpre f11 f12) f7 f8 _)
  isplitl [H0 H1 H2 H3 H4 H5 H6 H11 H12]
  · unfold Trip
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    simp only [Memref.view_whole, View.set_whole]
    isplitl [H11]; · iexact H11
    iexact H12
  isplitl [H7]; · iexact H7
  isplitl [H8]; · iexact H8
  unfold Trip
  unfold owns
  iintro ⟨⟨H0, H1, H2, H3, H4, H5, H6, H11, H12⟩, H7, H8⟩
  simp only [Memref.view_whole, View.set_whole]
  isplitl [HP H11 H12]
  · isplitl [H11 H12]
    · isplitl [H11]
      · iexists _; iexact H11
      iexists _; iexact H12
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact Memref.IsWhole.read_unread _ _
  isplitl [H7]
  · iexists _; isplitr
    swap; · iexact H7
    ipureintro; exact View.read_writes_of_cover _ _ _ _ _ (cover9 _)
  iexists _; isplitr
  swap; · iexact H8
  ipureintro; exact View.read_writes_of_cover _ _ _ _ _ (cover10 _)

/-- A run that ends in contents written piece by piece ends in those contents read whole. -/
theorem settled {α : Type} (c : Dev nD) (a2 : Memref sig .tc .vmem S4096x256 .bf16) (a3 a4 : Memref sig .tc .vmem S512x256 .bf16) (a5 : Memref sig .tc .vmem S4096x256 .bf16)
    (a6 a7 : Memref sig .tc .vmem S2x4096x1 .f32) (a8 : Memref sig .tc .vmem S4096x256 .f32) (h8 : a8.IsWhole)
    (a11 : Memref sig .tc .vmem S2x512x128 .f32) (h11 : a11.IsWhole) (a12 : Memref sig .tc .vmem S2x512x128 .f32) (h12 : a12.IsWhole)
    (x0 : Vec F S4096x256 .bf16) (x1 x2 : Vec F S512x256 .bf16) (x3 : Vec F S4096x256 .bf16) (x4 x5 : Vec F S2x4096x1 .f32)
    (f8 : a8.view.ty.Contents (Elt F)) (f11 : a11.view.ty.Contents (Elt F)) (f12 : a12.view.ty.Contents (Elt F))
    (g8 : a8.view.ty.Contents (Elt F)) (g11 : a11.view.ty.Contents (Elt F)) (g12 : a12.view.ty.Contents (Elt F))
    (K : α → sProp (MT nD τ sig Unit (Elt F) ℕ (UR sig nD τ) ℕ)) (P : sProp (MT nD τ sig Unit (Elt F) ℕ (UR sig nD τ) ℕ))
    (run : iprop(Trip c a2 a3 a4 a5 a6 a7 a8 a11 a12 x0 x1 x2 x3 x4 x5 f8 f11 f12 ∗ (∀ r, Trip c a2 a3 a4 a5 a6 a7 a8 a11 a12 x0 x1 x2 x3 x4 x5 g8 g11 g12 -∗ K r)) ⊢ P) :
    iprop(Trip c a2 a3 a4 a5 a6 a7 a8 a11 a12 x0 x1 x2 x3 x4 x5 f8 f11 f12
      ∗ (∀ r, Trip c a2 a3 a4 a5 a6 a7 a8 a11 a12 x0 x1 x2 x3 x4 x5 (h8.unread (a8.view.read (Elt F) g8)) (h11.unread (a11.view.read (Elt F) g11)) (h12.unread (a12.view.read (Elt F) g12)) -∗ K r)) ⊢ P := by
  rw [Memref.IsWhole.unread_read, Memref.IsWhole.unread_read, Memref.IsWhole.unread_read]
  exact run

theorem sound_A (c : Dev nD) (t : Fin cfg0.N) (h : t.val % 8 = 0) :
    bodyPre m c t ⊢ wp frame (wpE (defs₀ (F := F)) Variants.none c none) Set.univ (bodyAt0 t) (fun _ => bodyPost m c t) := by
  unfold bodyPre
  simp only [before0_0, before0_1, before0_2, before0_3, before0_4, before0_5]
  unfold owns
  iintro ⟨HΦ, Ho, H0, H1, H2, H3, H4, H5, ⟨%d6, H6⟩, H7, H8⟩
  icases H0 with ⟨%d0, H0⟩
  icases H1 with ⟨%d1, H1⟩
  icases H2 with ⟨%d2, H2⟩
  icases H3 with ⟨%d3, H3⟩
  icases H4 with ⟨%d4, H4⟩
  icases H5 with ⟨%d5, H5⟩
  icases H6 with ⟨%f6, %hf6, H6⟩
  iapply (body_at m c t f6 (yA m c t h) (accAt_A m c t h) (fun f11 f12 K => ?_))
  · exact settled c _ _ _ _ _ _ _ (hstage0_6 ((cfg0.slots t 6).cast nbuf0_6)) sc0 (Memref.isWhole_whole _) sc1 (Memref.isWhole_whole _) _ _ _ _ _ _ _ _ _ _ _ _ K _ ((prA m c t h).2.2.2 f6 f11 f12 Set.univ K)
  unfold owns
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_B (c : Dev nD) (t : Fin cfg0.N) (h : ¬ t.val % 8 = 0) (h2 : t.val % 2 = 0) :
    bodyPre m c t ⊢ wp frame (wpE (defs₀ (F := F)) Variants.none c none) Set.univ (bodyAt0 t) (fun _ => bodyPost m c t) := by
  have hp : t.val - 1 < cfg0.N := lt_of_le_of_lt (Nat.sub_le _ _) t.isLt
  unfold bodyPre
  simp only [before0_0, before0_1, before0_2, before0_3, before0_4, before0_5]
  simp only [before0_6 m c t h hp]
  unfold owns
  iintro ⟨HΦ, Ho, H0, H1, H2, H3, H4, H5, ⟨%d6, H6⟩, H7, H8⟩
  icases H0 with ⟨%d0, H0⟩
  icases H1 with ⟨%d1, H1⟩
  icases H2 with ⟨%d2, H2⟩
  icases H3 with ⟨%d3, H3⟩
  icases H4 with ⟨%d4, H4⟩
  icases H5 with ⟨%d5, H5⟩
  icases H6 with ⟨%f6, %hf6, H6⟩
  rw [show f6 = (hstage0_6 ((cfg0.slots t 6).cast nbuf0_6)).unread (accAt m c (t.val - 1) hp).1 from by rw [← hf6]; exact (Memref.IsWhole.unread_read _ _).symm]
  iapply (body_at m c t ((hstage0_6 ((cfg0.slots t 6).cast nbuf0_6)).unread (accAt m c (t.val - 1) hp).1) (yB m c t h h2 (accAt m c (t.val - 1) hp).1) (accAt_B m c t h h2 hp) (fun f11 f12 K => ?_))
  · exact settled c _ _ _ _ _ _ _ (hstage0_6 ((cfg0.slots t 6).cast nbuf0_6)) sc0 (Memref.isWhole_whole _) sc1 (Memref.isWhole_whole _) _ _ _ _ _ _ _ _ _ _ _ _ K _ ((prB m c t h h2 (accAt m c (t.val - 1) hp).1).2.2.2 f11 f12 Set.univ K)
  unfold owns
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_C (c : Dev nD) (t : Fin cfg0.N) (h : ¬ t.val % 8 = 0) (h2 : ¬ t.val % 2 = 0) :
    bodyPre m c t ⊢ wp frame (wpE (defs₀ (F := F)) Variants.none c none) Set.univ (bodyAt0 t) (fun _ => bodyPost m c t) := by
  have hp : t.val - 1 < cfg0.N := lt_of_le_of_lt (Nat.sub_le _ _) t.isLt
  unfold bodyPre
  simp only [before0_0, before0_1, before0_2, before0_3, before0_4, before0_5]
  simp only [before0_6 m c t h hp]
  unfold owns
  iintro ⟨HΦ, Ho, H0, H1, H2, H3, H4, H5, ⟨%d6, H6⟩, H7, H8⟩
  icases H0 with ⟨%d0, H0⟩
  icases H1 with ⟨%d1, H1⟩
  icases H2 with ⟨%d2, H2⟩
  icases H3 with ⟨%d3, H3⟩
  icases H4 with ⟨%d4, H4⟩
  icases H5 with ⟨%d5, H5⟩
  icases H6 with ⟨%f6, %hf6, H6⟩
  rw [show f6 = (hstage0_6 ((cfg0.slots t 6).cast nbuf0_6)).unread (accAt m c (t.val - 1) hp).1 from by rw [← hf6]; exact (Memref.IsWhole.unread_read _ _).symm]
  iapply (body_at m c t ((hstage0_6 ((cfg0.slots t 6).cast nbuf0_6)).unread (accAt m c (t.val - 1) hp).1) (yC m c t h h2 (accAt m c (t.val - 1) hp).1) (accAt_C m c t h h2 hp) (fun f11 f12 K => ?_))
  · exact settled c _ _ _ _ _ _ _ (hstage0_6 ((cfg0.slots t 6).cast nbuf0_6)) sc0 (Memref.isWhole_whole _) sc1 (Memref.isWhole_whole _) _ _ _ _ _ _ _ _ _ _ _ _ K _ ((prC m c t h h2 (accAt m c (t.val - 1) hp).1).2.2.2 f11 f12 Set.univ K)
  unfold owns
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_A m c t h
  by_cases h2 : t.val % 2 = 0
  · exact sound_B m c t h h2
  exact sound_C m c t h h2

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats m 0 c) defs₀ Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The kernel runs to the end, changes none of its arguments, and leaves no signal. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_main_quiescent m ρ))

end Cert.AttnBwdIdeal.Hand

end
-- ==== Proof.AttnBwdKernel.lean ====
/- The attention backward kernel with its literals: the same run, the named constants read as the literals they stand for. -/
module

public import proofs.«01_k».proof.Defs
public import proofs.«01_k».proof.Proof.AttnBwdFrame
public import proofs.«01_k».proof.Proof.Gen.AttnBwd
public import proofs.«01_k».proof.Proof.Gen.AttnBwdIdeal
public import proofs.«01_k».proof.Proof.Gen.AttnBwdRefIdeal
public import proofs.«01_k».proof.Proof.Gen.AttnBwdRefIdeal.Run
public import Idealize.ShloMosaic.Lib.Claim

@[expose] public section

set_option maxRecDepth 65536

noncomputable section

namespace Cert.AttnBwdKernel

open Idealize.ShloMosaic Idealize.ShloMosaic.TcCoe Idealize.SL.Sem

/-- The named constants as the literals written in the kernel. -/
abbrev literals : Named Bits := ⟨fun _ _ bits => FloatOps.ofBits bits⟩

set_option maxHeartbeats 4000000 in
theorem main_eq : @Cert.AttnBwdIdeal.main Bits _ _ = @Cert.AttnBwd.main Bits _ _ := rfl

set_option maxHeartbeats 4000000 in
/-- The body table with the literals is the kernel's own. -/
theorem body_eq : @Cert.AttnBwdIdeal.defs₀ Bits _ literals _ = @Cert.AttnBwd.defs₀ Bits _ _ := by
  unfold Cert.AttnBwdIdeal.defs₀ Cert.AttnBwd.defs₀
  refine congrArg _ (funext fun l => funext fun x => ?_)
  obtain ⟨l, hl⟩ := l
  cases l with
  | zero => obtain ⟨t, s⟩ := x; rfl
  | succ n => exact absurd hl (by omega)

theorem defs_eq : @Cert.AttnBwdIdeal.defs Bits _ literals _ = @Cert.AttnBwd.defs Bits _ _ := by
  unfold Cert.AttnBwdIdeal.defs Cert.AttnBwd.defs
  rw [body_eq]
  rfl

theorem frame_kernel : Cert.quiescent_AttnBwd := fun m ρ _ => by
  have run := @Cert.AttnBwdIdeal.Hand.frame_all Bits _ literals m ρ
  rw [defs_eq, main_eq] at run
  exact run

theorem frame_ideal : Cert.quiescent_AttnBwdIdeal := fun m ρ _ => Cert.AttnBwdIdeal.Hand.frame_all m ρ

theorem frame_ref : Cert.quiescent_AttnBwdRefIdeal := fun m ρ _ =>
  (θ_run Cert.AttnBwdRefIdeal.defs _ _).mono (fun r h => ⟨fun c => (h c).2.2.2, sem_eq_zero_of_no_sems (by decide) r.2⟩)
    (Cert.AttnBwdRefIdeal.Value.run (F := Ideal) m ρ)

/-- The named constants are what the kernel's table says they are. -/
theorem preserves : Cert.preserves_AttnBwd_AttnBwdIdeal :=
  ⟨IdealRules.named_const.statement _ _ _ _ _ rfl, IdealRules.named_const.statement _ _ _ _ _ rfl⟩

end Cert.AttnBwdKernel

end
-- ==== Proof.AttnBwdTile.lean ====
/- One tile of the attention backward kernel (512 query rows against 512 key rows of one head) as real numbers: the attention
   weights, the gradients of the scores, and what the tile adds to the three gradients. -/
module

public import proofs.«01_k».proof.Proof.Lift
public import proofs.«01_k».proof.Proof.Gen.AttnBwdIdeal.Skeleton
public import Idealize.ShloMosaic.PureOps.IdealRules

@[expose] public section

set_option maxRecDepth 16384

noncomputable section

namespace Cert.AttnBwdIdeal.Tile

open Cert.AttnBwdIdeal Cert.AttnBwdIdeal.Gen Idealize.ShloMosaic Cert.Lift

/-- The two factors of the scores: the number the float word of 1/√96 is, and the same in base two. -/
def scale : ℝ := 3424635 / 33554432
def scale2 : ℝ := 3424635 / 33554432 * (Real.log 2)⁻¹

theorem scale2_pos : 0 < scale2 := by
  have h := Real.log_pos (by norm_num : (1 : ℝ) < 2)
  unfold scale2; positivity

theorem nscale : Ideal.ofBits .f32 0x3DD105EC#32 = ((scale : ℝ) : EReal) := by
  simp [Ideal.ofBits, Ideal.ieee, -EReal.coe_mul]; norm_num [scale]
theorem nscale2 : Named.named (F := Ideal) (φ := .f32) κ "scale2" 0x3E16C740#32 = ((scale2 : ℝ) : EReal) := IdealRules.named_const.ideal_named_scalar _ _ _ _ rfl
theorem nmask : Named.named (F := Ideal) (φ := .f32) κ "mask" 0xF149F2CA#32 = (⊥ : EReal) := IdealRules.named_const.ideal_named_scalar _ _ _ _ rfl

/-- The chunk of a row inside its tile, as a word. -/
theorem chunk_word : ∀ n : Fin 512, IntOp.shrsi .vector (BitVec.ofNat 32 n) 6#32 = BitVec.ofNat 32 (n.val / 64) := by decide +kernel
theorem chunk_le : ∀ a b : Fin 8, IntOp.cmpi .sle (BitVec.ofNat 32 a) (BitVec.ofNat 32 b) = BitVec.ofBool (decide (a.val ≤ b.val)) := by decide +kernel

theorem exp2_real (x : ℝ) : FloatOps.exp2 (F := Ideal) (φ := .f32) (x : EReal) = ((Real.rpow 2 x : ℝ) : EReal) := rfl
theorem exp2_bot : FloatOps.exp2 (F := Ideal) (φ := .f32) (⊥ : EReal) = 0 := rfl

variable {F : FTy → Type} [FloatOps F] [Named F]

abbrev cs {φ : FTy} (x : FVec F S512x128 φ) : FVec F S512x128 φ := shapeCast S512x128 x shapeCasts_S512x128_S512x128
abbrev cs2 {φ : FTy} (x : FVec F S1024x128 φ) : FVec F S1024x128 φ := shapeCast S1024x128 x shapeCasts_S1024x128_S1024x128

/-- The scores of a tile times the base-two factor. -/
abbrev scores (q k : FVec F S512x128 .bf16) : FVec F S512x512 .f32 :=
  matmul dot_S512x128_S512x128_S512x512_1_1_0_0_n_n none (cs q) (cs k) (constant S512x512 .f32 0x00000000#32)

abbrev colOf (l : FVec F S1x512x1 .f32) : FVec F S512x512 .f32 :=
  broadcastTo S512x512 (shapeCast S512x1 l shapeCasts_S1x512x1_S512x1) broadcasts_S512x1_S512x512

/-- The attention weights of a tile below the diagonal. -/
abbrev PU (q k : FVec F S512x128 .bf16) (l : FVec F S1x512x1 .f32) : FVec F S512x512 .f32 :=
  exp2 (subf (mulf (scores q k) (broadcast S512x512 (Named.named κ "scale2" 0x3E16C740#32))) (colOf l))

/-- The attention weights of a tile on the diagonal. -/
abbrev PM (q k : FVec F S512x128 .bf16) (l : FVec F S1x512x1 .f32) : FVec F S512x512 .f32 :=
  exp2 (subf (mulf (select (cmpi .sle (shrsi (iota .tc S512x512 32 [1] iota_S512x512_d1_w32) (broadcast S512x512 6#32))
      (shrsi (addi (broadcast S512x512 0#32) (iota .tc S512x512 32 [0] iota_S512x512_d0_w32)) (broadcast S512x512 6#32)))
    (scores q k) (broadcast S512x512 (Named.named κ "mask" 0xF149F2CA#32))) (broadcast S512x512 (Named.named κ "scale2" 0x3E16C740#32))) (colOf l))

/-- The gradient of a tile's scores. -/
abbrev DS (p : FVec F S512x512 .f32) (g v : FVec F S512x128 .bf16) (d : FVec F S1x512x1 .f32) : FVec F S512x512 .bf16 :=
  truncf .bf16 (mulf p (subf (scores g v) (colOf d))) bitsLt_bf16_f32

/-- The query gradient with a tile's contribution added. -/
abbrev newQ (s : FVec F S512x512 .bf16) (k : FVec F S512x128 .bf16) (y : FVec F S512x128 .f32) : FVec F S512x128 .f32 :=
  addf (cs y) (mulf (matmul dot_S512x512_S512x128_S512x128_1_0_0_1_n_n none s (cs k) (constant S512x128 .f32 0x00000000#32))
    (constant S512x128 .f32 0x3DD105EC#32))

/-- A key-side sum with the contribution of one tile added, -/
abbrev acc1 (p : FVec F S512x512 .bf16) (x : FVec F S512x128 .bf16) (y : FVec F S1x512x128 .f32) : FVec F S1x512x128 .f32 :=
  shapeCast S1x512x128 (addf (shapeCast S512x128 y shapeCasts_S1x512x128_S512x128)
    (matmul dot_S512x512_S512x128_S512x128_0_0_1_1_n_n none p (cs x) (constant S512x128 .f32 0x00000000#32))) shapeCasts_S512x128_S1x512x128

/-- and of two tiles, one below the other. -/
abbrev acc2 (p p' : FVec F S512x512 .bf16) (x : FVec F S1024x128 .bf16) (y : FVec F S1x512x128 .f32) : FVec F S1x512x128 .f32 :=
  shapeCast S1x512x128 (addf (shapeCast S512x128 y shapeCasts_S1x512x128_S512x128)
    (matmul dot_S1024x512_S1024x128_S512x128_0_0_1_1_n_n none
      (concatenate S1024x512 0 [⟨S512x512, p⟩, ⟨S512x512, p'⟩] concatenates_S512x512_S512x512_S1024x512_d0) (cs2 x) (constant S512x128 .f32 0x00000000#32)))
    shapeCasts_S512x128_S1x512x128

/-! ## As real numbers -/

/-- The product of two rows of 128 lanes. -/
def dot (x y : Fin 128 → ℝ) : ℝ := ∑ l, x l * y l

theorem scores_real {q k : FVec Ideal S512x128 .bf16} {Q K : Fin 512 → Fin 128 → ℝ} (hq : ∀ r l, q (ix2 r l) = ((Q r l : ℝ) : EReal))
    (hk : ∀ r l, k (ix2 r l) = ((K r l : ℝ) : EReal)) (r t : Fin 512) : scores q k (ix2 r t) = ((dot (Q r) (K t) : ℝ) : EReal) := by
  pointwise [scores, hq, hk]
  simp only [← EReal.coe_mul, sum_coe, dot]

theorem PU_real {q k : FVec Ideal S512x128 .bf16} {l : FVec Ideal S1x512x1 .f32} {Q K : Fin 512 → Fin 128 → ℝ} {L : Fin 512 → ℝ}
    (hq : ∀ r l, q (ix2 r l) = ((Q r l : ℝ) : EReal)) (hk : ∀ r l, k (ix2 r l) = ((K r l : ℝ) : EReal)) (hl : ∀ r, l (ix3 0 r 0) = ((L r : ℝ) : EReal))
    (r t : Fin 512) : PU q k l (ix2 r t) = ((Real.rpow 2 (dot (Q r) (K t) * scale2 - L r) : ℝ) : EReal) := by
  pointwise [PU, hq, hk, hl]
  simp only [← EReal.coe_mul, sum_coe, nscale2, ← EReal.coe_sub, exp2_real, dot]

theorem PM_real {q k : FVec Ideal S512x128 .bf16} {l : FVec Ideal S1x512x1 .f32} {Q K : Fin 512 → Fin 128 → ℝ} {L : Fin 512 → ℝ}
    (hq : ∀ r l, q (ix2 r l) = ((Q r l : ℝ) : EReal)) (hk : ∀ r l, k (ix2 r l) = ((K r l : ℝ) : EReal)) (hl : ∀ r, l (ix3 0 r 0) = ((L r : ℝ) : EReal))
    (r t : Fin 512) : PM q k l (ix2 r t) = ((if t.val / 64 ≤ r.val / 64 then Real.rpow 2 (dot (Q r) (K t) * scale2 - L r) else 0 : ℝ) : EReal) := by
  pointwise [PM, hq, hk, hl]
  rw [show IntOp.addi 0#32 (BitVec.ofNat 32 r.val) = BitVec.ofNat 32 r.val from BitVec.zero_add _, chunk_word t, chunk_word r,
    chunk_le ⟨t.val / 64, by omega⟩ ⟨r.val / 64, by omega⟩]
  by_cases h : t.val / 64 ≤ r.val / 64
  · simp only [h, decide_true, if_true, Scalar.select, ← EReal.coe_mul, sum_coe, nscale2, ← EReal.coe_sub, dot]
    exact exp2_real _
  · simp only [h, decide_false, if_false, Scalar.select, nscale2, nmask]
    rw [if_neg (by decide : ¬ (BitVec.ofBool false = 1)), EReal.bot_mul_coe_of_pos scale2_pos, EReal.bot_sub]
    exact exp2_bot.trans EReal.coe_zero.symm

theorem DS_real {p : FVec Ideal S512x512 .f32} {g v : FVec Ideal S512x128 .bf16} {d : FVec Ideal S1x512x1 .f32} {P : Fin 512 → Fin 512 → ℝ} {G V : Fin 512 → Fin 128 → ℝ} {D : Fin 512 → ℝ}
    (hp : ∀ r t, p (ix2 r t) = ((P r t : ℝ) : EReal)) (hg : ∀ r l, g (ix2 r l) = ((G r l : ℝ) : EReal)) (hv : ∀ r l, v (ix2 r l) = ((V r l : ℝ) : EReal))
    (hd : ∀ r, d (ix3 0 r 0) = ((D r : ℝ) : EReal)) (r t : Fin 512) : DS p g v d (ix2 r t) = ((P r t * (dot (G r) (V t) - D r) : ℝ) : EReal) := by
  pointwise [DS, hp, hg, hv, hd]
  simp only [← EReal.coe_mul, sum_coe, ← EReal.coe_sub, dot]

theorem newQ_real {s : FVec Ideal S512x512 .bf16} {k : FVec Ideal S512x128 .bf16} {y : FVec Ideal S512x128 .f32} {U : Fin 512 → Fin 512 → ℝ} {K Y : Fin 512 → Fin 128 → ℝ}
    (hs : ∀ r t, s (ix2 r t) = ((U r t : ℝ) : EReal)) (hk : ∀ r l, k (ix2 r l) = ((K r l : ℝ) : EReal)) (hy : ∀ r l, y (ix2 r l) = ((Y r l : ℝ) : EReal))
    (r : Fin 512) (l : Fin 128) : newQ s k y (ix2 r l) = ((Y r l + (∑ t, U r t * K t l) * scale : ℝ) : EReal) := by
  pointwise [newQ, hs, hk, hy]
  simp only [← EReal.coe_mul, sum_coe, nscale, ← EReal.coe_add]

theorem acc1_real {p : FVec Ideal S512x512 .bf16} {x : FVec Ideal S512x128 .bf16} {y : FVec Ideal S1x512x128 .f32} {P : Fin 512 → Fin 512 → ℝ} {X Y : Fin 512 → Fin 128 → ℝ}
    (hp : ∀ r t, p (ix2 r t) = ((P r t : ℝ) : EReal)) (hx : ∀ r l, x (ix2 r l) = ((X r l : ℝ) : EReal)) (hy : ∀ r l, y (ix3 0 r l) = ((Y r l : ℝ) : EReal))
    (t : Fin 512) (l : Fin 128) : acc1 p x y (ix3 0 t l) = ((Y t l + ∑ r, P r t * X r l : ℝ) : EReal) := by
  pointwise [acc1, hp, hx, hy]
  simp only [← EReal.coe_mul, sum_coe, ← EReal.coe_add]

theorem acc2_real {p p' : FVec Ideal S512x512 .bf16} {x : FVec Ideal S1024x128 .bf16} {y : FVec Ideal S1x512x128 .f32} {P P' : Fin 512 → Fin 512 → ℝ} {X : Fin 1024 → Fin 128 → ℝ} {Y : Fin 512 → Fin 128 → ℝ}
    (hp : ∀ r t, p (ix2 r t) = ((P r t : ℝ) : EReal)) (hp' : ∀ r t, p' (ix2 r t) = ((P' r t : ℝ) : EReal)) (hx : ∀ r l, x (ix2 r l) = ((X r l : ℝ) : EReal)) (hy : ∀ r l, y (ix3 0 r l) = ((Y r l : ℝ) : EReal))
    (t : Fin 512) (l : Fin 128) : acc2 p p' x y (ix3 0 t l)
      = ((Y t l + (∑ r : Fin 512, P r t * X ⟨r, by omega⟩ l + ∑ r : Fin 512, P' r t * X ⟨512 + r, by omega⟩ l) : ℝ) : EReal) := by
  pointwise [acc2, hx, hy]
  simp only [hp, hp', ← EReal.coe_mul, sum_coe, ← EReal.coe_add]

end Cert.AttnBwdIdeal.Tile

end
-- ==== Proof.AttnBwdStep.lean ====
/- What one trip and one prologue of the attention backward kernel do to the three gradients, as real numbers. -/
module

public import proofs.«01_k».proof.Proof.AttnBwdFrame
public import proofs.«01_k».proof.Proof.AttnBwdTile

@[expose] public section

set_option maxRecDepth 16384

noncomputable section

namespace Cert.AttnBwdIdeal.Step

open Idealize.ShloMosaic Idealize.ShloMosaic.TcCoe Idealize.ShloMosaic.Tactic
open Cert.AttnBwdIdeal Cert.AttnBwdIdeal.Gen Cert.AttnBwdIdeal.Hand Cert.AttnBwdIdeal.Tile Cert.Lift

/-! ## Reading what was written -/

section reads

variable {sig : RefSig} {κ : Kind} {sp : Space} {e : EltTy} {Val : EltTy → Type}

/-- A load of a rectangle of a whole matrix, at one entry. -/
theorem rd2 {R C : ℕ} {a : Memref sig κ sp ⟨2, ![R, C]⟩ e} (h : a.IsWhole) (x : (⟨2, ![R, C]⟩ : Shape).Idx → Val e) {off : Fin 2 → ℕ}
    (o p : ℕ) {r c : ℕ} (eo : off = ![o, p]) (inb : ∀ a, off a + (![r, c] : Fin 2 → ℕ) a ≤ (⟨2, ![R, C]⟩ : Shape).size a)
    (i : Fin r) (j : Fin c) (i' : Fin R) (j' : Fin C) (hi : i'.val = o + i) (hj : j'.val = p + j) :
    a.view.readAt Val (Rect.unit (s := ⟨2, ![R, C]⟩) off ![r, c] inb).toLoadRect (h.unread x) (ix2 i j) = x (ix2 i' j') := by
  subst eo
  rw [View.readAt_eq_ld, h.read_unread]
  exact ld2 x o p inb i j i' j' hi hj

theorem rd3 {Q R C : ℕ} {a : Memref sig κ sp ⟨3, ![Q, R, C]⟩ e} (h : a.IsWhole) (x : (⟨3, ![Q, R, C]⟩ : Shape).Idx → Val e) {off : Fin 3 → ℕ}
    (n o p : ℕ) {q r c : ℕ} (eo : off = ![n, o, p]) (inb : ∀ a, off a + (![q, r, c] : Fin 3 → ℕ) a ≤ (⟨3, ![Q, R, C]⟩ : Shape).size a)
    (g : Fin q) (i : Fin r) (j : Fin c) (g' : Fin Q) (i' : Fin R) (j' : Fin C) (hg : g'.val = n + g) (hi : i'.val = o + i) (hj : j'.val = p + j) :
    a.view.readAt Val (Rect.unit (s := ⟨3, ![Q, R, C]⟩) off ![q, r, c] inb).toLoadRect (h.unread x) (ix3 g i j) = x (ix3 g' i' j') := by
  subst eo
  rw [View.readAt_eq_ld, h.read_unread]
  exact ld3 x n o p inb g i j g' i' j' hg hi hj

end reads

/-! ## The blocks of a point -/

/-- The lane of a head of the pair, -/
def col (hh : Fin 2) (l : Fin 128) : Fin 256 := ⟨128 * hh.val + l.val, by omega⟩
/-- the head of a lane, -/
def hd (c : Fin 256) : Fin 2 := ⟨c.val / 128, by omega⟩
/-- and a row of a query tile. -/
def row (n : ℕ) (r : Fin 512) : Fin 4096 := ⟨(512 * n + r.val) % 4096, Nat.mod_lt _ (by norm_num)⟩

theorem hd_col (hh : Fin 2) (l : Fin 128) : hd (col hh l) = hh := Fin.ext (show (128 * hh.val + l.val) / 128 = hh.val by omega)
theorem row_val {n : ℕ} (hn : n < 8) (r : Fin 512) : (row n r).val = 512 * n + r.val := Nat.mod_eq_of_lt (by omega)

/-- The six blocks a point reads, as real arrays. -/
structure Blk where
  Q : Fin 4096 → Fin 256 → ℝ
  K : Fin 512 → Fin 256 → ℝ
  V : Fin 512 → Fin 256 → ℝ
  G : Fin 4096 → Fin 256 → ℝ
  L : Fin 2 → Fin 4096 → ℝ
  D : Fin 2 → Fin 4096 → ℝ

structure Blk.Holds (b : Blk) (x0 : Vec Ideal S4096x256 .bf16) (x1 x2 : Vec Ideal S512x256 .bf16) (x3 : Vec Ideal S4096x256 .bf16) (x4 x5 : Vec Ideal S2x4096x1 .f32) : Prop where
  q : ∀ s c, x0 (ix2 s c) = ((b.Q s c : ℝ) : EReal)
  k : ∀ s c, x1 (ix2 s c) = ((b.K s c : ℝ) : EReal)
  v : ∀ s c, x2 (ix2 s c) = ((b.V s c : ℝ) : EReal)
  g : ∀ s c, x3 (ix2 s c) = ((b.G s c : ℝ) : EReal)
  l : ∀ h s, x4 (ix3 h s 0) = ((b.L h s : ℝ) : EReal)
  d : ∀ h s, x5 (ix3 h s 0) = ((b.D h s : ℝ) : EReal)

/-- The weight of a key row for a query row when the mask lets it through, -/
def Blk.w (b : Blk) (hh : Fin 2) (s : Fin 4096) (t : Fin 512) : ℝ :=
  Real.rpow 2 (dot (fun l => b.Q s (col hh l)) (fun l => b.K t (col hh l)) * scale2 - b.L hh s)

/-- with the mask, for key tile `j`, -/
def Blk.P (b : Blk) (j : ℕ) (hh : Fin 2) (s : Fin 4096) (t : Fin 512) : ℝ := if 8 * j + t.val / 64 ≤ s.val / 64 then b.w hh s t else 0

/-- and the gradient of the score. -/
def Blk.U (b : Blk) (j : ℕ) (hh : Fin 2) (s : Fin 4096) (t : Fin 512) : ℝ :=
  b.P j hh s t * (dot (fun l => b.G s (col hh l)) (fun l => b.V t (col hh l)) - b.D hh s)

/-- What key tile `j` adds to the query gradient at one of its rows, -/
def Blk.dq (b : Blk) (j : ℕ) (s : Fin 4096) (c : Fin 256) : ℝ := (∑ t, b.U j (hd c) s t * b.K t c) * scale
/-- and what query tile `n` adds to the two key-side sums. -/
def Blk.dk (b : Blk) (j n : ℕ) (hh : Fin 2) (t : Fin 512) (l : Fin 128) : ℝ := ∑ r, b.U j hh (row n r) t * b.Q (row n r) (col hh l)
def Blk.dv (b : Blk) (j n : ℕ) (hh : Fin 2) (t : Fin 512) (l : Fin 128) : ℝ := ∑ r, b.P j hh (row n r) t * b.G (row n r) (col hh l)

/-- An array with a term added on the rows of the query tiles from `lo` up to `hi`. -/
def upd (A δ : Fin 4096 → Fin 256 → ℝ) (lo hi : ℕ) (s : Fin 4096) (c : Fin 256) : ℝ := if 512 * lo ≤ s.val ∧ s.val < 512 * hi then A s c + δ s c else A s c

/-! ## One tile -/

/-- The loads of one query tile and one head. -/
structure Tile (b : Blk) (n : ℕ) (hh : Fin 2) (q k g v : FVec Ideal S512x128 .bf16) (l d : FVec Ideal S1x512x1 .f32) : Prop where
  q : ∀ r c, q (ix2 r c) = ((b.Q (row n r) (col hh c) : ℝ) : EReal)
  k : ∀ r c, k (ix2 r c) = ((b.K r (col hh c) : ℝ) : EReal)
  g : ∀ r c, g (ix2 r c) = ((b.G (row n r) (col hh c) : ℝ) : EReal)
  v : ∀ r c, v (ix2 r c) = ((b.V r (col hh c) : ℝ) : EReal)
  l : ∀ r, l (ix3 0 r 0) = ((b.L hh (row n r) : ℝ) : EReal)
  d : ∀ r, d (ix3 0 r 0) = ((b.D hh (row n r) : ℝ) : EReal)

section tile

variable {b : Blk} {n j : ℕ} {hh : Fin 2} {q k g v : FVec Ideal S512x128 .bf16} {l d : FVec Ideal S1x512x1 .f32}

theorem Tile.low (T : Tile b n hh q k g v l d) (hj : j < n) (hn : n < 8) (r t : Fin 512) : PU q k l (ix2 r t) = ((b.P j hh (row n r) t : ℝ) : EReal) := by
  have h : 8 * j + t.val / 64 ≤ (row n r).val / 64 := by rw [row_val hn]; omega
  rw [PU_real T.q T.k T.l r t, Blk.P, if_pos h]; rfl

theorem Tile.diag (T : Tile b n hh q k g v l d) (hn : n < 8) (r t : Fin 512) : PM q k l (ix2 r t) = ((b.P n hh (row n r) t : ℝ) : EReal) := by
  have h : (8 * n + t.val / 64 ≤ (row n r).val / 64) = (t.val / 64 ≤ r.val / 64) := by rw [row_val hn]; exact propext ⟨fun _ => by omega, fun _ => by omega⟩
  rw [PM_real T.q T.k T.l r t, Blk.P]; simp only [h]; rfl

theorem Tile.ds (T : Tile b n hh q k g v l d) {p : FVec Ideal S512x512 .f32} (hp : ∀ r t, p (ix2 r t) = ((b.P j hh (row n r) t : ℝ) : EReal)) (r t : Fin 512) :
    DS p g v d (ix2 r t) = ((b.U j hh (row n r) t : ℝ) : EReal) := DS_real hp T.g T.v T.d r t

theorem Tile.dq (T : Tile b n hh q k g v l d) {p : FVec Ideal S512x512 .f32} (hp : ∀ r t, p (ix2 r t) = ((b.P j hh (row n r) t : ℝ) : EReal))
    {A : Fin 4096 → Fin 256 → ℝ} {y : FVec Ideal S512x128 .f32} (hy : ∀ r c, y (ix2 r c) = ((A (row n r) (col hh c) : ℝ) : EReal))
    {lo hi : ℕ} (hlo : lo ≤ n) (hhi : n < hi) (hn : n < 8) (r : Fin 512) (c : Fin 128) :
    newQ (DS p g v d) k y (ix2 r c) = ((upd A (b.dq j) lo hi (row n r) (col hh c) : ℝ) : EReal) := by
  have h : 512 * lo ≤ (row n r).val ∧ (row n r).val < 512 * hi := by rw [row_val hn]; omega
  rw [newQ_real (T.ds hp) T.k hy r c, upd, if_pos h, Blk.dq, hd_col]

theorem Tile.dk (T : Tile b n hh q k g v l d) {p : FVec Ideal S512x512 .f32} (hp : ∀ r t, p (ix2 r t) = ((b.P j hh (row n r) t : ℝ) : EReal))
    {B : Fin 512 → Fin 128 → ℝ} {y : FVec Ideal S1x512x128 .f32} (hy : ∀ t c, y (ix3 0 t c) = ((B t c : ℝ) : EReal)) (t : Fin 512) (c : Fin 128) :
    acc1 (DS p g v d) q y (ix3 0 t c) = ((B t c + b.dk j n hh t c : ℝ) : EReal) := acc1_real (T.ds hp) T.q hy t c

theorem Tile.dv (T : Tile b n hh q k g v l d) {p : FVec Ideal S512x512 .f32} (hp : ∀ r t, p (ix2 r t) = ((b.P j hh (row n r) t : ℝ) : EReal))
    {B : Fin 512 → Fin 128 → ℝ} {y : FVec Ideal S1x512x128 .f32} (hy : ∀ t c, y (ix3 0 t c) = ((B t c : ℝ) : EReal)) (t : Fin 512) (c : Fin 128) :
    acc1 (truncf .bf16 p bitsLt_bf16_f32) g y (ix3 0 t c) = ((B t c + b.dv j n hh t c : ℝ) : EReal) := acc1_real hp T.g hy t c

/-- A row of two query tiles, one below the other. -/
def row2 (n : ℕ) (r : Fin 1024) : Fin 4096 := ⟨(512 * n + r.val) % 4096, Nat.mod_lt _ (by norm_num)⟩
theorem row2_lo (n : ℕ) (r : Fin 512) : row2 n ⟨r.val, by omega⟩ = row n r := rfl
theorem row2_hi (n : ℕ) (r : Fin 512) : row2 n ⟨512 + r.val, by omega⟩ = row (n + 1) r :=
  Fin.ext (congrArg (· % 4096) (show 512 * n + (512 + r.val) = 512 * (n + 1) + r.val by omega))

theorem Tile.dk2 (T : Tile b n hh q k g v l d) {q' g' : FVec Ideal S512x128 .bf16} {l' d' : FVec Ideal S1x512x1 .f32} (T' : Tile b (n + 1) hh q' k g' v l' d')
    {p p' : FVec Ideal S512x512 .f32} (hp : ∀ r t, p (ix2 r t) = ((b.P j hh (row n r) t : ℝ) : EReal)) (hp' : ∀ r t, p' (ix2 r t) = ((b.P j hh (row (n + 1) r) t : ℝ) : EReal))
    {x : FVec Ideal S1024x128 .bf16} (hx : ∀ r c, x (ix2 r c) = ((b.Q (row2 n r) (col hh c) : ℝ) : EReal))
    {B : Fin 512 → Fin 128 → ℝ} {y : FVec Ideal S1x512x128 .f32} (hy : ∀ t c, y (ix3 0 t c) = ((B t c : ℝ) : EReal)) (t : Fin 512) (c : Fin 128) :
    acc2 (DS p g v d) (DS p' g' v d') x y (ix3 0 t c) = ((B t c + (b.dk j n hh t c + b.dk j (n + 1) hh t c) : ℝ) : EReal) := by
  rw [acc2_real (T.ds hp) (T'.ds hp') hx hy t c]
  simp only [row2_lo, row2_hi]; rfl

theorem dv2 {p p' : FVec Ideal S512x512 .f32} (hp : ∀ r t, p (ix2 r t) = ((b.P j hh (row n r) t : ℝ) : EReal)) (hp' : ∀ r t, p' (ix2 r t) = ((b.P j hh (row (n + 1) r) t : ℝ) : EReal))
    {x : FVec Ideal S1024x128 .bf16} (hx : ∀ r c, x (ix2 r c) = ((b.G (row2 n r) (col hh c) : ℝ) : EReal))
    {B : Fin 512 → Fin 128 → ℝ} {y : FVec Ideal S1x512x128 .f32} (hy : ∀ t c, y (ix3 0 t c) = ((B t c : ℝ) : EReal)) (t : Fin 512) (c : Fin 128) :
    acc2 (truncf .bf16 p bitsLt_bf16_f32) (truncf .bf16 p' bitsLt_bf16_f32) x y (ix3 0 t c) = ((B t c + (b.dv j n hh t c + b.dv j (n + 1) hh t c) : ℝ) : EReal) := by
  rw [acc2_real (p := truncf .bf16 p bitsLt_bf16_f32) (p' := truncf .bf16 p' bitsLt_bf16_f32) hp hp' hx hy t c]
  simp only [row2_lo, row2_hi]; rfl

end tile

/-! ## The pieces written -/

section pieces

/-- A piece of the query gradient, at the entries it holds. -/
theorem piece2 {A : Fin 4096 → Fin 256 → ℝ} {n : ℕ} {hh : Fin 2} {off : Fin 2 → ℕ} (eo : off = ![512 * n, 128 * hh.val]) (hn : n < 8)
    {inb : ∀ a, off a + (![512, 128] : Fin 2 → ℕ) a ≤ S4096x256.size a} {v : FVec Ideal S512x128 .f32} (hv : ∀ r l, v (ix2 r l) = ((A (row n r) (col hh l) : ℝ) : EReal)) :
    ∀ x : (Rect.unit (s := S4096x256) off ![512, 128] inb).shape.Idx, v x
      = ((A ((Rect.unit (s := S4096x256) off ![512, 128] inb).emb x 0) ((Rect.unit (s := S4096x256) off ![512, 128] inb).emb x 1) : ℝ) : EReal) := by
  subst eo
  intro x
  idx_vars x
  refine (hv x0 x1).trans (congrArg Real.toEReal (congrArg₂ A (Fin.ext ?_) (Fin.ext ?_)))
  · exact (row_val hn x0).trans (congrArg (512 * n + ·) (one_mul x0.val).symm)
  · exact congrArg (128 * hh.val + ·) (one_mul x1.val).symm

theorem mem2 {n : ℕ} {hh : Fin 2} {off : Fin 2 → ℕ} (eo : off = ![512 * n, 128 * hh.val]) {inb : ∀ a, off a + (![512, 128] : Fin 2 → ℕ) a ≤ S4096x256.size a} (s : Fin 4096) (c : Fin 256) :
    (ix2 s c : S4096x256.Idx) ∈ (Rect.unit (s := S4096x256) off ![512, 128] inb).set ↔ (512 * n ≤ s.val ∧ s.val < 512 * n + 512) ∧ (128 * hh.val ≤ c.val ∧ c.val < 128 * hh.val + 128) := by
  subst eo
  rw [Rect.mem_set_unit, Fin.forall_fin_two]
  exact Iff.rfl

variable {a : Memref sig .tc .vmem S4096x256 .f32} (h : a.IsWhole) (y : Vec Ideal S4096x256 .f32) {A : Fin 4096 → Fin 256 → ℝ}

/-- The query gradient after a list of pieces. -/
theorem settle2 (L : List (View.Piece (Elt Ideal) S4096x256 .f32)) (hL : ∀ p ∈ L, ∀ x : p.1.shape.Idx, p.2 x = ((A (p.1.emb x 0) (p.1.emb x 1) : ℝ) : EReal))
    (hc : ∀ s c, (∃ p ∈ L, (ix2 s c : S4096x256.Idx) ∈ p.1.set) ∨ y (ix2 s c) = ((A s c : ℝ) : EReal)) (s : Fin 4096) (c : Fin 256) :
    a.view.read (Elt Ideal) (a.view.writes (Elt Ideal) (h.unread y) L) (ix2 s c) = ((A s c : ℝ) : EReal) := by
  by_cases hm : ∃ p ∈ L, (ix2 s c : S4096x256.Idx) ∈ p.1.set
  · exact View.read_writes_apply_of_pieces a.view _ (fun i => ((A (i 0) (i 1) : ℝ) : EReal)) L hL (ix2 s c) hm
  · rw [View.read_writes_apply_of_forall_not_mem a.view _ _ L (fun p hp hs => hm ⟨p, hp, hs⟩), h.read_unread]
    exact (hc s c).resolve_left hm

/-- A load of the query gradient through pieces that lie elsewhere. -/
theorem through (L : List (View.Piece (Elt Ideal) S4096x256 .f32)) (hy : ∀ s c, y (ix2 s c) = ((A s c : ℝ) : EReal)) {n : ℕ} {hh : Fin 2} {off : Fin 2 → ℕ} (eo : off = ![512 * n, 128 * hh.val]) (hn : n < 8)
    {inb : ∀ a, off a + (![512, 128] : Fin 2 → ℕ) a ≤ S4096x256.size a} (hd : ∀ p ∈ L, ∀ r l, (ix2 (row n r) (col hh l) : S4096x256.Idx) ∉ p.1.set) (r : Fin 512) (l : Fin 128) :
    a.view.readAt (Elt Ideal) (Rect.unit (s := S4096x256) off ![512, 128] inb).toLoadRect (a.view.writes (Elt Ideal) (h.unread y) L) (ix2 r l) = ((A (row n r) (col hh l) : ℝ) : EReal) := by
  subst eo
  rw [View.readAt_eq_ld]
  refine (ld2 _ (512 * n) (128 * hh.val) inb r l (row n r) (col hh l) (row_val hn r) rfl).trans ?_
  rw [View.read_writes_apply_of_forall_not_mem a.view _ _ L (fun p hp => hd p hp r l), h.read_unread]
  exact hy _ _

/-- A key-side sum after its two heads' pieces. -/
theorem settle3 {a : Memref sig .tc .vmem S2x512x128 .f32} (f : a.view.ty.Contents (Elt Ideal)) {B : Fin 2 → Fin 512 → Fin 128 → ℝ} {inb0 inb1} {v0 v1 : FVec Ideal S1x512x128 .f32}
    (h0 : ∀ t l, v0 (ix3 0 t l) = ((B 0 t l : ℝ) : EReal)) (h1 : ∀ t l, v1 (ix3 0 t l) = ((B 1 t l : ℝ) : EReal)) (hh : Fin 2) (t : Fin 512) (l : Fin 128) :
    a.view.read (Elt Ideal) (a.view.writes (Elt Ideal) f [⟨Rect.unit (s := S2x512x128) ![1, 0, 0] ![1, 512, 128] inb1, v1⟩, ⟨Rect.unit (s := S2x512x128) ![0, 0, 0] ![1, 512, 128] inb0, v0⟩]) (ix3 hh t l)
      = ((B hh t l : ℝ) : EReal) := by
  refine View.read_writes_apply_of_pieces (Val := Elt Ideal) (e := .f32) a.view _ (fun i => (((B (i 0) (i 1) (i 2) : ℝ) : EReal) : Elt Ideal .f32)) _ ?_ (ix3 hh t l) ?_
  · intro p hp
    rcases List.mem_cons.mp hp with rfl | hp
    · intro x
      idx_vars x
      obtain rfl : x0 = (0 : Fin 1) := Subsingleton.elim (α := Fin 1) x0 0
      refine (h1 x1 x2).trans (congrArg Real.toEReal (congr (congrArg₂ B (Fin.ext ?_) (Fin.ext ?_)) (Fin.ext ?_)))
      · rfl
      · exact (by omega : x1.val = 0 + 1 * x1.val)
      · exact (by omega : x2.val = 0 + 1 * x2.val)
    · obtain rfl := List.mem_singleton.mp hp
      intro x
      idx_vars x
      obtain rfl : x0 = (0 : Fin 1) := Subsingleton.elim (α := Fin 1) x0 0
      refine (h0 x1 x2).trans (congrArg Real.toEReal (congr (congrArg₂ B (Fin.ext ?_) (Fin.ext ?_)) (Fin.ext ?_)))
      · rfl
      · exact (by omega : x1.val = 0 + 1 * x1.val)
      · exact (by omega : x2.val = 0 + 1 * x2.val)
  · fin_cases hh
    · refine ⟨_, List.mem_cons_of_mem _ (List.mem_singleton_self _), (Rect.mem_set_unit (inb := inb0)).mpr fun a => ?_⟩
      fin_cases a
      · exact ⟨le_rfl, Nat.one_pos⟩
      · exact ⟨Nat.zero_le _, t.isLt⟩
      · exact ⟨Nat.zero_le _, l.isLt⟩
    · refine ⟨_, List.mem_cons_self, (Rect.mem_set_unit (inb := inb1)).mpr fun a => ?_⟩
      fin_cases a
      · exact ⟨le_rfl, Nat.lt_succ_self _⟩
      · exact ⟨Nat.zero_le _, t.isLt⟩
      · exact ⟨Nat.zero_le _, l.isLt⟩

/-- The query gradient after the four pieces of a tile pair, -/
theorem settle4 (hy : ∀ s c, y (ix2 s c) = ((A s c : ℝ) : EReal)) {δ : Fin 4096 → Fin 256 → ℝ} {n : ℕ} (hn : n + 1 < 8) {o00 o01 o10 o11 : Fin 2 → ℕ}
    (e00 : o00 = ![512 * n, 128 * (0 : Fin 2).val]) (e01 : o01 = ![512 * (n + 1), 128 * (0 : Fin 2).val]) (e10 : o10 = ![512 * n, 128 * (1 : Fin 2).val]) (e11 : o11 = ![512 * (n + 1), 128 * (1 : Fin 2).val])
    {i00 i01 i10 i11} {v00 v01 v10 v11 : FVec Ideal S512x128 .f32}
    (h00 : ∀ r l, v00 (ix2 r l) = ((upd A δ n (n + 2) (row n r) (col 0 l) : ℝ) : EReal)) (h01 : ∀ r l, v01 (ix2 r l) = ((upd A δ n (n + 2) (row (n + 1) r) (col 0 l) : ℝ) : EReal))
    (h10 : ∀ r l, v10 (ix2 r l) = ((upd A δ n (n + 2) (row n r) (col 1 l) : ℝ) : EReal)) (h11 : ∀ r l, v11 (ix2 r l) = ((upd A δ n (n + 2) (row (n + 1) r) (col 1 l) : ℝ) : EReal)) (s : Fin 4096) (c : Fin 256) :
    a.view.read (Elt Ideal) (a.view.writes (Elt Ideal) (h.unread y) [⟨Rect.unit (s := S4096x256) o11 ![512, 128] i11, v11⟩, ⟨Rect.unit (s := S4096x256) o10 ![512, 128] i10, v10⟩,
      ⟨Rect.unit (s := S4096x256) o01 ![512, 128] i01, v01⟩, ⟨Rect.unit (s := S4096x256) o00 ![512, 128] i00, v00⟩]) (ix2 s c) = ((upd A δ n (n + 2) s c : ℝ) : EReal) := by
  refine settle2 h y _ (List.forall_mem_cons.mpr ⟨piece2 (inb := i11) e11 hn h11, List.forall_mem_cons.mpr ⟨piece2 (inb := i10) e10 (by omega) h10, List.forall_mem_cons.mpr ⟨piece2 (inb := i01) e01 hn h01,
    List.forall_mem_cons.mpr ⟨piece2 (inb := i00) e00 (by omega) h00, fun _ h => absurd h List.not_mem_nil⟩⟩⟩⟩) (fun s c => ?_) s c
  by_cases hs : 512 * n ≤ s.val ∧ s.val < 512 * (n + 2)
  · left
    by_cases hr : s.val < 512 * (n + 1) <;> by_cases hl : c.val < 128
    · exact ⟨_, List.mem_cons_of_mem _ (List.mem_cons_of_mem _ (List.mem_cons_of_mem _ List.mem_cons_self)), (mem2 (inb := i00) e00 s c).mpr ⟨⟨hs.1, by omega⟩, Nat.zero_le _, hl⟩⟩
    · exact ⟨_, List.mem_cons_of_mem _ List.mem_cons_self, (mem2 (inb := i10) e10 s c).mpr ⟨⟨hs.1, by omega⟩, Nat.le_of_not_lt hl, c.isLt⟩⟩
    · exact ⟨_, List.mem_cons_of_mem _ (List.mem_cons_of_mem _ List.mem_cons_self), (mem2 (inb := i01) e01 s c).mpr ⟨⟨by omega, by omega⟩, Nat.zero_le _, hl⟩⟩
    · exact ⟨_, List.mem_cons_self, (mem2 (inb := i11) e11 s c).mpr ⟨⟨by omega, by omega⟩, Nat.le_of_not_lt hl, c.isLt⟩⟩
  · right
    rw [upd, if_neg hs]; exact hy s c

/-- and after the two of a single tile. -/
theorem settle1 (hy : ∀ s c, y (ix2 s c) = ((A s c : ℝ) : EReal)) {δ : Fin 4096 → Fin 256 → ℝ} {n : ℕ} (hn : n < 8) {o0 o1 : Fin 2 → ℕ}
    (e0 : o0 = ![512 * n, 128 * (0 : Fin 2).val]) (e1 : o1 = ![512 * n, 128 * (1 : Fin 2).val]) {i0 i1} {v0 v1 : FVec Ideal S512x128 .f32}
    (h0 : ∀ r l, v0 (ix2 r l) = ((upd A δ n (n + 1) (row n r) (col 0 l) : ℝ) : EReal)) (h1 : ∀ r l, v1 (ix2 r l) = ((upd A δ n (n + 1) (row n r) (col 1 l) : ℝ) : EReal)) (s : Fin 4096) (c : Fin 256) :
    a.view.read (Elt Ideal) (a.view.writes (Elt Ideal) (h.unread y) [⟨Rect.unit (s := S4096x256) o1 ![512, 128] i1, v1⟩, ⟨Rect.unit (s := S4096x256) o0 ![512, 128] i0, v0⟩]) (ix2 s c)
      = ((upd A δ n (n + 1) s c : ℝ) : EReal) := by
  refine settle2 h y _ (List.forall_mem_cons.mpr ⟨piece2 (inb := i1) e1 hn h1, List.forall_mem_cons.mpr ⟨piece2 (inb := i0) e0 hn h0, fun _ h => absurd h List.not_mem_nil⟩⟩) (fun s c => ?_) s c
  by_cases hs : 512 * n ≤ s.val ∧ s.val < 512 * (n + 1)
  · left
    by_cases hl : c.val < 128
    · exact ⟨_, List.mem_cons_of_mem _ List.mem_cons_self, (mem2 (inb := i0) e0 s c).mpr ⟨⟨hs.1, by omega⟩, Nat.zero_le _, hl⟩⟩
    · exact ⟨_, List.mem_cons_self, (mem2 (inb := i1) e1 s c).mpr ⟨⟨hs.1, by omega⟩, Nat.le_of_not_lt hl, c.isLt⟩⟩
  · right
    rw [upd, if_neg hs]; exact hy s c

end pieces

/-! ## The loads -/

section loads

variable {n : ℕ} {hh : Fin 2}

theorem inb2 {off : Fin 2 → ℕ} (e : off = ![512 * n, 128 * hh.val]) (hn : n < 8) : ∀ a, off a + (![512, 128] : Fin 2 → ℕ) a ≤ S4096x256.size a := by
  subst e; have := hh.isLt; exact Fin.forall_fin_two.mpr ⟨(by omega : 512 * n + 512 ≤ 4096), (by omega : 128 * hh.val + 128 ≤ 256)⟩
theorem inb4 {off : Fin 2 → ℕ} (e : off = ![512 * n, 128 * hh.val]) (hn : n + 1 < 8) : ∀ a, off a + (![1024, 128] : Fin 2 → ℕ) a ≤ S4096x256.size a := by
  subst e; have := hh.isLt; exact Fin.forall_fin_two.mpr ⟨(by omega : 512 * n + 1024 ≤ 4096), (by omega : 128 * hh.val + 128 ≤ 256)⟩
theorem inbk {off : Fin 2 → ℕ} (e : off = ![0, 128 * hh.val]) : ∀ a, off a + (![512, 128] : Fin 2 → ℕ) a ≤ S512x256.size a := by
  subst e; have := hh.isLt; exact Fin.forall_fin_two.mpr ⟨(by omega : 0 + 512 ≤ 512), (by omega : 128 * hh.val + 128 ≤ 256)⟩
theorem inb3 {off : Fin 3 → ℕ} (e : off = ![hh.val, 512 * n, 0]) (hn : n < 8) : ∀ a, off a + (![1, 512, 1] : Fin 3 → ℕ) a ≤ S2x4096x1.size a := by
  subst e; have := hh.isLt; intro a; fin_cases a
  · exact (by omega : hh.val + 1 ≤ 2)
  · exact (by omega : 512 * n + 512 ≤ 4096)
  · exact (by omega : 0 + 1 ≤ 1)

variable {b : Blk}
  {a2 : Memref sig .tc .vmem S4096x256 .bf16} (h2 : a2.IsWhole) {a3 : Memref sig .tc .vmem S512x256 .bf16} (h3 : a3.IsWhole)
  {a4 : Memref sig .tc .vmem S512x256 .bf16} (h4 : a4.IsWhole) {a5 : Memref sig .tc .vmem S4096x256 .bf16} (h5 : a5.IsWhole)
  {a6 : Memref sig .tc .vmem S2x4096x1 .f32} (h6 : a6.IsWhole) {a7 : Memref sig .tc .vmem S2x4096x1 .f32} (h7 : a7.IsWhole)
  {x0 : Vec Ideal S4096x256 .bf16} {x1 x2 : Vec Ideal S512x256 .bf16} {x3 : Vec Ideal S4096x256 .bf16} {x4 x5 : Vec Ideal S2x4096x1 .f32}

/-- What a tile loads from the six blocks. -/
theorem Tile.of (hb : b.Holds x0 x1 x2 x3 x4 x5) (hn : n < 8) {o2 ok : Fin 2 → ℕ} {o3 : Fin 3 → ℕ} (e2 : o2 = ![512 * n, 128 * hh.val]) (ek : ok = ![0, 128 * hh.val]) (e3 : o3 = ![hh.val, 512 * n, 0]) :
    Tile b n hh (a2.view.readAt (Elt Ideal) (Rect.unit (s := S4096x256) o2 ![512, 128] (inb2 e2 hn)).toLoadRect (h2.unread x0))
      (a3.view.readAt (Elt Ideal) (Rect.unit (s := S512x256) ok ![512, 128] (inbk ek)).toLoadRect (h3.unread x1))
      (a5.view.readAt (Elt Ideal) (Rect.unit (s := S4096x256) o2 ![512, 128] (inb2 e2 hn)).toLoadRect (h5.unread x3))
      (a4.view.readAt (Elt Ideal) (Rect.unit (s := S512x256) ok ![512, 128] (inbk ek)).toLoadRect (h4.unread x2))
      (a6.view.readAt (Elt Ideal) (Rect.unit (s := S2x4096x1) o3 ![1, 512, 1] (inb3 e3 hn)).toLoadRect (h6.unread x4))
      (a7.view.readAt (Elt Ideal) (Rect.unit (s := S2x4096x1) o3 ![1, 512, 1] (inb3 e3 hn)).toLoadRect (h7.unread x5)) where
  q r c := (rd2 h2 x0 (512 * n) (128 * hh.val) e2 _ r c (row n r) (col hh c) (row_val hn r) rfl).trans (hb.q _ _)
  k r c := (rd2 h3 x1 0 (128 * hh.val) ek _ r c r (col hh c) (Nat.zero_add _).symm rfl).trans (hb.k _ _)
  g r c := (rd2 h5 x3 (512 * n) (128 * hh.val) e2 _ r c (row n r) (col hh c) (row_val hn r) rfl).trans (hb.g _ _)
  v r c := (rd2 h4 x2 0 (128 * hh.val) ek _ r c r (col hh c) (Nat.zero_add _).symm rfl).trans (hb.v _ _)
  l r := (rd3 h6 x4 hh.val (512 * n) 0 e3 _ 0 r 0 hh (row n r) 0 rfl (row_val hn r) rfl).trans (hb.l _ _)
  d r := (rd3 h7 x5 hh.val (512 * n) 0 e3 _ 0 r 0 hh (row n r) 0 rfl (row_val hn r) rfl).trans (hb.d _ _)

/-- A load of two query tiles' rows. -/
theorem ld_pair {X : Fin 4096 → Fin 256 → ℝ} {a : Memref sig .tc .vmem S4096x256 .bf16} (h : a.IsWhole) {x : Vec Ideal S4096x256 .bf16} (hx : ∀ s c, x (ix2 s c) = ((X s c : ℝ) : EReal)) (hn : n + 1 < 8)
    {o2 : Fin 2 → ℕ} (e2 : o2 = ![512 * n, 128 * hh.val]) (r : Fin 1024) (c : Fin 128) :
    a.view.readAt (Elt Ideal) (Rect.unit (s := S4096x256) o2 ![1024, 128] (inb4 e2 hn)).toLoadRect (h.unread x) (ix2 r c) = ((X (row2 n r) (col hh c) : ℝ) : EReal) :=
  (rd2 h x (512 * n) (128 * hh.val) e2 _ r c (row2 n r) (col hh c) (Nat.mod_eq_of_lt (by omega)) rfl).trans (hx _ _)

/-- A load of the query gradient, -/
theorem ld_acc {A : Fin 4096 → Fin 256 → ℝ} {a : Memref sig .tc .vmem S4096x256 .f32} (h : a.IsWhole) {y : Vec Ideal S4096x256 .f32} (hy : ∀ s c, y (ix2 s c) = ((A s c : ℝ) : EReal)) (hn : n < 8)
    {o2 : Fin 2 → ℕ} (e2 : o2 = ![512 * n, 128 * hh.val]) (r : Fin 512) (c : Fin 128) :
    a.view.readAt (Elt Ideal) (Rect.unit (s := S4096x256) o2 ![512, 128] (inb2 e2 hn)).toLoadRect (h.unread y) (ix2 r c) = ((A (row n r) (col hh c) : ℝ) : EReal) :=
  (rd2 h y (512 * n) (128 * hh.val) e2 _ r c (row n r) (col hh c) (row_val hn r) rfl).trans (hy _ _)

/-- and of a key-side sum. -/
theorem ld_sum {B : Fin 2 → Fin 512 → Fin 128 → ℝ} {a : Memref sig .tc .vmem S2x512x128 .f32} (h : a.IsWhole) {y : Vec Ideal S2x512x128 .f32} (hy : ∀ hh t l, y (ix3 hh t l) = ((B hh t l : ℝ) : EReal))
    {off : Fin 3 → ℕ} (eo : off = ![hh.val, 0, 0]) {inb : ∀ a, off a + (![1, 512, 128] : Fin 3 → ℕ) a ≤ S2x512x128.size a} (t : Fin 512) (l : Fin 128) :
    a.view.readAt (Elt Ideal) (Rect.unit (s := S2x512x128) off ![1, 512, 128] inb).toLoadRect (h.unread y) (ix3 0 t l) = ((B hh t l : ℝ) : EReal) :=
  (rd3 h y hh.val 0 0 eo _ 0 t l hh t l rfl (Nat.zero_add _).symm (Nat.zero_add _).symm).trans (hy _ _ _)

end loads

end Cert.AttnBwdIdeal.Step

end
-- ==== Proof.AttnBwdTrip.lean ====
/- What one trip and one prologue of the attention backward kernel add to the three gradients, as real numbers. -/
module

public import proofs.«01_k».proof.Proof.AttnBwdFrame
public import proofs.«01_k».proof.Proof.AttnBwdStep

@[expose] public section

set_option maxRecDepth 16384

noncomputable section

namespace Cert.AttnBwdIdeal.Step

open Idealize.ShloMosaic Idealize.ShloMosaic.TcCoe Idealize.ShloMosaic.Tactic
open Cert.AttnBwdIdeal Cert.AttnBwdIdeal.Gen Cert.AttnBwdIdeal.Hand Cert.AttnBwdIdeal.Tile Cert.Lift

/-- The query tile a trip starts at. -/
abbrev nk (i : grid0.Coords) (k : ℕ) : ℕ := (i 1).val + 2 - (i 1).val % 2 + 2 * k

theorem nk_lt : ∀ (i : grid0.Coords) (k : Fin (k0_t1_loop i).trips), (i 1).val < nk i k.val ∧ nk i k.val + 1 < 8 := by decide +kernel

/-! ## The offsets -/

theorem off12_eq0 : ∀ (i : grid0.Coords) (k : Fin (k0_t1_loop i).trips), k0_off12 i k 0#32 = ![0, 512 * nk i k.val, 0] := by decide +kernel
theorem off12_eq1 : ∀ (i : grid0.Coords) (k : Fin (k0_t1_loop i).trips), k0_off12 i k 1#32 = ![0, 512 * (nk i k.val + 1), 0] := by decide +kernel
theorem off15_eq0 : ∀ (i : grid0.Coords) (k : Fin (k0_t1_loop i).trips), k0_off15 i k 0#32 = ![1, 512 * nk i k.val, 0] := by decide +kernel
theorem off15_eq1 : ∀ (i : grid0.Coords) (k : Fin (k0_t1_loop i).trips), k0_off15 i k 1#32 = ![1, 512 * (nk i k.val + 1), 0] := by decide +kernel
theorem off13_eq : ∀ (i : grid0.Coords) (k : Fin (k0_t1_loop i).trips), k0_off13 i k = ![512 * nk i k.val, 0] := by decide +kernel
theorem off16_eq : ∀ (i : grid0.Coords) (k : Fin (k0_t1_loop i).trips), k0_off16 i k = ![512 * nk i k.val, 128] := by decide +kernel

theorem off1_eq : ∀ i : grid0.Coords, k0_off1 i = ![512 * (i 1).val, 0] := by decide +kernel
theorem off2_eq : ∀ i : grid0.Coords, k0_off2 i = ![0, 512 * (i 1).val, 0] := by decide +kernel
theorem off3_eq : ∀ i : grid0.Coords, k0_off3 i = ![512 * (i 1).val, 128] := by decide +kernel
theorem off4_eq : ∀ i : grid0.Coords, k0_off4 i = ![1, 512 * (i 1).val, 0] := by decide +kernel
theorem off5_eq0 : ∀ i : grid0.Coords, k0_off5 i 0#32 = ![512 * (i 1).val, 0] := by decide +kernel
theorem off5_eq1 : ∀ i : grid0.Coords, k0_off5 i 1#32 = ![512 * ((i 1).val + 1), 0] := by decide +kernel
theorem off6_eq0 : ∀ i : grid0.Coords, k0_off6 i 0#32 = ![0, 512 * (i 1).val, 0] := by decide +kernel
theorem off6_eq1 : ∀ i : grid0.Coords, k0_off6 i 1#32 = ![0, 512 * ((i 1).val + 1), 0] := by decide +kernel
theorem off7_eq : ∀ i : grid0.Coords, k0_off7 i = ![512 * (i 1).val, 0] := by decide +kernel
theorem off8_eq0 : ∀ i : grid0.Coords, k0_off8 i 0#32 = ![512 * (i 1).val, 128] := by decide +kernel
theorem off8_eq1 : ∀ i : grid0.Coords, k0_off8 i 1#32 = ![512 * ((i 1).val + 1), 128] := by decide +kernel
theorem off9_eq0 : ∀ i : grid0.Coords, k0_off9 i 0#32 = ![1, 512 * (i 1).val, 0] := by decide +kernel
theorem off9_eq1 : ∀ i : grid0.Coords, k0_off9 i 1#32 = ![1, 512 * ((i 1).val + 1), 0] := by decide +kernel
theorem off10_eq : ∀ i : grid0.Coords, k0_off10 i = ![512 * (i 1).val, 128] := by decide +kernel

/-! ## Sums -/

/-- The three gradients as real arrays. -/
structure Holds (y : Acc Ideal) (A : Fin 4096 → Fin 256 → ℝ) (B C : Fin 2 → Fin 512 → Fin 128 → ℝ) : Prop where
  a : ∀ s c, y.1 (ix2 s c) = ((A s c : ℝ) : EReal)
  b : ∀ hh t l, y.2.1 (ix3 hh t l) = ((B hh t l : ℝ) : EReal)
  c : ∀ hh t l, y.2.2 (ix3 hh t l) = ((C hh t l : ℝ) : EReal)

/-- A key-side sum with the terms of two query tiles added, -/
abbrev add2 (B : Fin 2 → Fin 512 → Fin 128 → ℝ) (δ : ℕ → Fin 2 → Fin 512 → Fin 128 → ℝ) (n : ℕ) : Fin 2 → Fin 512 → Fin 128 → ℝ := fun hh t l => B hh t l + (δ n hh t l + δ (n + 1) hh t l)
/-- and of one. -/
abbrev add1 (B : Fin 2 → Fin 512 → Fin 128 → ℝ) (δ : ℕ → Fin 2 → Fin 512 → Fin 128 → ℝ) (n : ℕ) : Fin 2 → Fin 512 → Fin 128 → ℝ := fun hh t l => B hh t l + δ n hh t l

/-- An entry of one tile is not in another tile's piece. -/
theorem apart {n n' : ℕ} {hh hh' : Fin 2} {off : Fin 2 → ℕ} (eo : off = ![512 * n', 128 * hh'.val]) (hn : n < 8) (hne : n ≠ n' ∨ hh ≠ hh')
    {inb : ∀ a, off a + (![512, 128] : Fin 2 → ℕ) a ≤ S4096x256.size a} (r : Fin 512) (l : Fin 128) :
    (ix2 (row n r) (col hh l) : S4096x256.Idx) ∉ (Rect.unit (s := S4096x256) off ![512, 128] inb).set := by
  intro h
  obtain ⟨⟨h1, h2⟩, h3, h4⟩ := (mem2 eo _ _).mp h
  rw [row_val hn] at h1 h2
  have h5 : (col hh l).val = 128 * hh.val + l.val := rfl
  rw [h5] at h3 h4
  have h6 : hh.val = hh'.val := by omega
  rcases hne with h' | h'
  · omega
  · exact h' (Fin.ext h6)

section trip

variable (c : Dev nD) (i : grid0.Coords)
  (a2 : Memref sig .tc .vmem S4096x256 .bf16) (h2 : a2.IsWhole) (a3 : Memref sig .tc .vmem S512x256 .bf16) (h3 : a3.IsWhole)
  (a4 : Memref sig .tc .vmem S512x256 .bf16) (h4 : a4.IsWhole) (a5 : Memref sig .tc .vmem S4096x256 .bf16) (h5 : a5.IsWhole)
  (a6 : Memref sig .tc .vmem S2x4096x1 .f32) (h6 : a6.IsWhole) (a7 : Memref sig .tc .vmem S2x4096x1 .f32) (h7 : a7.IsWhole)
  (a8 : Memref sig .tc .vmem S4096x256 .f32) (h8 : a8.IsWhole) (a9 : Memref sig .tc .vmem S512x256 .f32) (h9 : a9.IsWhole)
  (a10 : Memref sig .tc .vmem S512x256 .f32) (h10 : a10.IsWhole) (a11 : Memref sig .tc .vmem S2x512x128 .f32) (h11 : a11.IsWhole)
  (a12 : Memref sig .tc .vmem S2x512x128 .f32) (h12 : a12.IsWhole)
  (x0 : Vec Ideal S4096x256 .bf16) (x1 x2 : Vec Ideal S512x256 .bf16) (x3 : Vec Ideal S4096x256 .bf16) (x4 x5 : Vec Ideal S2x4096x1 .f32)
  {b : Blk} (hb : b.Holds x0 x1 x2 x3 x4 x5)

include hb

/-- One trip adds a pair of query tiles below the diagonal. -/
theorem step_holds (k : Fin (k0_t1_loop i).trips) {y : Acc Ideal} {A : Fin 4096 → Fin 256 → ℝ} {B C : Fin 2 → Fin 512 → Fin 128 → ℝ} (hy : Holds y A B C) :
    Holds (step c i a2 h2 a3 h3 a4 h4 a5 h5 a6 h6 a7 h7 a8 h8 a9 h9 a10 h10 a11 h11 a12 h12 x0 x1 x2 x3 x4 x5 k y) (upd A (b.dq (i 1).val) (nk i k.val) (nk i k.val + 2)) (add2 B (b.dk (i 1).val) (nk i k.val)) (add2 C (b.dv (i 1).val) (nk i k.val)) := by
  obtain ⟨hj, hn⟩ := nk_lt i k
  have hn0 : nk i k.val < 8 := by omega
  have hj1 : (i 1).val < nk i k.val + 1 := by omega
  have T00 := Tile.of (hh := 0) h2 h3 h4 h5 h6 h7 hb hn0 (off11_eq0 i k) rfl (off12_eq0 i k)
  have T01 := Tile.of (hh := 0) h2 h3 h4 h5 h6 h7 hb hn (off11_eq1 i k) rfl (off12_eq1 i k)
  have T10 := Tile.of (hh := 1) h2 h3 h4 h5 h6 h7 hb hn0 (off14_eq0 i k) rfl (off15_eq0 i k)
  have T11 := Tile.of (hh := 1) h2 h3 h4 h5 h6 h7 hb hn (off14_eq1 i k) rfl (off15_eq1 i k)
  refine ⟨fun s c => ?_, fun hh t l => ?_, fun hh t l => ?_⟩ <;> unfold step <;> dsimp only <;> unfold trip <;> dsimp only <;> sl_unfold_run_names
  · refine settle4 h8 y.1 hy.a hn (off11_eq0 i k) (off11_eq1 i k) (off14_eq0 i k) (off14_eq1 i k) ?_ ?_ ?_ ?_ s c
    · exact T00.dq (T00.low hj hn0) (ld_acc h8 hy.a hn0 (off11_eq0 i k)) le_rfl (by omega) hn0
    · refine T01.dq (T01.low hj1 hn) (through h8 y.1 _ hy.a (off11_eq1 i k) hn ?_) (by omega) (by omega) hn
      exact List.forall_mem_cons.mpr ⟨apart (n' := nk i k.val) (hh' := 0) (inb := inb2 (hh := 0) (off11_eq0 i k) hn0) (off11_eq0 i k) hn (.inl (by omega)), fun _ h => absurd h List.not_mem_nil⟩
    · exact T10.dq (T10.low hj hn0) (ld_acc h8 hy.a hn0 (off14_eq0 i k)) le_rfl (by omega) hn0
    · refine T11.dq (T11.low hj1 hn) (through h8 y.1 _ hy.a (off14_eq1 i k) hn ?_) (by omega) (by omega) hn
      exact List.forall_mem_cons.mpr ⟨apart (n' := nk i k.val) (hh' := 1) (inb := inb2 (hh := 1) (off14_eq0 i k) hn0) (off14_eq0 i k) hn (.inl (by omega)), List.forall_mem_cons.mpr ⟨apart (n' := nk i k.val + 1) (hh' := 0) (inb := inb2 (hh := 0) (off11_eq1 i k) hn) (off11_eq1 i k) hn (.inr (by decide)),
        List.forall_mem_cons.mpr ⟨apart (n' := nk i k.val) (hh' := 0) (inb := inb2 (hh := 0) (off11_eq0 i k) hn0) (off11_eq0 i k) hn (.inr (by decide)), fun _ h => absurd h List.not_mem_nil⟩⟩⟩
  · refine settle3 _ ?_ ?_ hh t l
    · exact T00.dk2 T01 (T00.low hj hn0) (T01.low hj1 hn) (ld_pair h2 hb.q hn (off13_eq i k)) (ld_sum (hh := 0) h11 hy.b rfl)
    · exact T10.dk2 T11 (T10.low hj hn0) (T11.low hj1 hn) (ld_pair h2 hb.q hn (off16_eq i k)) (ld_sum (hh := 1) h11 hy.b rfl)
  · refine settle3 _ ?_ ?_ hh t l
    · exact dv2 (T00.low hj hn0) (T01.low hj1 hn) (ld_pair h5 hb.g hn (off13_eq i k)) (ld_sum (hh := 0) h12 hy.c rfl)
    · exact dv2 (T10.low hj hn0) (T11.low hj1 hn) (ld_pair h5 hb.g hn (off16_eq i k)) (ld_sum (hh := 1) h12 hy.c rfl)

/-- Prologue A adds the tile pair on the diagonal. -/
theorem preA_holds (hn : (i 1).val + 1 < 8) (p1) (p2) (p3) {y8 : Vec Ideal S4096x256 .f32} {y11 y12 : Vec Ideal S2x512x128 .f32} (e8) (e11) (e12)
    {A : Fin 4096 → Fin 256 → ℝ} {B C : Fin 2 → Fin 512 → Fin 128 → ℝ} (ha : ∀ s c, y8 (ix2 s c) = ((A s c : ℝ) : EReal))
    (h11' : ∀ hh t l, y11 (ix3 hh t l) = ((B hh t l : ℝ) : EReal)) (h12' : ∀ hh t l, y12 (ix3 hh t l) = ((C hh t l : ℝ) : EReal)) :
    Holds (a8.view.read (Elt Ideal) (a8.view.writes (Elt Ideal) (h8.unread y8) (preA c i a2 h2 a3 h3 a4 h4 a5 h5 a6 h6 a7 h7 a8 h8 a9 h9 a10 h10 a11 h11 a12 h12 x0 x1 x2 x3 x4 x5 p1 p2 p3 y8 y11 y12 e8 e11 e12).1),
        a11.view.read (Elt Ideal) (a11.view.writes (Elt Ideal) (h11.unread y11) (preA c i a2 h2 a3 h3 a4 h4 a5 h5 a6 h6 a7 h7 a8 h8 a9 h9 a10 h10 a11 h11 a12 h12 x0 x1 x2 x3 x4 x5 p1 p2 p3 y8 y11 y12 e8 e11 e12).2.1),
        a12.view.read (Elt Ideal) (a12.view.writes (Elt Ideal) (h12.unread y12) (preA c i a2 h2 a3 h3 a4 h4 a5 h5 a6 h6 a7 h7 a8 h8 a9 h9 a10 h10 a11 h11 a12 h12 x0 x1 x2 x3 x4 x5 p1 p2 p3 y8 y11 y12 e8 e11 e12).2.2.1))
      (upd A (b.dq (i 1).val) (i 1).val ((i 1).val + 2)) (add2 B (b.dk (i 1).val) (i 1).val) (add2 C (b.dv (i 1).val) (i 1).val) := by
  have hn0 : (i 1).val < 8 := by omega
  have hj := Nat.lt_succ_self (i 1).val
  have T00 := Tile.of (hh := 0) h2 h3 h4 h5 h6 h7 hb hn0 (off5_eq0 i) rfl (off6_eq0 i)
  have T01 := Tile.of (hh := 0) h2 h3 h4 h5 h6 h7 hb hn (off5_eq1 i) rfl (off6_eq1 i)
  have T10 := Tile.of (hh := 1) h2 h3 h4 h5 h6 h7 hb hn0 (off8_eq0 i) rfl (off9_eq0 i)
  have T11 := Tile.of (hh := 1) h2 h3 h4 h5 h6 h7 hb hn (off8_eq1 i) rfl (off9_eq1 i)
  refine ⟨fun s c => ?_, fun hh t l => ?_, fun hh t l => ?_⟩ <;> dsimp only <;> unfold preA <;> dsimp only <;> sl_unfold_run_names
  · refine settle4 h8 y8 ha hn (off5_eq0 i) (off5_eq1 i) (off8_eq0 i) (off8_eq1 i) ?_ ?_ ?_ ?_ s c
    · exact T00.dq (T00.diag hn0) (ld_acc h8 ha hn0 (off5_eq0 i)) le_rfl (by omega) hn0
    · exact T01.dq (T01.low hj hn) (ld_acc h8 ha hn (off5_eq1 i)) (by omega) (by omega) hn
    · exact T10.dq (T10.diag hn0) (ld_acc h8 ha hn0 (off8_eq0 i)) le_rfl (by omega) hn0
    · exact T11.dq (T11.low hj hn) (ld_acc h8 ha hn (off8_eq1 i)) (by omega) (by omega) hn
  · refine settle3 _ ?_ ?_ hh t l
    · exact T00.dk2 T01 (T00.diag hn0) (T01.low hj hn) (ld_pair h2 hb.q hn (off7_eq i)) (ld_sum (hh := 0) h11 h11' rfl)
    · exact T10.dk2 T11 (T10.diag hn0) (T11.low hj hn) (ld_pair h2 hb.q hn (off10_eq i)) (ld_sum (hh := 1) h11 h11' rfl)
  · refine settle3 _ ?_ ?_ hh t l
    · exact dv2 (T00.diag hn0) (T01.low hj hn) (ld_pair h5 hb.g hn (off7_eq i)) (ld_sum (hh := 0) h12 h12' rfl)
    · exact dv2 (T10.diag hn0) (T11.low hj hn) (ld_pair h5 hb.g hn (off10_eq i)) (ld_sum (hh := 1) h12 h12' rfl)

/-- Prologue B adds the tile pair on the diagonal. -/
theorem preB_holds (hn : (i 1).val + 1 < 8) (p1) (p2) (p3) {y8 : Vec Ideal S4096x256 .f32} {y11 y12 : Vec Ideal S2x512x128 .f32} (e11) (e12)
    {A : Fin 4096 → Fin 256 → ℝ} {B C : Fin 2 → Fin 512 → Fin 128 → ℝ} (ha : ∀ s c, y8 (ix2 s c) = ((A s c : ℝ) : EReal))
    (h11' : ∀ hh t l, y11 (ix3 hh t l) = ((B hh t l : ℝ) : EReal)) (h12' : ∀ hh t l, y12 (ix3 hh t l) = ((C hh t l : ℝ) : EReal)) :
    Holds (a8.view.read (Elt Ideal) (a8.view.writes (Elt Ideal) (h8.unread y8) (preB c i a2 h2 a3 h3 a4 h4 a5 h5 a6 h6 a7 h7 a8 h8 a9 h9 a10 h10 a11 h11 a12 h12 x0 x1 x2 x3 x4 x5 p1 p2 p3 y8 y11 y12 e11 e12).1),
        a11.view.read (Elt Ideal) (a11.view.writes (Elt Ideal) (h11.unread y11) (preB c i a2 h2 a3 h3 a4 h4 a5 h5 a6 h6 a7 h7 a8 h8 a9 h9 a10 h10 a11 h11 a12 h12 x0 x1 x2 x3 x4 x5 p1 p2 p3 y8 y11 y12 e11 e12).2.1),
        a12.view.read (Elt Ideal) (a12.view.writes (Elt Ideal) (h12.unread y12) (preB c i a2 h2 a3 h3 a4 h4 a5 h5 a6 h6 a7 h7 a8 h8 a9 h9 a10 h10 a11 h11 a12 h12 x0 x1 x2 x3 x4 x5 p1 p2 p3 y8 y11 y12 e11 e12).2.2.1))
      (upd A (b.dq (i 1).val) (i 1).val ((i 1).val + 2)) (add2 B (b.dk (i 1).val) (i 1).val) (add2 C (b.dv (i 1).val) (i 1).val) := by
  have hn0 : (i 1).val < 8 := by omega
  have hj := Nat.lt_succ_self (i 1).val
  have T00 := Tile.of (hh := 0) h2 h3 h4 h5 h6 h7 hb hn0 (off5_eq0 i) rfl (off6_eq0 i)
  have T01 := Tile.of (hh := 0) h2 h3 h4 h5 h6 h7 hb hn (off5_eq1 i) rfl (off6_eq1 i)
  have T10 := Tile.of (hh := 1) h2 h3 h4 h5 h6 h7 hb hn0 (off8_eq0 i) rfl (off9_eq0 i)
  have T11 := Tile.of (hh := 1) h2 h3 h4 h5 h6 h7 hb hn (off8_eq1 i) rfl (off9_eq1 i)
  refine ⟨fun s c => ?_, fun hh t l => ?_, fun hh t l => ?_⟩ <;> dsimp only <;> unfold preB <;> dsimp only <;> sl_unfold_run_names
  · refine settle4 h8 y8 ha hn (off5_eq0 i) (off5_eq1 i) (off8_eq0 i) (off8_eq1 i) ?_ ?_ ?_ ?_ s c
    · exact T00.dq (T00.diag hn0) (ld_acc h8 ha hn0 (off5_eq0 i)) le_rfl (by omega) hn0
    · exact T01.dq (T01.low hj hn) (ld_acc h8 ha hn (off5_eq1 i)) (by omega) (by omega) hn
    · exact T10.dq (T10.diag hn0) (ld_acc h8 ha hn0 (off8_eq0 i)) le_rfl (by omega) hn0
    · exact T11.dq (T11.low hj hn) (ld_acc h8 ha hn (off8_eq1 i)) (by omega) (by omega) hn
  · refine settle3 _ ?_ ?_ hh t l
    · exact T00.dk2 T01 (T00.diag hn0) (T01.low hj hn) (ld_pair h2 hb.q hn (off7_eq i)) (ld_sum (hh := 0) h11 h11' rfl)
    · exact T10.dk2 T11 (T10.diag hn0) (T11.low hj hn) (ld_pair h2 hb.q hn (off10_eq i)) (ld_sum (hh := 1) h11 h11' rfl)
  · refine settle3 _ ?_ ?_ hh t l
    · exact dv2 (T00.diag hn0) (T01.low hj hn) (ld_pair h5 hb.g hn (off7_eq i)) (ld_sum (hh := 0) h12 h12' rfl)
    · exact dv2 (T10.diag hn0) (T11.low hj hn) (ld_pair h5 hb.g hn (off10_eq i)) (ld_sum (hh := 1) h12 h12' rfl)

/-- Prologue C adds the one tile on the diagonal. -/
theorem preC_holds (hn : (i 1).val < 8) (p1) (p2) (p3) {y8 : Vec Ideal S4096x256 .f32} {y11 y12 : Vec Ideal S2x512x128 .f32} (e11) (e12)
    {A : Fin 4096 → Fin 256 → ℝ} {B C : Fin 2 → Fin 512 → Fin 128 → ℝ} (ha : ∀ s c, y8 (ix2 s c) = ((A s c : ℝ) : EReal))
    (h11' : ∀ hh t l, y11 (ix3 hh t l) = ((B hh t l : ℝ) : EReal)) (h12' : ∀ hh t l, y12 (ix3 hh t l) = ((C hh t l : ℝ) : EReal)) :
    Holds (a8.view.read (Elt Ideal) (a8.view.writes (Elt Ideal) (h8.unread y8) (preC c i a2 h2 a3 h3 a4 h4 a5 h5 a6 h6 a7 h7 a8 h8 a9 h9 a10 h10 a11 h11 a12 h12 x0 x1 x2 x3 x4 x5 p1 p2 p3 y8 y11 y12 e11 e12).1),
        a11.view.read (Elt Ideal) (a11.view.writes (Elt Ideal) (h11.unread y11) (preC c i a2 h2 a3 h3 a4 h4 a5 h5 a6 h6 a7 h7 a8 h8 a9 h9 a10 h10 a11 h11 a12 h12 x0 x1 x2 x3 x4 x5 p1 p2 p3 y8 y11 y12 e11 e12).2.1),
        a12.view.read (Elt Ideal) (a12.view.writes (Elt Ideal) (h12.unread y12) (preC c i a2 h2 a3 h3 a4 h4 a5 h5 a6 h6 a7 h7 a8 h8 a9 h9 a10 h10 a11 h11 a12 h12 x0 x1 x2 x3 x4 x5 p1 p2 p3 y8 y11 y12 e11 e12).2.2.1))
      (upd A (b.dq (i 1).val) (i 1).val ((i 1).val + 1)) (add1 B (b.dk (i 1).val) (i 1).val) (add1 C (b.dv (i 1).val) (i 1).val) := by
  have T0 := Tile.of (hh := 0) h2 h3 h4 h5 h6 h7 hb hn (off1_eq i) rfl (off2_eq i)
  have T1 := Tile.of (hh := 1) h2 h3 h4 h5 h6 h7 hb hn (off3_eq i) rfl (off4_eq i)
  refine ⟨fun s c => ?_, fun hh t l => ?_, fun hh t l => ?_⟩ <;> dsimp only <;> unfold preC <;> dsimp only <;> sl_unfold_run_names
  · refine settle1 h8 y8 ha hn (off1_eq i) (off3_eq i) ?_ ?_ s c
    · exact T0.dq (T0.diag hn) (ld_acc h8 ha hn (off1_eq i)) le_rfl (by omega) hn
    · exact T1.dq (T1.diag hn) (ld_acc h8 ha hn (off3_eq i)) le_rfl (by omega) hn
  · refine settle3 _ ?_ ?_ hh t l
    · exact T0.dk (T0.diag hn) (ld_sum (hh := 0) h11 h11' rfl)
    · exact T1.dk (T1.diag hn) (ld_sum (hh := 1) h11 h11' rfl)
  · refine settle3 _ ?_ ?_ hh t l
    · exact T0.dv (T0.diag hn) (ld_sum (hh := 0) h12 h12' rfl)
    · exact T1.dv (T1.diag hn) (ld_sum (hh := 1) h12 h12' rfl)

end trip

end Cert.AttnBwdIdeal.Step

end
-- ==== Proof.AttnBwdAcc.lean ====
/- What the attention backward kernel's points leave in the three gradients, as sums over all query and key rows. -/
module

public import proofs.«01_k».proof.Proof.AttnBwdTrip

@[expose] public section

set_option maxRecDepth 16384

noncomputable section

namespace Cert.AttnBwdIdeal.Step

open Idealize.ShloMosaic Idealize.ShloMosaic.TcCoe Idealize.ShloMosaic.Tactic
open Cert.AttnBwdIdeal Cert.AttnBwdIdeal.Gen Cert.AttnBwdIdeal.Hand Cert.AttnBwdIdeal.Tile Cert.Lift

/-! ## The sums -/

theorem upd_upd (A δ : Fin 4096 → Fin 256 → ℝ) {lo mid hi : ℕ} (h1 : lo ≤ mid) (h2 : mid ≤ hi) : upd (upd A δ lo mid) δ mid hi = upd A δ lo hi := by
  funext s c
  unfold upd
  by_cases ha : 512 * lo ≤ s.val ∧ s.val < 512 * mid
  · rw [if_neg (by omega), if_pos ha, if_pos (by omega)]
  · by_cases hb : 512 * mid ≤ s.val ∧ s.val < 512 * hi
    · rw [if_pos hb, if_neg ha, if_pos (by omega)]
    · rw [if_neg hb, if_neg ha, if_neg (by omega)]

/-- The sum of the terms of the query tiles from `lo` up to `hi`. -/
def tiles (δ : ℕ → Fin 2 → Fin 512 → Fin 128 → ℝ) (lo hi : ℕ) : Fin 2 → Fin 512 → Fin 128 → ℝ := fun hh t l => ∑ n ∈ Finset.Ico lo hi, δ n hh t l

theorem tiles_two (δ : ℕ → Fin 2 → Fin 512 → Fin 128 → ℝ) {lo n : ℕ} (h : lo ≤ n) : add2 (tiles δ lo n) δ n = tiles δ lo (n + 2) := by
  funext hh t l
  change _ = ∑ m ∈ Finset.Ico lo (n + 1 + 1), δ m hh t l
  rw [Finset.sum_Ico_succ_top (by omega), Finset.sum_Ico_succ_top h]
  exact (add_assoc _ _ _).symm

theorem tiles_one (δ : ℕ → Fin 2 → Fin 512 → Fin 128 → ℝ) {lo n : ℕ} (h : lo ≤ n) : add1 (tiles δ lo n) δ n = tiles δ lo (n + 1) := by
  funext hh t l
  change _ = ∑ m ∈ Finset.Ico lo (n + 1), δ m hh t l
  rw [Finset.sum_Ico_succ_top h]; rfl

/-- The rows of the eight query tiles are all the rows. -/
theorem sum_rows (f : Fin 4096 → ℝ) : ∑ n ∈ Finset.range 8, ∑ r, f (row n r) = ∑ s, f s := by
  rw [Finset.sum_range (n := 8) (f := fun n => ∑ r, f (row n r)), ← Fintype.sum_prod_type' (f := fun (n : Fin 8) (r : Fin 512) => f (row n.val r))]
  refine Fintype.sum_equiv (finProdFinEquiv (m := 8) (n := 512)) _ _ fun x => congrArg f (Fin.ext ?_)
  exact (row_val x.1.isLt x.2).trans (Nat.add_comm _ _)

variable (b : Blk)

theorem P_zero {j : ℕ} {hh : Fin 2} {s : Fin 4096} {t : Fin 512} (h : s.val < 512 * j) : b.P j hh s t = 0 := by
  rw [Blk.P, if_neg (by omega)]

theorem U_zero {j : ℕ} {hh : Fin 2} {s : Fin 4096} {t : Fin 512} (h : s.val < 512 * j) : b.U j hh s t = 0 := by
  rw [Blk.U, P_zero b h, zero_mul]

/-- A key tile adds nothing above the diagonal: its contribution to the query gradient is the same formula on every row, -/
theorem upd_all (A : Fin 4096 → Fin 256 → ℝ) (j : ℕ) : upd A (b.dq j) j 8 = fun s c => A s c + b.dq j s c := by
  funext s c
  unfold upd
  by_cases h : 512 * j ≤ s.val
  · rw [if_pos ⟨h, s.isLt⟩]
  · rw [if_neg (by omega), Blk.dq, Finset.sum_eq_zero (fun t _ => by rw [U_zero b (by omega), zero_mul]), zero_mul, add_zero]

theorem tiles_all {f : Fin 4096 → ℝ} {j : ℕ} (hj : j ≤ 8) (hf : ∀ s : Fin 4096, s.val < 512 * j → f s = 0) : ∑ n ∈ Finset.Ico j 8, ∑ r, f (row n r) = ∑ s, f s := by
  rw [← sum_rows, ← Finset.sum_range_add_sum_Ico (f := fun n => ∑ r, f (row n r)) hj]
  refine (zero_add _).symm.trans (congrArg (· + _) (Finset.sum_eq_zero fun n hn => Finset.sum_eq_zero fun r _ => hf _ ?_).symm)
  have := Finset.mem_range.mp hn
  rw [row_val (by omega)]; omega

/-- and the key-side sums run over all rows. -/
theorem dk_all {j : ℕ} (hj : j ≤ 8) : tiles (b.dk j) j 8 = fun hh t l => ∑ s, b.U j hh s t * b.Q s (col hh l) := by
  funext hh t l
  exact tiles_all (f := fun s => b.U j hh s t * b.Q s (col hh l)) hj fun s h => by rw [U_zero b h, zero_mul]

theorem dv_all {j : ℕ} (hj : j ≤ 8) : tiles (b.dv j) j 8 = fun hh t l => ∑ s, b.P j hh s t * b.G s (col hh l) := by
  funext hh t l
  exact tiles_all (f := fun s => b.P j hh s t * b.G s (col hh l)) hj fun s h => by rw [P_zero b h, zero_mul]

/-! ## The loop -/

theorem nk_end : ∀ i : grid0.Coords, nk i (k0_t1_loop i).trips = 8 := by decide +kernel

section loop

variable (c : Dev nD) (i : grid0.Coords)
  (a2 : Memref sig .tc .vmem S4096x256 .bf16) (h2 : a2.IsWhole) (a3 : Memref sig .tc .vmem S512x256 .bf16) (h3 : a3.IsWhole)
  (a4 : Memref sig .tc .vmem S512x256 .bf16) (h4 : a4.IsWhole) (a5 : Memref sig .tc .vmem S4096x256 .bf16) (h5 : a5.IsWhole)
  (a6 : Memref sig .tc .vmem S2x4096x1 .f32) (h6 : a6.IsWhole) (a7 : Memref sig .tc .vmem S2x4096x1 .f32) (h7 : a7.IsWhole)
  (a8 : Memref sig .tc .vmem S4096x256 .f32) (h8 : a8.IsWhole) (a9 : Memref sig .tc .vmem S512x256 .f32) (h9 : a9.IsWhole)
  (a10 : Memref sig .tc .vmem S512x256 .f32) (h10 : a10.IsWhole) (a11 : Memref sig .tc .vmem S2x512x128 .f32) (h11 : a11.IsWhole)
  (a12 : Memref sig .tc .vmem S2x512x128 .f32) (h12 : a12.IsWhole)
  (x0 : Vec Ideal S4096x256 .bf16) (x1 x2 : Vec Ideal S512x256 .bf16) (x3 : Vec Ideal S4096x256 .bf16) (x4 x5 : Vec Ideal S2x4096x1 .f32)
  {b : Blk} (hb : b.Holds x0 x1 x2 x3 x4 x5)

include hb

theorem st_holds {y : Acc Ideal} {A : Fin 4096 → Fin 256 → ℝ}
    (hy : Holds y (upd A (b.dq (i 1).val) (i 1).val (nk i 0)) (tiles (b.dk (i 1).val) (i 1).val (nk i 0)) (tiles (b.dv (i 1).val) (i 1).val (nk i 0))) :
    ∀ n, n ≤ (k0_t1_loop i).trips → Holds (st c i a2 h2 a3 h3 a4 h4 a5 h5 a6 h6 a7 h7 a8 h8 a9 h9 a10 h10 a11 h11 a12 h12 x0 x1 x2 x3 x4 x5 y n)
      (upd A (b.dq (i 1).val) (i 1).val (nk i n)) (tiles (b.dk (i 1).val) (i 1).val (nk i n)) (tiles (b.dv (i 1).val) (i 1).val (nk i n))
  | 0, _ => hy
  | n + 1, h => by
    have ih := st_holds hy n (by omega)
    have hs := step_holds c i a2 h2 a3 h3 a4 h4 a5 h5 a6 h6 a7 h7 a8 h8 a9 h9 a10 h10 a11 h11 a12 h12 x0 x1 x2 x3 x4 x5 hb ⟨n, h⟩ ih
    have hl : (i 1).val ≤ nk i n := (nk_lt i ⟨n, h⟩).1.le
    rw [upd_upd _ _ hl (Nat.le_add_right _ _), tiles_two _ hl, tiles_two _ hl] at hs
    rw [st, dif_pos (show n < (k0_t1_loop i).trips from h)]
    exact hs

end loop

/-! ## The points -/

theorem zero8 (s : Fin 4096) (c : Fin 256) : (k0_pay106 (F := Ideal)) (ix2 s c) = (((fun _ _ => 0 : Fin 4096 → Fin 256 → ℝ) s c : ℝ) : EReal) := by
  pointwise [k0_pay106]
  exact EReal.coe_zero.symm
theorem zero11 (hh : Fin 2) (t : Fin 512) (l : Fin 128) : (k0_pay107 (F := Ideal)) (ix3 hh t l) = (((fun _ _ _ => 0 : Fin 2 → Fin 512 → Fin 128 → ℝ) hh t l : ℝ) : EReal) := by
  pointwise [k0_pay107]
  exact EReal.coe_zero.symm
theorem zero12 (hh : Fin 2) (t : Fin 512) (l : Fin 128) : (k0_pay108 (F := Ideal)) (ix3 hh t l) = (((fun _ _ _ => 0 : Fin 2 → Fin 512 → Fin 128 → ℝ) hh t l : ℝ) : EReal) := by
  pointwise [k0_pay108]
  exact EReal.coe_zero.symm

theorem start2 (δ : ℕ → Fin 2 → Fin 512 → Fin 128 → ℝ) (j : ℕ) : add2 (fun _ _ _ => 0) δ j = tiles δ j (j + 2) := by
  rw [← tiles_two δ (le_refl j)]; unfold tiles; simp only [Finset.Ico_self, Finset.sum_empty]
theorem start1 (δ : ℕ → Fin 2 → Fin 512 → Fin 128 → ℝ) (j : ℕ) : add1 (fun _ _ _ => 0) δ j = tiles δ j (j + 1) := by
  rw [← tiles_one δ (le_refl j)]; unfold tiles; simp only [Finset.Ico_self, Finset.sum_empty]

theorem nk_even : ∀ i : grid0.Coords, (i 1).val % 2 = 0 → nk i 0 = (i 1).val + 2 ∧ (i 1).val + 1 < 8 := by decide +kernel
theorem nk_odd : ∀ i : grid0.Coords, ¬ (i 1).val % 2 = 0 → nk i 0 = (i 1).val + 1 ∧ (i 1).val < 8 := by decide +kernel
theorem coord1 : ∀ t : Fin cfg0.N, (grid0.coords t 1).val = t.val % 8 := (by decide +kernel : ∀ t : Fin grid0.N, (grid0.coords t 1).val = t.val % 8)

theorem nk_A (t : Fin cfg0.N) (h : t.val % 2 = 0) : nk (grid0.coords t) 0 = t.val % 8 + 2 := by
  have := (nk_even (grid0.coords t) (by rw [coord1]; omega)).1
  rw [coord1 t] at this; exact this
theorem nk_C (t : Fin cfg0.N) (h : ¬ t.val % 2 = 0) : nk (grid0.coords t) 0 = t.val % 8 + 1 := by
  have := (nk_odd (grid0.coords t) (by rw [coord1]; omega)).1
  rw [coord1 t] at this; exact this

section points

variable (m : (ℓ : Loc nD τ sig) → Buf (Elt Ideal) ℓ) (c : Dev nD)

attribute [local irreducible] preA preB preC st trip

/-- What a point leaves, from what its prologue leaves. -/
theorem fin_holds (t : Fin cfg0.N) {b : Blk} (hb : b.Holds (iblk m c 0 t) (iblk m c 1 t) (iblk m c 2 t) (iblk m c 3 t) (iblk m c 4 t) (iblk m c 5 t)) {y : Acc Ideal} {A : Fin 4096 → Fin 256 → ℝ} {f : ℕ}
    (hf : nk (grid0.coords t) 0 = f) (hy : Holds y (upd A (b.dq (t.val % 8)) (t.val % 8) f) (tiles (b.dk (t.val % 8)) (t.val % 8) f) (tiles (b.dv (t.val % 8)) (t.val % 8) f)) :
    Holds (fin m c t y) (fun s cc => A s cc + b.dq (t.val % 8) s cc) (fun hh u l => ∑ s, b.U (t.val % 8) hh s u * b.Q s (col hh l)) (fun hh u l => ∑ s, b.P (t.val % 8) hh s u * b.G s (col hh l)) := by
  subst hf
  rw [← coord1 t] at hy ⊢
  have h := st_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) hb hy (k0_t1_loop (grid0.coords t)).trips le_rfl
  have h8 : (grid0.coords t 1).val ≤ 8 := (grid0.coords t 1).isLt.le
  rw [nk_end, upd_all, dk_all b h8, dv_all b h8] at h
  exact h

/-- What each prologue leaves. -/
theorem yA_holds (t : Fin cfg0.N) (h : t.val % 8 = 0) {b : Blk} (hb : b.Holds (iblk m c 0 t) (iblk m c 1 t) (iblk m c 2 t) (iblk m c 3 t) (iblk m c 4 t) (iblk m c 5 t)) :
    Holds (yA m c t h) (upd (fun _ _ => 0) (b.dq (t.val % 8)) (t.val % 8) (t.val % 8 + 2)) (tiles (b.dk (t.val % 8)) (t.val % 8) (t.val % 8 + 2)) (tiles (b.dv (t.val % 8)) (t.val % 8) (t.val % 8 + 2)) := by
  have hn : (grid0.coords t 1).val + 1 < 8 := by rw [coord1]; omega
  have e := preA_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) hb hn (caseA t h).1 (caseA t h).2.1 (caseA t h).2.2 rfl rfl rfl zero8 zero11 zero12
  rw [start2, start2, coord1 t] at e
  exact e

theorem yB_holds (t : Fin cfg0.N) (h : ¬ t.val % 8 = 0) (h2 : t.val % 2 = 0) {b : Blk} (hb : b.Holds (iblk m c 0 t) (iblk m c 1 t) (iblk m c 2 t) (iblk m c 3 t) (iblk m c 4 t) (iblk m c 5 t)) {y8 : Vec Ideal S4096x256 .f32} {A : Fin 4096 → Fin 256 → ℝ} (ha : ∀ s c, y8 (ix2 s c) = ((A s c : ℝ) : EReal)) :
    Holds (yB m c t h h2 y8) (upd A (b.dq (t.val % 8)) (t.val % 8) (t.val % 8 + 2)) (tiles (b.dk (t.val % 8)) (t.val % 8) (t.val % 8 + 2)) (tiles (b.dv (t.val % 8)) (t.val % 8) (t.val % 8 + 2)) := by
  have hn : (grid0.coords t 1).val + 1 < 8 := by rw [coord1]; omega
  have e := preB_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) hb hn (caseB t h h2).1 (caseB t h h2).2.1 (caseB t h h2).2.2 rfl rfl ha zero11 zero12
  rw [start2, start2, coord1 t] at e
  exact e

theorem yC_holds (t : Fin cfg0.N) (h : ¬ t.val % 8 = 0) (h2 : ¬ t.val % 2 = 0) {b : Blk} (hb : b.Holds (iblk m c 0 t) (iblk m c 1 t) (iblk m c 2 t) (iblk m c 3 t) (iblk m c 4 t) (iblk m c 5 t)) {y8 : Vec Ideal S4096x256 .f32} {A : Fin 4096 → Fin 256 → ℝ} (ha : ∀ s c, y8 (ix2 s c) = ((A s c : ℝ) : EReal)) :
    Holds (yC m c t h h2 y8) (upd A (b.dq (t.val % 8)) (t.val % 8) (t.val % 8 + 1)) (tiles (b.dk (t.val % 8)) (t.val % 8) (t.val % 8 + 1)) (tiles (b.dv (t.val % 8)) (t.val % 8) (t.val % 8 + 1)) := by
  have hn : (grid0.coords t 1).val < 8 := by rw [coord1]; omega
  have e := preC_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sc0 (Memref.isWhole_whole _) sc1 (Memref.isWhole_whole _) (iblk m c 0 t) (iblk m c 1 t) (iblk m c 2 t) (iblk m c 3 t) (iblk m c 4 t) (iblk m c 5 t) hb hn (caseC t h h2).1 (caseC t h h2).2.1 (caseC t h h2).2.2 rfl rfl ha zero11 zero12
  rw [start1, start1, coord1 t] at e
  exact e

/-- The query gradient's sum at the first key tile, -/
theorem dq_first (bk : ℕ → Blk) {n : ℕ} (h : n % 8 = 0) (s : Fin 4096) (cc : Fin 256) :
    (0 : ℝ) + (bk n).dq (n % 8) s cc = ∑ j ∈ Finset.range (n % 8 + 1), (bk (8 * (n / 8) + j)).dq j s cc := by
  rw [h, Finset.sum_range_one, show 8 * (n / 8) + 0 = n by omega, zero_add]

/-- and one key tile further. -/
theorem dq_next (bk : ℕ → Blk) {n : ℕ} (h : ¬ n % 8 = 0) (s : Fin 4096) (cc : Fin 256) :
    (∑ j ∈ Finset.range ((n - 1) % 8 + 1), (bk (8 * ((n - 1) / 8) + j)).dq j s cc) + (bk n).dq (n % 8) s cc = ∑ j ∈ Finset.range (n % 8 + 1), (bk (8 * (n / 8) + j)).dq j s cc := by
  rw [show (n - 1) % 8 + 1 = n % 8 by omega, show (n - 1) / 8 = n / 8 by omega, Finset.sum_range_succ, show 8 * (n / 8) + n % 8 = n from Nat.div_add_mod n 8]

/-- What the points of a head pair up to key tile `j` leave. -/
theorem acc_holds (bk : ℕ → Blk) (hbk : ∀ t : Fin cfg0.N, (bk t.val).Holds (iblk m c 0 t) (iblk m c 1 t) (iblk m c 2 t) (iblk m c 3 t) (iblk m c 4 t) (iblk m c 5 t)) :
    ∀ (n : ℕ) (hn : n < cfg0.N), Holds (accAt m c n hn) (fun s cc => ∑ j ∈ Finset.range (n % 8 + 1), (bk (8 * (n / 8) + j)).dq j s cc)
      (fun hh u l => ∑ s, (bk n).U (n % 8) hh s u * (bk n).Q s (col hh l)) (fun hh u l => ∑ s, (bk n).P (n % 8) hh s u * (bk n).G s (col hh l)) := by
  intro n
  induction n with
  | zero =>
    intro hn
    have e := fin_holds m c ⟨0, hn⟩ (hbk ⟨0, hn⟩) (nk_A ⟨0, hn⟩ rfl) (yA_holds m c ⟨0, hn⟩ rfl (hbk ⟨0, hn⟩))
    rw [← accAt_A m c ⟨0, hn⟩ rfl] at e
    refine ⟨fun s cc => (e.a s cc).trans (congrArg Real.toEReal ?_), e.b, e.c⟩
    exact dq_first bk rfl s cc
  | succ n ih =>
    intro hn
    have hp : n < cfg0.N := Nat.lt_of_succ_lt hn
    by_cases h : (n + 1) % 8 = 0
    · have e := fin_holds m c ⟨n + 1, hn⟩ (hbk ⟨n + 1, hn⟩) (nk_A ⟨n + 1, hn⟩ (show (n + 1) % 2 = 0 by omega)) (yA_holds m c ⟨n + 1, hn⟩ h (hbk ⟨n + 1, hn⟩))
      rw [← accAt_A m c ⟨n + 1, hn⟩ h] at e
      refine ⟨fun s cc => (e.a s cc).trans (congrArg Real.toEReal ?_), e.b, e.c⟩
      exact dq_first bk h s cc
    · by_cases h2 : (n + 1) % 2 = 0
      · have e := fin_holds m c ⟨n + 1, hn⟩ (hbk ⟨n + 1, hn⟩) (nk_A ⟨n + 1, hn⟩ h2) (yB_holds m c ⟨n + 1, hn⟩ h h2 (hbk ⟨n + 1, hn⟩) (ih hp).a)
        have ea := accAt_B m c ⟨n + 1, hn⟩ h h2 hp
        exact ⟨fun s cc => (congrFun (congrArg Prod.fst ea) _).trans ((e.a s cc).trans (congrArg Real.toEReal (dq_next bk h s cc))),
          fun hh u l => (congrFun (congrArg (fun x => x.2.1) ea) _).trans (e.b hh u l), fun hh u l => (congrFun (congrArg (fun x => x.2.2) ea) _).trans (e.c hh u l)⟩
      · have e := fin_holds m c ⟨n + 1, hn⟩ (hbk ⟨n + 1, hn⟩) (nk_C ⟨n + 1, hn⟩ h2) (yC_holds m c ⟨n + 1, hn⟩ h h2 (hbk ⟨n + 1, hn⟩) (ih hp).a)
        have ea := accAt_C m c ⟨n + 1, hn⟩ h h2 hp
        exact ⟨fun s cc => (congrFun (congrArg Prod.fst ea) _).trans ((e.a s cc).trans (congrArg Real.toEReal (dq_next bk h s cc))),
          fun hh u l => (congrFun (congrArg (fun x => x.2.1) ea) _).trans (e.b hh u l), fun hh u l => (congrFun (congrArg (fun x => x.2.2) ea) _).trans (e.c hh u l)⟩

end points

end Cert.AttnBwdIdeal.Step

end
-- ==== Proof.AttnBwdSpec.lean ====
/- The gradients of the attention as real functions of its arguments: the masked scores, their softmax, and the three products the
   chain rule gives. The arrays are written per head and lane, a head padded from 96 (keys, queries) or 64 (values) lanes to 128. -/
module

public import proofs.«01_k».proof.Proof.AttnBwdTile

@[expose] public section

set_option maxRecDepth 16384

noncomputable section

namespace Cert.AttnSpec

open Idealize.ShloMosaic Cert.Lift Cert.AttnBwdIdeal.Tile

/-- The arguments as real arrays: queries, keys (each a plain part and a rotated one), values, the gradient of the result, and for
    every head and query row the greatest score, which the values below do not depend on. -/
structure Args where
  qn : (⟨4, ![1, 4096, 8, 64]⟩ : Shape).Idx → ℝ
  qr : (⟨4, ![1, 4096, 8, 32]⟩ : Shape).Idx → ℝ
  kn : (⟨4, ![1, 4096, 8, 64]⟩ : Shape).Idx → ℝ
  kr : (⟨3, ![1, 4096, 32]⟩ : Shape).Idx → ℝ
  v : (⟨4, ![1, 4096, 8, 64]⟩ : Shape).Idx → ℝ
  g : (⟨3, ![1, 4096, 512]⟩ : Shape).Idx → ℝ
  top : Fin 8 → Fin 4096 → ℝ

variable (a : Args)

/-- A query row sees the key rows of its own chunk of 64 and of those before it. -/
abbrev sees (s t : Fin 4096) : Prop := t.val / 64 ≤ s.val / 64

/-- The plain score, -/
def raw (h : Fin 8) (s t : Fin 4096) : ℝ :=
  ∑ i, a.qn (ix4 0 s h i) * a.kn (ix4 0 t h i) + ∑ i, a.qr (ix4 0 s h i) * a.kr (ix3 0 t i)

/-- its exponential under the mask, -/
def ex (h : Fin 8) (s t : Fin 4096) : ℝ := if sees s t then Real.exp (raw a h s t * scale - a.top h s) else 0

/-- the row's sum, -/
def den (h : Fin 8) (s : Fin 4096) : ℝ := ∑ t, ex a h s t

/-- and the softmax. -/
def prob (h : Fin 8) (s t : Fin 4096) : ℝ := ex a h s t / den a h s

theorem ex_nonneg (h : Fin 8) (s t : Fin 4096) : 0 ≤ ex a h s t := by
  unfold ex; split
  · exact (Real.exp_pos _).le
  · exact le_rfl

theorem den_pos (h : Fin 8) (s : Fin 4096) : 0 < den a h s :=
  Finset.sum_pos' (fun t _ => ex_nonneg a h s t) ⟨s, Finset.mem_univ _, by rw [ex, if_pos le_rfl]; exact Real.exp_pos _⟩

/-- The lane of the incoming gradient a head's lane is, -/
abbrev lane (h : Fin 8) (i : Fin 64) : Fin 512 := ⟨h.val * 64 + i.val, by omega⟩

/-- the gradient of a weight, -/
def dp (h : Fin 8) (s t : Fin 4096) : ℝ := ∑ i, a.g (ix3 0 s (lane h i)) * a.v (ix4 0 t h i)

/-- a row of the result, -/
def out (h : Fin 8) (s : Fin 4096) (i : Fin 64) : ℝ := ∑ t, a.v (ix4 0 t h i) * prob a h s t

/-- its product with the incoming gradient, -/
def del (h : Fin 8) (s : Fin 4096) : ℝ := ∑ i, a.g (ix3 0 s (lane h i)) * out a h s i

/-- and the gradient of a score. -/
def ds (h : Fin 8) (s t : Fin 4096) : ℝ := prob a h s t * (dp a h s t - del a h s)

/-- The product with the row of the result is the weights' mean of their gradients. -/
theorem del_eq (h : Fin 8) (s : Fin 4096) : del a h s = ∑ t, dp a h s t * prob a h s t := by
  simp only [del, out, dp, Finset.mul_sum, Finset.sum_mul]
  rw [Finset.sum_comm]
  exact Finset.sum_congr rfl fun t _ => Finset.sum_congr rfl fun i _ => (mul_assoc _ _ _).symm

/-- The gradient of a score as the chain rule writes it. -/
theorem ds_eq (h : Fin 8) (s t : Fin 4096) :
    (dp a h s t / den a h s + -(∑ u, dp a h s u * (1 / (den a h s * den a h s)) * ex a h s u)) * ex a h s t = ds a h s t := by
  have hz := (den_pos a h s).ne'
  have e : ∑ u, dp a h s u * (1 / (den a h s * den a h s)) * ex a h s u = del a h s / den a h s := by
    rw [del_eq, Finset.sum_div]
    refine Finset.sum_congr rfl fun u _ => ?_
    unfold prob; field_simp
  rw [e, ds, prob]; field_simp; ring

/-! ## The padded heads -/

/-- A head of the queries, -/
def qh (h : Fin 8) (s : Fin 4096) (l : Fin 128) : ℝ :=
  if p : l.val < 64 then a.qn (ix4 0 s h ⟨l.val, p⟩) else if p : l.val < 96 then a.qr (ix4 0 s h ⟨l.val - 64, by omega⟩) else 0

/-- of the keys, -/
def kh (h : Fin 8) (t : Fin 4096) (l : Fin 128) : ℝ :=
  if p : l.val < 64 then a.kn (ix4 0 t h ⟨l.val, p⟩) else if p : l.val < 96 then a.kr (ix3 0 t ⟨l.val - 64, by omega⟩) else 0

/-- of the values, with a lane of ones after them, -/
def vh (h : Fin 8) (t : Fin 4096) (l : Fin 128) : ℝ :=
  if p : l.val < 64 then a.v (ix4 0 t h ⟨l.val, p⟩) else if l.val < 65 then 1 else 0

/-- and of the incoming gradient. -/
def gh (h : Fin 8) (s : Fin 4096) (l : Fin 128) : ℝ := if p : l.val < 64 then a.g (ix3 0 s (lane h ⟨l.val, p⟩)) else 0

/-- A sum over 128 lanes, in three parts. -/
theorem sum_lanes (f : Fin 128 → ℝ) : ∑ l, f l = ∑ i : Fin 64, f ⟨i.val, by omega⟩ + ∑ i : Fin 32, f ⟨64 + i.val, by omega⟩
    + ∑ i : Fin 32, f ⟨96 + i.val, by omega⟩ := by
  rw [show ∑ l, f l = ∑ l : Fin (64 + 32 + 32), f l from rfl, Fin.sum_univ_add, Fin.sum_univ_add]
  rfl

theorem dot_scores (h : Fin 8) (s t : Fin 4096) : dot (qh a h s) (kh a h t) = raw a h s t := by
  unfold dot; rw [sum_lanes]
  have z : ∑ i : Fin 32, qh a h s ⟨96 + i.val, by omega⟩ * kh a h t ⟨96 + i.val, by omega⟩ = 0 :=
    Finset.sum_eq_zero fun i _ => by
      have h1 : ¬ 96 + i.val < 64 := by omega
      simp [qh, h1]
  rw [z, add_zero, raw]
  refine congrArg₂ (· + ·) (Finset.sum_congr rfl fun i _ => ?_) (Finset.sum_congr rfl fun i _ => ?_)
  · simp [qh, kh]
  · have h1 : ¬ 64 + i.val < 64 := by omega
    have h2 : 64 + i.val < 96 := by omega
    simp [qh, kh, h2]

theorem dot_grads (h : Fin 8) (s t : Fin 4096) : dot (gh a h s) (vh a h t) = dp a h s t := by
  unfold dot; rw [sum_lanes]
  have z1 : ∑ i : Fin 32, gh a h s ⟨64 + i.val, by omega⟩ * vh a h t ⟨64 + i.val, by omega⟩ = 0 :=
    Finset.sum_eq_zero fun i _ => by
      simp [gh]
  have z2 : ∑ i : Fin 32, gh a h s ⟨96 + i.val, by omega⟩ * vh a h t ⟨96 + i.val, by omega⟩ = 0 :=
    Finset.sum_eq_zero fun i _ => by
      have h1 : ¬ 96 + i.val < 64 := by omega
      simp [gh, h1]
  rw [z1, z2, add_zero, add_zero, dp]
  exact Finset.sum_congr rfl fun i _ => by simp [gh, vh]

/-- The base-two logarithm of the row's sum, with the greatest score back in it. -/
def lse (h : Fin 8) (s : Fin 4096) : ℝ := (a.top h s + Real.log (den a h s)) / Real.log 2

/-- Two to the score less that is the softmax. -/
theorem weight_eq (h : Fin 8) (s t : Fin 4096) (hs : sees s t) : Real.rpow 2 (raw a h s t * scale2 - lse a h s) = prob a h s t := by
  have hl : Real.log 2 ≠ 0 := (Real.log_pos (by norm_num)).ne'
  have hz := den_pos a h s
  show (2 : ℝ) ^ (raw a h s t * scale2 - lse a h s) = _
  rw [Real.rpow_def_of_pos (by norm_num), prob, ex, if_pos hs]
  rw [show Real.log 2 * (raw a h s t * scale2 - lse a h s) = raw a h s t * scale - a.top h s - Real.log (den a h s) by
    unfold scale2 lse scale; field_simp; ring]
  rw [Real.exp_sub, Real.exp_log hz]

theorem prob_unseen (h : Fin 8) (s t : Fin 4096) (hs : ¬ sees s t) : prob a h s t = 0 := by rw [prob, ex, if_neg hs, zero_div]

/-! ## The three gradients -/

/-- The gradient of the queries, -/
def dQ (s : Fin 4096) (h : Fin 8) (l : Fin 128) : ℝ := (∑ t, ds a h s t * kh a h t l) * scale
/-- of the keys, -/
def dK (t : Fin 4096) (h : Fin 8) (l : Fin 128) : ℝ := (∑ s, ds a h s t * qh a h s l) * scale
/-- and of the values. -/
def dV (t : Fin 4096) (h : Fin 8) (l : Fin 128) : ℝ := ∑ s, prob a h s t * gh a h s l

/-- The head and the lane of a column of the results. -/
def head (c : Fin 1024) : Fin 8 := ⟨c.val / 128, by omega⟩
def sub (c : Fin 1024) : Fin 128 := ⟨c.val % 128, by omega⟩

end Cert.AttnSpec

end
-- ==== Proof.AttnBwdRef.lean ====
/- The reference of the attention's gradients, entry by entry: on real arguments each of its three results is the real function
   `Cert.AttnSpec` names. The softmax's derivative comes as the chain rule writes it; `Cert.AttnSpec.ds_eq` turns it. -/
module

public import proofs.«01_k».proof.Proof.AttnBwdSpec
public import proofs.«01_k».proof.Proof.Gen.AttnBwdRefIdeal.Read
public import Idealize.ShloMosaic.PureOps.Ideal.Laws

@[expose] public section

set_option maxRecDepth 16384

noncomputable section

namespace Cert.AttnBwdRefIdeal.Real

open Cert.AttnBwdRefIdeal Cert.AttnBwdRefIdeal.Read Cert.AttnSpec Cert.AttnBwdIdeal.Tile
open Idealize.ShloMosaic Cert.Lift

/-! ## The mask -/

/-- The chunk of a row, as the printed floor division computes it, -/
theorem chunk_val : ∀ s : Fin 4096, val_main_v3 (F := Ideal) (ix1 s) = BitVec.ofNat 32 (s.val / 64) := by
  intro s
  pointwise [val_main_v3, val_main_call0_v13, val_main_call0_v11, val_main_call0_v10, val_main_call0_v9, val_main_call0_v8, val_main_call0_v7,
    val_main_call0_v6, val_main_call0_v5, val_main_call0_v4, val_main_call0_v3, val_main_call0_v2, val_main_call0_v1, val_main_call0_v0,
    val_main_call0_v12, val_main_call0_c, val_main_call0_c_0, val_main_c, val_main_v2]
  revert s
  decide +kernel

theorem word_le (x y : Fin 64) : IntOp.cmpi .sle (BitVec.ofNat 32 x) (BitVec.ofNat 32 y) = BitVec.ofBool (decide (x.val ≤ y.val)) := by
  revert x y; decide +kernel

/-- and which scores it lets through. -/
theorem mask_val (h : Fin 8) (s t : Fin 4096) : val_main_v15_1 (F := Ideal) (ix4 0 h s t) = BitVec.ofBool (decide (sees s t)) := by
  pointwise [val_main_v15_1, val_main_v12, val_main_v11, val_main_v10, val_main_v9, val_main_v8, val_main_v7, chunk_val]
  exact word_le ⟨t.val / 64, by omega⟩ ⟨s.val / 64, by omega⟩

/-- A host sum over the first and last of four axes, both of one element. -/
theorem hostReduceAdd_ends {n k : ℕ} (h : (⟨4, ![1, n, k, 1]⟩ : Shape).ReducesTo [0, 3] ⟨2, ![n, k]⟩) (x : (⟨4, ![1, n, k, 1]⟩ : Shape).Idx → EReal)
    (init : EReal) (i : Fin n) (j : Fin k) : Ideal.hostReduceAdd h x init (ix2 i j) = init + x (ix4 0 i j 0) := by
  refine hostReduceAdd_one h x init _ _ fun y => ?_
  have e0 : (h.drop y 0 : ℕ) = y 1 := rfl
  have e1 : (h.drop y 1 : ℕ) = y 2 := rfl
  have h0 : (y 0 : ℕ) < 1 := (y 0).isLt
  have h3 : (y 3 : ℕ) < 1 := (y 3).isLt
  constructor
  · intro he
    rw [he] at e0 e1
    funext b
    match b with
    | ⟨0, _⟩ => exact Fin.ext (by show (y 0 : ℕ) = 0; omega)
    | ⟨1, _⟩ => exact Fin.ext e0.symm
    | ⟨2, _⟩ => exact Fin.ext e1.symm
    | ⟨3, _⟩ => exact Fin.ext (by show (y 3 : ℕ) = 0; omega)
  · rintro rfl
    funext b
    match b with
    | ⟨0, _⟩ => exact Fin.ext e0
    | ⟨1, _⟩ => exact Fin.ext e1

/-! ## The softmax -/

variable (a : Args)

/-- The greatest score of a row is the real number `a.top` has there. -/
def Tops : Prop := ∀ h s, val_main_v16 (F := Ideal) (cv a.qn) (cv a.qr) (cv a.kn) (cv a.kr) (ix3 0 h s) = ((a.top h s : ℝ) : EReal)

theorem e14 (h : Fin 8) (s t : Fin 4096) : val_main_v14 (F := Ideal) (cv a.qn) (cv a.qr) (cv a.kn) (cv a.kr) (ix4 0 h s t)
    = ((raw a h s t * scale : ℝ) : EReal) := by
  pointwise [val_main_v14, val_main_v13, val_main_cst, val_main_v6, val_main_v5, val_main_v4, val_main_v1, val_main_v0, cv_apply]
  simp only [← EReal.coe_mul, sum_coe, ← EReal.coe_add, nscale]
  rfl

theorem wbot : Ideal.ofBits .f32 0xFF800000#32 = (⊥ : EReal) := by simp [Ideal.ofBits, Ideal.ieee]

theorem e15 (h : Fin 8) (s t : Fin 4096) : val_main_v15_0 (F := Ideal) (cv a.qn) (cv a.qr) (cv a.kn) (cv a.kr) (ix4 0 h s t)
    = if sees s t then ((raw a h s t * scale : ℝ) : EReal) else ⊥ := by
  pointwise [val_main_v15_0, mask_val, e14, val_main_call1_v2, val_main_call1_v0, val_main_cst_0]
  by_cases hs : sees s t
  · simp only [hs, decide_true, if_true, Scalar.select]
  · simp only [hs, decide_false, if_false, Scalar.select]; exact wbot

/-- A maximum over finitely many numbers, none `+∞` and one of them real, is a real number. -/
theorem fold_real {n : ℕ} (f : Fin n → EReal) (ht : ∀ i, f i ≠ ⊤) (i₀ : Fin n) (hb : f i₀ ≠ ⊥) :
    ∃ r : ℝ, Finset.univ.fold max ⊥ f = (r : EReal) := by
  have h1 : Finset.univ.fold max ⊥ f < ⊤ := (Finset.fold_max_lt ⊤).2 ⟨bot_lt_top, fun i _ => lt_top_iff_ne_top.2 (ht i)⟩
  have h2 : ⊥ < Finset.univ.fold max ⊥ f := (Finset.lt_fold_max ⊥).2 (Or.inr ⟨i₀, Finset.mem_univ _, bot_lt_iff_ne_bot.2 hb⟩)
  exact ⟨_, (EReal.coe_toReal h1.ne h2.ne').symm⟩

/-- The greatest score of every row is a real number: a row sees itself. -/
theorem top_real (h : Fin 8) (s : Fin 4096) : ∃ r : ℝ, val_main_v16 (F := Ideal) (cv a.qn) (cv a.qr) (cv a.kn) (cv a.kr) (ix3 0 h s) = (r : EReal) := by
  unfold val_main_v16
  have w : ∀ k : Fin 4096, (by decide : S1x8x4096x4096.Reduces [3] S1x8x4096).lift (ix3 (0 : Fin 1) h s) k = ix4 (0 : Fin 1) h s k := fun k => by
    funext x
    match x with
    | ⟨0, _⟩ => rfl
    | ⟨1, _⟩ => rfl
    | ⟨2, _⟩ => rfl
    | ⟨3, _⟩ => rfl
  obtain ⟨r, hr⟩ := fold_real (fun t : Fin 4096 => val_main_v15_0 (F := Ideal) (cv a.qn) (cv a.qr) (cv a.kn) (cv a.kr) (ix4 0 h s t))
    (fun t => by dsimp only; rw [e15]; split; exacts [EReal.coe_ne_top _, bot_ne_top]) s (by dsimp only; rw [e15, if_pos le_rfl]; exact EReal.coe_ne_bot _)
  refine ⟨r, Eq.trans ?_ hr⟩
  refine (Host.reduce_eq_fold_single (FloatOps.maximumf (F := Ideal) (φ := .f32)) _ _ Gen.reducesTo_S1x8x4096x4096_S1x8x4096_d3
    (by decide : S1x8x4096x4096.Reduces [3] S1x8x4096) Gen.h_S_ (ix3 0 h s)).trans ?_
  rw [show val_main_cst_1 (F := Ideal) (Shape.Idx.first Gen.h_S_) = (⊥ : EReal) from wbot]
  exact Finset.fold_congr fun k _ => congrArg (val_main_v15_0 (F := Ideal) (cv a.qn) (cv a.qr) (cv a.kn) (cv a.kr)) (w k)

variable {a} (ht : Tops a)
include ht

omit ht in
theorem top_read (x : FVec Ideal S1x8x4096 .f32) (h : Fin 8) (s : Fin 4096) :
    broadcastInDim S1x8x4096x1 ![0, 1, 2] Gen.bcast_S1x8x4096_S1x8x4096x1_0_1_2 (maximumf (val_main_v22 (F := Ideal)) x) (ix4 0 h s 0) = x (ix3 0 h s) := by
  pointwise [val_main_v22, val_main_cst_3]
  rw [wbot]; exact max_eq_right bot_le

theorem e33 (h : Fin 8) (s : Fin 4096) : val_main_v33 (F := Ideal) (cv a.qn) (cv a.qr) (cv a.kn) (cv a.kr) (ix4 0 h s 0)
    = ((a.top h s : ℝ) : EReal) := (top_read _ h s).trans (ht h s)

theorem e36 (h : Fin 8) (s t : Fin 4096) : val_main_v36 (F := Ideal) (cv a.qn) (cv a.qr) (cv a.kn) (cv a.kr) (ix4 0 h s t)
    = ((ex a h s t : ℝ) : EReal) := by
  pointwise [val_main_v36, val_main_v35, val_main_v34, e33 ht, e15]
  unfold ex
  by_cases hs : sees s t
  · rw [if_pos hs, if_pos hs, ← EReal.coe_sub]; exact Ideal.exp_coe _
  · rw [if_neg hs, if_neg hs, EReal.bot_sub]; exact Ideal.exp_bot

theorem e37 (h : Fin 8) (s : Fin 4096) : val_main_v37 (F := Ideal) (cv a.qn) (cv a.qr) (cv a.kn) (cv a.kr) (ix3 0 h s)
    = ((den a h s : ℝ) : EReal) := by
  pointwise [val_main_v37, val_main_cst_9, e36 ht]
  simp only [sum_coe, zero_add]
  rfl

theorem e40 (h : Fin 8) (s t : Fin 4096) : val_main_v40 (F := Ideal) (cv a.qn) (cv a.qr) (cv a.kn) (cv a.kr) (ix4 0 h s t)
    = ((prob a h s t : ℝ) : EReal) := by
  pointwise [val_main_v40, val_main_v39, val_main_v38, e36 ht, e37 ht]
  exact div_coe _ _ (den_pos a h s).ne'

theorem e43 (h : Fin 8) (s : Fin 4096) : val_main_v43 (F := Ideal) (cv a.qn) (cv a.qr) (cv a.kn) (cv a.kr) (ix4 0 h s 0)
    = ((1 / (den a h s * den a h s) : ℝ) : EReal) := by
  pointwise [val_main_v43, val_main_v42, val_main_cst_10, val_main_v41, val_main_v38, e37 ht]
  rw [← EReal.coe_mul, ← EReal.coe_one]
  exact div_coe _ _ (mul_pos (den_pos a h s) (den_pos a h s)).ne'

omit ht in
theorem e48 (h : Fin 8) (s t : Fin 4096) : val_main_v48 (F := Ideal) (cv a.v) (cv a.g) (ix4 0 h s t) = ((dp a h s t : ℝ) : EReal) := by
  pointwise [val_main_v48, val_main_v47, val_main_v46, cv_apply]
  simp only [← EReal.coe_mul, sum_coe]
  rfl

theorem e56 (h : Fin 8) (s : Fin 4096) : val_main_v56 (F := Ideal) (cv a.qn) (cv a.qr) (cv a.kn) (cv a.kr) (cv a.v) (cv a.g) (ix4 0 h s 0)
    = ((-(∑ u, dp a h s u * (1 / (den a h s * den a h s)) * ex a h s u) : ℝ) : EReal) := by
  pointwise [val_main_v56, val_main_v55, val_main_v54, val_main_cst_11, val_main_v53, val_main_v52, val_main_v51, e48, e43 ht, e36 ht]
  simp only [← EReal.coe_mul, sum_coe, zero_add, ← EReal.coe_neg]

theorem e60 (h : Fin 8) (s : Fin 4096) : val_main_v60 (F := Ideal) (cv a.qn) (cv a.qr) (cv a.kn) (cv a.kr) (cv a.v) (cv a.g) (ix3 0 h s)
    = ((-(∑ u, dp a h s u * (1 / (den a h s * den a h s)) * ex a h s u) : ℝ) : EReal) := by
  pointwise [val_main_v60, val_main_v59, val_main_cst_12]
  refine (hostReduceAdd_ends _ _ _ h s).trans ?_
  rw [e56 ht, zero_add]

theorem e66 (h : Fin 8) (s t : Fin 4096) : val_main_v66 (F := Ideal) (cv a.qn) (cv a.qr) (cv a.kn) (cv a.kr) (cv a.v) (cv a.g) (ix4 0 h s t)
    = ((ds a h s t * scale : ℝ) : EReal) := by
  pointwise [val_main_v66, val_main_v65, val_main_cst_13, val_main_v64, mask_val, val_main_call2_v0, val_main_call2_cst, val_main_v63, val_main_v62,
    val_main_v61, val_main_v58, val_main_v57, val_main_v38, e60 ht, e48, e37 ht, e36 ht]
  rw [div_coe _ _ (den_pos a h s).ne', ← EReal.coe_add, ← EReal.coe_mul, ds_eq, nscale]
  by_cases hs : sees s t
  · simp only [hs, decide_true, Scalar.select]; exact (EReal.coe_mul _ _).symm
  · simp only [hs, decide_false, Scalar.select]
    rw [ds, prob_unseen a h s t hs, zero_mul, if_neg not_false, zero_mul, zero_mul]; rfl

theorem e74 (s : Fin 4096) (h : Fin 8) (i : Fin 64) : val_main_v74 (F := Ideal) (cv a.qn) (cv a.qr) (cv a.kn) (cv a.kr) (cv a.v) (cv a.g) (ix4 0 s h i)
    = ((∑ t, ds a h s t * scale * a.kn (ix4 0 t h i) : ℝ) : EReal) := by
  pointwise [val_main_v74, val_main_v73, e66 ht, cv_apply]
  simp only [← EReal.coe_mul, sum_coe]

theorem e70 (s : Fin 4096) (h : Fin 8) (i : Fin 32) : val_main_v70 (F := Ideal) (cv a.qn) (cv a.qr) (cv a.kn) (cv a.kr) (cv a.v) (cv a.g) (ix4 0 s h i)
    = ((∑ t, ds a h s t * scale * a.kr (ix3 0 t i) : ℝ) : EReal) := by
  pointwise [val_main_v70, val_main_v69, e66 ht, val_main_v1, val_main_v0, cv_apply]
  simp only [← EReal.coe_mul, sum_coe]

theorem e72 (t : Fin 4096) (h : Fin 8) (i : Fin 64) : val_main_v72 (F := Ideal) (cv a.qn) (cv a.qr) (cv a.kn) (cv a.kr) (cv a.v) (cv a.g) (ix4 0 t h i)
    = ((∑ s, ds a h s t * scale * a.qn (ix4 0 s h i) : ℝ) : EReal) := by
  pointwise [val_main_v72, val_main_v71, e66 ht, cv_apply]
  simp only [← EReal.coe_mul, sum_coe]

theorem e68 (t : Fin 4096) (h : Fin 8) (i : Fin 32) : val_main_v68 (F := Ideal) (cv a.qn) (cv a.qr) (cv a.kn) (cv a.kr) (cv a.v) (cv a.g) (ix4 0 t h i)
    = ((∑ s, ds a h s t * scale * a.qr (ix4 0 s h i) : ℝ) : EReal) := by
  pointwise [val_main_v68, val_main_v67, e66 ht, cv_apply]
  simp only [← EReal.coe_mul, sum_coe]

theorem e50 (t : Fin 4096) (h : Fin 8) (i : Fin 64) : val_main_v50 (F := Ideal) (cv a.qn) (cv a.qr) (cv a.kn) (cv a.kr) (cv a.g) (ix4 0 t h i)
    = ((∑ s, a.g (ix3 0 s (lane h i)) * prob a h s t : ℝ) : EReal) := by
  pointwise [val_main_v50, val_main_v49, val_main_v47, val_main_v46, e40 ht, cv_apply]
  simp only [← EReal.coe_mul, sum_coe]

/-! ## The three results -/

omit ht in
theorem dQ_parts (s : Fin 4096) (h : Fin 8) (l : Fin 128) : dQ a s h l
    = if p : l.val < 64 then ∑ t, ds a h s t * scale * a.kn (ix4 0 t h ⟨l.val, p⟩)
      else if p : l.val < 96 then ∑ t, ds a h s t * scale * a.kr (ix3 0 t ⟨l.val - 64, by omega⟩) else 0 := by
  unfold dQ kh
  rw [Finset.sum_mul]
  split_ifs
  · exact Finset.sum_congr rfl fun t _ => by ring
  · exact Finset.sum_congr rfl fun t _ => by ring
  · exact Finset.sum_eq_zero fun t _ => by ring

omit ht in
theorem dK_parts (t : Fin 4096) (h : Fin 8) (l : Fin 128) : dK a t h l
    = if p : l.val < 64 then ∑ s, ds a h s t * scale * a.qn (ix4 0 s h ⟨l.val, p⟩)
      else if p : l.val < 96 then ∑ s, ds a h s t * scale * a.qr (ix4 0 s h ⟨l.val - 64, by omega⟩) else 0 := by
  unfold dK qh
  rw [Finset.sum_mul]
  split_ifs
  · exact Finset.sum_congr rfl fun t _ => by ring
  · exact Finset.sum_congr rfl fun t _ => by ring
  · exact Finset.sum_eq_zero fun t _ => by ring

omit ht in
theorem dV_parts (t : Fin 4096) (h : Fin 8) (l : Fin 128) : dV a t h l
    = if p : l.val < 64 then ∑ s, a.g (ix3 0 s (lane h ⟨l.val, p⟩)) * prob a h s t else 0 := by
  unfold dV gh
  split_ifs
  · exact Finset.sum_congr rfl fun t _ => by ring
  · exact Finset.sum_eq_zero fun t _ => by ring

attribute [local irreducible] dQ dK dV

theorem out77 (s : Fin 4096) (c : Fin 1024) : val_main_v77 (F := Ideal) (cv a.qn) (cv a.qr) (cv a.kn) (cv a.kr) (cv a.v) (cv a.g) (ix2 s c)
    = ((dQ a s (head c) (sub c) : ℝ) : EReal) := by
  rw [dQ_parts]
  pointwise [val_main_v77, val_main_v76, e74 ht, e70 ht, val_main_v75, val_main_cst_14]
  by_cases p : c.val % 128 < 64
  · rw [dif_pos p, dif_pos (show (sub c).val < 64 from p)]; rfl
  · rw [dif_neg p, dif_neg (show ¬ (sub c).val < 64 from p)]
    by_cases q : c.val % 128 - 64 < 32
    · rw [dif_pos q, dif_pos (show (sub c).val < 96 by show c.val % 128 < 96; omega)]; rfl
    · rw [dif_neg q, dif_neg (show ¬ (sub c).val < 96 by show ¬ c.val % 128 < 96; omega)]; exact EReal.coe_zero.symm

theorem out80 (t : Fin 4096) (c : Fin 1024) : val_main_v80 (F := Ideal) (cv a.qn) (cv a.qr) (cv a.kn) (cv a.kr) (cv a.v) (cv a.g) (ix2 t c)
    = ((dK a t (head c) (sub c) : ℝ) : EReal) := by
  rw [dK_parts]
  pointwise [val_main_v80, val_main_v79, e72 ht, e68 ht, val_main_v78, val_main_cst_15]
  by_cases p : c.val % 128 < 64
  · rw [dif_pos p, dif_pos (show (sub c).val < 64 from p)]; rfl
  · rw [dif_neg p, dif_neg (show ¬ (sub c).val < 64 from p)]
    by_cases q : c.val % 128 - 64 < 32
    · rw [dif_pos q, dif_pos (show (sub c).val < 96 by show c.val % 128 < 96; omega)]; rfl
    · rw [dif_neg q, dif_neg (show ¬ (sub c).val < 96 by show ¬ c.val % 128 < 96; omega)]; exact EReal.coe_zero.symm

theorem out83 (t : Fin 4096) (c : Fin 1024) : val_main_v83 (F := Ideal) (cv a.qn) (cv a.qr) (cv a.kn) (cv a.kr) (cv a.g) (ix2 t c)
    = ((dV a t (head c) (sub c) : ℝ) : EReal) := by
  rw [dV_parts]
  pointwise [val_main_v83, val_main_v82, e50 ht, val_main_v81, val_main_cst_16]
  by_cases p : c.val % 128 < 64
  · rw [dif_pos p, dif_pos (show (sub c).val < 64 from p)]; rfl
  · rw [dif_neg p, dif_neg (show ¬ (sub c).val < 64 from p)]; exact EReal.coe_zero.symm

end Cert.AttnBwdRefIdeal.Real

end
-- ==== Proof.AttnBwdHost.lean ====
/- What the host lines before the attention backward kernel leave in its six operands, as terms of the arguments: the padded heads,
   and from the forward lines the row's base-two logarithm of its sum and its product of result and incoming gradient. The masked
   scores and their maximum are the reference's own terms. -/
module

public import proofs.«01_k».proof.Proof.AttnBwdAcc
public import proofs.«01_k».proof.Proof.AttnBwdRef
public import Idealize.ShloMosaic.Lib.StableHlo.RunRead

@[expose] public section

set_option maxRecDepth 16384

noncomputable section

namespace Cert.AttnBwdIdeal.Line

open Cert.AttnBwdIdeal Cert.AttnBwdIdeal.Gen Cert.AttnBwdIdeal.Hand
open Idealize.ShloMosaic Idealize.ShloMosaic.TcCoe Idealize.ShloMosaic.Tactic Idealize.SL.Sem Idealize.ShloMosaic.StableHlo
open Cert.AttnBwdRefIdeal.Read (val_main_v15_0 val_main_v16 val_main_v1)

variable (q : FVec Ideal S1x4096x8x64 .f32) (qr : FVec Ideal S1x4096x8x32 .f32) (k : FVec Ideal S1x4096x8x64 .f32)
  (kr : FVec Ideal S1x4096x32 .f32) (v : FVec Ideal S1x4096x8x64 .f32) (g : FVec Ideal S1x4096x512 .f32)

/-- The greatest score of a row, -/
def tops : FVec Ideal S1x8x4096x1 .f32 :=
  broadcastInDim S1x8x4096x1 ![0, 1, 2] bcast_S1x8x4096_S1x8x4096x1_0_1_2 (val_main_v16 (F := Ideal) q qr k kr)

/-- the exponentials, -/
def exps : FVec Ideal S1x8x4096x4096 .f32 :=
  Host.exp (subf (val_main_v15_0 (F := Ideal) q qr k kr)
    (broadcastInDim S1x8x4096x4096 ![0, 1, 2, 3] bcast_S1x8x4096x1_S1x8x4096x4096_0_1_2_3 (tops q qr k kr)))

/-- their sums, -/
def dens : FVec Ideal S1x8x4096x1 .f32 :=
  broadcastInDim S1x8x4096x1 ![0, 1, 2] bcast_S1x8x4096_S1x8x4096x1_0_1_2
    (Host.reduceAdd (exps q qr k kr) (constant S_ .f32 0x00000000#32) reducesTo_S1x8x4096x4096_S1x8x4096_d3 h_S_)

/-- the weights, -/
def probs : FVec Ideal S1x8x4096x4096 .f32 :=
  Host.divf (exps q qr k kr) (broadcastInDim S1x8x4096x4096 ![0, 1, 2, 3] bcast_S1x8x4096x1_S1x8x4096x4096_0_1_2_3 (dens q qr k kr))

/-- the base-two logarithm, -/
def lses : FVec Ideal S8x4096x1 .f32 :=
  shapeCast S8x4096x1 (Host.divf (addf (tops q qr k kr) (Host.log (dens q qr k kr)))
    (broadcastInDim S1x8x4096x1 ![] bcast_S_S1x8x4096x1 (Host.log (constant S_ .f32 0x40000000#32)))) shapeCasts_S1x8x4096x1_S8x4096x1

/-- the incoming gradient, head by head, -/
def grads : FVec Ideal S1x4096x8x64 .f32 := shapeCast S1x4096x8x64 g shapeCasts_S1x4096x512_S1x4096x8x64

/-- and its products with the result. -/
def dels : FVec Ideal S8x4096x1 .f32 :=
  transpose S8x4096x1 [1, 0, 2] (shapeCast S4096x8x1 (broadcastInDim S1x4096x8x1 ![0, 1, 2] bcast_S1x4096x8_S1x4096x8x1_0_1_2
    (Host.reduceAdd (mulf (grads g) (transpose S1x4096x8x64 [0, 3, 1, 2]
      (Host.dotGeneral dot_S1x4096x8x64_S1x8x4096x4096_S1x8x64x4096_1_3_3_2_02_01 none v (probs q qr k kr))
      transposes_S1x8x64x4096_S1x4096x8x64_0_3_1_2)) (constant S_ .f32 0x00000000#32) reducesTo_S1x4096x8x64_S1x4096x8_d3 h_S_))
    shapeCasts_S1x4096x8x1_S4096x8x1) transposes_S4096x8x1_S8x4096x1_1_0_2

/-- A head of the queries or keys, padded with zeros to 128 lanes, -/
def heads96 (x : FVec Ideal S1x4096x8x64 .f32) (y : FVec Ideal S1x4096x8x32 .f32) : FVec Ideal S4096x1024 .bf16 :=
  truncf .bf16 (shapeCast S4096x1024 (pad S1x4096x8x128 ![0, 0, 0, 0] ![0, 0, 0, 32] ![0, 0, 0, 0]
    (concatenate S1x4096x8x96 3 [⟨S1x4096x8x64, x⟩, ⟨S1x4096x8x32, y⟩] concatenates_S1x4096x8x64_S1x4096x8x32_S1x4096x8x96_d3)
    (sitofp .f32 (constantI S_ 32 0#32)) pads_S1x4096x8x96_S1x4096x8x128_000_000_000_0320 h_S_) shapeCasts_S1x4096x8x128_S4096x1024) bitsLt_bf16_f32

/-- of the values, with a lane of ones, -/
def heads65 (x : FVec Ideal S1x4096x8x64 .f32) : FVec Ideal S4096x1024 .bf16 :=
  truncf .bf16 (shapeCast S4096x1024 (pad S1x4096x8x128 ![0, 0, 0, 0] ![0, 0, 0, 63] ![0, 0, 0, 0]
    (concatenate S1x4096x8x65 3 [⟨S1x4096x8x64, x⟩, ⟨S1x4096x8x1, broadcastInDim S1x4096x8x1 ![] bcast_S_S1x4096x8x1 (constant (F := Ideal) S_ .f32 0x3F800000#32)⟩]
      concatenates_S1x4096x8x64_S1x4096x8x1_S1x4096x8x65_d3)
    (sitofp .f32 (constantI S_ 32 0#32)) pads_S1x4096x8x65_S1x4096x8x128_000_000_000_0630 h_S_) shapeCasts_S1x4096x8x128_S4096x1024) bitsLt_bf16_f32

/-- and of the incoming gradient. -/
def heads64 (x : FVec Ideal S1x4096x8x64 .f32) : FVec Ideal S4096x1024 .bf16 :=
  truncf .bf16 (shapeCast S4096x1024 (pad S1x4096x8x128 ![0, 0, 0, 0] ![0, 0, 0, 64] ![0, 0, 0, 0] x
    (sitofp .f32 (constantI S_ 32 0#32)) pads_S1x4096x8x64_S1x4096x8x128_000_000_000_0640 h_S_) shapeCasts_S1x4096x8x128_S4096x1024) bitsLt_bf16_f32

variable (m : (ℓ : Loc nD τ sig) → Buf (Elt Ideal) ℓ) (c : Dev nD)

set_option maxHeartbeats 4000000 in
/-- The operands are these terms of the arguments. -/
theorem operands :
    V m c main_v42 = heads96 (m ((c : Thread nD τ).loc main_arg0)) (m ((c : Thread nD τ).loc main_arg1))
    ∧ V m c main_v46 = heads96 (m ((c : Thread nD τ).loc main_arg2)) (val_main_v1 (F := Ideal) (m ((c : Thread nD τ).loc main_arg3)))
    ∧ V m c main_v51 = heads65 (m ((c : Thread nD τ).loc main_arg4))
    ∧ V m c main_v54 = heads64 (grads (m ((c : Thread nD τ).loc main_arg5)))
    ∧ V m c main_v32 = lses (m ((c : Thread nD τ).loc main_arg0)) (m ((c : Thread nD τ).loc main_arg1)) (m ((c : Thread nD τ).loc main_arg2))
      (m ((c : Thread nD τ).loc main_arg3))
    ∧ V m c main_v38 = dels (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  simp only [V, hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  generalize hf : (fun a b => concatenate S1x4096x8x96 3 [⟨S1x4096x8x64, a⟩, ⟨S1x4096x8x32, b⟩] concatenates_S1x4096x8x64_S1x4096x8x32_S1x4096x8x96_d3
    : (⟨S1x4096x8x64, .f32⟩ : BufTy).Contents (Elt Ideal) → (⟨S1x4096x8x32, .f32⟩ : BufTy).Contents (Elt Ideal) → (⟨S1x4096x8x96, .f32⟩ : BufTy).Contents (Elt Ideal)) = f
  generalize hf' : (fun a b => concatenate S1x4096x8x65 3 [⟨S1x4096x8x64, a⟩, ⟨S1x4096x8x1, b⟩] concatenates_S1x4096x8x64_S1x4096x8x1_S1x4096x8x65_d3
    : (⟨S1x4096x8x64, .f32⟩ : BufTy).Contents (Elt Ideal) → (⟨S1x4096x8x1, .f32⟩ : BufTy).Contents (Elt Ideal) → (⟨S1x4096x8x65, .f32⟩ : BufTy).Contents (Elt Ideal)) = f'
  refine ⟨?_, ?_, ?_, ?_, ?_, ?_⟩
  all_goals after_reads_simp; subst hf hf'; rfl

end Cert.AttnBwdIdeal.Line
-- ==== Proof.AttnBwdArr.lean ====
/- The arrays the attention backward kernel leaves, entry by entry: each is the real function `Cert.AttnSpec` names. The host prepares
   the kernel's operands from the arguments; the forward lines it repeats (scores, softmax, result) are those of the reference. -/
module

public import proofs.«01_k».proof.Proof.AttnBwdHost

@[expose] public section

set_option maxRecDepth 16384

noncomputable section

namespace Cert.AttnBwdIdeal.Arr

open Cert.AttnBwdIdeal Cert.AttnBwdIdeal.Gen Cert.AttnBwdIdeal.Hand Cert.AttnBwdIdeal.Step Cert.AttnBwdIdeal.Tile Cert.AttnSpec
open Idealize.ShloMosaic Idealize.ShloMosaic.TcCoe Idealize.ShloMosaic.Tactic Idealize.SL.Sem Cert.Lift
open Cert.AttnBwdRefIdeal.Real (Tops)

variable (m : (ℓ : Loc nD τ sig) → Buf (Elt Ideal) ℓ) (c : Dev nD)

/-- The arguments are the real arrays `a` names. -/
structure IsReal (a : Args) : Prop where
  h0 : m ((c : Thread nD τ).loc main_arg0) = cv a.qn
  h1 : m ((c : Thread nD τ).loc main_arg1) = cv a.qr
  h2 : m ((c : Thread nD τ).loc main_arg2) = cv a.kn
  h3 : m ((c : Thread nD τ).loc main_arg3) = cv a.kr
  h4 : m ((c : Thread nD τ).loc main_arg4) = cv a.v
  h5 : m ((c : Thread nD τ).loc main_arg5) = cv a.g
  tops : Tops a

variable {m} {c} {a : Args} (hr : IsReal m c a)

/-! ## The operands -/

section
open Cert.AttnBwdIdeal.Line Cert.AttnBwdRefIdeal.Real Cert.AttnBwdRefIdeal.Read

theorem pad_zero : FloatOps.sitofp (F := Ideal) .f32 0#32 = (0 : EReal) := by
  simp [FloatOps.sitofp]

theorem heads96_apply (x : FVec Ideal S1x4096x8x64 .f32) (y : FVec Ideal S1x4096x8x32 .f32) (s : Fin 4096) (n : Fin 1024) :
    heads96 x y (ix2 s n) = if p : (sub n).val < 64 then x (ix4 0 s (head n) ⟨(sub n).val, p⟩)
      else if p : (sub n).val < 96 then y (ix4 0 s (head n) ⟨(sub n).val - 64, by omega⟩) else 0 := by
  have h8 : n.val / 128 < 8 := by omega
  have hs : (sub n).val = n.val % 128 := rfl
  pointwise [heads96]
  split_ifs
  all_goals first | omega | rfl | exact pad_zero | skip
  all_goals refine Eq.trans ?_ ((dif_neg (show ¬ (sub n).val < 64 by omega)).trans (dif_pos (show (sub n).val < 96 by omega))).symm
  all_goals exact congrArg (fun l : Fin 32 => y (ix4 0 s (head n) l)) (Fin.ext (by show n.val % 128 - 64 = (sub n).val - 64; rw [hs]))

theorem heads65_apply (x : FVec Ideal S1x4096x8x64 .f32) (s : Fin 4096) (n : Fin 1024) :
    heads65 x (ix2 s n) = if p : (sub n).val < 64 then x (ix4 0 s (head n) ⟨(sub n).val, p⟩)
      else if (sub n).val < 65 then 1 else 0 := by
  have h8 : n.val / 128 < 8 := by omega
  have hs : (sub n).val = n.val % 128 := rfl
  pointwise [heads65]
  split_ifs
  all_goals first | omega | rfl | exact pad_zero

theorem heads64_apply (x : FVec Ideal S1x4096x8x64 .f32) (s : Fin 4096) (n : Fin 1024) :
    heads64 x (ix2 s n) = if p : (sub n).val < 64 then x (ix4 0 s (head n) ⟨(sub n).val, p⟩) else 0 := by
  have h8 : n.val / 128 < 8 := by omega
  have hs : (sub n).val = n.val % 128 := rfl
  pointwise [heads64]
  split_ifs
  all_goals first | omega | rfl | exact pad_zero

variable (ht : Tops a)
include ht

theorem tops_apply (h : Fin 8) (s : Fin 4096) : tops (cv a.qn) (cv a.qr) (cv a.kn) (cv a.kr) (ix4 0 h s 0) = ((a.top h s : ℝ) : EReal) := by
  have e : ∀ x : FVec Ideal S1x8x4096 .f32, broadcastInDim S1x8x4096x1 ![0, 1, 2] bcast_S1x8x4096_S1x8x4096x1_0_1_2 x (ix4 0 h s 0) = x (ix3 0 h s) :=
    fun x => by pointwise
  exact (e _).trans (ht h s)

theorem exps_apply (h : Fin 8) (s t : Fin 4096) : exps (cv a.qn) (cv a.qr) (cv a.kn) (cv a.kr) (ix4 0 h s t) = ((ex a h s t : ℝ) : EReal) := by
  pointwise [exps, tops_apply ht, e15]
  unfold ex
  by_cases hs : sees s t
  · rw [if_pos hs, if_pos hs, ← EReal.coe_sub]; exact Ideal.exp_coe _
  · rw [if_neg hs, if_neg hs, EReal.bot_sub]; exact Ideal.exp_bot

theorem dens_apply (h : Fin 8) (s : Fin 4096) : dens (cv a.qn) (cv a.qr) (cv a.kn) (cv a.kr) (ix4 0 h s 0) = ((den a h s : ℝ) : EReal) := by
  pointwise [dens, exps_apply ht]
  simp only [sum_coe, zero_add]
  rfl

theorem probs_apply (h : Fin 8) (s t : Fin 4096) : probs (cv a.qn) (cv a.qr) (cv a.kn) (cv a.kr) (ix4 0 h s t) = ((prob a h s t : ℝ) : EReal) := by
  pointwise [probs, exps_apply ht, dens_apply ht]
  exact div_coe _ _ (den_pos a h s).ne'

omit ht in
/-- The base-two logarithm of a sum, read at a row. -/
theorem log_read (x y : FVec Ideal S1x8x4096x1 .f32) (h : Fin 8) (s : Fin 4096) {t d : ℝ} (hx : x (ix4 0 h s 0) = ((t : ℝ) : EReal))
    (hy : y (ix4 0 h s 0) = ((d : ℝ) : EReal)) (hd : 0 < d) :
    shapeCast S8x4096x1 (Host.divf (addf x (Host.log y)) (broadcastInDim S1x8x4096x1 ![] bcast_S_S1x8x4096x1
      (Host.log (constant S_ .f32 0x40000000#32)))) shapeCasts_S1x8x4096x1_S8x4096x1 (ix3 h s 0) = (((t + Real.log d) / Real.log 2 : ℝ) : EReal) := by
  pointwise [hx, hy]
  rw [wtwo, Ideal.log_coe, Ideal.log_coe, if_neg (not_le.2 hd), if_neg (by norm_num), ← EReal.coe_add]
  exact div_coe _ _ (Real.log_pos (by norm_num)).ne'

theorem lses_apply (h : Fin 8) (s : Fin 4096) : lses (cv a.qn) (cv a.qr) (cv a.kn) (cv a.kr) (ix3 h s 0) = ((lse a h s : ℝ) : EReal) :=
  log_read _ _ h s (tops_apply ht h s) (dens_apply ht h s) (den_pos a h s)

theorem dels_apply (h : Fin 8) (s : Fin 4096) : dels (cv a.qn) (cv a.qr) (cv a.kn) (cv a.kr) (cv a.v) (cv a.g) (ix3 h s 0) = ((del a h s : ℝ) : EReal) := by
  pointwise [dels, grads, probs_apply ht, cv_apply]
  simp only [← EReal.coe_mul, sum_coe, zero_add]
  rfl

end

include hr

theorem read42 (s : Fin 4096) (n : Fin 1024) : (V m c main_v42 : FVec Ideal S4096x1024 .bf16) (ix2 s n) = ((qh a (head n) s (sub n) : ℝ) : EReal) := by
  refine (congrFun (Line.operands m c).1 _).trans ((heads96_apply _ _ s n).trans ?_)
  rw [hr.h0, hr.h1]; unfold qh
  split_ifs
  exacts [rfl, rfl, EReal.coe_zero.symm]

theorem read46 (s : Fin 4096) (n : Fin 1024) : (V m c main_v46 : FVec Ideal S4096x1024 .bf16) (ix2 s n) = ((kh a (head n) s (sub n) : ℝ) : EReal) := by
  refine (congrFun (Line.operands m c).2.1 _).trans ((heads96_apply _ _ s n).trans ?_)
  rw [hr.h2, hr.h3]; unfold kh
  split_ifs with p q
  · rfl
  · pointwise [Cert.AttnBwdRefIdeal.Read.val_main_v1, Cert.AttnBwdRefIdeal.Read.val_main_v0, cv_apply]
  · exact EReal.coe_zero.symm

theorem read51 (s : Fin 4096) (n : Fin 1024) : (V m c main_v51 : FVec Ideal S4096x1024 .bf16) (ix2 s n) = ((vh a (head n) s (sub n) : ℝ) : EReal) := by
  refine (congrFun (Line.operands m c).2.2.1 _).trans ((heads65_apply _ s n).trans ?_)
  rw [hr.h4]; unfold vh
  split_ifs
  exacts [rfl, EReal.coe_one.symm, EReal.coe_zero.symm]

theorem read54 (s : Fin 4096) (n : Fin 1024) : (V m c main_v54 : FVec Ideal S4096x1024 .bf16) (ix2 s n) = ((gh a (head n) s (sub n) : ℝ) : EReal) := by
  refine (congrFun (Line.operands m c).2.2.2.1 _).trans ((heads64_apply _ s n).trans ?_)
  rw [hr.h5]; unfold gh
  split_ifs with p
  · pointwise [Line.grads, cv_apply]
  · exact EReal.coe_zero.symm

theorem read32 (h : Fin 8) (s : Fin 4096) : (V m c main_v32 : FVec Ideal S8x4096x1 .f32) (ix3 h s 0) = ((lse a h s : ℝ) : EReal) := by
  refine (congrFun (Line.operands m c).2.2.2.2.1 _).trans ?_
  rw [hr.h0, hr.h1, hr.h2, hr.h3]
  exact lses_apply hr.tops h s

theorem read38 (h : Fin 8) (s : Fin 4096) : (V m c main_v38 : FVec Ideal S8x4096x1 .f32) (ix3 h s 0) = ((del a h s : ℝ) : EReal) := by
  refine (congrFun (Line.operands m c).2.2.2.2.2 _).trans ?_
  rw [hr.h0, hr.h1, hr.h2, hr.h3, hr.h4, hr.h5]
  exact dels_apply hr.tops h s

end Cert.AttnBwdIdeal.Arr

end
-- ==== Proof.AttnBwdOut.lean ====
/- The three gradients the attention backward kernel leaves, entry by entry: the sums over its key tiles are the sums over all rows. -/
module

public import proofs.«01_k».proof.Proof.AttnBwdArr

@[expose] public section

set_option maxRecDepth 16384

noncomputable section

namespace Cert.AttnBwdIdeal.Out

open Cert.AttnBwdIdeal Cert.AttnBwdIdeal.Gen Cert.AttnBwdIdeal.Hand Cert.AttnBwdIdeal.Step Cert.AttnBwdIdeal.Tile Cert.AttnBwdIdeal.Arr Cert.AttnSpec
open Idealize.ShloMosaic Idealize.ShloMosaic.TcCoe Idealize.ShloMosaic.Tactic Idealize.SL.Sem Cert.Lift

/-! ## The blocks of a point -/

/-- The column of the arrays that a column of head pair `g`'s block is, -/
def lane (g : ℕ) (c : Fin 256) : Fin 1024 := ⟨256 * (g % 4) + c.val, by omega⟩
/-- and a head of the pair. -/
def pair (g : ℕ) (hh : Fin 2) : Fin 8 := ⟨2 * (g % 4) + hh.val, by omega⟩

theorem head_lane (g : ℕ) (c : Fin 256) : head (lane g c) = pair g (hd c) :=
  Fin.ext (show (256 * (g % 4) + c.val) / 128 = 2 * (g % 4) + c.val / 128 by omega)
theorem head_col (g : ℕ) (hh : Fin 2) (l : Fin 128) : head (lane g (col hh l)) = pair g hh := by rw [head_lane, hd_col]
theorem sub_col (g : ℕ) (hh : Fin 2) (l : Fin 128) : sub (lane g (col hh l)) = l :=
  Fin.ext (show (256 * (g % 4) + (128 * hh.val + l.val)) % 128 = l.val by omega)

variable (a : Args)

/-- The blocks of point `n`: head pair `n / 8`, key tile `n % 8`. -/
def bk (n : ℕ) : Blk where
  Q s c := qh a (head (lane (n / 8) c)) s (sub (lane (n / 8) c))
  K r c := kh a (head (lane (n / 8) c)) (row (n % 8) r) (sub (lane (n / 8) c))
  V r c := vh a (head (lane (n / 8) c)) (row (n % 8) r) (sub (lane (n / 8) c))
  G s c := gh a (head (lane (n / 8) c)) s (sub (lane (n / 8) c))
  L hh s := lse a (pair (n / 8) hh) s
  D hh s := del a (pair (n / 8) hh) s

/-- The masked weights are the softmax, -/
theorem P_eq (n : ℕ) (hh : Fin 2) (s : Fin 4096) (t : Fin 512) : (bk a n).P (n % 8) hh s t = prob a (pair (n / 8) hh) s (row (n % 8) t) := by
  have hj : n % 8 < 8 := Nat.mod_lt _ (by norm_num)
  have hv := row_val hj t
  have e : (8 * (n % 8) + t.val / 64 ≤ s.val / 64) = sees s (row (n % 8) t) := by
    refine propext ?_
    show _ ↔ (row (n % 8) t).val / 64 ≤ s.val / 64
    rw [hv]; exact ⟨fun _ => by omega, fun _ => by omega⟩
  rw [Blk.P]
  simp only [e]
  by_cases hs : sees s (row (n % 8) t)
  · rw [if_pos hs, Blk.w]
    simp only [bk, head_col, sub_col]
    rw [dot_scores]
    exact weight_eq a _ s _ hs
  · rw [if_neg hs, prob_unseen a _ s _ hs]

/-- and what they give is the gradient of a score. -/
theorem U_eq (n : ℕ) (hh : Fin 2) (s : Fin 4096) (t : Fin 512) : (bk a n).U (n % 8) hh s t = ds a (pair (n / 8) hh) s (row (n % 8) t) := by
  rw [Blk.U, P_eq]
  simp only [bk, head_col, sub_col]
  rw [dot_grads]; rfl

/-- The query gradient after all eight key tiles, -/
theorem dq_eq (g : ℕ) (s : Fin 4096) (c : Fin 256) :
    ∑ j ∈ Finset.range 8, (bk a (8 * g + j)).dq j s c = dQ a s (head (lane g c)) (sub (lane g c)) := by
  have e : ∀ j ∈ Finset.range 8, (bk a (8 * g + j)).dq j s c
      = (∑ t, ds a (head (lane g c)) s (row j t) * kh a (head (lane g c)) (row j t) (sub (lane g c))) * scale := fun j hj => by
    have h8 := Finset.mem_range.mp hj
    have e1 : (8 * g + j) % 8 = j := by omega
    have e2 : (8 * g + j) / 8 = g := by omega
    rw [Blk.dq]
    refine congrArg (· * scale) (Finset.sum_congr rfl fun t _ => ?_)
    have hu := U_eq a (8 * g + j) (hd c) s t
    rw [e1, e2, ← head_lane] at hu
    rw [hu]
    simp only [bk, e1, e2]
  rw [Finset.sum_congr rfl e, ← Finset.sum_mul, sum_rows (fun t => ds a (head (lane g c)) s t * kh a (head (lane g c)) t (sub (lane g c)))]
  rfl

/-- and the key-side sums of a key tile. -/
theorem dk_eq (n : ℕ) (hh : Fin 2) (u : Fin 512) (l : Fin 128) :
    (∑ s, (bk a n).U (n % 8) hh s u * (bk a n).Q s (col hh l)) * scale = dK a (row (n % 8) u) (pair (n / 8) hh) l := by
  unfold dK
  refine congrArg (· * scale) (Finset.sum_congr rfl fun s _ => ?_)
  rw [U_eq]
  simp only [bk, head_col, sub_col]

theorem dv_eq (n : ℕ) (hh : Fin 2) (u : Fin 512) (l : Fin 128) :
    ∑ s, (bk a n).P (n % 8) hh s u * (bk a n).G s (col hh l) = dV a (row (n % 8) u) (pair (n / 8) hh) l := by
  unfold dV
  refine Finset.sum_congr rfl fun s _ => ?_
  rw [P_eq]
  simp only [bk, head_col, sub_col]

/-! ## The operands' blocks -/

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![t.val / 8, 0, 0] ∧ win0_5.index t = ![t.val / 8, 0, 0]
    ∧ win0_6.index t = ![0, t.val / 8] ∧ win0_7.index t = ![t.val % 8, t.val / 8] ∧ win0_8.index t = ![t.val % 8, t.val / 8] :=
  (by decide +kernel : ∀ t : Fin grid0.N, _)

theorem lane_val (t : Fin cfg0.N) (c : Fin 256) : (lane (t.val / 8) c).val = t.val / 8 * 256 + c.val := by
  have : t.val < 32 := t.isLt
  show 256 * (t.val / 8 % 4) + c.val = _
  omega
theorem pair_val (t : Fin cfg0.N) (hh : Fin 2) : (pair (t.val / 8) hh).val = t.val / 8 * 2 + hh.val := by
  have : t.val < 32 := t.isLt
  show 2 * (t.val / 8 % 4) + hh.val = _
  omega
theorem krow_val (t : Fin cfg0.N) (r : Fin 512) : (row (t.val % 8) r).val = t.val % 8 * 512 + r.val := by
  rw [row_val (Nat.mod_lt _ (by norm_num)), Nat.mul_comm]

variable {m : (ℓ : Loc nD τ sig) → Buf (Elt Ideal) ℓ} {c : Dev nD} {a} (hr : IsReal m c a)
include hr

theorem blkQ (t : Fin cfg0.N) (s : Fin 4096) (n : Fin 256) : iblk m c 0 t (ix2 s n) = (((bk a t.val).Q s n : ℝ) : EReal) := by
  refine Eq.trans ?_ (read42 hr s (lane (t.val / 8) n))
  exact congrArg (V m c main_v42) (by blk_ext [idx t, lane_val])

theorem blkK (t : Fin cfg0.N) (s : Fin 512) (n : Fin 256) : iblk m c 1 t (ix2 s n) = (((bk a t.val).K s n : ℝ) : EReal) := by
  refine Eq.trans ?_ (read46 hr (row (t.val % 8) s) (lane (t.val / 8) n))
  exact congrArg (V m c main_v46) (by blk_ext [idx t, lane_val, krow_val])

theorem blkV (t : Fin cfg0.N) (s : Fin 512) (n : Fin 256) : iblk m c 2 t (ix2 s n) = (((bk a t.val).V s n : ℝ) : EReal) := by
  refine Eq.trans ?_ (read51 hr (row (t.val % 8) s) (lane (t.val / 8) n))
  exact congrArg (V m c main_v51) (by blk_ext [idx t, lane_val, krow_val])

theorem blkG (t : Fin cfg0.N) (s : Fin 4096) (n : Fin 256) : iblk m c 3 t (ix2 s n) = (((bk a t.val).G s n : ℝ) : EReal) := by
  refine Eq.trans ?_ (read54 hr s (lane (t.val / 8) n))
  exact congrArg (V m c main_v54) (by blk_ext [idx t, lane_val])

theorem blkL (t : Fin cfg0.N) (h : Fin 2) (s : Fin 4096) : iblk m c 4 t (ix3 h s 0) = (((bk a t.val).L h s : ℝ) : EReal) := by
  refine Eq.trans ?_ (read32 hr (pair (t.val / 8) h) s)
  exact congrArg (V m c main_v32) (by blk_ext [idx t, pair_val])

theorem blkD (t : Fin cfg0.N) (h : Fin 2) (s : Fin 4096) : iblk m c 5 t (ix3 h s 0) = (((bk a t.val).D h s : ℝ) : EReal) := by
  refine Eq.trans ?_ (read38 hr (pair (t.val / 8) h) s)
  exact congrArg (V m c main_v38) (by blk_ext [idx t, pair_val])

theorem holds (t : Fin cfg0.N) : (bk a t.val).Holds (iblk m c 0 t) (iblk m c 1 t) (iblk m c 2 t) (iblk m c 3 t) (iblk m c 4 t) (iblk m c 5 t) :=
  ⟨blkQ hr t, blkK hr t, blkV hr t, blkG hr t, blkL hr t, blkD hr t⟩

/-! ## The arrays -/

theorem point6 (t : Fin cfg0.N) (h : t.val % 8 = 7) (s : Fin 4096) (n : Fin 256) :
    (accAt m c t.val t.isLt).1 (ix2 s n) = ((dQ a s (head (lane (t.val / 8) n)) (sub (lane (t.val / 8) n)) : ℝ) : EReal) := by
  refine ((acc_holds m c (bk a) (holds hr) t.val t.isLt).a s n).trans (congrArg Real.toEReal ?_)
  rw [← dq_eq, h]

omit hr in
/-- Two written halves of a block, read back at an entry. -/
theorem halves (v : View sig .tc .vmem S512x256 .f32) (f : v.ty.Contents (Elt Ideal)) {D : Fin 512 → Fin 256 → ℝ} {inb0 inb1} {v0 v1 : FVec Ideal S512x128 .f32}
    (h0 : ∀ r l, v0 (ix2 r l) = ((D r (col 0 l) : ℝ) : EReal)) (h1 : ∀ r l, v1 (ix2 r l) = ((D r (col 1 l) : ℝ) : EReal)) (r : Fin 512) (n : Fin 256) :
    v.read (Elt Ideal) (v.writes (Elt Ideal) f [⟨Rect.unit (s := S512x256) ![0, 128] ![512, 128] inb1, v1⟩, ⟨Rect.unit (s := S512x256) ![0, 0] ![512, 128] inb0, v0⟩]) (ix2 r n)
      = ((D r n : ℝ) : EReal) := by
  refine View.read_writes_apply_of_pieces (Val := Elt Ideal) (e := .f32) v _ (fun i => (((D (i 0) (i 1) : ℝ) : EReal) : Elt Ideal .f32)) _ ?_ (ix2 r n) ?_
  · intro p hp
    rcases List.mem_cons.mp hp with rfl | hp
    · intro x
      idx_vars x
      refine (h1 x0 x1).trans (congrArg Real.toEReal (congrArg₂ D (Fin.ext ?_) (Fin.ext ?_)))
      · exact (by omega : x0.val = 0 + 1 * x0.val)
      · exact (by omega : 128 * 1 + x1.val = 128 + 1 * x1.val)
    · obtain rfl := List.mem_singleton.mp hp
      intro x
      idx_vars x
      refine (h0 x0 x1).trans (congrArg Real.toEReal (congrArg₂ D (Fin.ext ?_) (Fin.ext ?_)))
      · exact (by omega : x0.val = 0 + 1 * x0.val)
      · exact (by omega : 128 * 0 + x1.val = 0 + 1 * x1.val)
  · by_cases hn : n.val < 128
    · refine ⟨_, List.mem_cons_of_mem _ (List.mem_singleton_self _), (Rect.mem_set_unit (inb := inb0)).mpr fun a => ?_⟩
      fin_cases a
      · exact ⟨Nat.zero_le _, r.isLt⟩
      · exact ⟨Nat.zero_le _, (by omega : n.val < 0 + 128)⟩
    · refine ⟨_, List.mem_cons_self, (Rect.mem_set_unit (inb := inb1)).mpr fun a => ?_⟩
      fin_cases a
      · exact ⟨Nat.zero_le _, r.isLt⟩
      · exact ⟨(by omega : 128 ≤ n.val), (by omega : n.val < 128 + 128)⟩

omit hr in
/-- A head of a key-side sum, loaded. -/
theorem loadHead {a3 : Memref sig .tc .vmem S2x512x128 .f32} (h3 : a3.IsWhole) (z : Vec Ideal S2x512x128 .f32) (hh : ℕ) (h2 : hh < 2) {inb} (u : Fin 512) (l : Fin 128) :
    View.readAt (Elt Ideal) a3.view (Rect.unit (s := S2x512x128) ![hh, 0, 0] ![1, 512, 128] inb).toLoadRect (h3.unread z) (ix3 0 u l) = z (ix3 ⟨hh, h2⟩ u l) := by
  rw [View.readAt_eq_ld, h3.read_unread]
  exact ld3 z hh 0 0 inb 0 u l ⟨hh, h2⟩ u l rfl (Nat.zero_add _).symm (Nat.zero_add _).symm

omit hr in
theorem scaled1 {z : FVec Ideal S1x512x128 .f32} {x : ℝ} (u : Fin 512) (l : Fin 128) (hz : z (ix3 0 u l) = ((x : ℝ) : EReal)) :
    k0_pay1 (F := Ideal) z (ix2 u l) = ((x * scale : ℝ) : EReal) := by
  pointwise [k0_pay1, hz]
  rw [nscale, ← EReal.coe_mul]
omit hr in
theorem scaled115 {z : FVec Ideal S1x512x128 .f32} {x : ℝ} (u : Fin 512) (l : Fin 128) (hz : z (ix3 0 u l) = ((x : ℝ) : EReal)) :
    k0_pay115 (F := Ideal) z (ix2 u l) = ((x * scale : ℝ) : EReal) := by
  pointwise [k0_pay115, hz]
  rw [nscale, ← EReal.coe_mul]
omit hr in
theorem plain2 {z : FVec Ideal S1x512x128 .f32} {x : ℝ} (u : Fin 512) (l : Fin 128) (hz : z (ix3 0 u l) = ((x : ℝ) : EReal)) :
    k0_pay2 (F := Ideal) z (ix2 u l) = ((x : ℝ) : EReal) := by
  pointwise [k0_pay2, hz]
omit hr in
theorem plain116 {z : FVec Ideal S1x512x128 .f32} {x : ℝ} (u : Fin 512) (l : Fin 128) (hz : z (ix3 0 u l) = ((x : ℝ) : EReal)) :
    k0_pay116 (F := Ideal) z (ix2 u l) = ((x : ℝ) : EReal) := by
  pointwise [k0_pay116, hz]

theorem point7 (t : Fin cfg0.N) (r : Fin 512) (n : Fin 256) :
    VO7.read (Elt Ideal) (VO7.writes (Elt Ideal) VO7.junk (L9 sc0 (Memref.isWhole_whole _) (accAt m c t.val t.isLt).2.1)) (ix2 r n)
      = ((dK a (row (t.val % 8) r) (head (lane (t.val / 8) n)) (sub (lane (t.val / 8) n)) : ℝ) : EReal) := by
  have H := acc_holds m c (bk a) (holds hr) t.val t.isLt
  refine halves VO7 _ (D := fun r n => dK a (row (t.val % 8) r) (head (lane (t.val / 8) n)) (sub (lane (t.val / 8) n))) ?_ ?_ r n
  · intro r l
    refine (scaled115 r l ((loadHead _ _ 0 (by norm_num) r l).trans (H.b 0 r l))).trans (congrArg Real.toEReal ?_)
    rw [dk_eq]; simp only [head_col, sub_col]
  · intro r l
    refine (scaled1 r l ((loadHead _ _ 1 (by norm_num) r l).trans (H.b 1 r l))).trans (congrArg Real.toEReal ?_)
    rw [dk_eq]; simp only [head_col, sub_col]

theorem point8 (t : Fin cfg0.N) (r : Fin 512) (n : Fin 256) :
    VO8.read (Elt Ideal) (VO8.writes (Elt Ideal) VO8.junk (L10 sc1 (Memref.isWhole_whole _) (accAt m c t.val t.isLt).2.2)) (ix2 r n)
      = ((dV a (row (t.val % 8) r) (head (lane (t.val / 8) n)) (sub (lane (t.val / 8) n)) : ℝ) : EReal) := by
  have H := acc_holds m c (bk a) (holds hr) t.val t.isLt
  refine halves VO8 _ (D := fun r n => dV a (row (t.val % 8) r) (head (lane (t.val / 8) n)) (sub (lane (t.val / 8) n))) ?_ ?_ r n
  · intro r l
    refine (plain116 r l ((loadHead _ _ 0 (by norm_num) r l).trans (H.c 0 r l))).trans (congrArg Real.toEReal ?_)
    rw [dv_eq]; simp only [head_col, sub_col]
  · intro r l
    refine (plain2 r l ((loadHead _ _ 1 (by norm_num) r l).trans (H.c 1 r l))).trans (congrArg Real.toEReal ?_)
    rw [dv_eq]; simp only [head_col, sub_col]

attribute [local irreducible] dQ dK dV accAt

/-- The array of the queries' gradient, -/
theorem arr6 : (dats m 0 c).arrAt 6 cfg0.N = cv (fun i : S4096x1024.Idx => dQ a (i 0) (head (i 1)) (sub (i 1))) := by
  refine (dats m 0 c).arrAt_eq_of_covers 6 _ (by decide +kernel) fun t hf y => ?_
  blk_simp
  rw [after0_6]
  have e : (y : S4096x256.Idx) = ix2 (y 0) (y 1) := by blk_ext
  refine (congrArg _ e).trans ((point6 hr t ((flush0_6 t).mp hf) _ _).trans ?_)
  refine congrArg (fun i : S4096x1024.Idx => ((dQ a (i 0) (head (i 1)) (sub (i 1)) : ℝ) : EReal)) (?_ : ix2 (y 0) (lane (t.val / 8) (y 1)) = _)
  blk_ext [idx t]
  exact lane_val t _

/-- of the keys', -/
theorem arr7 : (dats m 0 c).arrAt 7 cfg0.N = cv (fun i : S4096x1024.Idx => dK a (i 0) (head (i 1)) (sub (i 1))) := by
  refine (dats m 0 c).arrAt_eq_of_covers 7 _ (by decide +kernel) fun t hf y => ?_
  blk_simp
  rw [after0_7]
  have e : (y : S512x256.Idx) = ix2 (y 0) (y 1) := by blk_ext
  refine (congrArg _ e).trans ((point7 hr t _ _).trans ?_)
  refine congrArg (fun i : S4096x1024.Idx => ((dK a (i 0) (head (i 1)) (sub (i 1)) : ℝ) : EReal)) (?_ : ix2 (row (t.val % 8) (y 0)) (lane (t.val / 8) (y 1)) = _)
  blk_ext [idx t]
  exacts [krow_val t _, lane_val t _]

/-- and of the values'. -/
theorem arr8 : (dats m 0 c).arrAt 8 cfg0.N = cv (fun i : S4096x1024.Idx => dV a (i 0) (head (i 1)) (sub (i 1))) := by
  refine (dats m 0 c).arrAt_eq_of_covers 8 _ (by decide +kernel) fun t hf y => ?_
  blk_simp
  rw [after0_8]
  have e : (y : S512x256.Idx) = ix2 (y 0) (y 1) := by blk_ext
  refine (congrArg _ e).trans ((point8 hr t _ _).trans ?_)
  refine congrArg (fun i : S4096x1024.Idx => ((dV a (i 0) (head (i 1)) (sub (i 1)) : ℝ) : EReal)) (?_ : ix2 (row (t.val % 8) (y 0)) (lane (t.val / 8) (y 1)) = _)
  blk_ext [idx t]
  exacts [krow_val t _, lane_val t _]

end Cert.AttnBwdIdeal.Out

end
-- ==== Proof.AttnBwdPair.lean ====
/- The attention backward: the kernel's three gradients are the reference's, for finite arguments. -/
module

public import proofs.«01_k».proof.Defs
public import proofs.«01_k».proof.Proof.AttnBwdOut
public import proofs.«01_k».proof.Proof.AttnBwdKernel
public import proofs.«01_k».proof.Proof.DownLossPair
public import proofs.«01_k».proof.Proof.Gen.Pre_finite_attn

@[expose] public section

set_option maxRecDepth 16384

noncomputable section

namespace Cert.AttnBwdPair

open Idealize.ShloMosaic Idealize.ShloMosaic.TcCoe Idealize.ShloMosaic.Tactic Idealize.SL.Sem Cert.Lift Cert.AttnSpec
open Cert.DownLossPair

section run
open Cert.AttnBwdIdeal Cert.AttnBwdIdeal.Gen Cert.AttnBwdIdeal.Hand

variable (m : (ℓ : Loc nD τ sig) → Buf (Elt Ideal) ℓ) (ρ : Dev nD → PrngReg)

/-- The kernel ends with its three results at the arrays its points write, the arguments kept. -/
theorem run_arrays : θ_run defs (onTc (τ := τ) (main (F := Ideal))) ⟨m, fun _ => 0, ρ⟩ fun r => ∀ c : Dev nD,
    r.2.mem ((c : Thread nD τ).loc main_v55_0) = (dats m 0 c).arrAt 6 cfg0.N
    ∧ r.2.mem ((c : Thread nD τ).loc main_v55_1) = (dats m 0 c).arrAt 7 cfg0.N
    ∧ r.2.mem ((c : Thread nD τ).loc main_v55_2) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨(h c).1 6, (h c).1 7, (h c).1 8,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩)
    (run_main m ρ)

end run

open Cert.AttnBwdRefIdeal Cert.AttnBwdRefIdeal.Real

/-- The precondition makes every argument a real array, and then every row has a greatest score. -/
theorem args_real (m : (ℓ : Loc Cert.AttnBwdIdeal.nD Cert.AttnBwdIdeal.τ Cert.AttnBwdIdeal.sig) → Buf (Elt Ideal) ℓ)
    (hpre : Cert.Pre_AttnBwdIdeal_finite_attn m) (c : Dev Cert.AttnBwdIdeal.nD) :
    ∃ a : Args, Cert.AttnBwdIdeal.Arr.IsReal m c a := by
  have h := congrFun (hpre c) (fun a => a.elim0)
  obtain ⟨h, h5⟩ := and_parts h
  obtain ⟨h, h4⟩ := and_parts h
  obtain ⟨h, h3⟩ := and_parts h
  obtain ⟨h, h2⟩ := and_parts h
  obtain ⟨h0, h1⟩ := and_parts h
  obtain ⟨r0, e0⟩ := real_of_all _ _ (fun _ => rfl) _ _ _ _ h0
  obtain ⟨r1, e1⟩ := real_of_all _ _ (fun _ => rfl) _ _ _ _ h1
  obtain ⟨r2, e2⟩ := real_of_all _ _ (fun _ => rfl) _ _ _ _ h2
  obtain ⟨r3, e3⟩ := real_of_all _ _ (fun _ => rfl) _ _ _ _ h3
  obtain ⟨r4, e4⟩ := real_of_all _ _ (fun _ => rfl) _ _ _ _ h4
  obtain ⟨r5, e5⟩ := real_of_all _ _ (fun _ => rfl) _ _ _ _ h5
  choose f hf using top_real ⟨r0, r1, r2, r3, r4, r5, fun _ _ => 0⟩
  exact ⟨⟨r0, r1, r2, r3, r4, r5, f⟩, ⟨e0, e1, e2, e3, e4, e5, hf⟩⟩

/-- The reference's results at real arguments. -/
theorem ref77 {a : Args} (ht : Tops a) : Read.val_main_v77 (F := Ideal) (cv a.qn) (cv a.qr) (cv a.kn) (cv a.kr) (cv a.v) (cv a.g)
    = cv (fun i : S4096x1024.Idx => dQ a (i 0) (head (i 1)) (sub (i 1))) := by
  funext i; idx_vars i; exact out77 ht i0 i1
theorem ref80 {a : Args} (ht : Tops a) : Read.val_main_v80 (F := Ideal) (cv a.qn) (cv a.qr) (cv a.kn) (cv a.kr) (cv a.v) (cv a.g)
    = cv (fun i : S4096x1024.Idx => dK a (i 0) (head (i 1)) (sub (i 1))) := by
  funext i; idx_vars i; exact out80 ht i0 i1
theorem ref83 {a : Args} (ht : Tops a) : Read.val_main_v83 (F := Ideal) (cv a.qn) (cv a.qr) (cv a.kn) (cv a.kr) (cv a.g)
    = cv (fun i : S4096x1024.Idx => dV a (i 0) (head (i 1)) (sub (i 1))) := by
  funext i; idx_vars i; exact out83 ht i0 i1

theorem algebraic : Cert.algebraic_AttnBwdIdeal_AttnBwdRefIdeal_pre_finite_attn := by
  pair_intro
  · run_from run_arrays m g
  · run_from Cert.AttnBwdRefIdeal.Value.run m' g'
    all_goals
      obtain ⟨a, hr⟩ := args_real m hpre c
    · exact (Read.val_main_v77_eq m' c).trans
        ((by rw [hagree c |>.1, hagree c |>.2.1, hagree c |>.2.2.1, hagree c |>.2.2.2.1, hagree c |>.2.2.2.2.1, hagree c |>.2.2.2.2.2, hr.h0, hr.h1, hr.h2, hr.h3, hr.h4, hr.h5] : _ = _).trans ((ref77 hr.tops).trans (Cert.AttnBwdIdeal.Out.arr6 hr).symm))
    · exact (Read.val_main_v80_eq m' c).trans
        ((by rw [hagree c |>.1, hagree c |>.2.1, hagree c |>.2.2.1, hagree c |>.2.2.2.1, hagree c |>.2.2.2.2.1, hagree c |>.2.2.2.2.2, hr.h0, hr.h1, hr.h2, hr.h3, hr.h4, hr.h5] : _ = _).trans ((ref80 hr.tops).trans (Cert.AttnBwdIdeal.Out.arr7 hr).symm))
    · exact (Read.val_main_v83_eq m' c).trans
        ((by rw [hagree c |>.1, hagree c |>.2.1, hagree c |>.2.2.1, hagree c |>.2.2.2.1, hagree c |>.2.2.2.2.2, hr.h0, hr.h1, hr.h2, hr.h3, hr.h5] : _ = _).trans ((ref83 hr.tops).trans (Cert.AttnBwdIdeal.Out.arr8 hr).symm))

end Cert.AttnBwdPair

end
-- ==== Proof.OutProjSpec.lean ====
/- The output projection's backward call: the gradient of the two halves of its input, the attention's one written head by head in
   128 lanes of which the upper 64 are zero, and each head's product of gradient and result. The arguments may hold any value. -/
module

public import proofs.«01_k».proof.Proof.Lift

@[expose] public section

noncomputable section

namespace Cert.OutSpec

open Idealize.ShloMosaic Cert.Lift

/-- The arguments: the attention's result, the projection and the gradient of its product. -/
structure Args where
  at' : (⟨3, ![1, 4096, 512]⟩ : Shape).Idx → EReal
  w : (⟨3, ![1, 1024, 1024]⟩ : Shape).Idx → EReal
  dm : (⟨3, ![1, 4096, 1024]⟩ : Shape).Idx → EReal

variable (a : Args)

/-- The gradient of the projection's input. -/
def grad (s : Fin 4096) (k : Fin 1024) : EReal := ∑ n : Fin 1024, a.dm (ix3 0 s n) * a.w (ix3 0 k n)

/-- The attention's gradient in padded heads. -/
def dO (s : Fin 4096) (q : Fin 1024) : EReal :=
  if h : q.val % 128 < 64 then grad a s ⟨q / 128 * 64 + q % 128, by omega⟩ else 0

/-- The gating's gradient. -/
def dS (s : Fin 4096) (q : Fin 512) : EReal := grad a s ⟨512 + q, by omega⟩

/-- One head's product of gradient and result. -/
def delta (h : Fin 8) (s : Fin 4096) : EReal :=
  ∑ j : Fin 64, grad a s ⟨h * 64 + j, by omega⟩ * a.at' (ix3 0 s ⟨h * 64 + j, by omega⟩)

/-- The projection's rows as the kernel holds them: eight heads of 128 rows, of which the upper 64 are zero, and the gating's 512. -/
def wrow (p : Fin 1536) (n : Fin 1024) : EReal :=
  if h : p.val < 1024 then (if p.val % 128 < 64 then a.w (ix3 0 ⟨p / 128 * 64 + p % 128, by omega⟩ n) else 0)
  else a.w (ix3 0 ⟨p - 512, by omega⟩ n)

/-- The attention's result in padded heads. -/
def opad (s : Fin 4096) (q : Fin 1024) : EReal :=
  if h : q.val % 128 < 64 then a.at' (ix3 0 s ⟨q / 128 * 64 + q % 128, by omega⟩) else 0

/-- The product with the held rows. -/
def prod (s : Fin 4096) (p : Fin 1536) : EReal := ∑ n : Fin 1024, a.dm (ix3 0 s n) * wrow a p n

theorem prod_head (s : Fin 4096) (q : Fin 1024) : prod a s ⟨q, by omega⟩ = dO a s q := by
  unfold prod dO wrow grad
  by_cases h : q.val % 128 < 64
  · rw [dif_pos h]
    refine Finset.sum_congr rfl fun n _ => ?_
    rw [dif_pos q.isLt, if_pos h]
  · rw [dif_neg h]
    refine Finset.sum_eq_zero fun n _ => ?_
    rw [dif_pos q.isLt, if_neg h, mul_zero]

theorem prod_gate (s : Fin 4096) (q : Fin 512) : prod a s ⟨1024 + q, by omega⟩ = dS a s q := by
  unfold prod dS wrow grad
  refine Finset.sum_congr rfl fun n _ => ?_
  rw [dif_neg (show ¬1024 + q.val < 1024 by omega)]
  exact congrArg (fun k => a.dm (ix3 0 s n) * a.w (ix3 0 k n)) (Fin.ext (by show 1024 + q.val - 512 = 512 + q.val; omega))

/-- The upper 64 lanes of a head add nothing. -/
theorem sum_head (s : Fin 4096) (h : Fin 8) :
    ∑ j : Fin 128, dO a s ⟨h * 128 + j, by omega⟩ * opad a s ⟨h * 128 + j, by omega⟩ = delta a h s := by
  have e := Fin.sum_univ_add (a := 64) (b := 64)
    (fun j : Fin 128 => dO a s ⟨h * 128 + j, by omega⟩ * opad a s ⟨h * 128 + j, by omega⟩)
  have hi : ∑ j : Fin 64, dO a s ⟨h * 128 + (Fin.natAdd 64 j : Fin 128), by omega⟩ * opad a s ⟨h * 128 + (Fin.natAdd 64 j : Fin 128), by omega⟩ = 0 := by
    refine Finset.sum_eq_zero fun j _ => ?_
    have hj : ¬(h.val * 128 + (64 + j.val)) % 128 < 64 := by omega
    simp only [dO, opad, Fin.val_natAdd, dif_neg hj, mul_zero]
  refine e.trans ((congrArg (_ + ·) hi).trans ((add_zero _).trans ?_))
  unfold delta
  refine Finset.sum_congr rfl fun j _ => ?_
  have hj : (h.val * 128 + j.val) % 128 < 64 := by omega
  have e1 : (h.val * 128 + j.val) / 128 * 64 + (h.val * 128 + j.val) % 128 = h.val * 64 + j.val := by omega
  simp only [dO, opad, Fin.val_castAdd, dif_pos hj, e1]

end Cert.OutSpec
-- ==== Proof.OutProjArr.lean ====
/- The arrays the output projection's backward kernel leaves, entry by entry. The first point turns the projection over into a
   buffer that the later points read again. -/
module

public import proofs.«01_k».proof.Proof.OutProjSpec
public import proofs.«01_k».proof.Proof.Gen.OutProjIdeal.Value
public import Idealize.ShloMosaic.Lib.StableHlo.RunRead
public import Idealize.ShloMosaic.Lib.Pipeline.ReadBack

@[expose] public section

set_option maxRecDepth 16384

noncomputable section

namespace Cert.OutProjIdeal.Arr

open Cert.OutProjIdeal Cert.OutProjIdeal.Gen Cert.OutSpec
open Idealize.ShloMosaic Idealize.ShloMosaic.TcCoe Idealize.ShloMosaic.Tactic Idealize.SL.Sem Idealize.ShloMosaic.StableHlo Cert.Lift

/-! ## What the host leaves in the operands -/

/-- The attention's result in padded heads, -/
def heads (x : FVec Ideal S1x4096x512 .f32) : FVec Ideal S4096x1024 .bf16 :=
  shapeCast S4096x1024 (pad S4096x8x128 ![0, 0, 0] ![0, 0, 64] ![0, 0, 0]
    (shapeCast S4096x8x64 (truncf .bf16 (shapeCast S4096x512 x shapeCasts_S1x4096x512_S4096x512) bitsLt_bf16_f32) shapeCasts_S4096x512_S4096x8x64)
    (sitofp .bf16 (constantI S_ 32 0#32)) pads_S4096x8x64_S4096x8x128_000_000_0640 h_S_) shapeCasts_S4096x8x128_S4096x1024

/-- the projection in the narrow type, -/
def narrow (w : FVec Ideal S1x1024x1024 .f32) : FVec Ideal S1024x1024 .bf16 :=
  truncf .bf16 (shapeCast S1024x1024 w shapeCasts_S1x1024x1024_S1024x1024) bitsLt_bf16_f32

/-- its first half in padded heads of rows, -/
def headRows (w : FVec Ideal S1x1024x1024 .f32) : FVec Ideal S1024x1024 .bf16 :=
  shapeCast S1024x1024 (pad S8x128x1024 ![0, 0, 0] ![0, 64, 0] ![0, 0, 0]
    (shapeCast S8x64x1024 (extractStridedSlice S512x1024 ![0, 0] (narrow w) slices_S1024x1024_S512x1024_0_0) shapeCasts_S512x1024_S8x64x1024)
    (sitofp .bf16 (constantI S_ 32 0#32)) pads_S8x64x1024_S8x128x1024_000_0640_000 h_S_) shapeCasts_S8x128x1024_S1024x1024

/-- and the whole, with the second half below. -/
def allRows (w : FVec Ideal S1x1024x1024 .f32) : FVec Ideal S1536x1024 .bf16 :=
  concatenate S1536x1024 0 [⟨S1024x1024, headRows w⟩,
    ⟨S512x1024, extractStridedSlice S512x1024 ![512, 0] (narrow w) slices_S1024x1024_S512x1024_512_0⟩] concatenates_S1024x1024_S512x1024_S1536x1024_d0

variable (m : (ℓ : Loc nD τ sig) → Buf (Elt Ideal) ℓ) (c : Dev nD)

set_option maxHeartbeats 1000000 in
theorem operands :
    V m c main_v4 = heads (m ((c : Thread nD τ).loc main_arg0))
    ∧ V m c main_v12 = allRows (m ((c : Thread nD τ).loc main_arg2)) := by
  simp only [V, hostOps0, hostOps0_1, hostOps0_2, hostOps0_3, hostOps0_4, List.flatten_cons, List.flatten_nil, List.append_nil,
    List.cons_append, List.nil_append]
  generalize hf : (fun a b => concatenate S1536x1024 0 [⟨S1024x1024, a⟩, ⟨S512x1024, b⟩] concatenates_S1024x1024_S512x1024_S1536x1024_d0
    : (⟨S1024x1024, .bf16⟩ : BufTy).Contents (Elt Ideal) → (⟨S512x1024, .bf16⟩ : BufTy).Contents (Elt Ideal) → (⟨S1536x1024, .bf16⟩ : BufTy).Contents (Elt Ideal)) = f
  refine ⟨?_, ?_⟩
  all_goals after_reads_simp; subst hf; rfl

/-- The arguments are the arrays `a`. -/
structure Is (a : Args) : Prop where
  h0 : m ((c : Thread nD τ).loc main_arg0) = a.at'
  h2 : m ((c : Thread nD τ).loc main_arg2) = a.w
  h3 : m ((c : Thread nD τ).loc main_arg3) = a.dm

variable {m c} {a : Args}

theorem zero_word : FloatOps.sitofp (F := Ideal) FTy.bf16 (0#32) = 0 := by
  simp [FloatOps.sitofp]

theorem heads_at (s : Fin 4096) (q : Fin 1024) : heads a.at' (ix2 s q) = opad a s q := by
  pointwise [heads]
  unfold opad
  by_cases h : q.val % 128 < 64
  · rw [dif_pos ⟨by omega, h⟩, dif_pos h]
  · rw [dif_neg (fun e => h e.2), dif_neg h, zero_word]

theorem rows_at (p : Fin 1536) (n : Fin 1024) : allRows a.w (ix2 p n) = wrow a p n := by
  pointwise [allRows, headRows, narrow]
  unfold wrow
  by_cases h : p.val < 1024
  · have hq : p.val / 128 < 8 := Nat.div_lt_of_lt_mul h
    simp only [dif_pos h, hq, true_and, zero_word]
    rfl
  · simp only [dif_neg h]
    exact congrArg (fun k => a.w (ix3 0 k n)) (Fin.ext (by show 512 + (p.val - 1024) = p.val - 512; omega))

theorem readDm (s : Fin 4096) (n : Fin 1024) : V m c main_v14 (ix2 s n) = m ((c : Thread nD τ).loc main_arg3) (ix3 0 s n) := by
  simp only [V, hostOps0, hostOps0_1, hostOps0_2, hostOps0_3, hostOps0_4, List.flatten_cons, List.flatten_nil, List.append_nil,
    List.cons_append, List.nil_append]
  after_reads_simp
  pointwise

/-! ## The blocks a point loads -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, t.val, 0] :=
  (by decide +kernel : ∀ t : Fin grid0.N, _)

/-- The array's row behind row `i` of point `t`'s block. -/
def prow (t : Fin cfg0.N) (i : Fin 512) : Fin 4096 := ⟨t * 512 + i, by have : t.val < 8 := t.isLt; omega⟩

theorem blkDm (hr : Is m c a) (t : Fin cfg0.N) (i : Fin 512) (n : Fin 1024) :
    iblk m c 0 t (ix2 i n) = a.dm (ix3 0 (prow t i) n) := by
  refine Eq.trans ?_ ((readDm (m := m) (c := c) (prow t i) n).trans (congrFun hr.h3 _))
  exact congrArg (V m c main_v14) (by unfold prow; blk_ext [idx t])

theorem blkW (hr : Is m c a) (t : Fin cfg0.N) (p : Fin 1536) (n : Fin 1024) : iblk m c 1 t (ix2 p n) = wrow a p n := by
  refine Eq.trans ?_ ((congrFun ((operands m c).2.trans (congrArg allRows hr.h2)) (ix2 p n)).trans (rows_at p n))
  exact congrArg (V m c main_v12) (by blk_ext [idx t])

theorem blkO (hr : Is m c a) (t : Fin cfg0.N) (i : Fin 512) (q : Fin 1024) : iblk m c 2 t (ix2 i q) = opad a (prow t i) q := by
  refine Eq.trans ?_ ((congrFun ((operands m c).1.trans (congrArg heads hr.h0)) (ix2 (prow t i) q)).trans (heads_at (prow t i) q))
  exact congrArg (V m c main_v4) (by unfold prow; blk_ext [idx t])

/-! ## What a point computes -/

theorem pay1_at {v : FVec Ideal S1536x1024 .bf16} (k : Fin 1024) (p : Fin 1536) : k0_pay1 (F := Ideal) v (ix2 k p) = v (ix2 p k) := by
  pointwise [k0_pay1]

section point

variable {v3 v12 : FVec Ideal S512x1024 .bf16} {v5 : FVec Ideal S1024x1536 .bf16} {r : Fin 512 → Fin 4096}
  (h3 : ∀ i n, v3 (ix2 i n) = a.dm (ix3 0 (r i) n)) (h5 : ∀ n p, v5 (ix2 n p) = wrow a p n)

include h3 h5

theorem pay2_at (i : Fin 512) (p : Fin 1536) : k0_pay2 (F := Ideal) v3 v5 (ix2 i p) = prod a (r i) p := by
  pointwise [k0_pay2, h3, h5]
  rfl

theorem pay3_at (i : Fin 512) (q : Fin 1024) : k0_pay3 (F := Ideal) v3 v5 (ix2 i q) = dO a (r i) q := by
  pointwise [k0_pay3, pay2_at h3 h5]
  exact prod_head a (r i) q

theorem pay4_at (i : Fin 512) (q : Fin 1024) : k0_pay4 (F := Ideal) v3 v5 (ix2 i q) = dO a (r i) q := by
  pointwise [k0_pay4, pay3_at h3 h5]

theorem pay5_at (i : Fin 512) (q : Fin 512) : k0_pay5 (F := Ideal) v3 v5 (ix2 i q) = dS a (r i) q := by
  pointwise [k0_pay5, pay2_at h3 h5]
  exact prod_gate a (r i) q

variable (h12 : ∀ i q, v12 (ix2 i q) = opad a (r i) q)
include h12

theorem pay6_at (i : Fin 512) (q : Fin 1024) : k0_pay6 (F := Ideal) v3 v5 v12 (ix2 i q) = dO a (r i) q * opad a (r i) q := by
  pointwise [k0_pay6, pay3_at h3 h5, h12]

theorem head0 (i : Fin 512) : k0_pay7 (F := Ideal) v3 v5 v12 (ix3 0 i 0) = delta a 0 (r i) := by
  rw [← sum_head]
  pointwise [k0_pay7, pay6_at h3 h5 h12]

theorem head1 (i : Fin 512) : k0_pay8 (F := Ideal) v3 v5 v12 (ix3 0 i 0) = delta a 1 (r i) := by
  rw [← sum_head]
  pointwise [k0_pay8, pay6_at h3 h5 h12]

theorem head2 (i : Fin 512) : k0_pay10 (F := Ideal) (k0_pay9 v3 v5 v12) (ix3 0 i 0) = delta a 2 (r i) := by
  rw [← sum_head]
  pointwise [k0_pay10, k0_pay9, pay6_at h3 h5 h12]

theorem head3 (i : Fin 512) : k0_pay11 (F := Ideal) (k0_pay6 v3 v5 v12) (ix3 0 i 0) = delta a 3 (r i) := by
  rw [← sum_head]
  pointwise [k0_pay11, pay6_at h3 h5 h12]

theorem head4 (i : Fin 512) : k0_pay12 (F := Ideal) (k0_pay6 v3 v5 v12) (ix3 0 i 0) = delta a 4 (r i) := by
  rw [← sum_head]
  pointwise [k0_pay12, pay6_at h3 h5 h12]

theorem head5 (i : Fin 512) : k0_pay13 (F := Ideal) (k0_pay6 v3 v5 v12) (ix3 0 i 0) = delta a 5 (r i) := by
  rw [← sum_head]
  pointwise [k0_pay13, pay6_at h3 h5 h12]

theorem head6 (i : Fin 512) : k0_pay14 (F := Ideal) (k0_pay6 v3 v5 v12) (ix3 0 i 0) = delta a 6 (r i) := by
  rw [← sum_head]
  pointwise [k0_pay14, pay6_at h3 h5 h12]

theorem head7 (i : Fin 512) : k0_pay15 (F := Ideal) (k0_pay6 v3 v5 v12) (ix3 0 i 0) = delta a 7 (r i) := by
  rw [← sum_head]
  pointwise [k0_pay15, pay6_at h3 h5 h12]

end point

/-! ## The buffer the first point fills -/

theorem first (hr : Is m c a) (t : Fin cfg0.N) (k : Fin 1024) (p : Fin 1536) : k0_pay1 (F := Ideal) (iblk m c 1 t) (ix2 k p) = wrow a p k :=
  (pay1_at k p).trans (blkW hr t p k)

theorem held (hr : Is m c a) : ∀ (n : ℕ) (h : n < cfg0.N) (k : Fin 1024) (p : Fin 1536), (outsAt0 m c n h).2.2.2 (ix2 k p) = wrow a p k
  | 0, h, k, p => by
    rw [outsAt0_A m c ⟨0, h⟩ rfl]
    frame_out
    exact first hr ⟨0, h⟩ k p
  | n + 1, h, k, p => by
    have h8 : n + 1 < 8 := h
    rw [outsAt0_B m c ⟨n + 1, h⟩ (by show ¬(n + 1) % 8 = 0; omega)]
    frame_out
    exact held hr n (Nat.lt_of_succ_lt h) k p

/-! ## The arrays -/

attribute [local irreducible] dO dS delta

/-- What the point reads from the buffer, whichever point it is. -/
theorem point3 (hr : Is m c a) (t : Fin cfg0.N) (i : Fin 512) (q : Fin 1024) :
    (outsAt0 m c t.val t.isLt).1 (ix2 i q) = dO a (prow t i) q := by
  by_cases h : t.val % 8 = 0
  · rw [outsAt0_A m c t h]
    frame_out
    exact pay4_at (blkDm hr t) (first hr t) i q
  · rw [outsAt0_B m c t h]
    frame_out
    simp only [read_unread_whole]
    exact pay4_at (blkDm hr t) (held hr (t.val - 1) (by omega)) i q

/-- The array of the attention's gradient. -/
theorem arr3 (hr : Is m c a) : (dats m 0 c).arrAt 3 cfg0.N = fun i : S4096x1024.Idx => dO a (i 0) (i 1) := by
  refine (dats m 0 c).arrAt_eq_of_covers 3 _ (by decide +kernel) fun t hf y => ?_
  blk_simp
  rw [after0_3]
  have e : (y : S512x1024.Idx) = ix2 (y 0) (y 1) := by blk_ext
  refine (congrArg _ e).trans ((point3 hr t _ _).trans ?_)
  refine congrArg (fun i : S4096x1024.Idx => dO a (i 0) (i 1)) (?_ : ix2 (prow t (y 0)) (y 1) = _)
  unfold prow
  blk_ext [idx t]

theorem point4 (hr : Is m c a) (t : Fin cfg0.N) (i : Fin 512) (q : Fin 512) :
    (outsAt0 m c t.val t.isLt).2.1 (ix2 i q) = dS a (prow t i) q := by
  by_cases h : t.val % 8 = 0
  · rw [outsAt0_A m c t h]
    frame_out
    exact pay5_at (blkDm hr t) (first hr t) i q
  · rw [outsAt0_B m c t h]
    frame_out
    simp only [read_unread_whole]
    exact pay5_at (blkDm hr t) (held hr (t.val - 1) (by omega)) i q

/-- The array of the gating's gradient. -/
theorem arr4 (hr : Is m c a) : (dats m 0 c).arrAt 4 cfg0.N = fun i : S4096x512.Idx => dS a (i 0) (i 1) := by
  refine (dats m 0 c).arrAt_eq_of_covers 4 _ (by decide +kernel) fun t hf y => ?_
  blk_simp
  rw [after0_4]
  have e : (y : S512x512.Idx) = ix2 (y 0) (y 1) := by blk_ext
  refine (congrArg _ e).trans ((point4 hr t _ _).trans ?_)
  refine congrArg (fun i : S4096x512.Idx => dS a (i 0) (i 1)) (?_ : ix2 (prow t (y 0)) (y 1) = _)
  unfold prow
  blk_ext [idx t]

/-- An entry of the block lies in the tile of its head. -/
theorem tile {f : S1x512x1.Idx → EReal} {t : Fin cfg0.N} {h : Fin 8} {i : Fin 512} {k : ℕ} {y : S1x512x1.Idx} {hd : Fin 8}
    (h0 : h.val = k + (y 0).val) (h1 : i.val = (y 1).val) (hk : hd.val = k) (hf : ∀ i', f (ix3 0 i' 0) = delta a hd (prow t i')) :
    f y = delta a h (prow t i) := by
  have e0 : (y 0).val = 0 := by have : (y 0).val < 1 := (y 0).isLt; omega
  have eh : h = hd := Fin.ext (by omega)
  have ei : i = y 1 := Fin.ext h1
  have ey : (y : S1x512x1.Idx) = ix3 0 (y 1) 0 := by blk_ext
  rw [eh, ei]
  exact (congrArg f ey).trans (hf (y 1))

theorem point5 (hr : Is m c a) (t : Fin cfg0.N) (h : Fin 8) (i : Fin 512) :
    (outsAt0 m c t.val t.isLt).2.2.1 (ix3 h i 0) = delta a h (prow t i) := by
  by_cases ht : t.val % 8 = 0
  · rw [outsAt0_A m c t ht]
    frame_out
    canon_tiles y h'
    case piece0 => exact tile h'0 h'1 rfl fun i' => head7 (blkDm hr t) (first hr t) (blkO hr t) i'
    case piece1 => exact tile h'0 h'1 rfl fun i' => head6 (blkDm hr t) (first hr t) (blkO hr t) i'
    case piece2 => exact tile h'0 h'1 rfl fun i' => head5 (blkDm hr t) (first hr t) (blkO hr t) i'
    case piece3 => exact tile h'0 h'1 rfl fun i' => head4 (blkDm hr t) (first hr t) (blkO hr t) i'
    case piece4 => exact tile h'0 h'1 rfl fun i' => head3 (blkDm hr t) (first hr t) (blkO hr t) i'
    case piece5 => exact tile h'0 h'1 rfl fun i' => head2 (blkDm hr t) (first hr t) (blkO hr t) i'
    case piece6 => exact tile h'0 h'1 rfl fun i' => head1 (blkDm hr t) (first hr t) (blkO hr t) i'
    case piece7 => exact tile (h'0.trans (Nat.zero_add _).symm) h'1 rfl fun i' => head0 (blkDm hr t) (first hr t) (blkO hr t) i'
  · rw [outsAt0_B m c t ht]
    frame_out
    simp only [read_unread_whole]
    canon_tiles y h'
    case piece0 => exact tile h'0 h'1 rfl fun i' => head7 (blkDm hr t) (held hr (t.val - 1) (by omega)) (blkO hr t) i'
    case piece1 => exact tile h'0 h'1 rfl fun i' => head6 (blkDm hr t) (held hr (t.val - 1) (by omega)) (blkO hr t) i'
    case piece2 => exact tile h'0 h'1 rfl fun i' => head5 (blkDm hr t) (held hr (t.val - 1) (by omega)) (blkO hr t) i'
    case piece3 => exact tile h'0 h'1 rfl fun i' => head4 (blkDm hr t) (held hr (t.val - 1) (by omega)) (blkO hr t) i'
    case piece4 => exact tile h'0 h'1 rfl fun i' => head3 (blkDm hr t) (held hr (t.val - 1) (by omega)) (blkO hr t) i'
    case piece5 => exact tile h'0 h'1 rfl fun i' => head2 (blkDm hr t) (held hr (t.val - 1) (by omega)) (blkO hr t) i'
    case piece6 => exact tile h'0 h'1 rfl fun i' => head1 (blkDm hr t) (held hr (t.val - 1) (by omega)) (blkO hr t) i'
    case piece7 => exact tile (h'0.trans (Nat.zero_add _).symm) h'1 rfl fun i' => head0 (blkDm hr t) (held hr (t.val - 1) (by omega)) (blkO hr t) i'

/-- The array of the heads' products. -/
theorem arr5 (hr : Is m c a) : (dats m 0 c).arrAt 5 cfg0.N = fun i : S8x4096x1.Idx => delta a (i 0) (i 1) := by
  refine (dats m 0 c).arrAt_eq_of_covers 5 _ (by decide +kernel) fun t hf y => ?_
  blk_simp
  rw [after0_5]
  have e : (y : S8x512x1.Idx) = ix3 (y 0) (y 1) 0 := by blk_ext
  refine (congrArg _ e).trans ((point5 hr t _ _).trans ?_)
  refine congrArg (fun i : S8x4096x1.Idx => delta a (i 0) (i 1)) (?_ : ix3 (y 0) (prow t (y 1)) 0 = _)
  unfold prow
  blk_ext [idx t]

end Cert.OutProjIdeal.Arr
-- ==== Proof.OutProjRef.lean ====
/- The output projection's reference: its results entry by entry. -/
module

public import proofs.«01_k».proof.Proof.OutProjSpec
public import proofs.«01_k».proof.Proof.Gen.OutProjRefIdeal.Read

@[expose] public section

set_option maxRecDepth 16384

noncomputable section

namespace Cert.OutProjRefIdeal.Real

open Cert.OutProjRefIdeal Cert.OutProjRefIdeal.Read Cert.OutSpec
open Idealize.ShloMosaic Cert.Lift

variable (a : Args)

theorem zero_word : FloatOps.sitofp (F := Ideal) FTy.f32 (0#32) = 0 := by
  simp [FloatOps.sitofp]

theorem v3 (s : Fin 4096) (k : Fin 1024) : val_main_v3 (F := Ideal) a.w a.dm (ix3 0 s k) = grad a s k := by
  pointwise [val_main_v3, val_main_v1]
  rfl

theorem v4 (s : Fin 4096) (k : Fin 512) : val_main_v4 (F := Ideal) a.w a.dm (ix3 0 s k) = grad a s ⟨k, by omega⟩ := by
  pointwise [val_main_v4, v3]

theorem v11 (s : Fin 4096) (h : Fin 8) (j : Fin 64) :
    val_main_v11 (F := Ideal) a.w a.dm (ix3 s h j) = grad a s ⟨h * 64 + j, by omega⟩ := by
  pointwise [val_main_v11, val_main_v10, v4]

theorem v7 (s : Fin 4096) (h : Fin 8) (j : Fin 64) :
    val_main_v7 (F := Ideal) a.w a.dm (ix3 s h j) = grad a s ⟨h * 64 + j, by omega⟩ := by
  pointwise [val_main_v7, val_main_v6, v4]

theorem v13 (s : Fin 4096) (h : Fin 8) (j : Fin 64) : val_main_v13 (F := Ideal) a.at' (ix3 s h j) = a.at' (ix3 0 s ⟨h * 64 + j, by omega⟩) := by
  pointwise [val_main_v13, val_main_v12]

theorem out16 : val_main_v16 (F := Ideal) a.w a.dm = fun i : S4096x1024.Idx => dO a (i 0) (i 1) := by
  funext i
  idx_vars i
  pointwise [val_main_v16, val_main_v9, val_main_v8, v7, val_main_call0_v0, val_main_c]
  unfold dO
  by_cases h : i1.val % 128 < 64
  · rw [dif_pos ⟨by omega, h⟩, dif_pos h]
  · rw [dif_neg (fun e => h e.2), dif_neg h, zero_word]

theorem out17 : val_main_v17 (F := Ideal) a.w a.dm = fun i : S4096x512.Idx => dS a (i 0) (i 1) := by
  funext i
  idx_vars i
  pointwise [val_main_v17, val_main_v5, v3]
  rfl

theorem out19 : val_main_v19 (F := Ideal) a.at' a.w a.dm = fun i : S8x4096x1.Idx => delta a (i 0) (i 1) := by
  funext i
  idx_vars i
  pointwise [val_main_v19, val_main_v18, val_main_v15, val_main_v14, val_main_cst, v11, v13]
  rfl

end Cert.OutProjRefIdeal.Real
-- ==== Proof.OutProjPair.lean ====
/- The output projection's backward call: the kernel's three results are the reference's, whatever the arguments hold. -/
module

public import proofs.«01_k».proof.Defs
public import proofs.«01_k».proof.Proof.OutProjArr
public import proofs.«01_k».proof.Proof.OutProjRef
public import Idealize.ShloMosaic.Lib.Claim

@[expose] public section

set_option maxRecDepth 16384

noncomputable section

namespace Cert.OutProjPair

open Idealize.ShloMosaic Idealize.ShloMosaic.TcCoe Idealize.SL.Sem Cert.Lift Cert.OutSpec
open Cert.OutProjRefIdeal Cert.OutProjRefIdeal.Real Cert.OutProjIdeal.Arr

/-- The arrays the arguments hold. -/
theorem args_are (m : (ℓ : Loc Cert.OutProjIdeal.nD Cert.OutProjIdeal.τ Cert.OutProjIdeal.sig) → Buf (Elt Ideal) ℓ)
    (c : Dev Cert.OutProjIdeal.nD) : ∃ a : Args, Cert.OutProjIdeal.Arr.Is m c a :=
  ⟨⟨_, _, _⟩, ⟨rfl, rfl, rfl⟩⟩

set_option maxHeartbeats 4000000 in
theorem algebraic : Cert.algebraic_OutProjIdeal_OutProjRefIdeal := by
  pair_intro
  · run_from Cert.OutProjIdeal.Value.run_blocks m g
  · run_from Cert.OutProjRefIdeal.Value.run m' g'
    all_goals
      obtain ⟨a, hr⟩ := args_are m c
      have e0 := (hagree c).1.trans hr.h0
      have e2 := (hagree c).2.2.1.trans hr.h2
      have e3 := (hagree c).2.2.2.trans hr.h3
    · exact (Read.val_main_v16_eq ..).trans ((by first | rw [e2, e3] | rw [hr.h2, hr.h3] : _ = _).trans ((out16 a).trans (arr3 hr).symm))
    · exact (Read.val_main_v17_eq ..).trans ((by first | rw [e2, e3] | rw [hr.h2, hr.h3] : _ = _).trans ((out17 a).trans (arr4 hr).symm))
    · exact (Read.val_main_v19_eq ..).trans ((by first | rw [e0, e2, e3] | rw [hr.h0, hr.h2, hr.h3] : _ = _).trans ((out19 a).trans (arr5 hr).symm))

/-- The reference runs to its end and leaves its arguments. -/
theorem quiescent_ref : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

end Cert.OutProjPair
-- ==== Proof.FfnUpSpec.lean ====
/- The up projection's backward call over real numbers: the gradient of the projected row comes back through the modulated pre-norm
   to the residual stream, and from there through the gate and the post-norm to the mixer's output. The kernel's module and the
   reference's one both end in these functions. -/
module

public import proofs.«01_k».proof.Proof.Rms

@[expose] public section

noncomputable section

namespace Cert.UpSpec

open Idealize.ShloMosaic Cert.Lift Cert.Rms

/-- The arguments, as real arrays: the residual stream, the mixer's output, the up projection, the projected conditioning, its bias,
    the post-norm's and the pre-norm's scales, the gradient of the residual stream and the gradient of the projected rows. -/
structure Args where
  x : (⟨3, ![1, 4096, 1024]⟩ : Shape).Idx → ℝ
  m : (⟨3, ![1, 4096, 1024]⟩ : Shape).Idx → ℝ
  w : (⟨3, ![1, 1024, 5632]⟩ : Shape).Idx → ℝ
  ca : (⟨2, ![1, 6144]⟩ : Shape).Idx → ℝ
  cb : (⟨2, ![1, 6144]⟩ : Shape).Idx → ℝ
  gp : (⟨2, ![1, 1024]⟩ : Shape).Idx → ℝ
  gq : (⟨2, ![1, 1024]⟩ : Shape).Idx → ℝ
  dOut : (⟨3, ![1, 4096, 1024]⟩ : Shape).Idx → ℝ
  dUp : (⟨3, ![1, 4096, 5632]⟩ : Shape).Idx → ℝ

variable (a : Args)

/-- The mixer's gate: the third sixth of the conditioning. -/
def gt (c : Fin 1024) : ℝ := a.ca (ix2 0 ⟨2048 + c, by omega⟩) + a.cb (ix2 0 ⟨2048 + c, by omega⟩)

/-- The modulation's scale: the fifth sixth of the conditioning. -/
def sc (c : Fin 1024) : ℝ := a.ca (ix2 0 ⟨4096 + c, by omega⟩) + a.cb (ix2 0 ⟨4096 + c, by omega⟩)

/-- A row of the mixer's output. -/
def mrow (s : Fin 4096) (c : Fin 1024) : ℝ := a.m (ix3 0 s c)

/-- The mixer's output over its root mean square. -/
def mhat (s : Fin 4096) (c : Fin 1024) : ℝ := mrow a s c * rinv 1024 (mrow a s)

/-- The residual stream after the mixer. -/
def x2 (s : Fin 4096) (c : Fin 1024) : ℝ := a.x (ix3 0 s c) + gt a c * (mhat a s c * a.gp (ix2 0 c))

/-- That row over its root mean square. -/
def xhat (s : Fin 4096) (c : Fin 1024) : ℝ := x2 a s c * rinv 1024 (x2 a s)

/-- The gradient of the modulated row. -/
def dH (s : Fin 4096) (c : Fin 1024) : ℝ := ∑ k : Fin 5632, a.dUp (ix3 0 s k) * a.w (ix3 0 c k)

/-- The gradient of the normalised row. -/
def dMod (s : Fin 4096) (c : Fin 1024) : ℝ := dH a s c * (1 + sc a c)

/-- The gradient of the residual stream after the mixer. -/
def dX (s : Fin 4096) (c : Fin 1024) : ℝ := a.dOut (ix3 0 s c) + rbwd 1024 (x2 a s) (fun c => dMod a s c * a.gq (ix2 0 c)) c

/-- The gradient of the mixer's output. -/
def dM (s : Fin 4096) (c : Fin 1024) : ℝ := rbwd 1024 (mrow a s) (fun c => dX a s c * gt a c * a.gp (ix2 0 c)) c

/-- The gradient of the modulation's shift. -/
def dSh (c : Fin 1024) : ℝ := ∑ s, dH a s c

/-- The gradient of its scale. -/
def dSc (c : Fin 1024) : ℝ := ∑ s, dH a s c * (xhat a s c * a.gq (ix2 0 c))

/-- The gradient of the pre-norm's scale. -/
def dGq (c : Fin 1024) : ℝ := ∑ s, dMod a s c * xhat a s c

/-- The gradient of the gate. -/
def dGt (c : Fin 1024) : ℝ := ∑ s, dX a s c * (mhat a s c * a.gp (ix2 0 c))

/-- The gradient of the post-norm's scale. -/
def dGp (c : Fin 1024) : ℝ := ∑ s, dX a s c * gt a c * mhat a s c

end Cert.UpSpec
-- ==== Proof.FfnUpPay.lean ====
/- What one point of the up projection's backward kernel computes on its 512 rows, as real numbers. -/
module

public import proofs.«01_k».proof.Proof.Rms
public import proofs.«01_k».proof.Proof.Gen.FfnUpIdeal.Skeleton

@[expose] public section

set_option maxRecDepth 16384

noncomputable section

namespace Cert.FfnUpIdeal.Pay

open Cert.FfnUpIdeal Cert.FfnUpIdeal.Gen Idealize.ShloMosaic Cert.Lift Cert.Rms

/-- The mixer's gate and the modulation's scale: each the projected conditioning with its bias. -/
theorem pay12 {v3 v5 : FVec Ideal S1x1024 .f32} {p q : Fin 1024 → ℝ} (h3 : ∀ j, v3 (ix2 0 j) = ((p j : ℝ) : EReal))
    (h5 : ∀ j, v5 (ix2 0 j) = ((q j : ℝ) : EReal)) (j : Fin 1024) : k0_pay12 (F := Ideal) v3 v5 (ix2 0 j) = ((p j + q j : ℝ) : EReal) := by
  pointwise [k0_pay12, h3, h5]
  simp only [← EReal.coe_add]

theorem pay13 {v3 v5 : FVec Ideal S1x1024 .f32} {p q : Fin 1024 → ℝ} (h3 : ∀ j, v3 (ix2 0 j) = ((p j : ℝ) : EReal))
    (h5 : ∀ j, v5 (ix2 0 j) = ((q j : ℝ) : EReal)) (j : Fin 1024) : k0_pay13 (F := Ideal) v3 v5 (ix2 0 j) = ((p j + q j : ℝ) : EReal) := by
  pointwise [k0_pay13, h3, h5]
  simp only [← EReal.coe_add]

section product
variable {a0 a1 a2 a3 a4 a5 a6 a7 : FVec Ideal S1x1x512x704 .bf16} {w0 w1 w2 w3 w4 w5 w6 w7 : FVec Ideal S1x704x1024 .bf16}
  {a : Fin 8 → Fin 512 → Fin 704 → ℝ} {w : Fin 8 → Fin 704 → Fin 1024 → ℝ}

/-- The first two blocks of the product, the next four and the last two. -/
theorem pay14 (ha0 : ∀ i k, a0 (ix4 0 0 i k) = ((a 0 i k : ℝ) : EReal)) (ha1 : ∀ i k, a1 (ix4 0 0 i k) = ((a 1 i k : ℝ) : EReal))
    (hw0 : ∀ k c, w0 (ix3 0 k c) = ((w 0 k c : ℝ) : EReal)) (hw1 : ∀ k c, w1 (ix3 0 k c) = ((w 1 k c : ℝ) : EReal))
    (i : Fin 512) (c : Fin 1024) :
    k0_pay14 (F := Ideal) a0 w0 a1 w1 (ix2 i c) = ((∑ k, a 0 i k * w 0 k c + ∑ k, a 1 i k * w 1 k c : ℝ) : EReal) := by
  pointwise [k0_pay14, ha0, ha1, hw0, hw1]
  simp only [← EReal.coe_mul, sum_coe, ← EReal.coe_add]

theorem pay15 {v25 : FVec Ideal S512x1024 .f32} {f : Fin 512 → Fin 1024 → ℝ} (h25 : ∀ i c, v25 (ix2 i c) = ((f i c : ℝ) : EReal))
    (ha2 : ∀ i k, a2 (ix4 0 0 i k) = ((a 2 i k : ℝ) : EReal)) (ha3 : ∀ i k, a3 (ix4 0 0 i k) = ((a 3 i k : ℝ) : EReal))
    (ha4 : ∀ i k, a4 (ix4 0 0 i k) = ((a 4 i k : ℝ) : EReal)) (ha5 : ∀ i k, a5 (ix4 0 0 i k) = ((a 5 i k : ℝ) : EReal))
    (hw2 : ∀ k c, w2 (ix3 0 k c) = ((w 2 k c : ℝ) : EReal)) (hw3 : ∀ k c, w3 (ix3 0 k c) = ((w 3 k c : ℝ) : EReal))
    (hw4 : ∀ k c, w4 (ix3 0 k c) = ((w 4 k c : ℝ) : EReal)) (hw5 : ∀ k c, w5 (ix3 0 k c) = ((w 5 k c : ℝ) : EReal))
    (i : Fin 512) (c : Fin 1024) : k0_pay15 (F := Ideal) v25 a2 w2 a3 w3 a4 w4 a5 w5 (ix2 i c)
      = ((f i c + ∑ k, a 2 i k * w 2 k c + ∑ k, a 3 i k * w 3 k c + ∑ k, a 4 i k * w 4 k c + ∑ k, a 5 i k * w 5 k c : ℝ) : EReal) := by
  pointwise [k0_pay15, h25, ha2, ha3, ha4, ha5, hw2, hw3, hw4, hw5]
  simp only [← EReal.coe_mul, sum_coe, ← EReal.coe_add]

theorem pay17 {v49 : FVec Ideal S512x1024 .f32} {f : Fin 512 → Fin 1024 → ℝ} (h49 : ∀ i c, v49 (ix2 i c) = ((f i c : ℝ) : EReal))
    (ha6 : ∀ i k, a6 (ix4 0 0 i k) = ((a 6 i k : ℝ) : EReal)) (ha7 : ∀ i k, a7 (ix4 0 0 i k) = ((a 7 i k : ℝ) : EReal))
    (hw6 : ∀ k c, w6 (ix3 0 k c) = ((w 6 k c : ℝ) : EReal)) (hw7 : ∀ k c, w7 (ix3 0 k c) = ((w 7 k c : ℝ) : EReal))
    (i : Fin 512) (c : Fin 1024) : k0_pay17 (F := Ideal) v49 (k0_pay16 a6) w6 a7 w7 (ix2 i c)
      = ((f i c + ∑ k, a 6 i k * w 6 k c + ∑ k, a 7 i k * w 7 k c : ℝ) : EReal) := by
  pointwise [k0_pay17, k0_pay16, h49, ha6, ha7, hw6, hw7]
  simp only [← EReal.coe_mul, sum_coe, ← EReal.coe_add]

end product

variable {dh xx mm dd : Fin 512 → Fin 1024 → ℝ} {g gt sc : Fin 1024 → ℝ}

section stream
variable {v62 : FVec Ideal S512x1024 .f32} (hx : ∀ i c, v62 (ix2 i c) = ((xx i c : ℝ) : EReal))
include hx

theorem pay19 (i : Fin 512) : k0_pay19 (F := Ideal) v62 (ix2 i 0) = ((rinv 1024 (xx i) : ℝ) : EReal) := by
  pointwise [k0_pay19, k0_pay18, hx]
  simp only [← EReal.coe_mul, sum_coe, w1024, weps, div_coe _ 1024 (by norm_num), ← EReal.coe_add, lift_rinv 1024 (by norm_num)]

theorem pay20 (i : Fin 512) (c : Fin 1024) : k0_pay20 (F := Ideal) v62 (ix2 i c) = ((xx i c * rinv 1024 (xx i) : ℝ) : EReal) := by
  pointwise [k0_pay20, k0_pay18, hx, pay19 hx]
  simp only [← EReal.coe_mul]

end stream

section sums
variable {v49 : FVec Ideal S512x1024 .f32} {v51 : FVec Ideal S512x704 .bf16} {v52 : FVec Ideal S1x704x1024 .bf16}
  {v56 : FVec Ideal S1x1x512x704 .bf16} {v58 : FVec Ideal S1x704x1024 .bf16}
  (h17 : ∀ i c, k0_pay17 (F := Ideal) v49 v51 v52 v56 v58 (ix2 i c) = ((dh i c : ℝ) : EReal))
include h17

theorem pay21 {v74 : FVec Ideal S1x1024 .f32} (c : Fin 1024) :
    k0_pay21 (F := Ideal) v49 v51 v52 v56 v58 v74 (ix2 0 c) = v74 (ix2 0 c) + ((∑ i, dh i c : ℝ) : EReal) := by
  pointwise [k0_pay21, h17]
  simp only [sum_coe]

theorem pay24 {v62 : FVec Ideal S512x1024 .f32} (hx : ∀ i c, v62 (ix2 i c) = ((xx i c : ℝ) : EReal)) {v13 v80 : FVec Ideal S1x1024 .f32}
    (hg : ∀ c, v13 (ix2 0 c) = ((g c : ℝ) : EReal)) (c : Fin 1024) :
    k0_pay24 (F := Ideal) (k0_pay22 v80) (k0_pay23 v13 v49 v51 v52 v56 v58 v62) (ix2 0 c)
      = v80 (ix2 0 c) + ((∑ i, dh i c * (xx i c * rinv 1024 (xx i) * g c) : ℝ) : EReal) := by
  pointwise [k0_pay24, k0_pay22, k0_pay23, h17, pay20 hx, hg]
  simp only [← EReal.coe_mul, sum_coe]

end sums

section residual
variable {v61 v73 v100 : FVec Ideal S512x1024 .f32} {v12 v13 : FVec Ideal S1x1024 .f32} {v71 : FVec Ideal S512x1 .f32}
  (h61 : ∀ i c, v61 (ix2 i c) = ((dh i c : ℝ) : EReal)) (hsc : ∀ c, v12 (ix2 0 c) = ((sc c : ℝ) : EReal))
include h61 hsc

theorem pay25 (i : Fin 512) (c : Fin 1024) : k0_pay25 (F := Ideal) v12 v61 (ix2 i c) = ((dh i c * (1 + sc c) : ℝ) : EReal) := by
  pointwise [k0_pay25, h61, hsc]
  rw [EReal.coe_mul, EReal.coe_add, EReal.coe_one]

variable (h73 : ∀ i c, v73 (ix2 i c) = ((xx i c * rinv 1024 (xx i) : ℝ) : EReal))
include h73

theorem pay26 {v93 : FVec Ideal S1x1024 .f32} (c : Fin 1024) : k0_pay26 (F := Ideal) v12 v61 v73 v93 (ix2 0 c)
    = v93 (ix2 0 c) + ((∑ i, dh i c * (1 + sc c) * (xx i c * rinv 1024 (xx i)) : ℝ) : EReal) := by
  pointwise [k0_pay26, pay25 h61 hsc, h73]
  simp only [← EReal.coe_mul, sum_coe]

theorem pay27 (hg : ∀ c, v13 (ix2 0 c) = ((g c : ℝ) : EReal)) (h71 : ∀ i, v71 (ix2 i 0) = ((rinv 1024 (xx i) : ℝ) : EReal))
    (hd : ∀ i c, v100 (ix2 i c) = ((dd i c : ℝ) : EReal)) (i : Fin 512) (c : Fin 1024) :
    k0_pay27 (F := Ideal) v12 v13 v61 v71 v73 v100 (ix2 i c)
      = ((dd i c + rbwd 1024 (xx i) (fun c => dh i c * (1 + sc c) * g c) c : ℝ) : EReal) := by
  pointwise [k0_pay27, pay25 h61 hsc, h73, hg, h71, hd]
  simp only [← EReal.coe_mul, sum_coe, w1024, div_coe _ 1024 (by norm_num), ← EReal.coe_sub, ← EReal.coe_add, rbwd]

end residual

section mixer
variable {v116 v114 : FVec Ideal S512x1024 .f32} {v7 v14 : FVec Ideal S1x1024 .f32} {dx : Fin 512 → Fin 1024 → ℝ}
  (hm : ∀ i c, v116 (ix2 i c) = ((mm i c : ℝ) : EReal))

include hm in
theorem pay1 (i : Fin 512) : k0_pay1 (F := Ideal) (k0_pay29 v116) k0_pay30 (ix2 i 0) = ((rinv 1024 (mm i) : ℝ) : EReal) := by
  pointwise [k0_pay1, k0_pay29, k0_pay28, k0_pay30, hm]
  simp only [← EReal.coe_mul, sum_coe, w1024, weps, div_coe _ 1024 (by norm_num), ← EReal.coe_add, lift_rinv 1024 (by norm_num)]

include hm in
theorem pay2 (i : Fin 512) (c : Fin 1024) :
    k0_pay2 (F := Ideal) (k0_pay28 v116) (k0_pay29 v116) k0_pay30 (ix2 i c) = ((mm i c * rinv 1024 (mm i) : ℝ) : EReal) := by
  pointwise [k0_pay2, k0_pay28, hm, pay1 hm]
  simp only [← EReal.coe_mul]

variable (hdx : ∀ i c, v114 (ix2 i c) = ((dx i c : ℝ) : EReal))
include hdx

include hm in
theorem pay3 {v128 : FVec Ideal S1x1024 .f32} (hg : ∀ c, v14 (ix2 0 c) = ((g c : ℝ) : EReal)) (c : Fin 1024) :
    k0_pay3 (F := Ideal) v14 v114 (k0_pay28 v116) (k0_pay29 v116) k0_pay30 v128 (ix2 0 c)
      = v128 (ix2 0 c) + ((∑ i, dx i c * (mm i c * rinv 1024 (mm i) * g c) : ℝ) : EReal) := by
  pointwise [k0_pay3, pay2 hm, hdx, hg]
  simp only [← EReal.coe_mul, sum_coe]

variable (hgt : ∀ c, v7 (ix2 0 c) = ((gt c : ℝ) : EReal))
include hgt

theorem pay4 (i : Fin 512) (c : Fin 1024) : k0_pay4 (F := Ideal) v7 v114 (ix2 i c) = ((dx i c * gt c : ℝ) : EReal) := by
  pointwise [k0_pay4, hdx, hgt]
  simp only [← EReal.coe_mul]

include hm

theorem pay5 {v139 : FVec Ideal S1x1024 .f32} (c : Fin 1024) :
    k0_pay5 (F := Ideal) v7 v114 (k0_pay28 v116) (k0_pay29 v116) k0_pay30 v139 (ix2 0 c)
      = v139 (ix2 0 c) + ((∑ i, dx i c * gt c * (mm i c * rinv 1024 (mm i)) : ℝ) : EReal) := by
  pointwise [k0_pay5, pay2 hm, pay4 hdx hgt]
  simp only [← EReal.coe_mul, sum_coe]

theorem pay6 (hg : ∀ c, v14 (ix2 0 c) = ((g c : ℝ) : EReal)) (i : Fin 512) (c : Fin 1024) :
    k0_pay6 (F := Ideal) v7 v14 v114 (k0_pay28 v116) (k0_pay29 v116) k0_pay30 (ix2 i c)
      = ((rbwd 1024 (mm i) (fun c => dx i c * gt c * g c) c : ℝ) : EReal) := by
  pointwise [k0_pay6, pay2 hm, pay1 hm, pay4 hdx hgt, hg]
  simp only [← EReal.coe_mul, sum_coe, w1024, div_coe _ 1024 (by norm_num), ← EReal.coe_sub, rbwd]

end mixer

end Cert.FfnUpIdeal.Pay
-- ==== Proof.FfnUpArr.lean ====
/- The arrays the up projection's backward kernel leaves, entry by entry: each is the real function `Cert.UpSpec` names. One point
   takes 512 rows; the five row gradients are accumulated over the eight points. -/
module

public import proofs.«01_k».proof.Proof.FfnUpSpec
public import proofs.«01_k».proof.Proof.FfnUpPay
public import proofs.«01_k».proof.Proof.Gen.FfnUpIdeal.Value

@[expose] public section

set_option maxRecDepth 16384

noncomputable section

namespace Cert.FfnUpIdeal.Arr

open Cert.FfnUpIdeal Cert.FfnUpIdeal.Gen Cert.FfnUpIdeal.Pay Cert.UpSpec
open Idealize.ShloMosaic Idealize.ShloMosaic.TcCoe Idealize.SL.Sem Cert.Lift Cert.Rms

/-! ## One point's rows -/

/-- The blocks a point loads, as real arrays: `r i` is the array's row behind the block's row `i`. -/
structure Rows (a : Args) (r : Fin 512 → Fin 4096) (a0 a1 a2 a3 a4 a5 a6 a7 : FVec Ideal S1x1x512x704 .bf16)
    (w0 w1 w2 w3 w4 w5 w6 w7 : FVec Ideal S1x704x1024 .bf16) (v3 v5 v8 v10 v13 v14 : FVec Ideal S1x1024 .f32)
    (vx vm vd : FVec Ideal S512x1024 .f32) : Prop where
  ha0 : ∀ i k, a0 (ix4 0 0 i k) = ((a.dUp (ix3 0 (r i) ⟨(0 : Fin 8) * 704 + k, by omega⟩) : ℝ) : EReal)
  ha1 : ∀ i k, a1 (ix4 0 0 i k) = ((a.dUp (ix3 0 (r i) ⟨(1 : Fin 8) * 704 + k, by omega⟩) : ℝ) : EReal)
  ha2 : ∀ i k, a2 (ix4 0 0 i k) = ((a.dUp (ix3 0 (r i) ⟨(2 : Fin 8) * 704 + k, by omega⟩) : ℝ) : EReal)
  ha3 : ∀ i k, a3 (ix4 0 0 i k) = ((a.dUp (ix3 0 (r i) ⟨(3 : Fin 8) * 704 + k, by omega⟩) : ℝ) : EReal)
  ha4 : ∀ i k, a4 (ix4 0 0 i k) = ((a.dUp (ix3 0 (r i) ⟨(4 : Fin 8) * 704 + k, by omega⟩) : ℝ) : EReal)
  ha5 : ∀ i k, a5 (ix4 0 0 i k) = ((a.dUp (ix3 0 (r i) ⟨(5 : Fin 8) * 704 + k, by omega⟩) : ℝ) : EReal)
  ha6 : ∀ i k, a6 (ix4 0 0 i k) = ((a.dUp (ix3 0 (r i) ⟨(6 : Fin 8) * 704 + k, by omega⟩) : ℝ) : EReal)
  ha7 : ∀ i k, a7 (ix4 0 0 i k) = ((a.dUp (ix3 0 (r i) ⟨(7 : Fin 8) * 704 + k, by omega⟩) : ℝ) : EReal)
  hw0 : ∀ k n, w0 (ix3 0 k n) = ((a.w (ix3 0 n ⟨(0 : Fin 8) * 704 + k, by omega⟩) : ℝ) : EReal)
  hw1 : ∀ k n, w1 (ix3 0 k n) = ((a.w (ix3 0 n ⟨(1 : Fin 8) * 704 + k, by omega⟩) : ℝ) : EReal)
  hw2 : ∀ k n, w2 (ix3 0 k n) = ((a.w (ix3 0 n ⟨(2 : Fin 8) * 704 + k, by omega⟩) : ℝ) : EReal)
  hw3 : ∀ k n, w3 (ix3 0 k n) = ((a.w (ix3 0 n ⟨(3 : Fin 8) * 704 + k, by omega⟩) : ℝ) : EReal)
  hw4 : ∀ k n, w4 (ix3 0 k n) = ((a.w (ix3 0 n ⟨(4 : Fin 8) * 704 + k, by omega⟩) : ℝ) : EReal)
  hw5 : ∀ k n, w5 (ix3 0 k n) = ((a.w (ix3 0 n ⟨(5 : Fin 8) * 704 + k, by omega⟩) : ℝ) : EReal)
  hw6 : ∀ k n, w6 (ix3 0 k n) = ((a.w (ix3 0 n ⟨(6 : Fin 8) * 704 + k, by omega⟩) : ℝ) : EReal)
  hw7 : ∀ k n, w7 (ix3 0 k n) = ((a.w (ix3 0 n ⟨(7 : Fin 8) * 704 + k, by omega⟩) : ℝ) : EReal)
  h3 : ∀ n : Fin 1024, v3 (ix2 0 n) = ((a.ca (ix2 0 ⟨2048 + n, by omega⟩) : ℝ) : EReal)
  h5 : ∀ n : Fin 1024, v5 (ix2 0 n) = ((a.cb (ix2 0 ⟨2048 + n, by omega⟩) : ℝ) : EReal)
  h8 : ∀ n : Fin 1024, v8 (ix2 0 n) = ((a.ca (ix2 0 ⟨4096 + n, by omega⟩) : ℝ) : EReal)
  h10 : ∀ n : Fin 1024, v10 (ix2 0 n) = ((a.cb (ix2 0 ⟨4096 + n, by omega⟩) : ℝ) : EReal)
  hq : ∀ n, v13 (ix2 0 n) = ((a.gq (ix2 0 n) : ℝ) : EReal)
  hp : ∀ n, v14 (ix2 0 n) = ((a.gp (ix2 0 n) : ℝ) : EReal)
  hx : ∀ i n, vx (ix2 i n) = ((x2 a (r i) n : ℝ) : EReal)
  hm : ∀ i n, vm (ix2 i n) = ((mrow a (r i) n : ℝ) : EReal)
  hd : ∀ i n, vd (ix2 i n) = ((a.dOut (ix3 0 (r i) n) : ℝ) : EReal)

/-- Eight blocks of 704 lanes are the whole contraction. -/
theorem dH_eq (a : Args) (s : Fin 4096) (n : Fin 1024) :
    dH a s n = ∑ j : Fin 8, ∑ k : Fin 704, a.dUp (ix3 0 s ⟨j * 704 + k, by omega⟩) * a.w (ix3 0 n ⟨j * 704 + k, by omega⟩) := by
  unfold dH
  exact (Fin.sum_mul_add_congr (S := 8) (n := 704)
    (F := fun j k => a.dUp (ix3 0 s ⟨j * 704 + k, by omega⟩) * a.w (ix3 0 n ⟨j * 704 + k, by omega⟩)) (fun s k hl => rfl) rfl).symm

variable {a : Args} {r : Fin 512 → Fin 4096} {a0 a1 a2 a3 a4 a5 a6 a7 : FVec Ideal S1x1x512x704 .bf16} {w0 w1 w2 w3 w4 w5 w6 w7 : FVec Ideal S1x704x1024 .bf16}
  {v3 v5 v8 v10 v13 v14 : FVec Ideal S1x1024 .f32} {vx vm vd : FVec Ideal S512x1024 .f32}

namespace Rows

variable (h : Rows a r a0 a1 a2 a3 a4 a5 a6 a7 w0 w1 w2 w3 w4 w5 w6 w7 v3 v5 v8 v10 v13 v14 vx vm vd)
include h

theorem gate (n : Fin 1024) : k0_pay12 (F := Ideal) v3 v5 (ix2 0 n) = ((gt a n : ℝ) : EReal) := pay12 h.h3 h.h5 n

theorem scale (n : Fin 1024) : k0_pay13 (F := Ideal) v8 v10 (ix2 0 n) = ((sc a n : ℝ) : EReal) := pay13 h.h8 h.h10 n

theorem prod (i : Fin 512) (n : Fin 1024) : k0_pay17 (F := Ideal) (k0_pay15 (k0_pay14 a0 w0 a1 w1) a2 w2 a3 w3 a4 w4 a5 w5) (k0_pay16 a6) w6 a7 w7 (ix2 i n)
    = ((dH a (r i) n : ℝ) : EReal) := by
  rw [dH_eq, Fin.sum_univ_eight]
  exact pay17 (a := fun j i k => a.dUp (ix3 0 (r i) ⟨j * 704 + k, by omega⟩)) (w := fun j k n => a.w (ix3 0 n ⟨j * 704 + k, by omega⟩))
    (pay15 (a := fun j i k => a.dUp (ix3 0 (r i) ⟨j * 704 + k, by omega⟩)) (w := fun j k n => a.w (ix3 0 n ⟨j * 704 + k, by omega⟩))
      (pay14 (a := fun j i k => a.dUp (ix3 0 (r i) ⟨j * 704 + k, by omega⟩)) (w := fun j k n => a.w (ix3 0 n ⟨j * 704 + k, by omega⟩))
        h.ha0 h.ha1 h.hw0 h.hw1) h.ha2 h.ha3 h.ha4 h.ha5 h.hw2 h.hw3 h.hw4 h.hw5)
    h.ha6 h.ha7 h.hw6 h.hw7 i n

theorem shift (v : FVec Ideal S1x1024 .f32) (n : Fin 1024) : k0_pay21 (F := Ideal) (k0_pay15 (k0_pay14 a0 w0 a1 w1) a2 w2 a3 w3 a4 w4 a5 w5) (k0_pay16 a6) w6 a7 w7 v (ix2 0 n)
    = v (ix2 0 n) + ((∑ i, dH a (r i) n : ℝ) : EReal) := pay21 h.prod n

theorem scaled (v : FVec Ideal S1x1024 .f32) (n : Fin 1024) :
    k0_pay24 (F := Ideal) (k0_pay22 v) (k0_pay23 v13 (k0_pay15 (k0_pay14 a0 w0 a1 w1) a2 w2 a3 w3 a4 w4 a5 w5) (k0_pay16 a6) w6 a7 w7 vx) (ix2 0 n)
      = v (ix2 0 n) + ((∑ i, dH a (r i) n * (xhat a (r i) n * a.gq (ix2 0 n)) : ℝ) : EReal) := pay24 h.prod h.hx h.hq n

theorem pre (v : FVec Ideal S1x1024 .f32) (n : Fin 1024) :
    k0_pay26 (F := Ideal) (k0_pay13 v8 v10) (k0_pay17 (k0_pay15 (k0_pay14 a0 w0 a1 w1) a2 w2 a3 w3 a4 w4 a5 w5) (k0_pay16 a6) w6 a7 w7) (k0_pay20 vx) v (ix2 0 n)
      = v (ix2 0 n) + ((∑ i, dMod a (r i) n * xhat a (r i) n : ℝ) : EReal) := pay26 h.prod h.scale (pay20 h.hx) n

theorem stream (i : Fin 512) (n : Fin 1024) :
    k0_pay27 (F := Ideal) (k0_pay13 v8 v10) v13 (k0_pay17 (k0_pay15 (k0_pay14 a0 w0 a1 w1) a2 w2 a3 w3 a4 w4 a5 w5) (k0_pay16 a6) w6 a7 w7) (k0_pay19 vx) (k0_pay20 vx) vd (ix2 i n)
      = ((dX a (r i) n : ℝ) : EReal) := pay27 h.prod h.scale (pay20 h.hx) h.hq (pay19 h.hx) h.hd i n

theorem gateSum (v : FVec Ideal S1x1024 .f32) (n : Fin 1024) :
    k0_pay3 (F := Ideal) v14 (k0_pay27 (k0_pay13 v8 v10) v13 (k0_pay17 (k0_pay15 (k0_pay14 a0 w0 a1 w1) a2 w2 a3 w3 a4 w4 a5 w5) (k0_pay16 a6) w6 a7 w7) (k0_pay19 vx) (k0_pay20 vx) vd)
      (k0_pay28 vm) (k0_pay29 vm) k0_pay30 v (ix2 0 n)
      = v (ix2 0 n) + ((∑ i, dX a (r i) n * (mhat a (r i) n * a.gp (ix2 0 n)) : ℝ) : EReal) := pay3 h.hm h.stream h.hp n

theorem post (v : FVec Ideal S1x1024 .f32) (n : Fin 1024) :
    k0_pay5 (F := Ideal) (k0_pay12 v3 v5) (k0_pay27 (k0_pay13 v8 v10) v13 (k0_pay17 (k0_pay15 (k0_pay14 a0 w0 a1 w1) a2 w2 a3 w3 a4 w4 a5 w5) (k0_pay16 a6) w6 a7 w7) (k0_pay19 vx) (k0_pay20 vx) vd)
      (k0_pay28 vm) (k0_pay29 vm) k0_pay30 v (ix2 0 n)
      = v (ix2 0 n) + ((∑ i, dX a (r i) n * gt a n * mhat a (r i) n : ℝ) : EReal) := pay5 h.hm h.stream h.gate n

theorem mixer (i : Fin 512) (n : Fin 1024) :
    k0_pay6 (F := Ideal) (k0_pay12 v3 v5) v14 (k0_pay27 (k0_pay13 v8 v10) v13 (k0_pay17 (k0_pay15 (k0_pay14 a0 w0 a1 w1) a2 w2 a3 w3 a4 w4 a5 w5) (k0_pay16 a6) w6 a7 w7) (k0_pay19 vx) (k0_pay20 vx) vd)
      (k0_pay28 vm) (k0_pay29 vm) k0_pay30 (ix2 i n) = ((dM a (r i) n : ℝ) : EReal) := pay6 h.hm h.stream h.gate h.hp i n

end Rows

/-! ## The blocks a point loads -/

theorem idx : ∀ t : Fin cfg0.N, win0_0.index t = ![0, 0, t.val, 0] ∧ win0_1.index t = ![0, 0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)

/-- The arguments are the real arrays `a`. -/
structure IsReal (a : Args) : Prop where
  h0 : m ((c : Thread nD τ).loc main_arg0) = cv a.x
  h1 : m ((c : Thread nD τ).loc main_arg1) = cv a.m
  h2 : m ((c : Thread nD τ).loc main_arg2) = cv a.w
  h3 : m ((c : Thread nD τ).loc main_arg3) = cv a.ca
  h4 : m ((c : Thread nD τ).loc main_arg4) = cv a.cb
  h5 : m ((c : Thread nD τ).loc main_arg5) = cv a.gp
  h6 : m ((c : Thread nD τ).loc main_arg6) = cv a.gq
  h7 : m ((c : Thread nD τ).loc main_arg7) = cv a.dOut
  h8 : m ((c : Thread nD τ).loc main_arg8) = cv a.dUp

theorem readUp (j : Fin 4) (p : Fin 2) (s : Fin 4096) (k : Fin 704) : V m c main_v22 (ix4 j p s k)
    = m ((c : Thread nD τ).loc main_arg8) (ix3 0 s ⟨(p * 4 + j) * 704 + k, by omega⟩) := by
  entry_read
  pointwise
  exact congrArg (m ((c : Thread nD τ).loc main_arg8)) (by blk_ext)

theorem readW (j : Fin 8) (k : Fin 704) (n : Fin 1024) : V m c main_v26 (ix3 j k n)
    = m ((c : Thread nD τ).loc main_arg2) (ix3 0 n ⟨j * 704 + k, by omega⟩) := by
  entry_read
  pointwise

theorem readM (s : Fin 4096) (n : Fin 1024) : V m c main_v29 (ix2 s n) = m ((c : Thread nD τ).loc main_arg1) (ix3 0 s n) := by
  entry_read
  pointwise

theorem readD (s : Fin 4096) (n : Fin 1024) : V m c main_v30 (ix2 s n) = m ((c : Thread nD τ).loc main_arg7) (ix3 0 s n) := by
  entry_read
  pointwise

theorem readCa (j : Fin 6) (n : Fin 1024) :
    V m c main_v27 (ix2 j n) = m ((c : Thread nD τ).loc main_arg3) (ix2 0 ⟨j * 1024 + n, by omega⟩) := by
  entry_read
  pointwise

theorem readCb (j : Fin 6) (n : Fin 1024) :
    V m c main_v28 (ix2 j n) = m ((c : Thread nD τ).loc main_arg4) (ix2 0 ⟨j * 1024 + n, by omega⟩) := by
  entry_read
  pointwise

variable {m c}

/-- The residual stream after the mixer, which the host prepares. -/
theorem readX (hr : IsReal m c a) (s : Fin 4096) (n : Fin 1024) : V m c main_v18 (ix2 s n) = ((x2 a s n : ℝ) : EReal) := by
  entry_read
  pointwise [hr.h0, hr.h1, hr.h3, hr.h4, hr.h5, cv_apply]
  simp only [← EReal.coe_mul, sum_coe, w1024, weps, div_coe _ 1024 (by norm_num), ← EReal.coe_add]
  refine (congrArg (fun z => ((a.x (ix3 0 s n) : ℝ) : EReal) + (((gt a n : ℝ) : EReal)) * (((mrow a s n : ℝ) : EReal) * z * ((a.gp (ix2 0 n) : ℝ) : EReal)))
    (lift_rinv 1024 (by norm_num) (mrow a s))).trans ?_
  simp only [← EReal.coe_mul, ← EReal.coe_add]
  rfl

/-- The array's row behind row `i` of point `t`'s block. -/
def prow (t : Fin cfg0.N) (i : Fin 512) : Fin 4096 := ⟨t * 512 + i, by have : t.val < 8 := t.isLt; omega⟩

theorem blkUp (t : Fin cfg0.N) (j : Fin 4) (p : Fin 2) (i : Fin 512) (k : Fin 704) : iblk m c 0 t (ix4 j p i k)
    = m ((c : Thread nD τ).loc main_arg8) (ix3 0 (prow t i) ⟨(p * 4 + j) * 704 + k, by omega⟩) := by
  refine Eq.trans ?_ (readUp m c j p _ k)
  exact congrArg (V m c main_v22) (by unfold prow; blk_ext [idx t])

theorem blkW (t : Fin cfg0.N) (j : Fin 8) (k : Fin 704) (n : Fin 1024) : iblk m c 1 t (ix3 j k n)
    = m ((c : Thread nD τ).loc main_arg2) (ix3 0 n ⟨j * 704 + k, by omega⟩) := by
  refine Eq.trans ?_ (readW m c j k n)
  exact congrArg (V m c main_v26) (by blk_ext [idx t])

theorem blkX (hr : IsReal m c a) (t : Fin cfg0.N) (i : Fin 512) (n : Fin 1024) :
    iblk m c 2 t (ix2 i n) = ((x2 a (prow t i) n : ℝ) : EReal) := by
  refine Eq.trans ?_ (readX hr _ n)
  exact congrArg (V m c main_v18) (by unfold prow; blk_ext [idx t])

theorem blkM (t : Fin cfg0.N) (i : Fin 512) (n : Fin 1024) :
    iblk m c 3 t (ix2 i n) = m ((c : Thread nD τ).loc main_arg1) (ix3 0 (prow t i) n) := by
  refine Eq.trans ?_ (readM m c _ n)
  exact congrArg (V m c main_v29) (by unfold prow; blk_ext [idx t])

theorem blkD (t : Fin cfg0.N) (i : Fin 512) (n : Fin 1024) :
    iblk m c 4 t (ix2 i n) = m ((c : Thread nD τ).loc main_arg7) (ix3 0 (prow t i) n) := by
  refine Eq.trans ?_ (readD m c _ n)
  exact congrArg (V m c main_v30) (by unfold prow; blk_ext [idx t])

theorem blkCa (t : Fin cfg0.N) (j : Fin 6) (n : Fin 1024) :
    iblk m c 5 t (ix2 j n) = m ((c : Thread nD τ).loc main_arg3) (ix2 0 ⟨j * 1024 + n, by omega⟩) := by
  refine Eq.trans ?_ (readCa m c j n)
  exact congrArg (V m c main_v27) (by blk_ext [idx t])

theorem blkCb (t : Fin cfg0.N) (j : Fin 6) (n : Fin 1024) :
    iblk m c 6 t (ix2 j n) = m ((c : Thread nD τ).loc main_arg4) (ix2 0 ⟨j * 1024 + n, by omega⟩) := by
  refine Eq.trans ?_ (readCb m c j n)
  exact congrArg (V m c main_v28) (by blk_ext [idx t])

theorem blkQ (t : Fin cfg0.N) (n : Fin 1024) : iblk m c 7 t (ix2 0 n) = m ((c : Thread nD τ).loc main_arg6) (ix2 0 n) := by
  blk_point [iblk, V, idx t]

theorem blkP (t : Fin cfg0.N) (n : Fin 1024) : iblk m c 8 t (ix2 0 n) = m ((c : Thread nD τ).loc main_arg5) (ix2 0 n) := by
  blk_point [iblk, V, idx t]

theorem ldUp (hr : IsReal m c a) (t : Fin cfg0.N) (j : Fin 4) (p : Fin 2) (jo po : ℕ) (hj : j.val = jo) (hp : p.val = po) (q : Fin 8)
    (hq : q.val = p * 4 + j) (inb) (i : Fin 512) (k : Fin 704) :
    View.ld (iblk m c 0 t) (Rect.unit ![jo, po, 0, 0] ![1, 1, 512, 704] inb) (ix4 0 0 i k)
      = ((a.dUp (ix3 0 (prow t i) ⟨q * 704 + k, by omega⟩) : ℝ) : EReal) := by
  refine (ld4 (iblk m c 0 t) jo po 0 0 inb 0 0 i k j p i k hj hp (Nat.zero_add _).symm (Nat.zero_add _).symm).trans ((blkUp t j p i k).trans ?_)
  rw [hr.h8]
  exact congrArg (cv a.dUp) (congrArg (ix3 0 (prow t i)) (Fin.ext (congrArg (· * 704 + k.val) hq.symm)))

theorem ldW (hr : IsReal m c a) (t : Fin cfg0.N) (j : Fin 8) (jo : ℕ) (hj : j.val = jo) (inb) (k : Fin 704) (n : Fin 1024) :
    View.ld (iblk m c 1 t) (Rect.unit ![jo, 0, 0] ![1, 704, 1024] inb) (ix3 0 k n)
      = ((a.w (ix3 0 n ⟨j * 704 + k, by omega⟩) : ℝ) : EReal) :=
  (ld3 (iblk m c 1 t) jo 0 0 inb 0 k n j k n hj (Nat.zero_add _).symm (Nat.zero_add _).symm).trans
    ((blkW t j k n).trans (congrFun hr.h2 _))

theorem ldCa (t : Fin cfg0.N) (j : Fin 6) (jo : ℕ) (hj : j.val = jo) (inb) (n : Fin 1024) :
    View.ld (iblk m c 5 t) (Rect.unit ![jo, 0] ![1, 1024] inb) (ix2 0 n)
      = m ((c : Thread nD τ).loc main_arg3) (ix2 0 ⟨j * 1024 + n, by omega⟩) :=
  (ld2 (iblk m c 5 t) jo 0 inb 0 n j n hj (Nat.zero_add _).symm).trans (blkCa t j n)

theorem ldCb (t : Fin cfg0.N) (j : Fin 6) (jo : ℕ) (hj : j.val = jo) (inb) (n : Fin 1024) :
    View.ld (iblk m c 6 t) (Rect.unit ![jo, 0] ![1, 1024] inb) (ix2 0 n)
      = m ((c : Thread nD τ).loc main_arg4) (ix2 0 ⟨j * 1024 + n, by omega⟩) :=
  (ld2 (iblk m c 6 t) jo 0 inb 0 n j n hj (Nat.zero_add _).symm).trans (blkCb t j n)

theorem rows (hr : IsReal m c a) (t : Fin cfg0.N) (i0 i1 i2 i3 i4 i5 i6 i7 j0 j1 j2 j3 j4 j5 j6 j7 k3 k5 k8 k10) :
    Rows a (prow t)
      (View.ld (iblk m c 0 t) (Rect.unit ![0, 0, 0, 0] ![1, 1, 512, 704] i0))
      (View.ld (iblk m c 0 t) (Rect.unit ![1, 0, 0, 0] ![1, 1, 512, 704] i1))
      (View.ld (iblk m c 0 t) (Rect.unit ![2, 0, 0, 0] ![1, 1, 512, 704] i2))
      (View.ld (iblk m c 0 t) (Rect.unit ![3, 0, 0, 0] ![1, 1, 512, 704] i3))
      (View.ld (iblk m c 0 t) (Rect.unit ![0, 1, 0, 0] ![1, 1, 512, 704] i4))
      (View.ld (iblk m c 0 t) (Rect.unit ![1, 1, 0, 0] ![1, 1, 512, 704] i5))
      (View.ld (iblk m c 0 t) (Rect.unit ![2, 1, 0, 0] ![1, 1, 512, 704] i6))
      (View.ld (iblk m c 0 t) (Rect.unit ![3, 1, 0, 0] ![1, 1, 512, 704] i7))
      (View.ld (iblk m c 1 t) (Rect.unit ![0, 0, 0] ![1, 704, 1024] j0))
      (View.ld (iblk m c 1 t) (Rect.unit ![1, 0, 0] ![1, 704, 1024] j1))
      (View.ld (iblk m c 1 t) (Rect.unit ![2, 0, 0] ![1, 704, 1024] j2))
      (View.ld (iblk m c 1 t) (Rect.unit ![3, 0, 0] ![1, 704, 1024] j3))
      (View.ld (iblk m c 1 t) (Rect.unit ![4, 0, 0] ![1, 704, 1024] j4))
      (View.ld (iblk m c 1 t) (Rect.unit ![5, 0, 0] ![1, 704, 1024] j5))
      (View.ld (iblk m c 1 t) (Rect.unit ![6, 0, 0] ![1, 704, 1024] j6))
      (View.ld (iblk m c 1 t) (Rect.unit ![7, 0, 0] ![1, 704, 1024] j7))
      (View.ld (iblk m c 5 t) (Rect.unit ![2, 0] ![1, 1024] k3)) (View.ld (iblk m c 6 t) (Rect.unit ![2, 0] ![1, 1024] k5))
      (View.ld (iblk m c 5 t) (Rect.unit ![4, 0] ![1, 1024] k8)) (View.ld (iblk m c 6 t) (Rect.unit ![4, 0] ![1, 1024] k10))
      (iblk m c 7 t) (iblk m c 8 t) (iblk m c 2 t) (iblk m c 3 t) (iblk m c 4 t) where
  ha0 := ldUp hr t 0 0 0 0 rfl rfl 0 rfl i0
  ha1 := ldUp hr t 1 0 1 0 rfl rfl 1 rfl i1
  ha2 := ldUp hr t 2 0 2 0 rfl rfl 2 rfl i2
  ha3 := ldUp hr t 3 0 3 0 rfl rfl 3 rfl i3
  ha4 := ldUp hr t 0 1 0 1 rfl rfl 4 rfl i4
  ha5 := ldUp hr t 1 1 1 1 rfl rfl 5 rfl i5
  ha6 := ldUp hr t 2 1 2 1 rfl rfl 6 rfl i6
  ha7 := ldUp hr t 3 1 3 1 rfl rfl 7 rfl i7
  hw0 := ldW hr t 0 0 rfl j0
  hw1 := ldW hr t 1 1 rfl j1
  hw2 := ldW hr t 2 2 rfl j2
  hw3 := ldW hr t 3 3 rfl j3
  hw4 := ldW hr t 4 4 rfl j4
  hw5 := ldW hr t 5 5 rfl j5
  hw6 := ldW hr t 6 6 rfl j6
  hw7 := ldW hr t 7 7 rfl j7
  h3 n := (ldCa t 2 2 rfl k3 n).trans (congrFun hr.h3 _)
  h5 n := (ldCb t 2 2 rfl k5 n).trans (congrFun hr.h4 _)
  h8 n := (ldCa t 4 4 rfl k8 n).trans (congrFun hr.h3 _)
  h10 n := (ldCb t 4 4 rfl k10 n).trans (congrFun hr.h4 _)
  hq n := (blkQ t n).trans (congrFun hr.h6 _)
  hp n := (blkP t n).trans (congrFun hr.h5 _)
  hx i n := blkX hr t i n
  hm i n := (blkM t i n).trans (congrFun hr.h1 _)
  hd i n := (blkD t i n).trans (congrFun hr.h7 _)

/-! ## The arrays -/

attribute [local irreducible] dX dM dH dMod xhat mhat x2 gt sc

/-- What a point leaves of the residual stream's gradient. -/
theorem point9 (hr : IsReal m c a) (t : Fin cfg0.N) (i : Fin 512) (n : Fin 1024) :
    (outsAt0 m c t.val t.isLt).1 (ix2 i n) = ((dX a (prow t i) n : ℝ) : EReal) := by
  by_cases h : t.val % 8 = 0
  all_goals
    first | rw [outsAt0_A m c t h] | rw [outsAt0_B m c t h]
    frame_out
    exact (rows hr t _ _ _ _ _ _ _ _ _ _ _ _ _ _ _ _ inb_S6x1024_S1x1024_2_0 inb_S6x1024_S1x1024_2_0 inb_S6x1024_S1x1024_4_0 inb_S6x1024_S1x1024_4_0).stream i n

/-- The array of the residual stream's gradient. -/
theorem arr9 (hr : IsReal m c a) : (dats m 0 c).arrAt 9 cfg0.N = cv (fun i : S4096x1024.Idx => dX a (i 0) (i 1)) := by
  refine (dats m 0 c).arrAt_eq_of_covers 9 _ (by decide +kernel) fun t hf y => ?_
  blk_simp
  rw [after0_9]
  have e : (y : S512x1024.Idx) = ix2 (y 0) (y 1) := by blk_ext
  refine (congrArg _ e).trans ((point9 hr t _ _).trans ?_)
  refine congrArg (fun i : S4096x1024.Idx => ((dX a (i 0) (i 1) : ℝ) : EReal)) (?_ : ix2 (prow t (y 0)) (y 1) = _)
  unfold prow
  blk_ext [idx t]

/-- What a point leaves of the mixer's output's gradient. -/
theorem point10 (hr : IsReal m c a) (t : Fin cfg0.N) (i : Fin 512) (n : Fin 1024) :
    (outsAt0 m c t.val t.isLt).2.1 (ix2 i n) = ((dM a (prow t i) n : ℝ) : EReal) := by
  by_cases h : t.val % 8 = 0
  all_goals
    first | rw [outsAt0_A m c t h] | rw [outsAt0_B m c t h]
    frame_out
    exact (rows hr t _ _ _ _ _ _ _ _ _ _ _ _ _ _ _ _ inb_S6x1024_S1x1024_2_0 inb_S6x1024_S1x1024_2_0 inb_S6x1024_S1x1024_4_0 inb_S6x1024_S1x1024_4_0).mixer i n

/-- The array of the mixer's output's gradient. -/
theorem arr10 (hr : IsReal m c a) : (dats m 0 c).arrAt 10 cfg0.N = cv (fun i : S4096x1024.Idx => dM a (i 0) (i 1)) := by
  refine (dats m 0 c).arrAt_eq_of_covers 10 _ (by decide +kernel) fun t hf y => ?_
  blk_simp
  rw [after0_10]
  have e : (y : S512x1024.Idx) = ix2 (y 0) (y 1) := by blk_ext
  refine (congrArg _ e).trans ((point10 hr t _ _).trans ?_)
  refine congrArg (fun i : S4096x1024.Idx => ((dM a (i 0) (i 1) : ℝ) : EReal)) (?_ : ix2 (prow t (y 0)) (y 1) = _)
  unfold prow
  blk_ext [idx t]

theorem zero7 (j : Fin 1024) : k0_pay7 (F := Ideal) (ix2 0 j) = 0 := by pointwise [k0_pay7]
theorem zero8 (j : Fin 1024) : k0_pay8 (F := Ideal) (ix2 0 j) = 0 := by pointwise [k0_pay8]
theorem zero9 (j : Fin 1024) : k0_pay9 (F := Ideal) (ix2 0 j) = 0 := by pointwise [k0_pay9]
theorem zero10 (j : Fin 1024) : k0_pay10 (F := Ideal) (ix2 0 j) = 0 := by pointwise [k0_pay10]
theorem zero11 (j : Fin 1024) : k0_pay11 (F := Ideal) (ix2 0 j) = 0 := by pointwise [k0_pay11]

/-- Eight points of 512 rows are the 4096 rows. -/
theorem sum_rows (F : Fin 4096 → ℝ) : ∑ t : Fin 8, ∑ i : Fin 512, F (prow t i) = ∑ s, F s :=
  Fin.sum_mul_add_congr (S := 8) (n := 512) (F := fun t i => F (prow t i)) (fun s k hl => rfl) rfl

/-- The last point. -/
def tLast : Fin cfg0.N := ⟨7, by decide +kernel⟩

/-- One point's share of the modulation's shift's gradient. -/
def part11 (a : Args) (t : Fin 8) (n : Fin 1024) : ℝ := ∑ i, dH a (prow t i) n

theorem step11A (hr : IsReal m c a) (t : Fin cfg0.N) (h : t.val % 8 = 0) (n : Fin 1024) :
    (outsAt0 m c t.val t.isLt).2.2.1 (ix2 0 n) = 0 + ((part11 a t n : ℝ) : EReal) := by
  rw [outsAt0_A m c t h]
  frame_out
  refine ((rows hr t _ _ _ _ _ _ _ _ _ _ _ _ _ _ _ _ inb_S6x1024_S1x1024_2_0 inb_S6x1024_S1x1024_2_0 inb_S6x1024_S1x1024_4_0 inb_S6x1024_S1x1024_4_0).shift _ n).trans ?_
  rw [zero7]
  rfl

theorem step11B (hr : IsReal m c a) (t : Fin cfg0.N) (h : ¬t.val % 8 = 0) (n : Fin 1024) :
    (outsAt0 m c t.val t.isLt).2.2.1 (ix2 0 n)
      = (outsAt0 m c (t.val - 1) (Nat.lt_of_le_of_lt (Nat.sub_le _ _) t.isLt)).2.2.1 (ix2 0 n) + ((part11 a t n : ℝ) : EReal) := by
  rw [outsAt0_B m c t h]
  frame_out
  exact (rows hr t _ _ _ _ _ _ _ _ _ _ _ _ _ _ _ _ inb_S6x1024_S1x1024_2_0 inb_S6x1024_S1x1024_2_0 inb_S6x1024_S1x1024_4_0 inb_S6x1024_S1x1024_4_0).shift _ n

/-- The array of the modulation's shift's gradient. -/
theorem arr11 (hr : IsReal m c a) : (dats m 0 c).arrAt 11 cfg0.N = cv (fun i : S1x1024.Idx => dSh a (i 1)) := by
  refine (dats m 0 c).arrAt_eq_of_after_last 11 tLast (by decide +kernel) _ fun y => ?_
  blk_simp
  rw [after0_11]
  have e : (y : S1x1024.Idx) = ix2 0 (y 1) := by blk_ext
  refine (congrArg _ e).trans ((
    Pipeline.eq_sum_fin_of_reset_step_apply_last (fun n h j => (outsAt0 m c n h).2.2.1 (ix2 0 j)) 8 (fun _ => 0)
    (fun t j => ((part11 a t j : ℝ) : EReal)) (fun t h j => step11A hr t h j) (fun t h j => step11B hr t h j) (le_of_eq N_0) tLast rfl (y 1)).trans ?_)
  rw [sum_coe, zero_add]
  exact congrArg (fun x : ℝ => (x : EReal)) ((sum_rows fun s => dH a s (y 1)).trans (by unfold dSh; rfl))

/-- One point's share of the modulation's scale's gradient. -/
def part12 (a : Args) (t : Fin 8) (n : Fin 1024) : ℝ := ∑ i, dH a (prow t i) n * (xhat a (prow t i) n * a.gq (ix2 0 n))

theorem step12A (hr : IsReal m c a) (t : Fin cfg0.N) (h : t.val % 8 = 0) (n : Fin 1024) :
    (outsAt0 m c t.val t.isLt).2.2.2.1 (ix2 0 n) = 0 + ((part12 a t n : ℝ) : EReal) := by
  rw [outsAt0_A m c t h]
  frame_out
  refine ((rows hr t _ _ _ _ _ _ _ _ _ _ _ _ _ _ _ _ inb_S6x1024_S1x1024_2_0 inb_S6x1024_S1x1024_2_0 inb_S6x1024_S1x1024_4_0 inb_S6x1024_S1x1024_4_0).scaled _ n).trans ?_
  rw [zero8]
  rfl

theorem step12B (hr : IsReal m c a) (t : Fin cfg0.N) (h : ¬t.val % 8 = 0) (n : Fin 1024) :
    (outsAt0 m c t.val t.isLt).2.2.2.1 (ix2 0 n)
      = (outsAt0 m c (t.val - 1) (Nat.lt_of_le_of_lt (Nat.sub_le _ _) t.isLt)).2.2.2.1 (ix2 0 n) + ((part12 a t n : ℝ) : EReal) := by
  rw [outsAt0_B m c t h]
  frame_out
  exact (rows hr t _ _ _ _ _ _ _ _ _ _ _ _ _ _ _ _ inb_S6x1024_S1x1024_2_0 inb_S6x1024_S1x1024_2_0 inb_S6x1024_S1x1024_4_0 inb_S6x1024_S1x1024_4_0).scaled _ n

/-- The array of the modulation's scale's gradient. -/
theorem arr12 (hr : IsReal m c a) : (dats m 0 c).arrAt 12 cfg0.N = cv (fun i : S1x1024.Idx => dSc a (i 1)) := by
  refine (dats m 0 c).arrAt_eq_of_after_last 12 tLast (by decide +kernel) _ fun y => ?_
  blk_simp
  rw [after0_12]
  have e : (y : S1x1024.Idx) = ix2 0 (y 1) := by blk_ext
  refine (congrArg _ e).trans ((
    Pipeline.eq_sum_fin_of_reset_step_apply_last (fun n h j => (outsAt0 m c n h).2.2.2.1 (ix2 0 j)) 8 (fun _ => 0)
    (fun t j => ((part12 a t j : ℝ) : EReal)) (fun t h j => step12A hr t h j) (fun t h j => step12B hr t h j) (le_of_eq N_0) tLast rfl (y 1)).trans ?_)
  rw [sum_coe, zero_add]
  exact congrArg (fun x : ℝ => (x : EReal)) ((sum_rows fun s => dH a s (y 1) * (xhat a s (y 1) * a.gq (ix2 0 (y 1)))).trans (by unfold dSc; rfl))

/-- One point's share of the pre-norm's scale's gradient. -/
def part13 (a : Args) (t : Fin 8) (n : Fin 1024) : ℝ := ∑ i, dMod a (prow t i) n * xhat a (prow t i) n

theorem step13A (hr : IsReal m c a) (t : Fin cfg0.N) (h : t.val % 8 = 0) (n : Fin 1024) :
    (outsAt0 m c t.val t.isLt).2.2.2.2.1 (ix2 0 n) = 0 + ((part13 a t n : ℝ) : EReal) := by
  rw [outsAt0_A m c t h]
  frame_out
  refine ((rows hr t _ _ _ _ _ _ _ _ _ _ _ _ _ _ _ _ inb_S6x1024_S1x1024_2_0 inb_S6x1024_S1x1024_2_0 inb_S6x1024_S1x1024_4_0 inb_S6x1024_S1x1024_4_0).pre _ n).trans ?_
  rw [zero9]
  rfl

theorem step13B (hr : IsReal m c a) (t : Fin cfg0.N) (h : ¬t.val % 8 = 0) (n : Fin 1024) :
    (outsAt0 m c t.val t.isLt).2.2.2.2.1 (ix2 0 n)
      = (outsAt0 m c (t.val - 1) (Nat.lt_of_le_of_lt (Nat.sub_le _ _) t.isLt)).2.2.2.2.1 (ix2 0 n) + ((part13 a t n : ℝ) : EReal) := by
  rw [outsAt0_B m c t h]
  frame_out
  exact (rows hr t _ _ _ _ _ _ _ _ _ _ _ _ _ _ _ _ inb_S6x1024_S1x1024_2_0 inb_S6x1024_S1x1024_2_0 inb_S6x1024_S1x1024_4_0 inb_S6x1024_S1x1024_4_0).pre _ n

/-- The array of the pre-norm's scale's gradient. -/
theorem arr13 (hr : IsReal m c a) : (dats m 0 c).arrAt 13 cfg0.N = cv (fun i : S1x1024.Idx => dGq a (i 1)) := by
  refine (dats m 0 c).arrAt_eq_of_after_last 13 tLast (by decide +kernel) _ fun y => ?_
  blk_simp
  rw [after0_13]
  have e : (y : S1x1024.Idx) = ix2 0 (y 1) := by blk_ext
  refine (congrArg _ e).trans ((
    Pipeline.eq_sum_fin_of_reset_step_apply_last (fun n h j => (outsAt0 m c n h).2.2.2.2.1 (ix2 0 j)) 8 (fun _ => 0)
    (fun t j => ((part13 a t j : ℝ) : EReal)) (fun t h j => step13A hr t h j) (fun t h j => step13B hr t h j) (le_of_eq N_0) tLast rfl (y 1)).trans ?_)
  rw [sum_coe, zero_add]
  exact congrArg (fun x : ℝ => (x : EReal)) ((sum_rows fun s => dMod a s (y 1) * xhat a s (y 1)).trans (by unfold dGq; rfl))

/-- One point's share of the gate's gradient. -/
def part14 (a : Args) (t : Fin 8) (n : Fin 1024) : ℝ := ∑ i, dX a (prow t i) n * (mhat a (prow t i) n * a.gp (ix2 0 n))

theorem step14A (hr : IsReal m c a) (t : Fin cfg0.N) (h : t.val % 8 = 0) (n : Fin 1024) :
    (outsAt0 m c t.val t.isLt).2.2.2.2.2.1 (ix2 0 n) = 0 + ((part14 a t n : ℝ) : EReal) := by
  rw [outsAt0_A m c t h]
  frame_out
  refine ((rows hr t _ _ _ _ _ _ _ _ _ _ _ _ _ _ _ _ inb_S6x1024_S1x1024_2_0 inb_S6x1024_S1x1024_2_0 inb_S6x1024_S1x1024_4_0 inb_S6x1024_S1x1024_4_0).gateSum _ n).trans ?_
  rw [zero10]
  rfl

theorem step14B (hr : IsReal m c a) (t : Fin cfg0.N) (h : ¬t.val % 8 = 0) (n : Fin 1024) :
    (outsAt0 m c t.val t.isLt).2.2.2.2.2.1 (ix2 0 n)
      = (outsAt0 m c (t.val - 1) (Nat.lt_of_le_of_lt (Nat.sub_le _ _) t.isLt)).2.2.2.2.2.1 (ix2 0 n) + ((part14 a t n : ℝ) : EReal) := by
  rw [outsAt0_B m c t h]
  frame_out
  exact (rows hr t _ _ _ _ _ _ _ _ _ _ _ _ _ _ _ _ inb_S6x1024_S1x1024_2_0 inb_S6x1024_S1x1024_2_0 inb_S6x1024_S1x1024_4_0 inb_S6x1024_S1x1024_4_0).gateSum _ n

/-- The array of the gate's gradient. -/
theorem arr14 (hr : IsReal m c a) : (dats m 0 c).arrAt 14 cfg0.N = cv (fun i : S1x1024.Idx => dGt a (i 1)) := by
  refine (dats m 0 c).arrAt_eq_of_after_last 14 tLast (by decide +kernel) _ fun y => ?_
  blk_simp
  rw [after0_14]
  have e : (y : S1x1024.Idx) = ix2 0 (y 1) := by blk_ext
  refine (congrArg _ e).trans ((
    Pipeline.eq_sum_fin_of_reset_step_apply_last (fun n h j => (outsAt0 m c n h).2.2.2.2.2.1 (ix2 0 j)) 8 (fun _ => 0)
    (fun t j => ((part14 a t j : ℝ) : EReal)) (fun t h j => step14A hr t h j) (fun t h j => step14B hr t h j) (le_of_eq N_0) tLast rfl (y 1)).trans ?_)
  rw [sum_coe, zero_add]
  exact congrArg (fun x : ℝ => (x : EReal)) ((sum_rows fun s => dX a s (y 1) * (mhat a s (y 1) * a.gp (ix2 0 (y 1)))).trans (by unfold dGt; rfl))

/-- One point's share of the post-norm's scale's gradient. -/
def part15 (a : Args) (t : Fin 8) (n : Fin 1024) : ℝ := ∑ i, dX a (prow t i) n * gt a n * mhat a (prow t i) n

theorem step15A (hr : IsReal m c a) (t : Fin cfg0.N) (h : t.val % 8 = 0) (n : Fin 1024) :
    (outsAt0 m c t.val t.isLt).2.2.2.2.2.2 (ix2 0 n) = 0 + ((part15 a t n : ℝ) : EReal) := by
  rw [outsAt0_A m c t h]
  frame_out
  refine ((rows hr t _ _ _ _ _ _ _ _ _ _ _ _ _ _ _ _ inb_S6x1024_S1x1024_2_0 inb_S6x1024_S1x1024_2_0 inb_S6x1024_S1x1024_4_0 inb_S6x1024_S1x1024_4_0).post _ n).trans ?_
  rw [zero11]
  rfl

theorem step15B (hr : IsReal m c a) (t : Fin cfg0.N) (h : ¬t.val % 8 = 0) (n : Fin 1024) :
    (outsAt0 m c t.val t.isLt).2.2.2.2.2.2 (ix2 0 n)
      = (outsAt0 m c (t.val - 1) (Nat.lt_of_le_of_lt (Nat.sub_le _ _) t.isLt)).2.2.2.2.2.2 (ix2 0 n) + ((part15 a t n : ℝ) : EReal) := by
  rw [outsAt0_B m c t h]
  frame_out
  exact (rows hr t _ _ _ _ _ _ _ _ _ _ _ _ _ _ _ _ inb_S6x1024_S1x1024_2_0 inb_S6x1024_S1x1024_2_0 inb_S6x1024_S1x1024_4_0 inb_S6x1024_S1x1024_4_0).post _ n

/-- The array of the post-norm's scale's gradient. -/
theorem arr15 (hr : IsReal m c a) : (dats m 0 c).arrAt 15 cfg0.N = cv (fun i : S1x1024.Idx => dGp a (i 1)) := by
  refine (dats m 0 c).arrAt_eq_of_after_last 15 tLast (by decide +kernel) _ fun y => ?_
  blk_simp
  rw [after0_15]
  have e : (y : S1x1024.Idx) = ix2 0 (y 1) := by blk_ext
  refine (congrArg _ e).trans ((
    Pipeline.eq_sum_fin_of_reset_step_apply_last (fun n h j => (outsAt0 m c n h).2.2.2.2.2.2 (ix2 0 j)) 8 (fun _ => 0)
    (fun t j => ((part15 a t j : ℝ) : EReal)) (fun t h j => step15A hr t h j) (fun t h j => step15B hr t h j) (le_of_eq N_0) tLast rfl (y 1)).trans ?_)
  rw [sum_coe, zero_add]
  exact congrArg (fun x : ℝ => (x : EReal)) ((sum_rows fun s => dX a s (y 1) * gt a (y 1) * mhat a s (y 1)).trans (by unfold dGp; rfl))

end Cert.FfnUpIdeal.Arr
-- ==== Proof.FfnUpRef.lean ====
/- The reference of the up projection's backward call, entry by entry: on real arguments each of its results is the real function
   `Cert.UpSpec` names. The derivative of the two norms comes as the chain rule writes it; `Cert.Rms.vjp_eq` turns it. -/
module

public import proofs.«01_k».proof.Proof.FfnUpSpec
public import proofs.«01_k».proof.Proof.Gen.FfnUpRefIdeal.Read

@[expose] public section

set_option maxRecDepth 16384

noncomputable section

namespace Cert.FfnUpRefIdeal.Real

open Cert.FfnUpRefIdeal Cert.FfnUpRefIdeal.Read Cert.UpSpec
open Idealize.ShloMosaic Cert.Lift Cert.Rms

variable (a : Args)

theorem e3 (c : Fin 1024) : val_main_v3 (F := Ideal) (cv a.ca) (cv a.cb) (ix2 0 c)
    = ((gt a c : ℝ) : EReal) := by
  pointwise [val_main_v3, val_main_v0, cv_apply]
  simp only [← EReal.coe_add]
  rfl

theorem e47 (c : Fin 1024) : val_main_v47 (F := Ideal) (cv a.ca) (cv a.cb) (ix3 0 0 c)
    = ((1 + sc a c : ℝ) : EReal) := by
  pointwise [val_main_v47, val_main_v46, val_main_cst_7, val_main_v45, val_main_v5, val_main_v0, cv_apply]
  simp only [wone, ← EReal.coe_add]
  rfl

/-- The mean square of a row of the mixer's output. -/
theorem e16 (s : Fin 4096) : val_main_v16 (F := Ideal) (cv a.m) (ix3 0 s 0)
    = ((var 1024 (mrow a s) : ℝ) : EReal) := by
  pointwise [val_main_v16, val_main_v14, val_main_v15, val_main_v13, val_main_v12, val_main_v11, val_main_v10, val_main_cst, val_main_cst_0, val_main_cst_1, cv_apply]
  simp only [← EReal.coe_mul, sum_coe, w1024, weps, zero_add, div_coe _ 1024 (by norm_num), ← EReal.coe_add]
  rfl

theorem e17 (s : Fin 4096) : val_main_v17 (F := Ideal) (cv a.m) (ix3 0 s 0)
    = ((rinv 1024 (mrow a s) : ℝ) : EReal) := by
  pointwise [val_main_v17, e16]
  exact lift_rinv 1024 (by norm_num) (mrow a s)

theorem e20 (s : Fin 4096) : val_main_v20 (F := Ideal) (cv a.m) (ix3 0 s 0)
    = ((-(1 / 2) * (rinv 1024 (mrow a s) / var 1024 (mrow a s)) : ℝ) : EReal) := by
  pointwise [val_main_v20, val_main_v19, val_main_v18, val_main_cst_2, e16, e17]
  simp only [wneghalf, div_coe _ _ (var_pos 1024 (by norm_num) (mrow a s)).ne', ← EReal.coe_mul]

theorem e22 (s : Fin 4096) (c : Fin 1024) : val_main_v22 (F := Ideal) (cv a.m) (ix3 0 s c)
    = ((mhat a s c : ℝ) : EReal) := by
  pointwise [val_main_v22, val_main_v21, e17, cv_apply]
  simp only [← EReal.coe_mul]
  rfl

theorem e25 (s : Fin 4096) (c : Fin 1024) : val_main_v25 (F := Ideal) (cv a.m) (cv a.gp) (ix3 0 s c)
    = ((mhat a s c * a.gp (ix2 0 c) : ℝ) : EReal) := by
  pointwise [val_main_v25, val_main_v24, val_main_v23, val_main_v7, e22, cv_apply]
  simp only [← EReal.coe_mul]

/-- The residual stream after the mixer. -/
theorem e28 (s : Fin 4096) (c : Fin 1024) : val_main_v28 (F := Ideal) (cv a.x) (cv a.m) (cv a.ca) (cv a.cb) (cv a.gp) (ix3 0 s c)
    = ((x2 a s c : ℝ) : EReal) := by
  pointwise [val_main_v28, val_main_v27, val_main_v26, val_main_v9, e3, e25, cv_apply]
  simp only [← EReal.coe_mul, ← EReal.coe_add]
  rfl

theorem e35 (s : Fin 4096) : val_main_v35 (F := Ideal) (cv a.x) (cv a.m) (cv a.ca) (cv a.cb) (cv a.gp) (ix3 0 s 0)
    = ((var 1024 (x2 a s) : ℝ) : EReal) := by
  pointwise [val_main_v35, val_main_v33, val_main_v34, val_main_v32, val_main_v31, val_main_v30, val_main_v29, val_main_cst_3, val_main_cst_4, val_main_cst_5, e28]
  simp only [← EReal.coe_mul, sum_coe, w1024, weps, zero_add, div_coe _ 1024 (by norm_num), ← EReal.coe_add]
  rfl

theorem e36 (s : Fin 4096) : val_main_v36 (F := Ideal) (cv a.x) (cv a.m) (cv a.ca) (cv a.cb) (cv a.gp) (ix3 0 s 0)
    = ((rinv 1024 (x2 a s) : ℝ) : EReal) := by
  pointwise [val_main_v36, e35]
  exact lift_rinv 1024 (by norm_num) (x2 a s)

theorem e39 (s : Fin 4096) : val_main_v39 (F := Ideal) (cv a.x) (cv a.m) (cv a.ca) (cv a.cb) (cv a.gp) (ix3 0 s 0)
    = ((-(1 / 2) * (rinv 1024 (x2 a s) / var 1024 (x2 a s)) : ℝ) : EReal) := by
  pointwise [val_main_v39, val_main_v38, val_main_v37, val_main_cst_6, e35, e36]
  simp only [wneghalf, div_coe _ _ (var_pos 1024 (by norm_num) (x2 a s)).ne', ← EReal.coe_mul]

theorem e41 (s : Fin 4096) (c : Fin 1024) : val_main_v41 (F := Ideal) (cv a.x) (cv a.m) (cv a.ca) (cv a.cb) (cv a.gp) (ix3 0 s c)
    = ((xhat a s c : ℝ) : EReal) := by
  pointwise [val_main_v41, val_main_v40, e28, e36]
  simp only [← EReal.coe_mul]
  rfl

theorem e44 (s : Fin 4096) (c : Fin 1024) : val_main_v44 (F := Ideal) (cv a.x) (cv a.m) (cv a.ca) (cv a.cb) (cv a.gp) (cv a.gq) (ix3 0 s c)
    = ((xhat a s c * a.gq (ix2 0 c) : ℝ) : EReal) := by
  pointwise [val_main_v44, val_main_v43, val_main_v42, val_main_v8, e41, cv_apply]
  simp only [← EReal.coe_mul]

/-- The gradient of the modulated row. -/
theorem e55 (s : Fin 4096) (c : Fin 1024) : val_main_v55 (F := Ideal) (cv a.w) (cv a.dUp) (ix3 0 s c)
    = ((dH a s c : ℝ) : EReal) := by
  pointwise [val_main_v55, val_main_v53, cv_apply]
  simp only [← EReal.coe_mul, sum_coe]
  rfl

theorem e58 (c : Fin 1024) : val_main_v58 (F := Ideal) (cv a.w) (cv a.dUp) (ix1 c)
    = ((dSh a c : ℝ) : EReal) := by
  refine (hostReduceAdd_lead2 _ _ _ c).trans ?_
  pointwise [val_main_v57, val_main_v56, val_main_cst_8, val_main_cst_9, e55]
  simp only [sum_coe, zero_add]
  rfl

theorem e64 (s : Fin 4096) (c : Fin 1024) : val_main_v64 (F := Ideal) (cv a.w) (cv a.ca) (cv a.cb) (cv a.dUp) (ix3 0 s c)
    = ((dMod a s c : ℝ) : EReal) := by
  pointwise [val_main_v64, val_main_v63, e47, e55]
  simp only [← EReal.coe_mul]
  rfl

theorem e65 (c : Fin 1024) : val_main_v65 (F := Ideal) (cv a.x) (cv a.m) (cv a.w) (cv a.ca) (cv a.cb) (cv a.gp) (cv a.gq) (cv a.dUp) (ix1 c)
    = ((dSc a c : ℝ) : EReal) := by
  refine (hostReduceAdd_lead2 _ _ _ c).trans ?_
  pointwise [val_main_v62, val_main_v61, val_main_v60, val_main_cst_10, val_main_cst_11, e44, e55]
  simp only [← EReal.coe_mul, sum_coe, zero_add]
  refine congrArg (fun x : ℝ => (x : EReal)) ?_
  exact Finset.sum_congr rfl fun s _ => mul_comm _ _

theorem e71 (s : Fin 4096) (c : Fin 1024) : val_main_v71 (F := Ideal) (cv a.w) (cv a.ca) (cv a.cb) (cv a.gq) (cv a.dUp) (ix3 0 s c)
    = ((dMod a s c * a.gq (ix2 0 c) : ℝ) : EReal) := by
  pointwise [val_main_v71, val_main_v70, val_main_v42, val_main_v8, e64, cv_apply]
  simp only [← EReal.coe_mul]

theorem e72 (c : Fin 1024) : val_main_v72 (F := Ideal) (cv a.x) (cv a.m) (cv a.w) (cv a.ca) (cv a.cb) (cv a.gp) (cv a.dUp) (ix1 c)
    = ((dGq a c : ℝ) : EReal) := by
  refine (hostReduceAdd_lead2 _ _ _ c).trans ?_
  pointwise [val_main_v69, val_main_v68, val_main_v67, val_main_cst_12, val_main_cst_13, e41, e64]
  simp only [← EReal.coe_mul, sum_coe, zero_add]
  refine congrArg (fun x : ℝ => (x : EReal)) ?_
  exact Finset.sum_congr rfl fun s _ => mul_comm _ _

/-- The part of the row's gradient that runs through the mean of its squares. -/
theorem e81 (s : Fin 4096) : val_main_v81 (F := Ideal) (cv a.x) (cv a.m) (cv a.w) (cv a.ca) (cv a.cb) (cv a.gp) (cv a.gq) (cv a.dUp) (ix3 0 s 0)
    = (((∑ c, x2 a s c * (dMod a s c * a.gq (ix2 0 c))) * (-(1 / 2) * (rinv 1024 (x2 a s) / var 1024 (x2 a s))) / 1024 : ℝ) : EReal) := by
  pointwise [val_main_v81, val_main_v80, val_main_v79, val_main_v75, val_main_v74, val_main_v73, val_main_cst_14, val_main_cst_15, e28, e39, e71]
  simp only [← EReal.coe_mul, sum_coe, w1024, zero_add, div_coe _ 1024 (by norm_num)]

theorem e82 (s : Fin 4096) : val_main_v82 (F := Ideal) (cv a.x) (cv a.m) (cv a.w) (cv a.ca) (cv a.cb) (cv a.gp) (cv a.gq) (cv a.dUp) (ix1 s)
    = (((∑ c, x2 a s c * (dMod a s c * a.gq (ix2 0 c))) * (-(1 / 2) * (rinv 1024 (x2 a s) / var 1024 (x2 a s))) / 1024 : ℝ) : EReal) := by
  refine (hostReduceAdd_ends2 _ _ _ s).trans ?_
  refine (congrArg (_ + ·) (e81 a s)).trans ?_
  pointwise [val_main_cst_16]

/-- The gradient of the residual stream. -/
theorem e88 (s : Fin 4096) (c : Fin 1024) : val_main_v88 (F := Ideal) (cv a.x) (cv a.m) (cv a.w) (cv a.ca) (cv a.cb) (cv a.gp) (cv a.gq) (cv a.dOut) (cv a.dUp) (ix3 0 s c)
    = ((dX a s c : ℝ) : EReal) := by
  pointwise [val_main_v88, val_main_v87, val_main_v86, val_main_v85, val_main_v84, val_main_v83, val_main_v78, val_main_v77, val_main_v76, e28, e36, e71, e82, cv_apply]
  simp only [← EReal.coe_mul, ← EReal.coe_add]
  refine congrArg (fun x : ℝ => (x : EReal)) ?_
  unfold dX
  rw [← vjp_eq 1024 (by norm_num)]
  ring

theorem e89 (s : Fin 4096) (c : Fin 1024) : val_main_v89 (F := Ideal) (cv a.x) (cv a.m) (cv a.w) (cv a.ca) (cv a.cb) (cv a.gp) (cv a.gq) (cv a.dOut) (cv a.dUp) (ix3 0 s c)
    = ((dX a s c : ℝ) : EReal) := by
  pointwise [val_main_v89, e88]

theorem e91 (s : Fin 4096) (c : Fin 1024) : val_main_v91 (F := Ideal) (cv a.x) (cv a.m) (cv a.w) (cv a.ca) (cv a.cb) (cv a.gp) (cv a.gq) (cv a.dOut) (cv a.dUp) (ix3 0 s c)
    = ((dX a s c * gt a c : ℝ) : EReal) := by
  pointwise [val_main_v91, val_main_v90, val_main_v9, e3, e89]
  simp only [← EReal.coe_mul]
  rw [mul_comm]

theorem e116 (c : Fin 1024) : val_main_v116 (F := Ideal) (cv a.x) (cv a.m) (cv a.w) (cv a.ca) (cv a.cb) (cv a.gp) (cv a.gq) (cv a.dOut) (cv a.dUp) (ix1 c)
    = ((dGt a c : ℝ) : EReal) := by
  refine (hostReduceAdd_lead2 _ _ _ c).trans ?_
  pointwise [val_main_v94, val_main_v93, val_main_v92, val_main_cst_17, val_main_cst_23, e89, e25]
  simp only [← EReal.coe_mul, sum_coe, zero_add]
  rfl

theorem e100 (c : Fin 1024) : val_main_v100 (F := Ideal) (cv a.x) (cv a.m) (cv a.w) (cv a.ca) (cv a.cb) (cv a.gp) (cv a.gq) (cv a.dOut) (cv a.dUp) (ix1 c)
    = ((dGp a c : ℝ) : EReal) := by
  refine (hostReduceAdd_lead2 _ _ _ c).trans ?_
  pointwise [val_main_v97, val_main_v96, val_main_v95, val_main_cst_18, val_main_cst_19, e91, e22]
  simp only [← EReal.coe_mul, sum_coe, zero_add]
  refine congrArg (fun x : ℝ => (x : EReal)) ?_
  exact Finset.sum_congr rfl fun s _ => mul_comm _ _

theorem e99 (s : Fin 4096) (c : Fin 1024) : val_main_v99 (F := Ideal) (cv a.x) (cv a.m) (cv a.w) (cv a.ca) (cv a.cb) (cv a.gp) (cv a.gq) (cv a.dOut) (cv a.dUp) (ix3 0 s c)
    = ((dX a s c * gt a c * a.gp (ix2 0 c) : ℝ) : EReal) := by
  pointwise [val_main_v99, val_main_v98, val_main_v23, val_main_v7, e91, cv_apply]
  simp only [← EReal.coe_mul]

theorem e108 (s : Fin 4096) : val_main_v108 (F := Ideal) (cv a.x) (cv a.m) (cv a.w) (cv a.ca) (cv a.cb) (cv a.gp) (cv a.gq) (cv a.dOut) (cv a.dUp) (ix3 0 s 0)
    = (((∑ c, mrow a s c * (dX a s c * gt a c * a.gp (ix2 0 c))) * (-(1 / 2) * (rinv 1024 (mrow a s) / var 1024 (mrow a s))) / 1024 : ℝ) : EReal) := by
  pointwise [val_main_v108, val_main_v107, val_main_v106, val_main_v103, val_main_v102, val_main_v101, val_main_cst_20, val_main_cst_21, e20, e99, cv_apply]
  simp only [← EReal.coe_mul, sum_coe, w1024, zero_add, div_coe _ 1024 (by norm_num)]
  rfl

theorem e109 (s : Fin 4096) : val_main_v109 (F := Ideal) (cv a.x) (cv a.m) (cv a.w) (cv a.ca) (cv a.cb) (cv a.gp) (cv a.gq) (cv a.dOut) (cv a.dUp) (ix1 s)
    = (((∑ c, mrow a s c * (dX a s c * gt a c * a.gp (ix2 0 c))) * (-(1 / 2) * (rinv 1024 (mrow a s) / var 1024 (mrow a s))) / 1024 : ℝ) : EReal) := by
  refine (hostReduceAdd_ends2 _ _ _ s).trans ?_
  refine (congrArg (_ + ·) (e108 a s)).trans ?_
  pointwise [val_main_cst_22]

/-- The gradient of the mixer's output. -/
theorem e115 (s : Fin 4096) (c : Fin 1024) : val_main_v115 (F := Ideal) (cv a.x) (cv a.m) (cv a.w) (cv a.ca) (cv a.cb) (cv a.gp) (cv a.gq) (cv a.dOut) (cv a.dUp) (ix3 0 s c)
    = ((dM a s c : ℝ) : EReal) := by
  pointwise [val_main_v115, val_main_v114, val_main_v113, val_main_v112, val_main_v111, val_main_v110, val_main_v105, val_main_v104, e17, e99, e109, cv_apply]
  simp only [← EReal.coe_mul, ← EReal.coe_add]
  refine congrArg (fun x : ℝ => (x : EReal)) ?_
  unfold dM
  rw [← vjp_eq 1024 (by norm_num), add_assoc]
  rfl

/-! The seven results. -/

theorem out118 : val_main_v118 (F := Ideal) (cv a.x) (cv a.m) (cv a.w) (cv a.ca) (cv a.cb) (cv a.gp) (cv a.gq) (cv a.dOut) (cv a.dUp)
    = cv (fun i : S4096x1024.Idx => dX a (i 0) (i 1)) := by
  funext i
  idx_vars i
  pointwise [val_main_v118, e88, cv_apply]

theorem out120 : val_main_v120 (F := Ideal) (cv a.x) (cv a.m) (cv a.w) (cv a.ca) (cv a.cb) (cv a.gp) (cv a.gq) (cv a.dOut) (cv a.dUp)
    = cv (fun i : S4096x1024.Idx => dM a (i 0) (i 1)) := by
  funext i
  idx_vars i
  pointwise [val_main_v120, val_main_v119, e115, cv_apply]

theorem out59 : val_main_v59 (F := Ideal) (cv a.w) (cv a.dUp)
    = cv (fun i : S1x1024.Idx => dSh a (i 1)) := by
  funext i
  idx_vars i
  pointwise [val_main_v59, e58, cv_apply]

theorem out66 : val_main_v66 (F := Ideal) (cv a.x) (cv a.m) (cv a.w) (cv a.ca) (cv a.cb) (cv a.gp) (cv a.gq) (cv a.dUp)
    = cv (fun i : S1x1024.Idx => dSc a (i 1)) := by
  funext i
  idx_vars i
  pointwise [val_main_v66, e65, cv_apply]

theorem out121 : val_main_v121 (F := Ideal) (cv a.x) (cv a.m) (cv a.w) (cv a.ca) (cv a.cb) (cv a.gp) (cv a.dUp)
    = cv (fun i : S1x1024.Idx => dGq a (i 1)) := by
  funext i
  idx_vars i
  pointwise [val_main_v121, e72, cv_apply]

theorem out117 : val_main_v117 (F := Ideal) (cv a.x) (cv a.m) (cv a.w) (cv a.ca) (cv a.cb) (cv a.gp) (cv a.gq) (cv a.dOut) (cv a.dUp)
    = cv (fun i : S1x1024.Idx => dGt a (i 1)) := by
  funext i
  idx_vars i
  pointwise [val_main_v117, e116, cv_apply]

theorem out122 : val_main_v122 (F := Ideal) (cv a.x) (cv a.m) (cv a.w) (cv a.ca) (cv a.cb) (cv a.gp) (cv a.gq) (cv a.dOut) (cv a.dUp)
    = cv (fun i : S1x1024.Idx => dGp a (i 1)) := by
  funext i
  idx_vars i
  pointwise [val_main_v122, e100, cv_apply]

end Cert.FfnUpRefIdeal.Real
-- ==== Proof.FfnUpPair.lean ====
/- The up projection's backward call: the kernel's seven results are the reference's, for finite arguments. -/
module

public import proofs.«01_k».proof.Defs
public import proofs.«01_k».proof.Proof.FfnUpArr
public import proofs.«01_k».proof.Proof.FfnUpRef
public import proofs.«01_k».proof.Proof.DownLossPair
public import proofs.«01_k».proof.Proof.Gen.Pre_finite_up
public import Idealize.ShloMosaic.Lib.Claim

@[expose] public section

set_option maxRecDepth 16384

noncomputable section

namespace Cert.FfnUpPair

open Idealize.ShloMosaic Idealize.ShloMosaic.TcCoe Idealize.SL.Sem Cert.Lift Cert.UpSpec
open Cert.FfnUpRefIdeal Cert.FfnUpRefIdeal.Real Cert.FfnUpIdeal.Arr Cert.DownLossPair

/-- The precondition makes every argument a real array. -/
theorem args_real (m : (ℓ : Loc Cert.FfnUpIdeal.nD Cert.FfnUpIdeal.τ Cert.FfnUpIdeal.sig) → Buf (Elt Ideal) ℓ)
    (hpre : Cert.Pre_FfnUpIdeal_finite_up m) (c : Dev Cert.FfnUpIdeal.nD) : ∃ a : Args, Cert.FfnUpIdeal.Arr.IsReal m c a := by
  have h := congrFun (hpre c) (fun a => a.elim0)
  obtain ⟨h, h8⟩ := and_parts h
  obtain ⟨h, h7⟩ := and_parts h
  obtain ⟨h, h6⟩ := and_parts h
  obtain ⟨h, h5⟩ := and_parts h
  obtain ⟨h, h4⟩ := and_parts h
  obtain ⟨h, h3⟩ := and_parts h
  obtain ⟨h, h2⟩ := and_parts h
  obtain ⟨h0, h1⟩ := and_parts h
  obtain ⟨r0, e0⟩ := real_of_all _ _ (fun _ => rfl) _ _ _ _ h0
  obtain ⟨r1, e1⟩ := real_of_all _ _ (fun _ => rfl) _ _ _ _ h1
  obtain ⟨r2, e2⟩ := real_of_all _ _ (fun _ => rfl) _ _ _ _ h2
  obtain ⟨r3, e3⟩ := real_of_all _ _ (fun _ => rfl) _ _ _ _ h3
  obtain ⟨r4, e4⟩ := real_of_all _ _ (fun _ => rfl) _ _ _ _ h4
  obtain ⟨r5, e5⟩ := real_of_all _ _ (fun _ => rfl) _ _ _ _ h5
  obtain ⟨r6, e6⟩ := real_of_all _ _ (fun _ => rfl) _ _ _ _ h6
  obtain ⟨r7, e7⟩ := real_of_all _ _ (fun _ => rfl) _ _ _ _ h7
  obtain ⟨r8, e8⟩ := real_of_all _ _ (fun _ => rfl) _ _ _ _ h8
  exact ⟨⟨r0, r1, r2, r3, r4, r5, r6, r7, r8⟩, ⟨e0, e1, e2, e3, e4, e5, e6, e7, e8⟩⟩

set_option maxHeartbeats 4000000 in
theorem algebraic : Cert.algebraic_FfnUpIdeal_FfnUpRefIdeal_pre_finite_up := by
  pair_intro
  · run_from Cert.FfnUpIdeal.Value.run_blocks m g
  · run_from Cert.FfnUpRefIdeal.Value.run m' g'
    all_goals
      obtain ⟨a, hr⟩ := args_real m hpre c
      have e0 := (hagree c).1.trans hr.h0
      have e1 := (hagree c).2.1.trans hr.h1
      have e2 := (hagree c).2.2.1.trans hr.h2
      have e3 := (hagree c).2.2.2.1.trans hr.h3
      have e4 := (hagree c).2.2.2.2.1.trans hr.h4
      have e5 := (hagree c).2.2.2.2.2.1.trans hr.h5
      have e6 := (hagree c).2.2.2.2.2.2.1.trans hr.h6
      have e7 := (hagree c).2.2.2.2.2.2.2.1.trans hr.h7
      have e8 := (hagree c).2.2.2.2.2.2.2.2.trans hr.h8
    · exact (Read.val_main_v118_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out118 a).trans (arr9 hr).symm))
    · exact (Read.val_main_v120_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out120 a).trans (arr10 hr).symm))
    · exact (Read.val_main_v59_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out59 a).trans (arr11 hr).symm))
    · exact (Read.val_main_v66_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out66 a).trans (arr12 hr).symm))
    · exact (Read.val_main_v121_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out121 a).trans (arr13 hr).symm))
    · exact (Read.val_main_v117_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out117 a).trans (arr14 hr).symm))
    · exact (Read.val_main_v122_eq ..).trans
        ((by first | rw [e0, e1, e2, e3, e4, e5, e6, e7, e8] | simp only [e0, e1, e2, e3, e4, e5, e6, e7, e8, hr.h0, hr.h1, hr.h2, hr.h3, hr.h4, hr.h5, hr.h6, hr.h7, hr.h8] : _ = _).trans ((out122 a).trans (arr15 hr).symm))

/-- The reference runs to its end and leaves its arguments. -/
theorem quiescent_ref : Cert.quiescent_FfnUpRefIdeal := fun m ρ _ =>
  (θ_run Cert.FfnUpRefIdeal.defs _ _).mono (fun r h => ⟨fun c => (h c).2.2.2.2.2.2.2, sem_eq_zero_of_no_sems (by decide) r.2⟩)
    (Cert.FfnUpRefIdeal.Value.run (F := Ideal) m ρ)

end Cert.FfnUpPair
-- ==== Proof.FfnDownSpec.lean ====
/- The down projection's backward call over real numbers: the gradient of the projected row comes back through the gate `silu(a)·b` and
   the causal convolution of width three to the up projection's rows, with the gradients of both weights, of the convolution's taps
   and of its bias. The kernel's module and the reference's one both end in these functions. -/
module

public import proofs.«01_k».proof.Proof.Lift

@[expose] public section

noncomputable section

namespace Cert.FfnSpec

open Idealize.ShloMosaic Cert.Lift

/-- The arguments, as real arrays: the normalised rows, the up projection, the convolution's taps and bias, the down projection and
    the gradient of the projected rows. -/
structure Args where
  h : (⟨3, ![1, 4096, 1024]⟩ : Shape).Idx → ℝ
  w : (⟨3, ![1, 1024, 5632]⟩ : Shape).Idx → ℝ
  cw : (⟨3, ![1, 3, 5632]⟩ : Shape).Idx → ℝ
  cb : (⟨2, ![1, 5632]⟩ : Shape).Idx → ℝ
  wd : (⟨3, ![1, 2816, 1024]⟩ : Shape).Idx → ℝ
  df : (⟨3, ![1, 4096, 1024]⟩ : Shape).Idx → ℝ

/-- A column `k` rows earlier, zero before the sequence begins. -/
def late (k : ℕ) (f : Fin 4096 → ℝ) (s : Fin 4096) : ℝ := if h : k ≤ s.val then f ⟨s - k, by omega⟩ else 0

/-- A column `k` rows later, zero past the sequence's end. -/
def early (k : ℕ) (f : Fin 4096 → ℝ) (s : Fin 4096) : ℝ := if h : s.val + k < 4096 then f ⟨s + k, h⟩ else 0

/-- The logistic function. -/
def sg (x : ℝ) : ℝ := 1 / (1 + Real.exp (-x))

/-- The gate's two columns behind one column of the down projection. -/
def lo (q : Fin 2816) : Fin 5632 := ⟨q, by omega⟩

def hi (q : Fin 2816) : Fin 5632 := ⟨2816 + q, by omega⟩

variable (a : Args)

/-- The up projection. -/
def up (s : Fin 4096) (p : Fin 5632) : ℝ := ∑ k : Fin 1024, a.h (ix3 0 s k) * a.w (ix3 0 k p)

/-- The causal convolution. -/
def y (s : Fin 4096) (p : Fin 5632) : ℝ :=
  a.cb (ix2 0 p) + (late 2 (fun s => up a s p) s * a.cw (ix3 0 0 p) + late 1 (fun s => up a s p) s * a.cw (ix3 0 1 p) + up a s p * a.cw (ix3 0 2 p))

/-- The gated row. -/
def act (s : Fin 4096) (q : Fin 2816) : ℝ := y a s (lo q) * sg (y a s (lo q)) * y a s (hi q)

/-- The gradient of the gated row. -/
def dAct (s : Fin 4096) (q : Fin 2816) : ℝ := ∑ d : Fin 1024, a.df (ix3 0 s d) * a.wd (ix3 0 q d)

/-- The gradients of the convolution's first and second half. -/
def dYa (s : Fin 4096) (q : Fin 2816) : ℝ :=
  dAct a s q * y a s (hi q) * (sg (y a s (lo q)) * (1 + y a s (lo q) * (1 - sg (y a s (lo q)))))

def dYb (s : Fin 4096) (q : Fin 2816) : ℝ := dAct a s q * (y a s (lo q) * sg (y a s (lo q)))

/-- The gradient of the convolution. -/
def dY (s : Fin 4096) (p : Fin 5632) : ℝ := if h : p.val < 2816 then dYa a s ⟨p, h⟩ else dYb a s ⟨p - 2816, by omega⟩

/-- The gradient of the up projection's rows. -/
def dU (s : Fin 4096) (p : Fin 5632) : ℝ :=
  dY a s p * a.cw (ix3 0 2 p) + early 1 (fun s => dY a s p) s * a.cw (ix3 0 1 p) + early 2 (fun s => dY a s p) s * a.cw (ix3 0 0 p)

/-- The gradient of the convolution's bias. -/
def dCb (p : Fin 5632) : ℝ := ∑ s, dY a s p

/-- The gradient of the convolution's taps. -/
def dCw (k : Fin 3) (p : Fin 5632) : ℝ := ∑ s, early (2 - k.val) (fun s => dY a s p) s * up a s p

/-- The gradient of the down projection. -/
def dWd (q : Fin 2816) (d : Fin 1024) : ℝ := ∑ s, act a s q * a.df (ix3 0 s d)

/-- The gradient of the up projection. -/
def dWu (p : Fin 5632) (d : Fin 1024) : ℝ := ∑ s, dU a s p * a.h (ix3 0 s d)

theorem early_zero (f : Fin 4096 → ℝ) (s : Fin 4096) : early 0 f s = f s := by
  unfold early
  rw [dif_pos (by omega)]
  rfl

/-- Moving one factor down is moving the other up. -/
theorem sum_early (k : ℕ) (f g : Fin 4096 → ℝ) : ∑ s, early k f s * g s = ∑ s, late k g s * f s := by
  have e1 : ∀ s, early k f s * g s = ∑ t : Fin 4096, if t.val = s.val + k then g s * f t else 0 := fun s => by
    unfold early
    split
    · next h =>
      rw [Finset.sum_eq_single (⟨s + k, h⟩ : Fin 4096) (fun t _ ht => if_neg fun e => ht (Fin.ext e)) (fun n => absurd (Finset.mem_univ _) n),
        if_pos rfl, mul_comm]
    · next h =>
      rw [zero_mul]
      exact (Finset.sum_eq_zero fun t _ => if_neg fun e => h (by omega)).symm
  have e2 : ∀ t, late k g t * f t = ∑ s : Fin 4096, if t.val = s.val + k then g s * f t else 0 := fun t => by
    unfold late
    split
    · next h =>
      rw [Finset.sum_eq_single (⟨t - k, by omega⟩ : Fin 4096) (fun s _ hs => if_neg fun e => hs (Fin.ext (by simp only [e]; omega)))
        (fun n => absurd (Finset.mem_univ _) n), if_pos (by simp only []; omega)]
    · next h =>
      rw [zero_mul]
      exact (Finset.sum_eq_zero fun s _ => if_neg fun e => h (by omega)).symm
  rw [Finset.sum_congr rfl fun s _ => e1 s, Finset.sum_congr rfl fun t _ => e2 t, Finset.sum_comm]

end Cert.FfnSpec
-- ==== Proof.FfnDownPay.lean ====
/- What the down projection's backward kernel computes on half a block of rows, 256 of them, as real numbers. The kernel's text writes the
   step twice, once for each half; the second text is the first one's with other names. -/
module

public import proofs.«01_k».proof.Proof.FfnDownSpec
public import proofs.«01_k».proof.Proof.Gen.FfnDownIdeal.Skeleton

@[expose] public section

set_option maxRecDepth 16384

noncomputable section

namespace Cert.FfnDownIdeal.Pay

open Cert.FfnDownIdeal Cert.FfnDownIdeal.Gen Idealize.ShloMosaic Cert.Lift Cert.FfnSpec

theorem logistic_real (x : ℝ) : Ideal.logistic (x : EReal) = ((sg x : ℝ) : EReal) := by
  have h : 1 + Real.exp (-x) ≠ 0 := by positivity
  unfold Ideal.logistic
  rw [← EReal.coe_neg, Ideal.exp_coe, ← EReal.coe_one, ← EReal.coe_add, div_coe _ _ h]
  rfl

/-! ## The second half's text is the first half's -/

section same
variable (x : FVec Ideal S256x1024 .bf16) (w : FVec Ideal S1024x704 .bf16) (ya yb u : FVec Ideal S1x256x704 .f32) (e : FVec Ideal S8x704 .f32)
  (g s1 s2 v : FVec Ideal S256x704 .f32) (w2 w1 w0 : FVec Ideal S1x1x704 .f32) (o : FVec Ideal S1x1x1x704 .f32)

theorem same44 : k0_pay44 (F := Ideal) (k0_pay41 x w) (k0_pay42 ya) yb = k0_pay17 x w ya yb := rfl
theorem same45 : k0_pay45 (F := Ideal) (k0_pay41 x w) (k0_pay42 ya) = k0_pay18 x w ya := rfl
theorem same21 : k0_pay21 (F := Ideal) e x w ya yb = k0_pay32 e (k0_pay17 x w ya yb) := rfl
theorem same22 : k0_pay22 (F := Ideal) e x w ya yb = k0_pay33 e (k0_pay17 x w ya yb) := rfl
theorem same48 : k0_pay48 (F := Ideal) e (k0_pay41 x w) (k0_pay42 ya) yb = k0_pay32 e (k0_pay17 x w ya yb) := rfl
theorem same49 : k0_pay49 (F := Ideal) e (k0_pay41 x w) (k0_pay42 ya) yb = k0_pay33 e (k0_pay17 x w ya yb) := rfl
theorem same59 : k0_pay59 (F := Ideal) e g = k0_pay32 e g := rfl
theorem same60 : k0_pay60 (F := Ideal) e g = k0_pay33 e g := rfl
theorem same23 : k0_pay23 (F := Ideal) g s1 s2 w2 w1 w0 = k0_pay34 g s1 s2 w2 w1 w0 := rfl
theorem same51 : k0_pay51 (F := Ideal) (k0_pay50 e (k0_pay41 x w) (k0_pay42 ya) yb w2 w1 w0)
    = k0_pay34 (k0_pay17 x w ya yb) (k0_pay32 e (k0_pay17 x w ya yb)) (k0_pay33 e (k0_pay17 x w ya yb)) w2 w1 w0 := rfl
theorem same62 : k0_pay62 (F := Ideal) (k0_pay61 e g w2 w1 w0) = k0_pay34 g (k0_pay32 e g) (k0_pay33 e g) w2 w1 w0 := rfl
theorem same24 : k0_pay24 (F := Ideal) g o = k0_pay35 g o := rfl
theorem same52 : k0_pay52 (F := Ideal) g o = k0_pay35 g o := rfl
theorem same63 : k0_pay63 (F := Ideal) g o = k0_pay35 g o := rfl
theorem same26 : k0_pay26 (F := Ideal) (k0_pay25 v s2 o) = k0_pay37 (k0_pay36 v s2 o) := rfl
theorem same53 : k0_pay53 (F := Ideal) v s2 o = k0_pay37 (k0_pay36 v s2 o) := rfl
theorem same64 : k0_pay64 (F := Ideal) v s2 o = k0_pay37 (k0_pay36 v s2 o) := rfl
theorem same27 : k0_pay27 (F := Ideal) v s1 o = k0_pay38 v s1 o := rfl
theorem same54 : k0_pay54 (F := Ideal) v s1 o = k0_pay38 v s1 o := rfl
theorem same65 : k0_pay65 (F := Ideal) v s1 o = k0_pay38 v s1 o := rfl
theorem same28 : k0_pay28 (F := Ideal) g v o = k0_pay39 g v o := rfl
theorem same55 : k0_pay55 (F := Ideal) g v o = k0_pay39 g v o := rfl
theorem same66 : k0_pay66 (F := Ideal) g v o = k0_pay39 g v o := rfl
theorem same19 : k0_pay19 (F := Ideal) u = k0_pay30 u := rfl
theorem same46 : k0_pay46 (F := Ideal) u = k0_pay30 u := rfl
theorem same57 : k0_pay57 (F := Ideal) u = k0_pay30 u := rfl
theorem same29 : k0_pay29 (F := Ideal) g = k0_pay40 g := rfl
theorem same67 : k0_pay67 (F := Ideal) (k0_pay56 g) = k0_pay68 g := rfl

end same

/-! ## One half of a block -/

section gradient
variable {x : FVec Ideal S256x1024 .bf16} {w : FVec Ideal S1024x704 .bf16} {ya yb : FVec Ideal S1x256x704 .f32}
  {X : Fin 256 → Fin 1024 → ℝ} {W : Fin 704 → Fin 1024 → ℝ} {A B : Fin 256 → Fin 704 → ℝ}
  (hx : ∀ i k, x (ix2 i k) = ((X i k : ℝ) : EReal)) (hw : ∀ k n, w (ix2 k n) = ((W n k : ℝ) : EReal))
  (ha : ∀ i n, ya (ix3 0 i n) = ((A i n : ℝ) : EReal))
include hx hw ha

/-- The gate's gradient on the first half of the columns, -/
theorem pay17 (hb : ∀ i n, yb (ix3 0 i n) = ((B i n : ℝ) : EReal)) (i : Fin 256) (n : Fin 704) :
    k0_pay17 (F := Ideal) x w ya yb (ix2 i n)
      = (((∑ k, X i k * W n k) * B i n * (sg (A i n) * (1 + A i n * (1 - sg (A i n)))) : ℝ) : EReal) := by
  pointwise [k0_pay17, k0_pay14, k0_pay15, k0_pay16, hx, hw, ha, hb]
  simp only [logistic_real, wone, ← EReal.coe_one, ← EReal.coe_mul, sum_coe, ← EReal.coe_sub, ← EReal.coe_add]

/-- and on the second. -/
theorem pay18 (i : Fin 256) (n : Fin 704) :
    k0_pay18 (F := Ideal) x w ya (ix2 i n) = (((∑ k, X i k * W n k) * (A i n * sg (A i n)) : ℝ) : EReal) := by
  pointwise [k0_pay18, k0_pay14, k0_pay15, k0_pay16, hx, hw, ha]
  simp only [logistic_real, wone, ← EReal.coe_one, ← EReal.coe_mul, sum_coe, ← EReal.coe_sub, ← EReal.coe_add]

end gradient

section rows
variable {g : FVec Ideal S256x704 .f32} {e : FVec Ideal S8x704 .f32} {f : ℕ → Fin 704 → ℝ} {b : ℕ}
  (hg : ∀ (i : Fin 256) n, g (ix2 i n) = ((f (b + i) n : ℝ) : EReal))
include hg

/-- The rows and the eight after them, moved up by one row, -/
theorem pay32 (he : ∀ (i : Fin 8) n, e (ix2 i n) = ((f (b + 256 + i) n : ℝ) : EReal)) (i : Fin 256) (n : Fin 704) :
    k0_pay32 (F := Ideal) e g (ix2 i n) = ((f (b + i + 1) n : ℝ) : EReal) := by
  pointwise [k0_pay32, k0_pay31]
  split
  · exact (hg _ n).trans (congrArg (fun s => ((f s n : ℝ) : EReal)) (by simp only []; omega))
  · exact (he _ n).trans (congrArg (fun s => ((f s n : ℝ) : EReal)) (by simp only []; omega))

/-- by two rows. -/
theorem pay33 (he : ∀ (i : Fin 8) n, e (ix2 i n) = ((f (b + 256 + i) n : ℝ) : EReal)) (i : Fin 256) (n : Fin 704) :
    k0_pay33 (F := Ideal) e g (ix2 i n) = ((f (b + i + 2) n : ℝ) : EReal) := by
  pointwise [k0_pay33, k0_pay31]
  split
  · exact (hg _ n).trans (congrArg (fun s => ((f s n : ℝ) : EReal)) (by simp only []; omega))
  · exact (he _ n).trans (congrArg (fun s => ((f s n : ℝ) : EReal)) (by simp only []; omega))

/-- The first eight rows. -/
theorem pay40 (i : Fin 8) (n : Fin 704) : k0_pay40 (F := Ideal) g (ix2 i n) = ((f (b + i) n : ℝ) : EReal) := by
  pointwise [k0_pay40]
  exact hg ⟨i, by omega⟩ n

theorem pay68 (i : Fin 8) (n : Fin 704) : k0_pay68 (F := Ideal) g (ix2 i n) = ((f (b + i) n : ℝ) : EReal) := by
  pointwise [k0_pay68]
  exact hg ⟨i, by omega⟩ n

/-- The bias's gradient. -/
theorem pay35 (o : FVec Ideal S1x1x1x704 .f32) (n : Fin 704) : k0_pay35 (F := Ideal) g o (ix4 0 0 0 n)
    = o (ix4 0 0 0 n) + ((∑ i : Fin 256, f (b + i) n : ℝ) : EReal) := by
  pointwise [k0_pay35, hg]
  simp only [sum_coe]

end rows

section taps
variable {g s1 s2 : FVec Ideal S256x704 .f32} {u : FVec Ideal S1x256x704 .f32} {G S1 S2 U : Fin 256 → Fin 704 → ℝ}

/-- The convolution's input's gradient. -/
theorem pay34 (hg : ∀ i n, g (ix2 i n) = ((G i n : ℝ) : EReal)) (h1 : ∀ i n, s1 (ix2 i n) = ((S1 i n : ℝ) : EReal))
    (h2 : ∀ i n, s2 (ix2 i n) = ((S2 i n : ℝ) : EReal)) {w2 w1 w0 : FVec Ideal S1x1x704 .f32} {W : Fin 3 → Fin 704 → ℝ}
    (hw2 : ∀ n, w2 (ix3 0 0 n) = ((W 2 n : ℝ) : EReal)) (hw1 : ∀ n, w1 (ix3 0 0 n) = ((W 1 n : ℝ) : EReal))
    (hw0 : ∀ n, w0 (ix3 0 0 n) = ((W 0 n : ℝ) : EReal)) (i : Fin 256) (n : Fin 704) :
    k0_pay34 (F := Ideal) g s1 s2 w2 w1 w0 (ix4 0 0 i n) = ((G i n * W 2 n + S1 i n * W 1 n + S2 i n * W 0 n : ℝ) : EReal) := by
  pointwise [k0_pay34, hg, h1, h2, hw2, hw1, hw0]
  simp only [← EReal.coe_mul, ← EReal.coe_add]

variable (hu : ∀ i n, u (ix3 0 i n) = ((U i n : ℝ) : EReal))
include hu

/-- The taps' gradients. -/
theorem pay37 (h2 : ∀ i n, s2 (ix2 i n) = ((S2 i n : ℝ) : EReal)) (o : FVec Ideal S1x1x1x704 .f32) (n : Fin 704) :
    k0_pay37 (F := Ideal) (k0_pay36 (k0_pay30 u) s2 o) (ix4 0 0 0 n) = o (ix4 0 0 0 n) + ((∑ i, S2 i n * U i n : ℝ) : EReal) := by
  pointwise [k0_pay37, k0_pay36, k0_pay30, hu, h2]
  simp only [← EReal.coe_mul, sum_coe]

theorem pay38 (h1 : ∀ i n, s1 (ix2 i n) = ((S1 i n : ℝ) : EReal)) (o : FVec Ideal S1x1x1x704 .f32) (n : Fin 704) :
    k0_pay38 (F := Ideal) (k0_pay30 u) s1 o (ix4 0 0 0 n) = o (ix4 0 0 0 n) + ((∑ i, S1 i n * U i n : ℝ) : EReal) := by
  pointwise [k0_pay38, k0_pay30, hu, h1]
  simp only [← EReal.coe_mul, sum_coe]

theorem pay39 (hg : ∀ i n, g (ix2 i n) = ((G i n : ℝ) : EReal)) (o : FVec Ideal S1x1x1x704 .f32) (n : Fin 704) :
    k0_pay39 (F := Ideal) g (k0_pay30 u) o (ix4 0 0 0 n) = o (ix4 0 0 0 n) + ((∑ i, G i n * U i n : ℝ) : EReal) := by
  pointwise [k0_pay39, k0_pay30, hu, hg]
  simp only [← EReal.coe_mul, sum_coe]

end taps

/-! ## The weights' gradients, over a whole block's rows -/

section weights
variable {v : FVec Ideal S512x1024 .bf16} {V : Fin 512 → Fin 1024 → ℝ} {A : Fin 512 → Fin 704 → ℝ}
  (hv : ∀ i d, v (ix2 i d) = ((V i d : ℝ) : EReal))
include hv

theorem pay69 {a : FVec Ideal S1x512x704 .bf16} (ha : ∀ i n, a (ix3 0 i n) = ((A i n : ℝ) : EReal)) (o : FVec Ideal S704x1024 .f32)
    (n : Fin 704) (d : Fin 1024) : k0_pay69 (F := Ideal) o a v (ix2 n d) = o (ix2 n d) + ((∑ i, A i n * V i d : ℝ) : EReal) := by
  pointwise [k0_pay69, ha, hv]
  simp only [← EReal.coe_mul, sum_coe]

theorem pay1 {a : FVec Ideal S1x1x512x704 .bf16} (ha : ∀ i n, a (ix4 0 0 i n) = ((A i n : ℝ) : EReal)) (o : FVec Ideal S704x1024 .f32)
    (n : Fin 704) (d : Fin 1024) : k0_pay1 (F := Ideal) o (k0_pay70 a) v (ix2 n d) = o (ix2 n d) + ((∑ i, A i n * V i d : ℝ) : EReal) := by
  pointwise [k0_pay1, k0_pay70, ha, hv]
  simp only [← EReal.coe_mul, sum_coe]

theorem pay2 {a : FVec Ideal S1x1x512x704 .bf16} (ha : ∀ i n, a (ix4 0 0 i n) = ((A i n : ℝ) : EReal)) (o : FVec Ideal S704x1024 .f32)
    (n : Fin 704) (d : Fin 1024) : k0_pay2 (F := Ideal) o a v (ix2 n d) = o (ix2 n d) + ((∑ i, A i n * V i d : ℝ) : EReal) := by
  pointwise [k0_pay2, ha, hv]
  simp only [← EReal.coe_mul, sum_coe]

end weights

theorem pay3 (v : FVec Ideal S704x1024 .f32) (n : Fin 704) (d : Fin 1024) : k0_pay3 (F := Ideal) v (ix3 0 n d) = v (ix2 n d) := by
  pointwise [k0_pay3]

theorem pay4 (v : FVec Ideal S704x1024 .f32) (n : Fin 704) (d : Fin 1024) : k0_pay4 (F := Ideal) v (ix4 0 0 n d) = v (ix2 n d) := by
  pointwise [k0_pay4]

theorem pay5 (v : FVec Ideal S704x1024 .f32) (n : Fin 704) (d : Fin 1024) : k0_pay5 (F := Ideal) v (ix4 0 0 n d) = v (ix2 n d) := by
  pointwise [k0_pay5]

theorem pay6 (i : Fin 8) (n : Fin 704) : k0_pay6 (F := Ideal) (ix2 i n) = 0 := by pointwise [k0_pay6]
theorem pay7 (i : Fin 8) (n : Fin 704) : k0_pay7 (F := Ideal) (ix2 i n) = 0 := by pointwise [k0_pay7]
theorem pay8 (i : S1x2x3x704.Idx) : k0_pay8 (F := Ideal) i = 0 := by pointwise [k0_pay8]
theorem pay9 (i : S1x2x1x704.Idx) : k0_pay9 (F := Ideal) i = 0 := by pointwise [k0_pay9]
theorem pay10 (n : Fin 704) (d : Fin 1024) : k0_pay10 (F := Ideal) (ix2 n d) = 0 := by pointwise [k0_pay10]
theorem pay11 (n : Fin 704) (d : Fin 1024) : k0_pay11 (F := Ideal) (ix2 n d) = 0 := by pointwise [k0_pay11]
theorem pay12 (n : Fin 704) (d : Fin 1024) : k0_pay12 (F := Ideal) (ix2 n d) = 0 := by pointwise [k0_pay12]

/-- The projection turned over. -/
theorem pay13 (w : FVec Ideal S1x704x1024 .bf16) (k : Fin 1024) (n : Fin 704) : k0_pay13 (F := Ideal) w (ix2 k n) = w (ix3 0 n k) := by
  pointwise [k0_pay13]

end Cert.FfnDownIdeal.Pay
-- ==== Proof.FfnDownTile.lean ====
/- One point of the down projection's backward kernel: 512 rows of 704 columns of each half of the gate, as two tiles of 256 rows, the
   later tile first. A tile needs the two rows after it, which the tile before left. -/
module

public import proofs.«01_k».proof.Proof.FfnDownPay
public import proofs.«01_k».proof.Proof.Gen.FfnDownIdeal.Value
public import Idealize.ShloMosaic.Lib.Pipeline.ReadBack

@[expose] public section

set_option maxRecDepth 16384

noncomputable section

namespace Cert.FfnDownIdeal.Tile

open Cert.FfnDownIdeal Cert.FfnDownIdeal.Gen Cert.FfnDownIdeal.Pay Cert.FfnSpec
open Idealize.ShloMosaic Idealize.ShloMosaic.TcCoe Idealize.SL.Sem Cert.Lift

/-- A row by its number, -/
def row (s : ℕ) : Fin 4096 := ⟨s % 4096, Nat.mod_lt _ (by decide)⟩

/-- a column of the down projection, and the convolution's column behind it in one half. -/
def qq (j : Fin 4) (n : Fin 704) : Fin 2816 := ⟨j * 704 + n, by omega⟩

def col (p : Fin 2) (j : Fin 4) (n : Fin 704) : Fin 5632 := ⟨(p * 4 + j) * 704 + n, by omega⟩

theorem row_of (s : Fin 4096) : row s = s := Fin.ext (Nat.mod_eq_of_lt s.isLt)

/-- The convolution's gradient by the row's number, zero past the end. -/
def grow (a : Args) (p : Fin 5632) (s : ℕ) : ℝ := if h : s < 4096 then dY a ⟨s, h⟩ p else 0

theorem grow_row (a : Args) (p : Fin 5632) (s : Fin 4096) : grow a p s = dY a s p := dif_pos s.isLt

theorem grow_early (a : Args) (p : Fin 5632) (s : Fin 4096) (k : ℕ) : grow a p (s + k) = early k (fun s => dY a s p) s := rfl

theorem grow_lt (a : Args) (p : Fin 5632) (s : ℕ) (h : s < 4096) : grow a p s = dY a (row s) p :=
  (dif_pos h).trans (congrArg (fun s => dY a s p) (Fin.ext (Nat.mod_eq_of_lt h).symm))

theorem dY_lo (a : Args) (s : Fin 4096) (j : Fin 4) (n : Fin 704) : dY a s (col 0 j n) = dYa a s (qq j n) := by
  have h : (col 0 j n).val = (qq j n).val := by show (0 * 4 + j.val) * 704 + n.val = j.val * 704 + n.val; rw [Nat.zero_mul, Nat.zero_add]
  have h' : (col 0 j n).val < 2816 := h ▸ (qq j n).isLt
  exact (dif_pos h').trans (congrArg (dYa a s) (Fin.ext h))

theorem dY_hi (a : Args) (s : Fin 4096) (j : Fin 4) (n : Fin 704) : dY a s (col 1 j n) = dYb a s (qq j n) := by
  have h : (col 1 j n).val = (qq j n).val + 2816 := by show (1 * 4 + j.val) * 704 + n.val = j.val * 704 + n.val + 2816; omega
  exact (dif_neg (by omega)).trans (congrArg (dYb a s) (Fin.ext (by simp only []; omega)))

/-- What a point loads, as real arrays; `b` is the number of its first row. -/
structure Rows (a : Args) (b : ℕ) (j : Fin 4) (x : FVec Ideal S512x1024 .bf16) (w : FVec Ideal S1024x704 .bf16)
    (ua ub ya yb : FVec Ideal S1x512x704 .f32) (ca cb : FVec Ideal S1x3x704 .f32) (act : FVec Ideal S1x512x704 .bf16)
    (h2 : FVec Ideal S512x1024 .bf16) (na nb : FVec Ideal S8x704 .f32) : Prop where
  bound : b + 512 ≤ 4096
  hx : ∀ i k, x (ix2 i k) = ((a.df (ix3 0 (row (b + i)) k) : ℝ) : EReal)
  hw : ∀ k n, w (ix2 k n) = ((a.wd (ix3 0 (qq j n) k) : ℝ) : EReal)
  hua : ∀ i n, ua (ix3 0 i n) = ((up a (row (b + i)) (col 0 j n) : ℝ) : EReal)
  hub : ∀ i n, ub (ix3 0 i n) = ((up a (row (b + i)) (col 1 j n) : ℝ) : EReal)
  hya : ∀ i n, ya (ix3 0 i n) = ((y a (row (b + i)) (lo (qq j n)) : ℝ) : EReal)
  hyb : ∀ i n, yb (ix3 0 i n) = ((y a (row (b + i)) (hi (qq j n)) : ℝ) : EReal)
  hca : ∀ k n, ca (ix3 0 k n) = ((a.cw (ix3 0 k (col 0 j n)) : ℝ) : EReal)
  hcb : ∀ k n, cb (ix3 0 k n) = ((a.cw (ix3 0 k (col 1 j n)) : ℝ) : EReal)
  hact : ∀ i n, act (ix3 0 i n) = ((FfnSpec.act a (row (b + i)) (qq j n) : ℝ) : EReal)
  hh : ∀ i d, h2 (ix2 i d) = ((a.h (ix3 0 (row (b + i)) d) : ℝ) : EReal)
  hna : ∀ (i : Fin 8) n, na (ix2 i n) = ((grow a (col 0 j n) (b + 512 + i) : ℝ) : EReal)
  hnb : ∀ (i : Fin 8) n, nb (ix2 i n) = ((grow a (col 1 j n) (b + 512 + i) : ℝ) : EReal)

/-! ## One tile -/

section tile
variable {a : Args} {f : ℕ → Fin 704 → ℝ} {b : ℕ} {j : Fin 4} {p : Fin 2} {g : FVec Ideal S256x704 .f32} {e : FVec Ideal S8x704 .f32}
  {u : FVec Ideal S1x256x704 .f32}
  (hb : b + 256 ≤ 4096) (hg : ∀ (i : Fin 256) n, g (ix2 i n) = ((grow a (col p j n) (b + i) : ℝ) : EReal))
  (he : ∀ (i : Fin 8) n, e (ix2 i n) = ((grow a (col p j n) (b + 256 + i) : ℝ) : EReal))
include hg

theorem bias (o : FVec Ideal S1x1x1x704 .f32) (n : Fin 704) :
    k0_pay35 (F := Ideal) g o (ix4 0 0 0 n) = o (ix4 0 0 0 n) + ((∑ i : Fin 256, grow a (col p j n) (b + i) : ℝ) : EReal) :=
  pay35 (f := fun s n => grow a (col p j n) s) hg o n

theorem first (i : Fin 8) (n : Fin 704) : k0_pay40 (F := Ideal) g (ix2 i n) = ((grow a (col p j n) (b + i) : ℝ) : EReal) :=
  pay40 (f := fun s n => grow a (col p j n) s) hg i n

theorem next (i : Fin 8) (n : Fin 704) : k0_pay68 (F := Ideal) g (ix2 i n) = ((grow a (col p j n) (b + i) : ℝ) : EReal) :=
  pay68 (f := fun s n => grow a (col p j n) s) hg i n

theorem tap2 (hu : ∀ i n, u (ix3 0 i n) = ((up a (row (b + i)) (col p j n) : ℝ) : EReal)) (o : FVec Ideal S1x1x1x704 .f32) (n : Fin 704) :
    k0_pay39 (F := Ideal) g (k0_pay30 u) o (ix4 0 0 0 n)
      = o (ix4 0 0 0 n) + ((∑ i : Fin 256, grow a (col p j n) (b + i) * up a (row (b + i)) (col p j n) : ℝ) : EReal) :=
  pay39 hu hg o n

include he

theorem shift1 (i : Fin 256) (n : Fin 704) : k0_pay32 (F := Ideal) e g (ix2 i n) = ((grow a (col p j n) (b + i + 1) : ℝ) : EReal) :=
  pay32 (f := fun s n => grow a (col p j n) s) hg he i n

theorem shift2 (i : Fin 256) (n : Fin 704) : k0_pay33 (F := Ideal) e g (ix2 i n) = ((grow a (col p j n) (b + i + 2) : ℝ) : EReal) :=
  pay33 (f := fun s n => grow a (col p j n) s) hg he i n

theorem tap1 (hu : ∀ i n, u (ix3 0 i n) = ((up a (row (b + i)) (col p j n) : ℝ) : EReal)) (o : FVec Ideal S1x1x1x704 .f32) (n : Fin 704) :
    k0_pay38 (F := Ideal) (k0_pay30 u) (k0_pay32 e g) o (ix4 0 0 0 n)
      = o (ix4 0 0 0 n) + ((∑ i : Fin 256, grow a (col p j n) (b + i + 1) * up a (row (b + i)) (col p j n) : ℝ) : EReal) :=
  pay38 hu (shift1 hg he) o n

theorem tap0 (hu : ∀ i n, u (ix3 0 i n) = ((up a (row (b + i)) (col p j n) : ℝ) : EReal)) (o : FVec Ideal S1x1x1x704 .f32) (n : Fin 704) :
    k0_pay37 (F := Ideal) (k0_pay36 (k0_pay30 u) (k0_pay33 e g) o) (ix4 0 0 0 n)
      = o (ix4 0 0 0 n) + ((∑ i : Fin 256, grow a (col p j n) (b + i + 2) * up a (row (b + i)) (col p j n) : ℝ) : EReal) :=
  pay37 hu (shift2 hg he) o n

include hb

theorem grad {w2 w1 w0 : FVec Ideal S1x1x704 .f32} (hw2 : ∀ n, w2 (ix3 0 0 n) = ((a.cw (ix3 0 2 (col p j n)) : ℝ) : EReal))
    (hw1 : ∀ n, w1 (ix3 0 0 n) = ((a.cw (ix3 0 1 (col p j n)) : ℝ) : EReal)) (hw0 : ∀ n, w0 (ix3 0 0 n) = ((a.cw (ix3 0 0 (col p j n)) : ℝ) : EReal))
    (i : Fin 256) (n : Fin 704) :
    k0_pay34 (F := Ideal) g (k0_pay32 e g) (k0_pay33 e g) w2 w1 w0 (ix4 0 0 i n) = ((dU a (row (b + i)) (col p j n) : ℝ) : EReal) := by
  have hr : b + i = (row (b + i)).val := (Nat.mod_eq_of_lt (by omega)).symm
  refine (pay34 hg (shift1 hg he) (shift2 hg he) (W := fun k n => a.cw (ix3 0 k (col p j n))) hw2 hw1 hw0 i n).trans (congrArg (fun r : ℝ => (r : EReal)) ?_)
  unfold dU
  rw [← grow_early a (col p j n) _ 1, ← grow_early a (col p j n) _ 2, ← grow_row, ← hr]

end tile

/-! ## The point's tiles -/

section point
variable {a : Args} {b : ℕ} {j : Fin 4} {x : FVec Ideal S512x1024 .bf16} {w : FVec Ideal S1024x704 .bf16}
  {ua ub ya yb : FVec Ideal S1x512x704 .f32} {ca cb : FVec Ideal S1x3x704 .f32} {act : FVec Ideal S1x512x704 .bf16}
  {h2 : FVec Ideal S512x1024 .bf16} {na nb : FVec Ideal S8x704 .f32}
  (R : Rows a b j x w ua ub ya yb ca cb act h2 na nb)
include R

theorem ldUa (o : ℕ) (ho : o + 256 ≤ 512) (i1) (i : Fin 256) (n : Fin 704) :
    View.ld (Val := Elt Ideal) (e' := .f32) ua (Rect.unit (s := S1x512x704) ![0, o, 0] ![1, 256, 704] i1) (ix3 0 i n) = ((up a (row (b + o + i)) (col 0 j n) : ℝ) : EReal) := by
  exact (ld3 (Val := Elt Ideal) (e := .f32) ua 0 o 0 i1 0 i n 0 ⟨o + i, by omega⟩ n rfl rfl (Nat.zero_add _).symm).trans ((R.hua _ n).trans (by rw [Nat.add_assoc b o]))

theorem ldUb (o : ℕ) (ho : o + 256 ≤ 512) (i1) (i : Fin 256) (n : Fin 704) :
    View.ld (Val := Elt Ideal) (e' := .f32) ub (Rect.unit (s := S1x512x704) ![0, o, 0] ![1, 256, 704] i1) (ix3 0 i n) = ((up a (row (b + o + i)) (col 1 j n) : ℝ) : EReal) := by
  exact (ld3 (Val := Elt Ideal) (e := .f32) ub 0 o 0 i1 0 i n 0 ⟨o + i, by omega⟩ n rfl rfl (Nat.zero_add _).symm).trans ((R.hub _ n).trans (by rw [Nat.add_assoc b o]))

/-- A tile's gradient of the gate, on the first half of the columns, -/
theorem gA (o : ℕ) (ho : o + 256 ≤ 512) (i1 i2 i3) (i : Fin 256) (n : Fin 704) :
    k0_pay17 (F := Ideal) (View.ld (Val := Elt Ideal) (e' := .bf16) x (Rect.unit (s := S512x1024) ![o, 0] ![256, 1024] i1)) w
        (View.ld (Val := Elt Ideal) (e' := .f32) ya (Rect.unit (s := S1x512x704) ![0, o, 0] ![1, 256, 704] i2)) (View.ld (Val := Elt Ideal) (e' := .f32) yb (Rect.unit (s := S1x512x704) ![0, o, 0] ![1, 256, 704] i3)) (ix2 i n)
      = ((grow a (col 0 j n) (b + o + i) : ℝ) : EReal) := by
  have hb := R.bound
  have e : ∀ i : Fin 256, b + (⟨o + i.val, by omega⟩ : Fin 512).val = b + o + i := fun i => (Nat.add_assoc b o i).symm
  rw [grow_lt a _ _ (by omega), dY_lo]
  refine pay17 (X := fun i k => a.df (ix3 0 (row (b + o + i)) k)) (W := fun n k => a.wd (ix3 0 (qq j n) k))
    (A := fun i n => y a (row (b + o + i)) (lo (qq j n))) (B := fun i n => y a (row (b + o + i)) (hi (qq j n))) (fun i k => ?_) R.hw (fun i n => ?_) (fun i n => ?_) i n
  · exact (ld2 (Val := Elt Ideal) (e := .bf16) x o 0 i1 i k ⟨o + i, by omega⟩ k rfl (Nat.zero_add _).symm).trans ((R.hx _ k).trans (by rw [e i]))
  · exact (ld3 (Val := Elt Ideal) (e := .f32) ya 0 o 0 i2 0 i n 0 ⟨o + i, by omega⟩ n rfl rfl (Nat.zero_add _).symm).trans ((R.hya _ n).trans (by rw [e i]))
  · exact (ld3 (Val := Elt Ideal) (e := .f32) yb 0 o 0 i3 0 i n 0 ⟨o + i, by omega⟩ n rfl rfl (Nat.zero_add _).symm).trans ((R.hyb _ n).trans (by rw [e i]))

/-- and on the second. -/
theorem gB (o : ℕ) (ho : o + 256 ≤ 512) (i1 i2) (i : Fin 256) (n : Fin 704) :
    k0_pay18 (F := Ideal) (View.ld (Val := Elt Ideal) (e' := .bf16) x (Rect.unit (s := S512x1024) ![o, 0] ![256, 1024] i1)) w
        (View.ld (Val := Elt Ideal) (e' := .f32) ya (Rect.unit (s := S1x512x704) ![0, o, 0] ![1, 256, 704] i2)) (ix2 i n)
      = ((grow a (col 1 j n) (b + o + i) : ℝ) : EReal) := by
  have hb := R.bound
  have e : ∀ i : Fin 256, b + (⟨o + i.val, by omega⟩ : Fin 512).val = b + o + i := fun i => (Nat.add_assoc b o i).symm
  rw [grow_lt a _ _ (by omega), dY_hi]
  refine pay18 (X := fun i k => a.df (ix3 0 (row (b + o + i)) k)) (W := fun n k => a.wd (ix3 0 (qq j n) k))
    (A := fun i n => y a (row (b + o + i)) (lo (qq j n))) (fun i k => ?_) R.hw (fun i n => ?_) i n
  · exact (ld2 (Val := Elt Ideal) (e := .bf16) x o 0 i1 i k ⟨o + i, by omega⟩ k rfl (Nat.zero_add _).symm).trans ((R.hx _ k).trans (by rw [e i]))
  · exact (ld3 (Val := Elt Ideal) (e := .f32) ya 0 o 0 i2 0 i n 0 ⟨o + i, by omega⟩ n rfl rfl (Nat.zero_add _).symm).trans ((R.hya _ n).trans (by rw [e i]))

theorem tapA (k : Fin 3) (i1) (n : Fin 704) :
    View.ld (Val := Elt Ideal) (e' := .f32) ca (Rect.unit (s := S1x3x704) ![0, k.val, 0] ![1, 1, 704] i1) (ix3 0 0 n) = ((a.cw (ix3 0 k (col 0 j n)) : ℝ) : EReal) :=
  (ld3 (Val := Elt Ideal) (e := .f32) ca 0 k 0 i1 0 0 n 0 k n rfl rfl (Nat.zero_add _).symm).trans (R.hca k n)

theorem tapB (k : Fin 3) (i1) (n : Fin 704) :
    View.ld (Val := Elt Ideal) (e' := .f32) cb (Rect.unit (s := S1x3x704) ![0, k.val, 0] ![1, 1, 704] i1) (ix3 0 0 n) = ((a.cw (ix3 0 k (col 1 j n)) : ℝ) : EReal) :=
  (ld3 (Val := Elt Ideal) (e := .f32) cb 0 k 0 i1 0 0 n 0 k n rfl rfl (Nat.zero_add _).symm).trans (R.hcb k n)

end point

/-! ## The stored pieces -/

section pieces
variable {Q : Fin 2 → ℕ → Fin 704 → EReal}

theorem at_tile {P : FVec Ideal S1x1x256x704 .bf16} {p q : Fin 2} {o k : ℕ} (hP : ∀ i n, P (ix4 0 0 i n) = Q q (o + i) n)
    {n : Fin 704} {i : ℕ} {z : S1x1x256x704.Idx} (h1 : p.val = k + (z 1).val) (hk : q.val = k) (h2 : i = o + (z 2).val) (h3 : n.val = (z 3).val) :
    P z = Q p i n := by
  have e1 : (z 1).val = 0 := by have : (z 1).val < 1 := (z 1).isLt; omega
  have ep : p = q := Fin.ext (by omega)
  have en : n = z 3 := Fin.ext h3
  have ez : (z : S1x1x256x704.Idx) = ix4 0 0 (z 2) (z 3) := by blk_ext
  rw [ep, h2, en]
  exact (congrArg P ez).trans (hP _ _)

/-- The four tiles of the row gradient. -/
theorem canonU {P0 P1 P2 P3 : FVec Ideal S1x1x256x704 .bf16} (h0 : ∀ i n, P0 (ix4 0 0 i n) = Q 0 (256 + i) n)
    (h1 : ∀ i n, P1 (ix4 0 0 i n) = Q 1 (256 + i) n) (h2 : ∀ i n, P2 (ix4 0 0 i n) = Q 0 (0 + i) n)
    (h3 : ∀ i n, P3 (ix4 0 0 i n) = Q 1 (0 + i) n) (i0 i1 i2 i3) (p : Fin 2) (i : Fin 512) (n : Fin 704) :
    View.canon (Val := Elt Ideal) (s := S1x2x512x704) (e := .bf16) [⟨Rect.unit ![0, 1, 0, 0] ![1, 1, 256, 704] i3, P3⟩, ⟨Rect.unit ![0, 0, 0, 0] ![1, 1, 256, 704] i2, P2⟩,
      ⟨Rect.unit ![0, 1, 256, 0] ![1, 1, 256, 704] i1, P1⟩, ⟨Rect.unit ![0, 0, 256, 0] ![1, 1, 256, 704] i0, P0⟩] (ix4 0 p i n) = Q p i n := by
  have hc := View.cover_of_tiledL (Val := Elt Ideal) (s := S1x2x512x704) (e := .bf16) [⟨Rect.unit ![0, 1, 0, 0] ![1, 1, 256, 704] i3, P3⟩, ⟨Rect.unit ![0, 0, 0, 0] ![1, 1, 256, 704] i2, P2⟩,
      ⟨Rect.unit ![0, 1, 256, 0] ![1, 1, 256, 704] i1, P1⟩, ⟨Rect.unit ![0, 0, 256, 0] ![1, 1, 256, 704] i0, P0⟩] ![1, 1, 256, 704] (by sl_kernel_rfl)
  canon_tiles z h' using hc _
  case piece0 => exact at_tile h3 h'1 rfl (h'2.trans (Nat.zero_add _).symm) h'3
  case piece1 => exact at_tile h2 (h'1.trans (Nat.zero_add _).symm) rfl (h'2.trans (Nat.zero_add _).symm) h'3
  case piece2 => exact at_tile h1 h'1 rfl h'2 h'3
  case piece3 => exact at_tile h0 (h'1.trans (Nat.zero_add _).symm) rfl h'2 h'3

/-- Both halves of the columns, stored over what was there. -/
theorem canonB {P0 P1 : FVec Ideal S1x1x1x704 .f32} {B : Fin 2 → Fin 704 → EReal} (h0 : ∀ n, P0 (ix4 0 0 0 n) = B 0 n)
    (h1 : ∀ n, P1 (ix4 0 0 0 n) = B 1 n) (i0 i1) (L) (p : Fin 2) (n : Fin 704) :
    View.canon (Val := Elt Ideal) (s := S1x2x1x704) (e := .f32) (⟨Rect.unit ![0, 1, 0, 0] ![1, 1, 1, 704] i1, P1⟩ :: ⟨Rect.unit ![0, 0, 0, 0] ![1, 1, 1, 704] i0, P0⟩ :: L)
      (ix4 0 p 0 n) = B p n := by
  refine View.canon_append_of_piecesOf (fun z : S1x2x1x704.Idx => B (z 1) (z 3)) L [_, _] ⟨fun z => ?_, fun z => ?_, trivial⟩ (ix4 0 p 0 n) ?_
  · have e : (z : S1x1x1x704.Idx) = ix4 0 0 0 (z 3) := by blk_ext
    refine (congrArg P1 e).trans ((h1 _).trans ?_)
    show B 1 (z 3) = B ((Rect.unit (s := S1x2x1x704) ![0, 1, 0, 0] ![1, 1, 1, 704] i1).emb z 1) ((Rect.unit (s := S1x2x1x704) ![0, 1, 0, 0] ![1, 1, 1, 704] i1).emb z 3)
    exact congr (congrArg B (Fin.ext (by rw [Rect.emb_apply]; have : (z 1).val < 1 := (z 1).isLt; show 1 = 1 + 1 * (z 1).val; omega))) (Fin.ext (by rw [Rect.emb_apply]; show (z 3).val = 0 + 1 * (z 3).val; omega))
  · have e : (z : S1x1x1x704.Idx) = ix4 0 0 0 (z 3) := by blk_ext
    refine (congrArg P0 e).trans ((h0 _).trans ?_)
    show B 0 (z 3) = B ((Rect.unit (s := S1x2x1x704) ![0, 0, 0, 0] ![1, 1, 1, 704] i0).emb z 1) ((Rect.unit (s := S1x2x1x704) ![0, 0, 0, 0] ![1, 1, 1, 704] i0).emb z 3)
    exact congr (congrArg B (Fin.ext (by rw [Rect.emb_apply]; have : (z 1).val < 1 := (z 1).isLt; show 0 = 0 + 1 * (z 1).val; omega))) (Fin.ext (by rw [Rect.emb_apply]; show (z 3).val = 0 + 1 * (z 3).val; omega))
  · exact View.cover_of_tiledL _ ![1, 1, 1, 704] (by sl_kernel_rfl) _

/-- The taps' gradients of both halves, stored over what was there. -/
theorem canonW {P00 P01 P02 P10 P11 P12 : FVec Ideal S1x1x1x704 .f32} {B : Fin 2 → Fin 3 → Fin 704 → EReal}
    (h00 : ∀ n, P00 (ix4 0 0 0 n) = B 0 0 n) (h01 : ∀ n, P01 (ix4 0 0 0 n) = B 0 1 n) (h02 : ∀ n, P02 (ix4 0 0 0 n) = B 0 2 n)
    (h10 : ∀ n, P10 (ix4 0 0 0 n) = B 1 0 n) (h11 : ∀ n, P11 (ix4 0 0 0 n) = B 1 1 n) (h12 : ∀ n, P12 (ix4 0 0 0 n) = B 1 2 n)
    (i00 i01 i02 i10 i11 i12) (L) (p : Fin 2) (k : Fin 3) (n : Fin 704) :
    View.canon (Val := Elt Ideal) (s := S1x2x3x704) (e := .f32) (⟨Rect.unit ![0, 1, 2, 0] ![1, 1, 1, 704] i12, P12⟩ :: ⟨Rect.unit ![0, 1, 1, 0] ![1, 1, 1, 704] i11, P11⟩
      :: ⟨Rect.unit ![0, 1, 0, 0] ![1, 1, 1, 704] i10, P10⟩ :: ⟨Rect.unit ![0, 0, 2, 0] ![1, 1, 1, 704] i02, P02⟩
      :: ⟨Rect.unit ![0, 0, 1, 0] ![1, 1, 1, 704] i01, P01⟩ :: ⟨Rect.unit ![0, 0, 0, 0] ![1, 1, 1, 704] i00, P00⟩ :: L) (ix4 0 p k n) = B p k n := by
  have key : ∀ (P : FVec Ideal S1x1x1x704 .f32) (q : Fin 2) (l : Fin 3) (i0) (z : (Rect.unit (s := S1x2x3x704) ![0, q.val, l.val, 0] ![1, 1, 1, 704] i0).shape.Idx),
      (∀ n, P (ix4 0 0 0 n) = B q l n) → P z = B ((Rect.unit (s := S1x2x3x704) ![0, q.val, l.val, 0] ![1, 1, 1, 704] i0).emb z 1)
        ((Rect.unit (s := S1x2x3x704) ![0, q.val, l.val, 0] ![1, 1, 1, 704] i0).emb z 2) ((Rect.unit (s := S1x2x3x704) ![0, q.val, l.val, 0] ![1, 1, 1, 704] i0).emb z 3) := fun P q l i0 z h => by
    have e : (z : S1x1x1x704.Idx) = ix4 0 0 0 (z 3) := by blk_ext
    have l1 : (z 1).val < 1 := (z 1).isLt
    have l2 : (z 2).val < 1 := (z 2).isLt
    refine (congrArg P e).trans ((h _).trans ?_)
    exact congr (congr (congrArg B (Fin.ext (by rw [Rect.emb_apply]; show q.val = q.val + 1 * (z 1).val; omega)))
      (Fin.ext (by rw [Rect.emb_apply]; show l.val = l.val + 1 * (z 2).val; omega))) (Fin.ext (by rw [Rect.emb_apply]; show (z 3).val = 0 + 1 * (z 3).val; omega))
  refine View.canon_append_of_piecesOf (fun z : S1x2x3x704.Idx => B (z 1) (z 2) (z 3)) L [_, _, _, _, _, _]
    ⟨fun z => ?_, fun z => ?_, fun z => ?_, fun z => ?_, fun z => ?_, fun z => ?_, trivial⟩ (ix4 0 p k n) ?_
  · exact key _ 1 2 i12 z h12
  · exact key _ 1 1 i11 z h11
  · exact key _ 1 0 i10 z h10
  · exact key _ 0 2 i02 z h02
  · exact key _ 0 1 i01 z h01
  · exact key _ 0 0 i00 z h00
  exact View.cover_of_tiledL _ ![1, 1, 1, 704] (by sl_kernel_rfl) _

end pieces

/-! ## The point's stores -/

/-- A sum over the point's rows, the later tile first. -/
theorem both (b : ℕ) (f : ℕ → ℝ) (x : EReal) : x + ((∑ i : Fin 256, f (b + 256 + i) : ℝ) : EReal) + ((∑ i : Fin 256, f (b + 0 + i) : ℝ) : EReal)
    = x + ((∑ i : Fin 512, f (b + i) : ℝ) : EReal) := by
  have e : ∑ i : Fin 512, f (b + i) = ∑ i : Fin 256, f (b + 0 + i) + ∑ i : Fin 256, f (b + 256 + i) :=
    (Fin.sum_univ_add (a := 256) (b := 256) fun i => f (b + i.val)).trans
      (congrArg (∑ i : Fin 256, f (b + 0 + i) + ·) (Finset.sum_congr rfl fun i _ => congrArg f (by rw [Fin.val_natAdd, Nat.add_assoc])))
  rw [add_assoc, ← EReal.coe_add, e, add_comm (∑ i : Fin 256, f (b + 256 + i))]

section stores
variable {a : Args} {b : ℕ} {j : Fin 4} {gha ghb gla glb : FVec Ideal S256x704 .f32}
  (hha : ∀ (i : Fin 256) n, gha (ix2 i n) = ((grow a (col 0 j n) (b + 256 + i) : ℝ) : EReal))
  (hhb : ∀ (i : Fin 256) n, ghb (ix2 i n) = ((grow a (col 1 j n) (b + 256 + i) : ℝ) : EReal))
  (hla : ∀ (i : Fin 256) n, gla (ix2 i n) = ((grow a (col 0 j n) (b + 0 + i) : ℝ) : EReal))
  (hlb : ∀ (i : Fin 256) n, glb (ix2 i n) = ((grow a (col 1 j n) (b + 0 + i) : ℝ) : EReal))
include hha hhb hla hlb

theorem storeB {o0 o1 : FVec Ideal S1x1x1x704 .f32} {O : Fin 2 → Fin 704 → EReal} (h0 : ∀ n, o0 (ix4 0 0 0 n) = O 0 n)
    (h1 : ∀ n, o1 (ix4 0 0 0 n) = O 1 n) (i0 i1) (L) (p : Fin 2) (n : Fin 704) :
    View.canon (Val := Elt Ideal) (s := S1x2x1x704) (e := .f32) (⟨Rect.unit ![0, 1, 0, 0] ![1, 1, 1, 704] i1, k0_pay35 glb (k0_pay35 ghb o1)⟩
      :: ⟨Rect.unit ![0, 0, 0, 0] ![1, 1, 1, 704] i0, k0_pay35 gla (k0_pay35 gha o0)⟩ :: L) (ix4 0 p 0 n)
      = O p n + ((∑ i : Fin 512, grow a (col p j n) (b + i) : ℝ) : EReal) := by
  refine canonB (B := fun p n => O p n + ((∑ i : Fin 512, grow a (col p j n) (b + i) : ℝ) : EReal)) (fun n => ?_) (fun n => ?_) i0 i1 L p n
  · rw [bias hla, bias hha, h0]
    exact both _ (grow a (col 0 j n)) _
  · rw [bias hlb, bias hhb, h1]
    exact both _ (grow a (col 1 j n)) _

variable (hb : b + 512 ≤ 4096) {na nb : FVec Ideal S8x704 .f32}
  (hna : ∀ (i : Fin 8) n, na (ix2 i n) = ((grow a (col 0 j n) (b + 512 + i) : ℝ) : EReal))
  (hnb : ∀ (i : Fin 8) n, nb (ix2 i n) = ((grow a (col 1 j n) (b + 512 + i) : ℝ) : EReal))
include hna hnb

theorem storeW {uha uhb ula ulb : FVec Ideal S1x256x704 .f32}
    (kha : ∀ i n, uha (ix3 0 i n) = ((up a (row (b + 256 + i)) (col 0 j n) : ℝ) : EReal)) (khb : ∀ i n, uhb (ix3 0 i n) = ((up a (row (b + 256 + i)) (col 1 j n) : ℝ) : EReal))
    (kla : ∀ i n, ula (ix3 0 i n) = ((up a (row (b + 0 + i)) (col 0 j n) : ℝ) : EReal)) (klb : ∀ i n, ulb (ix3 0 i n) = ((up a (row (b + 0 + i)) (col 1 j n) : ℝ) : EReal))
    {o00 o01 o02 o10 o11 o12 : FVec Ideal S1x1x1x704 .f32} {O : Fin 2 → Fin 3 → Fin 704 → EReal}
    (h00 : ∀ n, o00 (ix4 0 0 0 n) = O 0 0 n) (h01 : ∀ n, o01 (ix4 0 0 0 n) = O 0 1 n) (h02 : ∀ n, o02 (ix4 0 0 0 n) = O 0 2 n)
    (h10 : ∀ n, o10 (ix4 0 0 0 n) = O 1 0 n) (h11 : ∀ n, o11 (ix4 0 0 0 n) = O 1 1 n) (h12 : ∀ n, o12 (ix4 0 0 0 n) = O 1 2 n)
    (i00 i01 i02 i10 i11 i12) (L) (p : Fin 2) (k : Fin 3) (n : Fin 704) :
    View.canon (Val := Elt Ideal) (s := S1x2x3x704) (e := .f32) (⟨Rect.unit ![0, 1, 2, 0] ![1, 1, 1, 704] i12, k0_pay39 glb (k0_pay30 ulb) (k0_pay39 ghb (k0_pay30 uhb) o12)⟩
      :: ⟨Rect.unit ![0, 1, 1, 0] ![1, 1, 1, 704] i11, k0_pay38 (k0_pay30 ulb) (k0_pay32 (k0_pay40 ghb) glb) (k0_pay38 (k0_pay30 uhb) (k0_pay32 nb ghb) o11)⟩
      :: ⟨Rect.unit ![0, 1, 0, 0] ![1, 1, 1, 704] i10, k0_pay37 (k0_pay36 (k0_pay30 ulb) (k0_pay33 (k0_pay40 ghb) glb) (k0_pay37 (k0_pay36 (k0_pay30 uhb) (k0_pay33 nb ghb) o10)))⟩
      :: ⟨Rect.unit ![0, 0, 2, 0] ![1, 1, 1, 704] i02, k0_pay39 gla (k0_pay30 ula) (k0_pay39 gha (k0_pay30 uha) o02)⟩
      :: ⟨Rect.unit ![0, 0, 1, 0] ![1, 1, 1, 704] i01, k0_pay38 (k0_pay30 ula) (k0_pay32 (k0_pay40 gha) gla) (k0_pay38 (k0_pay30 uha) (k0_pay32 na gha) o01)⟩
      :: ⟨Rect.unit ![0, 0, 0, 0] ![1, 1, 1, 704] i00, k0_pay37 (k0_pay36 (k0_pay30 ula) (k0_pay33 (k0_pay40 gha) gla) (k0_pay37 (k0_pay36 (k0_pay30 uha) (k0_pay33 na gha) o00)))⟩
      :: L) (ix4 0 p k n)
      = O p k n + ((∑ i : Fin 512, grow a (col p j n) (b + i + (2 - k)) * up a (row (b + i)) (col p j n) : ℝ) : EReal) := by
  have fa := first hha
  have fb := first hhb
  refine canonW (B := fun p k n => O p k n + ((∑ i : Fin 512, grow a (col p j n) (b + i + (2 - k)) * up a (row (b + i)) (col p j n) : ℝ) : EReal))
    (fun n => ?_) (fun n => ?_) (fun n => ?_) (fun n => ?_) (fun n => ?_) (fun n => ?_) i00 i01 i02 i10 i11 i12 L p k n
  · rw [tap0 hla fa kla, tap0 hha hna kha, h00]
    exact both _ (fun s => grow a (col 0 j n) (s + 2) * up a (row s) (col 0 j n)) _
  · rw [tap1 hla fa kla, tap1 hha hna kha, h01]
    exact both _ (fun s => grow a (col 0 j n) (s + 1) * up a (row s) (col 0 j n)) _
  · rw [tap2 hla kla, tap2 hha kha, h02]
    exact both _ (fun s => grow a (col 0 j n) s * up a (row s) (col 0 j n)) _
  · rw [tap0 hlb fb klb, tap0 hhb hnb khb, h10]
    exact both _ (fun s => grow a (col 1 j n) (s + 2) * up a (row s) (col 1 j n)) _
  · rw [tap1 hlb fb klb, tap1 hhb hnb khb, h11]
    exact both _ (fun s => grow a (col 1 j n) (s + 1) * up a (row s) (col 1 j n)) _
  · rw [tap2 hlb klb, tap2 hhb khb, h12]
    exact both _ (fun s => grow a (col 1 j n) s * up a (row s) (col 1 j n)) _

include hb

theorem storeU {wa2 wa1 wa0 wb2 wb1 wb0 va2 va1 va0 vb2 vb1 vb0 : FVec Ideal S1x1x704 .f32}
    (ka2 : ∀ n, wa2 (ix3 0 0 n) = ((a.cw (ix3 0 2 (col 0 j n)) : ℝ) : EReal)) (ka1 : ∀ n, wa1 (ix3 0 0 n) = ((a.cw (ix3 0 1 (col 0 j n)) : ℝ) : EReal))
    (ka0 : ∀ n, wa0 (ix3 0 0 n) = ((a.cw (ix3 0 0 (col 0 j n)) : ℝ) : EReal)) (kb2 : ∀ n, wb2 (ix3 0 0 n) = ((a.cw (ix3 0 2 (col 1 j n)) : ℝ) : EReal))
    (kb1 : ∀ n, wb1 (ix3 0 0 n) = ((a.cw (ix3 0 1 (col 1 j n)) : ℝ) : EReal)) (kb0 : ∀ n, wb0 (ix3 0 0 n) = ((a.cw (ix3 0 0 (col 1 j n)) : ℝ) : EReal))
    (la2 : ∀ n, va2 (ix3 0 0 n) = ((a.cw (ix3 0 2 (col 0 j n)) : ℝ) : EReal)) (la1 : ∀ n, va1 (ix3 0 0 n) = ((a.cw (ix3 0 1 (col 0 j n)) : ℝ) : EReal))
    (la0 : ∀ n, va0 (ix3 0 0 n) = ((a.cw (ix3 0 0 (col 0 j n)) : ℝ) : EReal)) (lb2 : ∀ n, vb2 (ix3 0 0 n) = ((a.cw (ix3 0 2 (col 1 j n)) : ℝ) : EReal))
    (lb1 : ∀ n, vb1 (ix3 0 0 n) = ((a.cw (ix3 0 1 (col 1 j n)) : ℝ) : EReal)) (lb0 : ∀ n, vb0 (ix3 0 0 n) = ((a.cw (ix3 0 0 (col 1 j n)) : ℝ) : EReal))
    (i0 i1 i2 i3) (p : Fin 2) (i : Fin 512) (n : Fin 704) :
    View.canon (Val := Elt Ideal) (s := S1x2x512x704) (e := .bf16)
      [⟨Rect.unit ![0, 1, 0, 0] ![1, 1, 256, 704] i3, k0_pay34 glb (k0_pay32 (k0_pay40 ghb) glb) (k0_pay33 (k0_pay40 ghb) glb) vb2 vb1 vb0⟩,
      ⟨Rect.unit ![0, 0, 0, 0] ![1, 1, 256, 704] i2, k0_pay34 gla (k0_pay32 (k0_pay40 gha) gla) (k0_pay33 (k0_pay40 gha) gla) va2 va1 va0⟩,
      ⟨Rect.unit ![0, 1, 256, 0] ![1, 1, 256, 704] i1, k0_pay34 ghb (k0_pay32 nb ghb) (k0_pay33 nb ghb) wb2 wb1 wb0⟩,
      ⟨Rect.unit ![0, 0, 256, 0] ![1, 1, 256, 704] i0, k0_pay34 gha (k0_pay32 na gha) (k0_pay33 na gha) wa2 wa1 wa0⟩] (ix4 0 p i n)
      = ((dU a (row (b + i)) (col p j n) : ℝ) : EReal) := by
  have fa := first hha
  have fb := first hhb
  refine canonU (Q := fun p i n => ((dU a (row (b + i)) (col p j n) : ℝ) : EReal)) (fun i n => ?_) (fun i n => ?_) (fun i n => ?_) (fun i n => ?_) i0 i1 i2 i3 p i n
  · exact (grad (by omega) hha hna ka2 ka1 ka0 i n).trans (by rw [Nat.add_assoc])
  · exact (grad (by omega) hhb hnb kb2 kb1 kb0 i n).trans (by rw [Nat.add_assoc])
  · exact (grad (by omega) hla fa la2 la1 la0 i n).trans (by rw [Nat.add_assoc])
  · exact (grad (by omega) hlb fb lb2 lb1 lb0 i n).trans (by rw [Nat.add_assoc])

end stores

end Cert.FfnDownIdeal.Tile
-- ==== Proof.FfnDownHost.lean ====
/- What the host leaves in the operands of the down projection's backward kernel: it computes the forward pass's saved rows (the up
   projection, the convolution and the gated rows) and lays them out by blocks of columns. -/
module

public import proofs.«01_k».proof.Proof.FfnDownTile
public import Idealize.ShloMosaic.Lib.StableHlo.RunRead

@[expose] public section

set_option maxRecDepth 16384

noncomputable section

namespace Cert.FfnDownIdeal.Host

open Cert.FfnDownIdeal Cert.FfnDownIdeal.Gen Cert.FfnDownIdeal.Tile Cert.FfnSpec
open Idealize.ShloMosaic Idealize.ShloMosaic.TcCoe Idealize.ShloMosaic.Tactic Idealize.SL.Sem Idealize.ShloMosaic.StableHlo Cert.Lift

/-- The up projection, -/
def rows (h : FVec Ideal S1x4096x1024 .f32) (w : FVec Ideal S1x1024x5632 .f32) : FVec Ideal S1x4096x5632 .f32 :=
  Host.dotGeneral dot_S1x4096x1024_S1024x5632_S1x4096x5632_2_0_01_1_n_n none h (shapeCast S1024x5632 w shapeCasts_S1x1024x5632_S1024x5632)

/-- with two zero rows before it, -/
def padded (u : FVec Ideal S1x4096x5632 .f32) : FVec Ideal S1x4098x5632 .f32 :=
  concatenate S1x4098x5632 1 [⟨S1x2x5632, broadcastInDim S1x2x5632 ![] bcast_S_S1x2x5632 (constant S_ .f32 0x00000000#32)⟩, ⟨S1x4096x5632, u⟩]
    concatenates_S1x2x5632_S1x4096x5632_S1x4098x5632_d1

/-- a column of factors for every row, -/
def spread (v : FVec Ideal S5632 .f32) : FVec Ideal S1x4096x5632 .f32 :=
  broadcastInDim S1x4096x5632 ![0, 1, 2] bcast_S1x1x5632_S1x4096x5632_0_1_2 (broadcastInDim S1x1x5632 ![2] bcast_S5632_S1x1x5632_2 v)

/-- the convolution, -/
def conv (p : FVec Ideal S1x4098x5632 .f32) (cw : FVec Ideal S1x3x5632 .f32) (cb : FVec Ideal S1x5632 .f32) : FVec Ideal S1x4096x5632 .f32 :=
  addf (spread (shapeCast S5632 cb shapeCasts_S1x5632_S5632))
    (addf (addf
      (mulf (extractStridedSlice S1x4096x5632 ![0, 0, 0] p slices_S1x4098x5632_S1x4096x5632_0_0_0)
        (spread (shapeCast S5632 (extractStridedSlice S1x5632 ![0, 0] (shapeCast S3x5632 cw shapeCasts_S1x3x5632_S3x5632) slices_S3x5632_S1x5632_0_0) shapeCasts_S1x5632_S5632)))
      (mulf (extractStridedSlice S1x4096x5632 ![0, 1, 0] p slices_S1x4098x5632_S1x4096x5632_0_1_0)
        (spread (shapeCast S5632 (extractStridedSlice S1x5632 ![1, 0] (shapeCast S3x5632 cw shapeCasts_S1x3x5632_S3x5632) slices_S3x5632_S1x5632_1_0) shapeCasts_S1x5632_S5632))))
      (mulf (extractStridedSlice S1x4096x5632 ![0, 2, 0] p slices_S1x4098x5632_S1x4096x5632_0_2_0)
        (spread (shapeCast S5632 (extractStridedSlice S1x5632 ![2, 0] (shapeCast S3x5632 cw shapeCasts_S1x3x5632_S3x5632) slices_S3x5632_S1x5632_2_0) shapeCasts_S1x5632_S5632))))

/-- the gated rows, -/
def gated (y : FVec Ideal S1x4096x5632 .f32) : FVec Ideal S1x4096x2816 .f32 :=
  mulf (mulf (extractStridedSlice S1x4096x2816 ![0, 0, 0] y slices_S1x4096x5632_S1x4096x2816_0_0_0)
    (Host.divf (broadcastInDim S1x4096x2816 ![] bcast_S_S1x4096x2816 (constant S_ .f32 0x3F800000#32))
      (addf (broadcastInDim S1x4096x2816 ![] bcast_S_S1x4096x2816 (constant S_ .f32 0x3F800000#32))
        (Host.exp (Host.negf (extractStridedSlice S1x4096x2816 ![0, 0, 0] y slices_S1x4096x5632_S1x4096x2816_0_0_0))))))
    (extractStridedSlice S1x4096x2816 ![0, 0, 2816] y slices_S1x4096x5632_S1x4096x2816_0_0_2816)

/-- and rows of 2816 columns as four blocks of 704. -/
def blocks (x : FVec Ideal S1x4096x2816 .f32) : FVec Ideal S4x4096x704 .f32 :=
  transpose S4x4096x704 [1, 0, 2] (shapeCast S4096x4x704 (shapeCast S4096x2816 x shapeCasts_S1x4096x2816_S4096x2816) shapeCasts_S4096x2816_S4096x4x704)
    transposes_S4096x4x704_S4x4096x704_1_0_2

variable (m : (ℓ : Loc nD τ sig) → Buf (Elt Ideal) ℓ) (c : Dev nD)

set_option maxHeartbeats 8000000 in
theorem operands :
    V m c main_v44 = blocks (extractStridedSlice S1x4096x2816 ![0, 0, 0] (rows (m ((c : Thread nD τ).loc main_arg0)) (m ((c : Thread nD τ).loc main_arg1))) slices_S1x4096x5632_S1x4096x2816_0_0_0)
    ∧ V m c main_v48 = blocks (extractStridedSlice S1x4096x2816 ![0, 0, 2816] (rows (m ((c : Thread nD τ).loc main_arg0)) (m ((c : Thread nD τ).loc main_arg1))) slices_S1x4096x5632_S1x4096x2816_0_0_2816)
    ∧ V m c main_v52 = blocks (extractStridedSlice S1x4096x2816 ![0, 0, 0] (conv (padded (rows (m ((c : Thread nD τ).loc main_arg0)) (m ((c : Thread nD τ).loc main_arg1))))
        (m ((c : Thread nD τ).loc main_arg2)) (m ((c : Thread nD τ).loc main_arg3))) slices_S1x4096x5632_S1x4096x2816_0_0_0)
    ∧ V m c main_v56 = blocks (extractStridedSlice S1x4096x2816 ![0, 0, 2816] (conv (padded (rows (m ((c : Thread nD τ).loc main_arg0)) (m ((c : Thread nD τ).loc main_arg1))))
        (m ((c : Thread nD τ).loc main_arg2)) (m ((c : Thread nD τ).loc main_arg3))) slices_S1x4096x5632_S1x4096x2816_0_0_2816)
    ∧ V m c main_v60 = truncf .bf16 (blocks (gated (conv (padded (rows (m ((c : Thread nD τ).loc main_arg0)) (m ((c : Thread nD τ).loc main_arg1))))
        (m ((c : Thread nD τ).loc main_arg2)) (m ((c : Thread nD τ).loc main_arg3))))) bitsLt_bf16_f32 := by
  simp only [V, hostOps0, hostOps0_1, hostOps0_2, List.flatten_cons, List.flatten_nil, List.append_nil, List.cons_append, List.nil_append]
  generalize hf : (fun a b => concatenate S1x4098x5632 1 [⟨S1x2x5632, a⟩, ⟨S1x4096x5632, b⟩] concatenates_S1x2x5632_S1x4096x5632_S1x4098x5632_d1
    : (⟨S1x2x5632, .f32⟩ : BufTy).Contents (Elt Ideal) → (⟨S1x4096x5632, .f32⟩ : BufTy).Contents (Elt Ideal) → (⟨S1x4098x5632, .f32⟩ : BufTy).Contents (Elt Ideal)) = f
  refine ⟨?_, ?_, ?_, ?_, ?_⟩
  all_goals after_reads_simp; subst hf; rfl

/-- The arguments are the real arrays `a`. -/
structure IsReal (a : Args) : Prop where
  h0 : m ((c : Thread nD τ).loc main_arg0) = cv a.h
  h1 : m ((c : Thread nD τ).loc main_arg1) = cv a.w
  h2 : m ((c : Thread nD τ).loc main_arg2) = cv a.cw
  h3 : m ((c : Thread nD τ).loc main_arg3) = cv a.cb
  h4 : m ((c : Thread nD τ).loc main_arg4) = cv a.wd
  h5 : m ((c : Thread nD τ).loc main_arg5) = cv a.df

variable {m c} {a : Args}

theorem rows_at (s : Fin 4096) (p : Fin 5632) : rows (cv a.h) (cv a.w) (ix3 0 s p) = ((up a s p : ℝ) : EReal) := by
  pointwise [rows, cv_apply]
  simp only [← EReal.coe_mul, sum_coe]
  rfl

theorem padded_at (k : ℕ) (hk : k ≤ 2) (s : Fin 4096) (p : Fin 5632) :
    padded (rows (cv a.h) (cv a.w)) (ix3 0 ⟨s + (2 - k), by omega⟩ p) = ((late k (fun s => up a s p) s : ℝ) : EReal) := by
  pointwise [padded]
  unfold late
  by_cases h : k ≤ s.val
  · rw [dif_neg (by omega), dif_pos h]
    refine Eq.trans ?_ (rows_at _ p)
    exact congrArg (fun s => rows (cv a.h) (cv a.w) (ix3 0 s p)) (Fin.ext (by simp only []; omega))
  · rw [dif_pos (by omega), dif_neg h]
    simp

theorem conv_at (s : Fin 4096) (p : Fin 5632) :
    conv (padded (rows (cv a.h) (cv a.w))) (cv a.cw) (cv a.cb) (ix3 0 s p) = ((y a s p : ℝ) : EReal) := by
  have e0 := padded_at (a := a) 0 (by omega) s p
  have e1 := padded_at (a := a) 1 (by omega) s p
  have e2 := padded_at (a := a) 2 (by omega) s p
  generalize padded (rows (cv a.h) (cv a.w)) = P at e0 e1 e2 ⊢
  have f0 : late 0 (fun s => up a s p) s = up a s p := dif_pos (Nat.zero_le _)
  have h0 : P (ix3 0 ⟨2 + s, by omega⟩ p) = ((up a s p : ℝ) : EReal) :=
    (congrArg (fun s => P (ix3 0 s p)) (Fin.ext (Nat.add_comm 2 s.val))).trans (e0.trans (by rw [f0]))
  have h1 : P (ix3 0 ⟨1 + s, by omega⟩ p) = ((late 1 (fun s => up a s p) s : ℝ) : EReal) :=
    (congrArg (fun s => P (ix3 0 s p)) (Fin.ext (Nat.add_comm 1 s.val))).trans e1
  have h2 : P (ix3 0 ⟨s, by omega⟩ p) = ((late 2 (fun s => up a s p) s : ℝ) : EReal) := e2
  pointwise [conv, spread, cv_apply]
  rw [h0, h1, h2]
  simp only [← EReal.coe_mul, ← EReal.coe_add]
  rfl

theorem blocks_at (x : FVec Ideal S1x4096x2816 .f32) (j : Fin 4) (s : Fin 4096) (n : Fin 704) : blocks x (ix3 j s n) = x (ix3 0 s (qq j n)) := by
  pointwise [blocks]
  rfl

theorem same_lo (j : Fin 4) (n : Fin 704) : lo (qq j n) = col 0 j n :=
  Fin.ext (by show j.val * 704 + n.val = (0 * 4 + j.val) * 704 + n.val; rw [Nat.zero_mul, Nat.zero_add])

theorem same_hi (j : Fin 4) (n : Fin 704) : hi (qq j n) = col 1 j n :=
  Fin.ext (by show 2816 + (j.val * 704 + n.val) = (1 * 4 + j.val) * 704 + n.val; omega)

/-- The blocks of the first half of the columns, -/
theorem cols_lo (x : FVec Ideal S1x4096x5632 .f32) (j : Fin 4) (s : Fin 4096) (n : Fin 704) :
    blocks (extractStridedSlice S1x4096x2816 ![0, 0, 0] x slices_S1x4096x5632_S1x4096x2816_0_0_0) (ix3 j s n) = x (ix3 0 s (lo (qq j n))) := by
  rw [blocks_at]
  pointwise
  rfl

/-- and of the second. -/
theorem cols_hi (x : FVec Ideal S1x4096x5632 .f32) (j : Fin 4) (s : Fin 4096) (n : Fin 704) :
    blocks (extractStridedSlice S1x4096x2816 ![0, 0, 2816] x slices_S1x4096x5632_S1x4096x2816_0_0_2816) (ix3 j s n) = x (ix3 0 s (hi (qq j n))) := by
  rw [blocks_at]
  pointwise
  rfl

theorem gated_at (x : FVec Ideal S1x4096x5632 .f32) (hx : ∀ s p, x (ix3 0 s p) = ((y a s p : ℝ) : EReal)) (s : Fin 4096) (q : Fin 2816) :
    gated x (ix3 0 s q) = ((act a s q : ℝ) : EReal) := by
  have h : ∀ x : ℝ, 1 + Real.exp (-x) ≠ 0 := fun x => by positivity
  pointwise [gated, hx]
  simp only [← EReal.coe_neg, Ideal.exp_coe, ← EReal.coe_one, ← EReal.coe_add, div_coe _ _ (h _), ← EReal.coe_mul]
  rfl

/-! ## The operands' entries -/

theorem readUa (hr : IsReal m c a) (j : Fin 4) (s : Fin 4096) (n : Fin 704) : V m c main_v44 (ix3 j s n) = ((up a s (col 0 j n) : ℝ) : EReal) := by
  refine (congrFun ((operands m c).1) _).trans ((cols_lo _ j s n).trans ?_)
  rw [hr.h0, hr.h1, rows_at, same_lo]

theorem readUb (hr : IsReal m c a) (j : Fin 4) (s : Fin 4096) (n : Fin 704) : V m c main_v48 (ix3 j s n) = ((up a s (col 1 j n) : ℝ) : EReal) := by
  refine (congrFun ((operands m c).2.1) _).trans ((cols_hi _ j s n).trans ?_)
  rw [hr.h0, hr.h1, rows_at, same_hi]

theorem readYa (hr : IsReal m c a) (j : Fin 4) (s : Fin 4096) (n : Fin 704) : V m c main_v52 (ix3 j s n) = ((y a s (lo (qq j n)) : ℝ) : EReal) := by
  refine (congrFun ((operands m c).2.2.1) _).trans ((cols_lo _ j s n).trans ?_)
  rw [hr.h0, hr.h1, hr.h2, hr.h3, conv_at]

theorem readYb (hr : IsReal m c a) (j : Fin 4) (s : Fin 4096) (n : Fin 704) : V m c main_v56 (ix3 j s n) = ((y a s (hi (qq j n)) : ℝ) : EReal) := by
  refine (congrFun ((operands m c).2.2.2.1) _).trans ((cols_hi _ j s n).trans ?_)
  rw [hr.h0, hr.h1, hr.h2, hr.h3, conv_at]

theorem readAct (hr : IsReal m c a) (j : Fin 4) (s : Fin 4096) (n : Fin 704) : V m c main_v60 (ix3 j s n) = ((act a s (qq j n) : ℝ) : EReal) := by
  refine (congrFun ((operands m c).2.2.2.2) _).trans ?_
  rw [hr.h0, hr.h1, hr.h2, hr.h3]
  exact (blocks_at (gated (conv (padded (rows (cv a.h) (cv a.w))) (cv a.cw) (cv a.cb))) j s n).trans (gated_at _ conv_at s (qq j n))

theorem readCw (k : Fin 3) (g : Fin 8) (n : Fin 704) :
    V m c main_v35 (ix3 g k n) = m ((c : Thread nD τ).loc main_arg2) (ix3 0 k ⟨g * 704 + n, by omega⟩) := by
  simp only [V, hostOps0, hostOps0_1, hostOps0_2, List.flatten_cons, List.flatten_nil, List.append_nil, List.cons_append, List.nil_append]
  after_reads_simp
  pointwise

theorem readWd (j : Fin 4) (n : Fin 704) (d : Fin 1024) :
    V m c main_v38 (ix3 j n d) = m ((c : Thread nD τ).loc main_arg4) (ix3 0 (qq j n) d) := by
  simp only [V, hostOps0, hostOps0_1, hostOps0_2, List.flatten_cons, List.flatten_nil, List.append_nil, List.cons_append, List.nil_append]
  after_reads_simp
  pointwise
  rfl

theorem readDf (s : Fin 4096) (d : Fin 1024) : V m c main_v40 (ix2 s d) = m ((c : Thread nD τ).loc main_arg5) (ix3 0 s d) := by
  simp only [V, hostOps0, hostOps0_1, hostOps0_2, List.flatten_cons, List.flatten_nil, List.append_nil, List.cons_append, List.nil_append]
  after_reads_simp
  pointwise

theorem readH (s : Fin 4096) (d : Fin 1024) : V m c main_v62 (ix2 s d) = m ((c : Thread nD τ).loc main_arg0) (ix3 0 s d) := by
  simp only [V, hostOps0, hostOps0_1, hostOps0_2, List.flatten_cons, List.flatten_nil, List.append_nil, List.cons_append, List.nil_append]
  after_reads_simp
  pointwise

/-! ## The blocks a point loads -/

theorem idx : ∀ t : Fin cfg0.N, win0_0.index t = ![7 - t.val % 8, 0] ∧ win0_1.index t = ![t.val / 8, 0, 0]
    ∧ win0_2.index t = ![t.val / 8, 7 - t.val % 8, 0] ∧ win0_3.index t = ![t.val / 8, 7 - t.val % 8, 0]
    ∧ win0_4.index t = ![t.val / 8, 7 - t.val % 8, 0] ∧ win0_5.index t = ![t.val / 8, 7 - t.val % 8, 0]
    ∧ win0_6.index t = ![t.val / 8, 0, 0] ∧ win0_7.index t = ![t.val / 8 + 4, 0, 0]
    ∧ win0_8.index t = ![t.val / 8, 7 - t.val % 8, 0] ∧ win0_9.index t = ![7 - t.val % 8, 0]
    ∧ win0_10.index t = ![t.val / 8, 0, 7 - t.val % 8, 0] ∧ win0_11.index t = ![t.val / 8, 0, 0, 0]
    ∧ win0_12.index t = ![t.val / 8, 0, 0, 0] ∧ win0_13.index t = ![t.val / 8, 0, 0]
    ∧ win0_14.index t = ![t.val / 8, 0, 0, 0] :=
  (by decide +kernel : ∀ t : Fin grid0.N, _)

/-- The first row of a point's block, -/
def bb (t : ℕ) : ℕ := (7 - t % 8) * 512

/-- and its block of columns. -/
def jj (t : Fin cfg0.N) : Fin 4 := ⟨t / 8, by have : t.val < 32 := t.isLt; omega⟩

theorem bb_le (t : ℕ) : bb t + 512 ≤ 4096 := by unfold bb; omega

theorem rrow (t : ℕ) (i : Fin 512) : (row (bb t + i)).val = (7 - t % 8) * 512 + i := Nat.mod_eq_of_lt (by unfold bb; omega)

section blk
variable (hr : IsReal m c a) (t : Fin cfg0.N)
include hr

theorem blkX (i : Fin 512) (k : Fin 1024) : iblk m c 0 t (ix2 i k) = ((a.df (ix3 0 (row (bb t + i)) k) : ℝ) : EReal) := by
  refine Eq.trans ?_ ((readDf (m := m) (c := c) (row (bb t + i)) k).trans (congrFun hr.h5 _))
  exact congrArg (V m c main_v40) (by have e := rrow t i; blk_ext [idx t, e])

theorem blkW (n : Fin 704) (k : Fin 1024) : iblk m c 1 t (ix3 0 n k) = ((a.wd (ix3 0 (qq (jj t) n) k) : ℝ) : EReal) := by
  refine Eq.trans ?_ ((readWd (m := m) (c := c) (jj t) n k).trans (congrFun hr.h4 _))
  exact congrArg (V m c main_v38) (by unfold jj; blk_ext [idx t])

theorem blkUa (i : Fin 512) (n : Fin 704) : iblk m c 2 t (ix3 0 i n) = ((up a (row (bb t + i)) (col 0 (jj t) n) : ℝ) : EReal) := by
  refine Eq.trans ?_ (readUa hr (jj t) (row (bb t + i)) n)
  exact congrArg (V m c main_v44) (by have e := rrow t i; unfold jj; blk_ext [idx t, e])

theorem blkUb (i : Fin 512) (n : Fin 704) : iblk m c 3 t (ix3 0 i n) = ((up a (row (bb t + i)) (col 1 (jj t) n) : ℝ) : EReal) := by
  refine Eq.trans ?_ (readUb hr (jj t) (row (bb t + i)) n)
  exact congrArg (V m c main_v48) (by have e := rrow t i; unfold jj; blk_ext [idx t, e])

theorem blkYa (i : Fin 512) (n : Fin 704) : iblk m c 4 t (ix3 0 i n) = ((y a (row (bb t + i)) (lo (qq (jj t) n)) : ℝ) : EReal) := by
  refine Eq.trans ?_ (readYa hr (jj t) (row (bb t + i)) n)
  exact congrArg (V m c main_v52) (by have e := rrow t i; unfold jj; blk_ext [idx t, e])

theorem blkYb (i : Fin 512) (n : Fin 704) : iblk m c 5 t (ix3 0 i n) = ((y a (row (bb t + i)) (hi (qq (jj t) n)) : ℝ) : EReal) := by
  refine Eq.trans ?_ (readYb hr (jj t) (row (bb t + i)) n)
  exact congrArg (V m c main_v56) (by have e := rrow t i; unfold jj; blk_ext [idx t, e])

theorem blkCa (k : Fin 3) (n : Fin 704) : iblk m c 6 t (ix3 0 k n) = ((a.cw (ix3 0 k (col 0 (jj t) n)) : ℝ) : EReal) := by
  refine Eq.trans ?_ ((readCw (m := m) (c := c) k ⟨jj t, by have := (jj t).isLt; omega⟩ n).trans ((congrFun hr.h2 _).trans ?_))
  · exact congrArg (V m c main_v35) (by unfold jj; blk_ext [idx t])
  · exact congrArg (fun q => ((a.cw (ix3 0 k q) : ℝ) : EReal)) (Fin.ext (by show (jj t).val * 704 + n.val = (0 * 4 + (jj t).val) * 704 + n.val; omega))

theorem blkCb (k : Fin 3) (n : Fin 704) : iblk m c 7 t (ix3 0 k n) = ((a.cw (ix3 0 k (col 1 (jj t) n)) : ℝ) : EReal) := by
  refine Eq.trans ?_ ((readCw (m := m) (c := c) k ⟨jj t + 4, by have := (jj t).isLt; omega⟩ n).trans ((congrFun hr.h2 _).trans ?_))
  · exact congrArg (V m c main_v35) (by unfold jj; blk_ext [idx t])
  · exact congrArg (fun q => ((a.cw (ix3 0 k q) : ℝ) : EReal)) (Fin.ext (by show ((jj t).val + 4) * 704 + n.val = (1 * 4 + (jj t).val) * 704 + n.val; omega))

theorem blkAct (i : Fin 512) (n : Fin 704) : iblk m c 8 t (ix3 0 i n) = ((act a (row (bb t + i)) (qq (jj t) n) : ℝ) : EReal) := by
  refine Eq.trans ?_ (readAct hr (jj t) (row (bb t + i)) n)
  exact congrArg (V m c main_v60) (by have e := rrow t i; unfold jj; blk_ext [idx t, e])

theorem blkH (i : Fin 512) (d : Fin 1024) : iblk m c 9 t (ix2 i d) = ((a.h (ix3 0 (row (bb t + i)) d) : ℝ) : EReal) := by
  refine Eq.trans ?_ ((readH (m := m) (c := c) (row (bb t + i)) d).trans (congrFun hr.h0 _))
  exact congrArg (V m c main_v62) (by have e := rrow t i; blk_ext [idx t, e])

/-- The point's loads, given the turned-over weight and the two rows the point before left. -/
theorem loads {w : FVec Ideal S1024x704 .bf16} {na nb : FVec Ideal S8x704 .f32}
    (hw : ∀ k n, w (ix2 k n) = ((a.wd (ix3 0 (qq (jj t) n) k) : ℝ) : EReal))
    (hna : ∀ (i : Fin 8) n, na (ix2 i n) = ((grow a (col 0 (jj t) n) (bb t + 512 + i) : ℝ) : EReal))
    (hnb : ∀ (i : Fin 8) n, nb (ix2 i n) = ((grow a (col 1 (jj t) n) (bb t + 512 + i) : ℝ) : EReal)) :
    Rows a (bb t) (jj t) (iblk m c 0 t) w (iblk m c 2 t) (iblk m c 3 t) (iblk m c 4 t) (iblk m c 5 t) (iblk m c 6 t) (iblk m c 7 t)
      (iblk m c 8 t) (iblk m c 9 t) na nb :=
  ⟨bb_le t, blkX hr t, hw, blkUa hr t, blkUb hr t, blkYa hr t, blkYb hr t, blkCa hr t, blkCb hr t, blkAct hr t, blkH hr t, hna, hnb⟩

end blk

end Cert.FfnDownIdeal.Host
-- ==== Proof.FfnDownStep.lean ====
/- What one point of the down projection's backward kernel leaves, over what the point before left: the tiles of the row gradient, the
   sums of the taps, the bias and the three weight gradients so far, and the first rows of the gradient for the point after. -/
module

public import proofs.«01_k».proof.Proof.FfnDownHost

@[expose] public section

set_option maxRecDepth 16384

noncomputable section

namespace Cert.FfnDownIdeal.Step

open Cert.FfnDownIdeal Cert.FfnDownIdeal.Gen Cert.FfnDownIdeal.Pay Cert.FfnDownIdeal.Tile Cert.FfnDownIdeal.Host Cert.FfnSpec
open Idealize.ShloMosaic Idealize.ShloMosaic.TcCoe Idealize.SL.Sem Cert.Lift

variable {m : (ℓ : Loc nD τ sig) → Buf (Elt Ideal) ℓ} {c : Dev nD} {a : Args}

/-- What a point's 512 rows add to the bias's gradient, -/
def termB (a : Args) (t : Fin cfg0.N) (p : Fin 2) (n : Fin 704) : ℝ := ∑ i : Fin 512, grow a (col p (jj t) n) (bb t + i)

/-- to the taps' gradients, -/
def termW (a : Args) (t : Fin cfg0.N) (p : Fin 2) (k : Fin 3) (n : Fin 704) : ℝ :=
  ∑ i : Fin 512, grow a (col p (jj t) n) (bb t + i + (2 - k)) * up a (row (bb t + i)) (col p (jj t) n)

/-- to the down projection's gradient, -/
def termD (a : Args) (t : Fin cfg0.N) (n : Fin 704) (d : Fin 1024) : ℝ :=
  ∑ i : Fin 512, act a (row (bb t + i)) (qq (jj t) n) * a.df (ix3 0 (row (bb t + i)) d)

/-- and to the up projection's. -/
def termU (a : Args) (t : Fin cfg0.N) (p : Fin 2) (n : Fin 704) (d : Fin 1024) : ℝ :=
  ∑ i : Fin 512, dU a (row (bb t + i)) (col p (jj t) n) * a.h (ix3 0 (row (bb t + i)) d)

/-- What a point leaves, over sums `B`, `W`, `D`, `A0`, `A1` so far. -/
structure Leaves (m : (ℓ : Loc nD τ sig) → Buf (Elt Ideal) ℓ) (c : Dev nD) (a : Args) (t : Fin cfg0.N) (B : Fin 2 → Fin 704 → EReal)
    (W : Fin 2 → Fin 3 → Fin 704 → EReal) (D A0 A1 : Fin 704 → Fin 1024 → EReal) : Prop where
  u : ∀ p i n, (outsAt0 m c t.val t.isLt).1 (ix4 0 p i n) = ((dU a (row (bb t + i)) (col p (jj t) n) : ℝ) : EReal)
  w : ∀ p k n, (outsAt0 m c t.val t.isLt).2.1 (ix4 0 p k n) = W p k n + ((termW a t p k n : ℝ) : EReal)
  b : ∀ p n, (outsAt0 m c t.val t.isLt).2.2.1 (ix4 0 p 0 n) = B p n + ((termB a t p n : ℝ) : EReal)
  na : ∀ i n, (outsAt0 m c t.val t.isLt).2.2.2.2.2.1 (ix2 i n) = ((grow a (col 0 (jj t) n) (bb t + i) : ℝ) : EReal)
  nb : ∀ i n, (outsAt0 m c t.val t.isLt).2.2.2.2.2.2.1 (ix2 i n) = ((grow a (col 1 (jj t) n) (bb t + i) : ℝ) : EReal)
  d : ∀ n e, (outsAt0 m c t.val t.isLt).2.2.2.2.2.2.2.1 (ix2 n e) = D n e + ((termD a t n e : ℝ) : EReal)
  a0 : ∀ n e, (outsAt0 m c t.val t.isLt).2.2.2.2.2.2.2.2.1 (ix2 n e) = A0 n e + ((termU a t 0 n e : ℝ) : EReal)
  a1 : ∀ n e, (outsAt0 m c t.val t.isLt).2.2.2.2.2.2.2.2.2.1 (ix2 n e) = A1 n e + ((termU a t 1 n e : ℝ) : EReal)
  wt : ∀ k n, (outsAt0 m c t.val t.isLt).2.2.2.2.2.2.2.2.2.2 (ix2 k n) = ((a.wd (ix3 0 (qq (jj t) n) k) : ℝ) : EReal)

/-- The first half of the row gradient's block, as a point loads it again, -/
theorem part0 {Γ : RefSig} {κ : Kind} {sp : Space} (v : View Γ κ sp S1x2x512x704 .bf16) (L : List (View.Piece (Elt Ideal) S1x2x512x704 .bf16)) (B : Fin 512 → Fin 704 → EReal) (inb)
    (h : ∀ i n, View.canon L (ix4 0 0 i n) = B i n) (i : Fin 512) (n : Fin 704) :
    (v.readCov (Val := Elt Ideal) L (Rect.unit (s := S1x2x512x704) ![0, 0, 0, 0] ![1, 1, 512, 704] inb).toLoadRect : FVec Ideal S1x1x512x704 .bf16)
      (ix4 0 0 i n) = B i n := by
  refine (congrFun (View.readCov_eq_canon' ..) _).trans ((congrArg (View.canon L) ?_).trans (h i n))
  funext d
  match d with
  | ⟨0, _⟩ => exact Fin.ext (by show 0 + 1 * 0 = 0; rfl)
  | ⟨1, _⟩ => exact Fin.ext (by show 0 + 1 * 0 = 0; rfl)
  | ⟨2, _⟩ => exact Fin.ext (by show 0 + 1 * i.val = i.val; omega)
  | ⟨3, _⟩ => exact Fin.ext (by show 0 + 1 * n.val = n.val; omega)

/-- and the second. -/
theorem part1 {Γ : RefSig} {κ : Kind} {sp : Space} (v : View Γ κ sp S1x2x512x704 .bf16) (L : List (View.Piece (Elt Ideal) S1x2x512x704 .bf16)) (B : Fin 512 → Fin 704 → EReal) (inb)
    (h : ∀ i n, View.canon L (ix4 0 1 i n) = B i n) (i : Fin 512) (n : Fin 704) :
    (v.readCov (Val := Elt Ideal) L (Rect.unit (s := S1x2x512x704) ![0, 1, 0, 0] ![1, 1, 512, 704] inb).toLoadRect : FVec Ideal S1x1x512x704 .bf16)
      (ix4 0 0 i n) = B i n := by
  refine (congrFun (View.readCov_eq_canon' ..) _).trans ((congrArg (View.canon L) ?_).trans (h i n))
  funext d
  match d with
  | ⟨0, _⟩ => exact Fin.ext (by show 0 + 1 * 0 = 0; rfl)
  | ⟨1, _⟩ => exact Fin.ext (by show 1 + 1 * 0 = 1; rfl)
  | ⟨2, _⟩ => exact Fin.ext (by show 0 + 1 * i.val = i.val; omega)
  | ⟨3, _⟩ => exact Fin.ext (by show 0 + 1 * n.val = n.val; omega)

theorem grow_end (p : Fin 5632) (t i : ℕ) (h : t % 8 = 0) : ((grow a p (bb t + 512 + i) : ℝ) : EReal) = 0 := by
  unfold grow
  rw [dif_neg (by unfold bb; omega), EReal.coe_zero]

set_option maxHeartbeats 1000000 in
/-- The first point of a run. -/
theorem leaves_first (hr : IsReal m c a) (t : Fin cfg0.N) (h : t.val % 8 = 0) :
    Leaves m c a t (fun _ _ => 0) (fun _ _ _ => 0) (fun _ _ => 0) (fun _ _ => 0) (fun _ _ => 0) := by
  have R := loads hr t (w := k0_pay13 (iblk m c 1 t)) (na := k0_pay6) (nb := k0_pay7) (fun k n => (pay13 _ k n).trans (blkW hr t n k))
    (fun i n => (pay6 i n).trans (grow_end _ _ _ h).symm) (fun i n => (pay7 i n).trans (grow_end _ _ _ h).symm)
  refine ⟨fun p i n => ?_, fun p k n => ?_, fun p n => ?_, fun i n => ?_, fun i n => ?_, fun n e => ?_, fun n e => ?_, fun n e => ?_, fun k n => ?_⟩
  all_goals rw [outsAt0_A m c t h (by omega)]
  all_goals frame_out
  all_goals try simp only [read_unread_whole, View.readCov_cons_toLoadRect, same44, same45, same21, same22, same48, same49, same59, same60,
    same23, same51, same62, same24, same52, same63, same26, same53, same64, same27, same54, same65, same28, same55, same66, same19, same46,
    same57, same29, same67]
  exact storeU (gA R 256 (by omega) _ _ _) (gB R 256 (by omega) _ _) (gA R 0 (by omega) _ _ _) (gB R 0 (by omega) _ _) R.bound R.hna R.hnb
        (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ p i n
  simp (config := { decide := true }) only [View.readCov_skip, View.readCov_cons_toLoadRect, View.readCov_fill]
  exact storeW (gA R 256 (by omega) _ _ _) (gB R 256 (by omega) _ _) (gA R 0 (by omega) _ _ _) (gB R 0 (by omega) _ _) R.hna R.hnb
    (ldUa R 256 (by omega) _) (ldUb R 256 (by omega) _) (ldUa R 0 (by omega) _) (ldUb R 0 (by omega) _) (O := fun _ _ _ => 0)
    (fun n => pay8 _) (fun n => pay8 _) (fun n => pay8 _) (fun n => pay8 _) (fun n => pay8 _) (fun n => pay8 _) _ _ _ _ _ _ _ p k n
  simp (config := { decide := true }) only [View.readCov_skip, View.readCov_cons_toLoadRect, View.readCov_fill]
  exact storeB (gA R 256 (by omega) _ _ _) (gB R 256 (by omega) _ _) (gA R 0 (by omega) _ _ _) (gB R 0 (by omega) _ _) (O := fun _ _ => 0) (fun n => pay9 _) (fun n => pay9 _) _ _ _ p n
  exact (next (gA R 0 (by omega) _ _ _) i n).trans (by rw [Nat.add_zero])
  exact (next (gB R 0 (by omega) _ _) i n).trans (by rw [Nat.add_zero])
  exact (pay69 R.hx R.hact _ n e).trans (by rw [pay10, termD])
  refine (pay1 (A := fun i n => dU a (row (bb t + i)) (col 0 (jj t) n)) R.hh (fun i n => ?_) _ n e).trans ?_
  · refine part0 _ _ (fun i n => ((dU a (row (bb t + i)) (col 0 (jj t) n) : ℝ) : EReal)) _ (fun i n => ?_) i n
    exact storeU (gA R 256 (by omega) _ _ _) (gB R 256 (by omega) _ _) (gA R 0 (by omega) _ _ _) (gB R 0 (by omega) _ _) R.bound R.hna R.hnb
        (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ 0 i n
  · exact (by rw [pay11, termU])
  refine (pay2 (A := fun i n => dU a (row (bb t + i)) (col 1 (jj t) n)) R.hh (fun i n => ?_) _ n e).trans ?_
  · refine part1 _ _ (fun i n => ((dU a (row (bb t + i)) (col 1 (jj t) n) : ℝ) : EReal)) _ (fun i n => ?_) i n
    exact storeU (gA R 256 (by omega) _ _ _) (gB R 256 (by omega) _ _) (gA R 0 (by omega) _ _ _) (gB R 0 (by omega) _ _) R.bound R.hna R.hnb
        (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ 1 i n
  · exact (by rw [pay12, termU])
  exact R.hw k n

set_option maxHeartbeats 2000000 in
/-- A later point of a run, over what the point before left. -/
theorem leaves_next (hr : IsReal m c a) (t : Fin cfg0.N) (h : ¬t.val % 8 = 0)
    (hw : ∀ k n, (outsAt0 m c (t.val - 1) (Nat.lt_of_le_of_lt (Nat.sub_le _ _) t.isLt)).2.2.2.2.2.2.2.2.2.2 (ix2 k n) = ((a.wd (ix3 0 (qq (jj t) n) k) : ℝ) : EReal))
    (hna : ∀ (i : Fin 8) n, (outsAt0 m c (t.val - 1) (Nat.lt_of_le_of_lt (Nat.sub_le _ _) t.isLt)).2.2.2.2.2.1 (ix2 i n) = ((grow a (col 0 (jj t) n) (bb t + 512 + i) : ℝ) : EReal))
    (hnb : ∀ (i : Fin 8) n, (outsAt0 m c (t.val - 1) (Nat.lt_of_le_of_lt (Nat.sub_le _ _) t.isLt)).2.2.2.2.2.2.1 (ix2 i n) = ((grow a (col 1 (jj t) n) (bb t + 512 + i) : ℝ) : EReal)) :
    Leaves m c a t (fun p n => (outsAt0 m c (t.val - 1) (Nat.lt_of_le_of_lt (Nat.sub_le _ _) t.isLt)).2.2.1 (ix4 0 p 0 n)) (fun p k n => (outsAt0 m c (t.val - 1) (Nat.lt_of_le_of_lt (Nat.sub_le _ _) t.isLt)).2.1 (ix4 0 p k n))
      (fun n e => (outsAt0 m c (t.val - 1) (Nat.lt_of_le_of_lt (Nat.sub_le _ _) t.isLt)).2.2.2.2.2.2.2.1 (ix2 n e)) (fun n e => (outsAt0 m c (t.val - 1) (Nat.lt_of_le_of_lt (Nat.sub_le _ _) t.isLt)).2.2.2.2.2.2.2.2.1 (ix2 n e))
      (fun n e => (outsAt0 m c (t.val - 1) (Nat.lt_of_le_of_lt (Nat.sub_le _ _) t.isLt)).2.2.2.2.2.2.2.2.2.1 (ix2 n e)) := by
  have R := loads hr t hw hna hnb
  refine ⟨fun p i n => ?_, fun p k n => ?_, fun p n => ?_, fun i n => ?_, fun i n => ?_, fun n e => ?_, fun n e => ?_, fun n e => ?_, fun k n => ?_⟩
  all_goals by_cases h1 : t.val % 8 = 7
  all_goals first | rw [outsAt0_C m c t h h1] | rw [outsAt0_B m c t h h1]
  all_goals frame_out
  all_goals try simp only [read_unread_whole, View.readCov_cons_toLoadRect, same44, same45, same21, same22, same48, same49, same59, same60,
    same23, same51, same62, same24, same52, same63, same26, same53, same64, same27, same54, same65, same28, same55, same66, same19, same46,
    same57, same29, same67]
  iterate 2
    exact storeU (gA R 256 (by omega) _ _ _) (gB R 256 (by omega) _ _) (gA R 0 (by omega) _ _ _) (gB R 0 (by omega) _ _) R.bound R.hna R.hnb
          (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ p i n
  iterate 2
    simp (config := { decide := true }) only [View.readCov_skip, View.readCov_cons_toLoadRect, View.readCov_fill]
    exact storeW (gA R 256 (by omega) _ _ _) (gB R 256 (by omega) _ _) (gA R 0 (by omega) _ _ _) (gB R 0 (by omega) _ _) R.hna R.hnb
      (ldUa R 256 (by omega) _) (ldUb R 256 (by omega) _) (ldUa R 0 (by omega) _) (ldUb R 0 (by omega) _) (O := fun p k n => (outsAt0 m c (t.val - 1) (Nat.lt_of_le_of_lt (Nat.sub_le _ _) t.isLt)).2.1 (ix4 0 p k n))
      (fun n => ld4 (Val := Elt Ideal) (e := .f32) _ 0 0 0 0 _ 0 0 0 n 0 0 0 n rfl rfl rfl (Nat.zero_add _).symm)
      (fun n => ld4 (Val := Elt Ideal) (e := .f32) _ 0 0 1 0 _ 0 0 0 n 0 0 1 n rfl rfl rfl (Nat.zero_add _).symm)
      (fun n => ld4 (Val := Elt Ideal) (e := .f32) _ 0 0 2 0 _ 0 0 0 n 0 0 2 n rfl rfl rfl (Nat.zero_add _).symm)
      (fun n => ld4 (Val := Elt Ideal) (e := .f32) _ 0 1 0 0 _ 0 0 0 n 0 1 0 n rfl rfl rfl (Nat.zero_add _).symm)
      (fun n => ld4 (Val := Elt Ideal) (e := .f32) _ 0 1 1 0 _ 0 0 0 n 0 1 1 n rfl rfl rfl (Nat.zero_add _).symm)
      (fun n => ld4 (Val := Elt Ideal) (e := .f32) _ 0 1 2 0 _ 0 0 0 n 0 1 2 n rfl rfl rfl (Nat.zero_add _).symm)
      _ _ _ _ _ _ _ p k n
  iterate 2
    simp (config := { decide := true }) only [View.readCov_skip, View.readCov_cons_toLoadRect, View.readCov_fill]
    exact storeB (gA R 256 (by omega) _ _ _) (gB R 256 (by omega) _ _) (gA R 0 (by omega) _ _ _) (gB R 0 (by omega) _ _) (O := fun p n => (outsAt0 m c (t.val - 1) (Nat.lt_of_le_of_lt (Nat.sub_le _ _) t.isLt)).2.2.1 (ix4 0 p 0 n))
      (fun n => ld4 (Val := Elt Ideal) (e := .f32) _ 0 0 0 0 _ 0 0 0 n 0 0 0 n rfl rfl rfl (Nat.zero_add _).symm)
      (fun n => ld4 (Val := Elt Ideal) (e := .f32) _ 0 1 0 0 _ 0 0 0 n 0 1 0 n rfl rfl rfl (Nat.zero_add _).symm)
      _ _ _ p n
  iterate 2
    exact (next (gA R 0 (by omega) _ _ _) i n).trans (by rw [Nat.add_zero])
  iterate 2
    exact (next (gB R 0 (by omega) _ _) i n).trans (by rw [Nat.add_zero])
  iterate 2
    exact (pay69 R.hx R.hact _ n e).trans (by rw [termD])
  iterate 2
    refine (pay1 (A := fun i n => dU a (row (bb t + i)) (col 0 (jj t) n)) R.hh (fun i n => ?_) _ n e).trans ?_
    · refine part0 _ _ (fun i n => ((dU a (row (bb t + i)) (col 0 (jj t) n) : ℝ) : EReal)) _ (fun i n => ?_) i n
      exact storeU (gA R 256 (by omega) _ _ _) (gB R 256 (by omega) _ _) (gA R 0 (by omega) _ _ _) (gB R 0 (by omega) _ _) R.bound R.hna R.hnb
          (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ 0 i n
    · exact (by rw [termU])
  iterate 2
    refine (pay2 (A := fun i n => dU a (row (bb t + i)) (col 1 (jj t) n)) R.hh (fun i n => ?_) _ n e).trans ?_
    · refine part1 _ _ (fun i n => ((dU a (row (bb t + i)) (col 1 (jj t) n) : ℝ) : EReal)) _ (fun i n => ?_) i n
      exact storeU (gA R 256 (by omega) _ _ _) (gB R 256 (by omega) _ _) (gA R 0 (by omega) _ _ _) (gB R 0 (by omega) _ _) R.bound R.hna R.hnb
          (tapA R 2 _) (tapA R 1 _) (tapA R 0 _) (tapB R 2 _) (tapB R 1 _) (tapB R 0 _) (tapA R 2 _) (tapA R 1 _) (tapA R 0 _) (tapB R 2 _) (tapB R 1 _) (tapB R 0 _) _ _ _ _ 1 i n
    · exact (by rw [termU])
  iterate 2
    exact R.hw k n

/-- The last point of a run stores the down projection's gradient, -/
theorem stored_d (t : Fin cfg0.N) (h : ¬t.val % 8 = 0) (h1 : t.val % 8 = 7) (n : Fin 704) (e : Fin 1024) :
    (outsAt0 m c t.val t.isLt).2.2.2.1 (ix3 0 n e) = (outsAt0 m c t.val t.isLt).2.2.2.2.2.2.2.1 (ix2 n e) := by
  rw [outsAt0_C m c t h h1]
  frame_out
  exact pay3 _ n e

theorem halves {P0 P1 : FVec Ideal S1x1x704x1024 .bf16} {Q : Fin 2 → Fin 704 → Fin 1024 → EReal} (h0 : ∀ n e, P0 (ix4 0 0 n e) = Q 0 n e)
    (h1 : ∀ n e, P1 (ix4 0 0 n e) = Q 1 n e) (i0 i1) (p : Fin 2) (n : Fin 704) (e : Fin 1024) :
    View.canon (Val := Elt Ideal) (s := S1x2x704x1024) (e := .bf16) [⟨Rect.unit ![0, 1, 0, 0] ![1, 1, 704, 1024] i1, P1⟩,
      ⟨Rect.unit ![0, 0, 0, 0] ![1, 1, 704, 1024] i0, P0⟩] (ix4 0 p n e) = Q p n e := by
  have hc := View.cover_of_tiledL (Val := Elt Ideal) (s := S1x2x704x1024) (e := .bf16) [⟨Rect.unit ![0, 1, 0, 0] ![1, 1, 704, 1024] i1, P1⟩,
    ⟨Rect.unit ![0, 0, 0, 0] ![1, 1, 704, 1024] i0, P0⟩] ![1, 1, 704, 1024] (by sl_kernel_rfl)
  have key : ∀ (P : FVec Ideal S1x1x704x1024 .bf16) (q : Fin 2) (z : S1x1x704x1024.Idx), (∀ n e, P (ix4 0 0 n e) = Q q n e) →
      p.val = q.val + (z 1).val → n.val = (z 2).val → e.val = (z 3).val → P z = Q p n e := fun P q z h g1 g2 g3 => by
    have l1 : (z 1).val < 1 := (z 1).isLt
    have ep : p = q := Fin.ext (by omega)
    have en : n = z 2 := Fin.ext g2
    have ee : e = z 3 := Fin.ext g3
    have ez : (z : S1x1x704x1024.Idx) = ix4 0 0 (z 2) (z 3) := by blk_ext
    rw [ep, en, ee]
    exact (congrArg P ez).trans (h _ _)
  canon_tiles z h' using hc _
  case piece0 => exact key _ 1 z h1 h'1 h'2 h'3
  case piece1 => exact key _ 0 z h0 (h'1.trans (Nat.zero_add _).symm) h'2 h'3

/-- and the up projection's. -/
theorem stored_u (t : Fin cfg0.N) (h : ¬t.val % 8 = 0) (h1 : t.val % 8 = 7) {Q : Fin 2 → Fin 704 → Fin 1024 → EReal}
    (hA : ∀ n e, (outsAt0 m c t.val t.isLt).2.2.2.2.2.2.2.2.1 (ix2 n e) = Q 0 n e)
    (hB : ∀ n e, (outsAt0 m c t.val t.isLt).2.2.2.2.2.2.2.2.2.1 (ix2 n e) = Q 1 n e) (p : Fin 2) (n : Fin 704) (e : Fin 1024) :
    (outsAt0 m c t.val t.isLt).2.2.2.2.1 (ix4 0 p n e) = Q p n e := by
  revert hA hB
  rw [outsAt0_C m c t h h1]
  frame_out
  intro hA hB
  exact halves (Q := Q) (fun n e => (pay4 _ n e).trans (hA n e)) (fun n e => (pay5 _ n e).trans (hB n e)) _ _ p n e

end Cert.FfnDownIdeal.Step
-- ==== Proof.FfnDownSum.lean ====
/- What the points of the down projection's backward kernel leave: a point takes 512 rows, the last first; eight points are one block of
   columns, over which four of the five gradients are accumulated. -/
module

public import proofs.«01_k».proof.Proof.FfnDownStep

@[expose] public section

set_option maxRecDepth 16384

noncomputable section

namespace Cert.FfnDownIdeal.Arr

open Cert.FfnDownIdeal Cert.FfnDownIdeal.Gen Cert.FfnDownIdeal.Tile Cert.FfnDownIdeal.Host Cert.FfnDownIdeal.Step Cert.FfnSpec
open Idealize.ShloMosaic Idealize.ShloMosaic.TcCoe Idealize.SL.Sem Cert.Lift

variable {m : (ℓ : Loc nD τ sig) → Buf (Elt Ideal) ℓ} {c : Dev nD} {a : Args}

/-- What the next point finds: the turned-over weight and the first rows of both halves of the convolution's gradient. -/
theorem held (hr : IsReal m c a) : ∀ (n : ℕ) (hn : n < cfg0.N),
    (∀ k q, (outsAt0 m c n hn).2.2.2.2.2.2.2.2.2.2 (ix2 k q) = ((a.wd (ix3 0 (qq (jj ⟨n, hn⟩) q) k) : ℝ) : EReal))
    ∧ (∀ (i : Fin 8) q, (outsAt0 m c n hn).2.2.2.2.2.1 (ix2 i q) = ((grow a (col 0 (jj ⟨n, hn⟩) q) (bb n + i) : ℝ) : EReal))
    ∧ (∀ (i : Fin 8) q, (outsAt0 m c n hn).2.2.2.2.2.2.1 (ix2 i q) = ((grow a (col 1 (jj ⟨n, hn⟩) q) (bb n + i) : ℝ) : EReal))
  | 0, hn => ⟨(leaves_first hr ⟨0, hn⟩ rfl).wt, (leaves_first hr ⟨0, hn⟩ rfl).na, (leaves_first hr ⟨0, hn⟩ rfl).nb⟩
  | n + 1, hn => by
    by_cases h : (n + 1) % 8 = 0
    · have L := leaves_first hr ⟨n + 1, hn⟩ h
      exact ⟨L.wt, L.na, L.nb⟩
    · obtain ⟨h1, h2, h3⟩ := held hr n (Nat.lt_of_succ_lt hn)
      have ej : jj ⟨n, Nat.lt_of_succ_lt hn⟩ = jj ⟨n + 1, hn⟩ := Fin.ext (by show n / 8 = (n + 1) / 8; omega)
      have eb : bb n = bb (n + 1) + 512 := by unfold bb; omega
      rw [ej] at h1 h2 h3
      rw [eb] at h2 h3
      have L := leaves_next hr ⟨n + 1, hn⟩ h h1 h2 h3
      exact ⟨L.wt, L.na, L.nb⟩

/-- A later point of a block of columns adds to what the one before left. -/
theorem later (hr : IsReal m c a) (t : Fin cfg0.N) (h : ¬t.val % 8 = 0) :
    Leaves m c a t (fun p n => (outsAt0 m c (t.val - 1) (Nat.lt_of_le_of_lt (Nat.sub_le _ _) t.isLt)).2.2.1 (ix4 0 p 0 n)) (fun p k n => (outsAt0 m c (t.val - 1) (Nat.lt_of_le_of_lt (Nat.sub_le _ _) t.isLt)).2.1 (ix4 0 p k n))
      (fun n e => (outsAt0 m c (t.val - 1) (Nat.lt_of_le_of_lt (Nat.sub_le _ _) t.isLt)).2.2.2.2.2.2.2.1 (ix2 n e)) (fun n e => (outsAt0 m c (t.val - 1) (Nat.lt_of_le_of_lt (Nat.sub_le _ _) t.isLt)).2.2.2.2.2.2.2.2.1 (ix2 n e))
      (fun n e => (outsAt0 m c (t.val - 1) (Nat.lt_of_le_of_lt (Nat.sub_le _ _) t.isLt)).2.2.2.2.2.2.2.2.2.1 (ix2 n e)) := by
  obtain ⟨h1, h2, h3⟩ := held hr (t.val - 1) (Nat.lt_of_le_of_lt (Nat.sub_le _ _) t.isLt)
  have ej : jj ⟨t.val - 1, Nat.lt_of_le_of_lt (Nat.sub_le _ _) t.isLt⟩ = jj t := Fin.ext (by show (t.val - 1) / 8 = t.val / 8; omega)
  have eb : bb (t.val - 1) = bb t.val + 512 := by unfold bb; omega
  rw [ej] at h1 h2 h3
  rw [eb] at h2 h3
  exact leaves_next hr t h h1 h2 h3

/-! ## The sums over a block's points -/

/-- Eight points of 512 rows, the last rows first, are the 4096 rows. -/
theorem run_sum (f : ℕ → ℝ) (t : Fin cfg0.N) : ∑ s : Fin 8, ∑ i : Fin 512, f (bb (8 * (t.val / 8) + s.val) + i) = ∑ r : Fin 4096, f r := by
  rw [← Equiv.sum_comp Fin.revPerm]
  refine Fin.sum_mul_add_congr (S := 8) (n := 512) (f := fun r : Fin 4096 => f r) (fun s k hl => congrArg f ?_) rfl
  rw [Fin.revPerm_apply, Fin.val_rev]
  unfold bb
  simp only []
  omega

theorem jj_run (t : Fin cfg0.N) (s : Fin 8) (h) : jj ⟨8 * (t.val / 8) + s.val, h⟩ = jj t :=
  Fin.ext (by show (8 * (t.val / 8) + s.val) / 8 = t.val / 8; omega)

section sums
variable (hr : IsReal m c a) (t : Fin cfg0.N) (h7 : t.val % 8 = 7)
include hr h7

/-- The gradient of the bias, -/
theorem sumB (p : Fin 2) (n : Fin 704) : (outsAt0 m c t.val t.isLt).2.2.1 (ix4 0 p 0 n) = ((dCb a (col p (jj t) n) : ℝ) : EReal) := by
  refine (Pipeline.eq_sum_fin_of_reset_step_apply_of_flush (fun k h (_ : Unit) => (outsAt0 m c k h).2.2.1 (ix4 0 p 0 n)) 8 (fun _ => 0)
    (fun s _ => ((termB a s p n : ℝ) : EReal)) (fun s h _ => (leaves_first hr s h).b p n) (fun s h _ => (later hr s h).b p n) t h7 ()).trans ?_
  rw [sum_coe, zero_add]
  refine congrArg (fun x : ℝ => (x : EReal)) ((Finset.sum_congr rfl fun s _ => ?_).trans ((run_sum (fun r => grow a (col p (jj t) n) r) t).trans ?_))
  · unfold termB
    rw [jj_run]
  · unfold dCb
    exact Finset.sum_congr rfl fun s _ => grow_row a _ s

/-- of the taps, -/
theorem sumW (p : Fin 2) (k : Fin 3) (n : Fin 704) : (outsAt0 m c t.val t.isLt).2.1 (ix4 0 p k n) = ((dCw a k (col p (jj t) n) : ℝ) : EReal) := by
  refine (Pipeline.eq_sum_fin_of_reset_step_apply_of_flush (fun s h (_ : Unit) => (outsAt0 m c s h).2.1 (ix4 0 p k n)) 8 (fun _ => 0)
    (fun s _ => ((termW a s p k n : ℝ) : EReal)) (fun s h _ => (leaves_first hr s h).w p k n) (fun s h _ => (later hr s h).w p k n) t h7 ()).trans ?_
  rw [sum_coe, zero_add]
  refine congrArg (fun x : ℝ => (x : EReal)) ((Finset.sum_congr rfl fun s _ => ?_).trans
    ((run_sum (fun r => grow a (col p (jj t) n) (r + (2 - k)) * up a (row r) (col p (jj t) n)) t).trans ?_))
  · unfold termW
    rw [jj_run]
  · unfold dCw
    exact Finset.sum_congr rfl fun s _ => by rw [grow_early, row_of]

/-- of the down projection, -/
theorem sumD (n : Fin 704) (e : Fin 1024) : (outsAt0 m c t.val t.isLt).2.2.2.2.2.2.2.1 (ix2 n e) = ((dWd a (qq (jj t) n) e : ℝ) : EReal) := by
  refine (Pipeline.eq_sum_fin_of_reset_step_apply_of_flush (fun s h (_ : Unit) => (outsAt0 m c s h).2.2.2.2.2.2.2.1 (ix2 n e)) 8 (fun _ => 0)
    (fun s _ => ((termD a s n e : ℝ) : EReal)) (fun s h _ => (leaves_first hr s h).d n e) (fun s h _ => (later hr s h).d n e) t h7 ()).trans ?_
  rw [sum_coe, zero_add]
  refine congrArg (fun x : ℝ => (x : EReal)) ((Finset.sum_congr rfl fun s _ => ?_).trans
    ((run_sum (fun r => act a (row r) (qq (jj t) n) * a.df (ix3 0 (row r) e)) t).trans ?_))
  · unfold termD
    rw [jj_run]
  · unfold dWd
    exact Finset.sum_congr rfl fun s _ => by rw [row_of]

/-- and of both halves of the up projection. -/
theorem sumU (p : Fin 2) (n : Fin 704) (e : Fin 1024) :
    ∑ s : Fin 8, termU a ⟨8 * (t.val / 8) + s.val, Pipeline.run_point_lt_of_flush (J := 8) t h7 s⟩ p n e = dWu a (col p (jj t) n) e := by
  refine (Finset.sum_congr rfl fun s _ => ?_).trans ((run_sum (fun r => dU a (row r) (col p (jj t) n) * a.h (ix3 0 (row r) e)) t).trans ?_)
  · unfold termU
    rw [jj_run]
  · unfold dWu
    exact Finset.sum_congr rfl fun s _ => by rw [row_of]

theorem sumU0 (n : Fin 704) (e : Fin 1024) : (outsAt0 m c t.val t.isLt).2.2.2.2.2.2.2.2.1 (ix2 n e) = ((dWu a (col 0 (jj t) n) e : ℝ) : EReal) := by
  refine (Pipeline.eq_sum_fin_of_reset_step_apply_of_flush (fun s h (_ : Unit) => (outsAt0 m c s h).2.2.2.2.2.2.2.2.1 (ix2 n e)) 8 (fun _ => 0)
    (fun s _ => ((termU a s 0 n e : ℝ) : EReal)) (fun s h _ => (leaves_first hr s h).a0 n e) (fun s h _ => (later hr s h).a0 n e) t h7 ()).trans ?_
  rw [sum_coe, zero_add]
  exact congrArg (fun x : ℝ => (x : EReal)) (sumU hr t h7 0 n e)

theorem sumU1 (n : Fin 704) (e : Fin 1024) : (outsAt0 m c t.val t.isLt).2.2.2.2.2.2.2.2.2.1 (ix2 n e) = ((dWu a (col 1 (jj t) n) e : ℝ) : EReal) := by
  refine (Pipeline.eq_sum_fin_of_reset_step_apply_of_flush (fun s h (_ : Unit) => (outsAt0 m c s h).2.2.2.2.2.2.2.2.2.1 (ix2 n e)) 8 (fun _ => 0)
    (fun s _ => ((termU a s 1 n e : ℝ) : EReal)) (fun s h _ => (leaves_first hr s h).a1 n e) (fun s h _ => (later hr s h).a1 n e) t h7 ()).trans ?_
  rw [sum_coe, zero_add]
  exact congrArg (fun x : ℝ => (x : EReal)) (sumU hr t h7 1 n e)

end sums

/-- Every point stores the gradient of its rows of the up projection's result. -/
theorem point (hr : IsReal m c a) (t : Fin cfg0.N) (p : Fin 2) (i : Fin 512) (n : Fin 704) :
    (outsAt0 m c t.val t.isLt).1 (ix4 0 p i n) = ((dU a (row (bb t + i)) (col p (jj t) n) : ℝ) : EReal) := by
  by_cases h : t.val % 8 = 0
  · exact (leaves_first hr t h).u p i n
  · exact (later hr t h).u p i n

end Cert.FfnDownIdeal.Arr
-- ==== Proof.FfnDownArr.lean ====
/- The arrays the down projection's backward kernel leaves, entry by entry: each is the real function
   `Cert.FfnSpec` names. -/
module

public import proofs.«01_k».proof.Proof.FfnDownSum

@[expose] public section

set_option maxRecDepth 16384

noncomputable section

namespace Cert.FfnDownIdeal.Arr

open Cert.FfnDownIdeal Cert.FfnDownIdeal.Gen Cert.FfnDownIdeal.Tile Cert.FfnDownIdeal.Host Cert.FfnDownIdeal.Step Cert.FfnSpec
open Idealize.ShloMosaic Idealize.ShloMosaic.TcCoe Idealize.SL.Sem Cert.Lift

variable {m : (ℓ : Loc nD τ sig) → Buf (Elt Ideal) ℓ} {c : Dev nD} {a : Args}

attribute [local irreducible] dU dCw dCb dWd dWu

/-- The gradient of the up projection's result, -/
theorem arr10 (hr : IsReal m c a) : (dats m 0 c).arrAt 10 cfg0.N = cv (fun i : S4x2x4096x704.Idx => dU a (i 2) (col (i 1) (i 0) (i 3))) := by
  refine (dats m 0 c).arrAt_eq_of_covers 10 _ (by decide +kernel) fun t hf y => ?_
  blk_simp
  rw [after0_10]
  have e : (y : S1x2x512x704.Idx) = ix4 0 (y 1) (y 2) (y 3) := by blk_ext
  refine (congrArg _ e).trans ((point hr t _ _ _).trans ?_)
  refine congrArg (fun i : S4x2x4096x704.Idx => ((dU a (i 2) (col (i 1) (i 0) (i 3)) : ℝ) : EReal)) (?_ : ix4 (jj t) (y 1) (row (bb t + (y 2).val)) (y 3) = _)
  have e2 := rrow t (y 2)
  unfold jj
  blk_ext [idx t, e2]

/-- of the taps, -/
theorem arr11 (hr : IsReal m c a) : (dats m 0 c).arrAt 11 cfg0.N = cv (fun i : S4x2x3x704.Idx => dCw a (i 2) (col (i 1) (i 0) (i 3))) := by
  refine (dats m 0 c).arrAt_eq_of_covers 11 _ (by decide +kernel) fun t hf y => ?_
  have h7 := (flush0_11 t).mp hf
  blk_simp
  rw [after0_11]
  have e : (y : S1x2x3x704.Idx) = ix4 0 (y 1) (y 2) (y 3) := by blk_ext
  refine (congrArg _ e).trans ((sumW hr t h7 _ _ _).trans ?_)
  refine congrArg (fun i : S4x2x3x704.Idx => ((dCw a (i 2) (col (i 1) (i 0) (i 3)) : ℝ) : EReal)) (?_ : ix4 (jj t) (y 1) (y 2) (y 3) = _)
  unfold jj
  blk_ext [idx t]

/-- of the bias, -/
theorem arr12 (hr : IsReal m c a) : (dats m 0 c).arrAt 12 cfg0.N = cv (fun i : S4x2x1x704.Idx => dCb a (col (i 1) (i 0) (i 3))) := by
  refine (dats m 0 c).arrAt_eq_of_covers 12 _ (by decide +kernel) fun t hf y => ?_
  have h7 := (flush0_12 t).mp hf
  blk_simp
  rw [after0_12]
  have e : (y : S1x2x1x704.Idx) = ix4 0 (y 1) 0 (y 3) := by blk_ext
  refine (congrArg _ e).trans ((sumB hr t h7 _ _).trans ?_)
  have key : ∀ i : S4x2x1x704.Idx, ix4 (jj t) (y 1) 0 (y 3) = i → ((dCb a (col (y 1) (jj t) (y 3)) : ℝ) : EReal) = ((dCb a (col (i 1) (i 0) (i 3)) : ℝ) : EReal) := by
    rintro _ rfl
    rfl
  exact key _ (by unfold jj; blk_ext [idx t])

/-- of the down projection, -/
theorem arr13 (hr : IsReal m c a) : (dats m 0 c).arrAt 13 cfg0.N = cv (fun i : S4x704x1024.Idx => dWd a (qq (i 0) (i 1)) (i 2)) := by
  refine (dats m 0 c).arrAt_eq_of_covers 13 _ (by decide +kernel) fun t hf y => ?_
  have h7 := (flush0_13 t).mp hf
  blk_simp
  rw [after0_13]
  have e : (y : S1x704x1024.Idx) = ix3 0 (y 1) (y 2) := by blk_ext
  refine (congrArg _ e).trans ((stored_d t (by omega) h7 _ _).trans ((sumD hr t h7 _ _).trans ?_))
  have key : ∀ i : S4x704x1024.Idx, ix3 (jj t) (y 1) (y 2) = i → ((dWd a (qq (jj t) (y 1)) (y 2) : ℝ) : EReal) = ((dWd a (qq (i 0) (i 1)) (i 2) : ℝ) : EReal) := by
    rintro _ rfl
    rfl
  exact key _ (by unfold jj; blk_ext [idx t])

/-- and of the up projection. -/
theorem arr14 (hr : IsReal m c a) : (dats m 0 c).arrAt 14 cfg0.N = cv (fun i : S4x2x704x1024.Idx => dWu a (col (i 1) (i 0) (i 2)) (i 3)) := by
  refine (dats m 0 c).arrAt_eq_of_covers 14 _ (by decide +kernel) fun t hf y => ?_
  have h7 := (flush0_14 t).mp hf
  blk_simp
  rw [after0_14]
  have e : (y : S1x2x704x1024.Idx) = ix4 0 (y 1) (y 2) (y 3) := by blk_ext
  refine (congrArg _ e).trans ((stored_u t (by omega) h7 (Q := fun p n e => ((dWu a (col p (jj t) n) e : ℝ) : EReal)) (sumU0 hr t h7) (sumU1 hr t h7) _ _ _).trans ?_)
  have key : ∀ i : S4x2x704x1024.Idx, ix4 (jj t) (y 1) (y 2) (y 3) = i → ((dWu a (col (y 1) (jj t) (y 2)) (y 3) : ℝ) : EReal) = ((dWu a (col (i 1) (i 0) (i 2)) (i 3) : ℝ) : EReal) := by
    rintro _ rfl
    rfl
  exact key _ (by unfold jj; blk_ext [idx t])

end Cert.FfnDownIdeal.Arr
-- ==== Proof.FfnDownPad.lean ====
/- What a padded array holds at an index, and the product of two arrays of rows over all their rows. -/
module

public import proofs.«01_k».proof.Proof.FfnDownSpec
public import Idealize.ShloMosaic.Lib.TwoAxisContraction
public import Idealize.ShloMosaic.Lib.KernelVsHost

@[expose] public section

set_option maxRecDepth 16384

noncomputable section

namespace Cert.FfnPad

open Cert.FfnSpec Idealize.ShloMosaic Cert.Lift
open Idealize.ShloMosaic.ValueIdx (contrEquiv2 contrEquiv2_symm_val0 contrEquiv2_symm_val1)

/-- Columns padded on the left by `l`, -/
theorem pad_col {n p P l r : ℕ} {u : Shape} (x : (⟨3, ![1, n, p]⟩ : Shape).Idx → EReal) (v : u.Idx → EReal)
    (h : (⟨3, ![1, n, p]⟩ : Shape).Pads ![0, 0, l] ![0, 0, r] ![0, 0, 0] ⟨3, ![1, n, P]⟩) (hu : 0 < u.numel) (f : Fin n → Fin p → ℝ)
    (hx : ∀ s q, x (ix3 0 s q) = ((f s q : ℝ) : EReal)) (hv : v (Shape.Idx.first hu) = 0) (s : Fin n) (q : Fin P) :
    pad ⟨3, ![1, n, P]⟩ ![0, 0, l] ![0, 0, r] ![0, 0, 0] x v h hu (ix3 0 s q)
      = ((if h : l ≤ q.val ∧ q.val - l < p then f s ⟨q - l, h.2⟩ else 0 : ℝ) : EReal) := by
  split
  · next hq =>
    exact (pad_apply_of_inside _ _ _ x v h hu _ (ix3 0 s ⟨q - l, hq.2⟩) (fun a => match a with
      | ⟨0, _⟩ => rfl
      | ⟨1, _⟩ => by show s.val = 0 + s.val * (0 + 1); omega
      | ⟨2, _⟩ => by show q.val = l + (q.val - l) * (0 + 1); omega)).trans (hx _ _)
  · next hq =>
    refine (pad_apply_of_not_inside _ _ _ x v h hu (ix3 0 s q) 2 (fun hin => hq ⟨hin.1, ?_⟩)).trans hv
    have h3 : (q.val - l) / 1 < p := hin.2.2
    rwa [Nat.div_one] at h3

/-- rows padded before by `l`, -/
theorem pad_row {n N p l r : ℕ} {u : Shape} (x : (⟨3, ![1, n, p]⟩ : Shape).Idx → EReal) (v : u.Idx → EReal)
    (h : (⟨3, ![1, n, p]⟩ : Shape).Pads ![0, l, 0] ![0, r, 0] ![0, 0, 0] ⟨3, ![1, N, p]⟩) (hu : 0 < u.numel) (f : Fin n → Fin p → ℝ)
    (hx : ∀ s q, x (ix3 0 s q) = ((f s q : ℝ) : EReal)) (hv : v (Shape.Idx.first hu) = 0) (s : Fin N) (q : Fin p) :
    pad ⟨3, ![1, N, p]⟩ ![0, l, 0] ![0, r, 0] ![0, 0, 0] x v h hu (ix3 0 s q)
      = ((if h : l ≤ s.val ∧ s.val - l < n then f ⟨s - l, h.2⟩ q else 0 : ℝ) : EReal) := by
  split
  · next hq =>
    exact (pad_apply_of_inside _ _ _ x v h hu _ (ix3 0 ⟨s - l, hq.2⟩ q) (fun a => match a with
      | ⟨0, _⟩ => rfl
      | ⟨1, _⟩ => by show s.val = l + (s.val - l) * (0 + 1); omega
      | ⟨2, _⟩ => by show q.val = 0 + q.val * (0 + 1); omega)).trans (hx _ _)
  · next hq =>
    refine (pad_apply_of_not_inside _ _ _ x v h hu (ix3 0 s q) 1 (fun hin => hq ⟨hin.1, ?_⟩)).trans hv
    have h3 : (s.val - l) / 1 < n := hin.2.2
    rwa [Nat.div_one] at h3

/-- and the same with no leading axis. -/
theorem pad_top {n N p l r : ℕ} {u : Shape} (x : (⟨2, ![n, p]⟩ : Shape).Idx → EReal) (v : u.Idx → EReal)
    (h : (⟨2, ![n, p]⟩ : Shape).Pads ![l, 0] ![r, 0] ![0, 0] ⟨2, ![N, p]⟩) (hu : 0 < u.numel) (f : Fin n → Fin p → ℝ)
    (hx : ∀ s q, x (ix2 s q) = ((f s q : ℝ) : EReal)) (hv : v (Shape.Idx.first hu) = 0) (s : Fin N) (q : Fin p) :
    pad ⟨2, ![N, p]⟩ ![l, 0] ![r, 0] ![0, 0] x v h hu (ix2 s q)
      = ((if h : l ≤ s.val ∧ s.val - l < n then f ⟨s - l, h.2⟩ q else 0 : ℝ) : EReal) := by
  split
  · next hq =>
    exact (pad_apply_of_inside _ _ _ x v h hu _ (ix2 ⟨s - l, hq.2⟩ q) (fun a => match a with
      | ⟨0, _⟩ => by show s.val = l + (s.val - l) * (0 + 1); omega
      | ⟨1, _⟩ => by show q.val = 0 + q.val * (0 + 1); omega)).trans (hx _ _)
  · next hq =>
    refine (pad_apply_of_not_inside _ _ _ x v h hu (ix2 s q) 0 (fun hin => hq ⟨hin.1, ?_⟩)).trans hv
    have h3 : (s.val - l) / 1 < n := hin.2.2
    rwa [Nat.div_one] at h3

/-- The product of two arrays of rows over all their rows. -/
theorem dot_lead2 {n p q : ℕ} (wf : DotDims.WF ⟨3, ![1, n, p]⟩ ⟨3, ![1, n, q]⟩ ⟨2, ![p, q]⟩ [0, 1] [0, 1] [2] [2] [] [])
    (x : FVec Ideal ⟨3, ![1, n, p]⟩ .f32) (y : FVec Ideal ⟨3, ![1, n, q]⟩ .f32) (i : Fin p) (j : Fin q) :
    (Host.dotGeneral (⟨[0, 1], [0, 1], [2], [2], [], [], wf⟩ : DotDims ⟨3, ![1, n, p]⟩ ⟨3, ![1, n, q]⟩ ⟨2, ![p, q]⟩) none x y : FVec Ideal ⟨2, ![p, q]⟩ .f32) (ix2 i j)
      = ∑ s : Fin n, x (ix3 0 s i) * y (ix3 0 s j) := by
  generalize hD : (⟨[0, 1], [0, 1], [2], [2], [], [], wf⟩ : DotDims ⟨3, ![1, n, p]⟩ ⟨3, ![1, n, q]⟩ ⟨2, ![p, q]⟩) = D
  have hr : D.contr.rank = 2 := by subst hD; rfl
  have c0 : D.contr.size ⟨0, by rw [hr]; omega⟩ = 1 := by subst hD; rfl
  have c1 : D.contr.size ⟨1, by rw [hr]; omega⟩ = n := by subst hD; rfl
  simp only [Host.dotGeneral]
  rw [Ideal.dotGeneral_apply, ← Equiv.sum_comp (contrEquiv2 D 1 n hr c0 c1).symm, Fintype.sum_prod_type, Fin.sum_univ_one]
  refine Finset.sum_congr rfl fun s _ => ?_
  have h1 := contrEquiv2_symm_val1 D 1 n hr c0 c1 (0, s)
  have el : D.lhsIdx (ix2 i j) ((contrEquiv2 D 1 n hr c0 c1).symm (0, s)) = ix3 0 s i := by
    subst hD
    funext a
    match a with
    | ⟨0, _⟩ => exact Fin.ext (contrEquiv2_symm_val0 _ 1 n hr c0 c1 (0, s))
    | ⟨1, _⟩ => exact Fin.ext h1
    | ⟨2, _⟩ => rfl
  have er : D.rhsIdx (ix2 i j) ((contrEquiv2 D 1 n hr c0 c1).symm (0, s)) = ix3 0 s j := by
    subst hD
    funext a
    match a with
    | ⟨0, _⟩ => exact Fin.ext (contrEquiv2_symm_val0 _ 1 n hr c0 c1 (0, s))
    | ⟨1, _⟩ => exact Fin.ext h1
    | ⟨2, _⟩ => rfl
  rw [el, er]

theorem add3 (x y z : ℝ) : ((x : ℝ) : EReal) + ((y : ℝ) : EReal) + ((z : ℝ) : EReal) = ((x + y + z : ℝ) : EReal) := by
  rw [EReal.coe_add, EReal.coe_add]

/-- A row of the padded gradient, two rows on, is one of the later rows. -/
theorem shifted (k : ℕ) (hk : k ≤ 2) (s : Fin 4096) (g : Fin 4096 → ℝ) (w : ℝ) :
    (if h : 2 - k ≤ 2 + s.val ∧ 2 + s.val - (2 - k) < 4096 then g ⟨2 + s.val - (2 - k), h.2⟩ * w else 0) = early k g s * w := by
  unfold early
  by_cases h : s.val + k < 4096
  · have h1 : 2 - k ≤ 2 + s.val ∧ 2 + s.val - (2 - k) < 4096 := by omega
    rw [dif_pos h1, dif_pos h]
    exact congrArg (fun r => g r * w) (Fin.ext (by simp only []; omega))
  · have h1 : ¬(2 - k ≤ 2 + s.val ∧ 2 + s.val - (2 - k) < 4096) := by omega
    rw [dif_neg h1, dif_neg h, zero_mul]

end Cert.FfnPad
-- ==== Proof.FfnDownRefRows.lean ====
/- The reference of the down projection's backward call, up to the gradient of the convolution: on real arguments its values are the
   real functions of `Cert.FfnSpec`. -/
module

public import proofs.«01_k».proof.Proof.FfnDownPad
public import proofs.«01_k».proof.Proof.Gen.FfnDownRefIdeal.Read

@[expose] public section

set_option maxRecDepth 16384

noncomputable section

namespace Cert.FfnDownRefIdeal.Real

open Cert.FfnDownRefIdeal Cert.FfnDownRefIdeal.Read Cert.FfnSpec Cert.FfnPad
open Idealize.ShloMosaic Cert.Lift

theorem zero_at (i : S_.Idx) : (constant S_ .f32 0x00000000#32 : FVec Ideal S_ .f32) i = 0 := by pointwise

variable (a : Args)

/-- The up projection, -/
theorem e1 (s : Fin 4096) (p : Fin 5632) : val_main_v1 (F := Ideal) (cv a.h) (cv a.w) (ix3 0 s p)
    = ((up a s p : ℝ) : EReal) := by
  pointwise [val_main_v1, val_main_v0, cv_apply]
  simp only [← EReal.coe_mul, sum_coe]
  rfl

/-- with two zero rows before it, read with no, one or two rows' delay. -/
theorem e6 (k : ℕ) (hk : k ≤ 2) (s : Fin 4096) (p : Fin 5632) : val_main_v6 (F := Ideal) (cv a.h) (cv a.w) (ix3 0 ⟨s + (2 - k), by omega⟩ p)
    = ((late k (fun s => up a s p) s : ℝ) : EReal) := by
  pointwise [val_main_v6, val_main_v5, val_main_cst]

  unfold late
  by_cases h : k ≤ s.val
  · rw [dif_neg (by omega), dif_pos h]
    refine Eq.trans ?_ (e1 a _ p)
    exact congrArg (fun s => val_main_v1 (F := Ideal) (cv a.h) (cv a.w) (ix3 0 s p)) (Fin.ext (by simp only []; omega))
  · rw [dif_pos (by omega), dif_neg h]
    simp

theorem e8 (s : Fin 4096) (p : Fin 5632) : val_main_v8 (F := Ideal) (cv a.h) (cv a.w) (ix3 0 s p)
    = ((late 2 (fun s => up a s p) s : ℝ) : EReal) := by
  pointwise [val_main_v8]
  exact e6 a 2 (by omega) s p

theorem e14 (s : Fin 4096) (p : Fin 5632) : val_main_v14 (F := Ideal) (cv a.h) (cv a.w) (ix3 0 s p)
    = ((late 1 (fun s => up a s p) s : ℝ) : EReal) := by
  pointwise [val_main_v14]
  exact (congrArg (fun s => val_main_v6 (F := Ideal) (cv a.h) (cv a.w) (ix3 0 s p)) (Fin.ext (Nat.add_comm 1 s.val))).trans (e6 a 1 (by omega) s p)

theorem e21 (s : Fin 4096) (p : Fin 5632) : val_main_v21 (F := Ideal) (cv a.h) (cv a.w) (ix3 0 s p)
    = ((up a s p : ℝ) : EReal) := by
  pointwise [val_main_v21]
  have f0 : late 0 (fun s => up a s p) s = up a s p := dif_pos (Nat.zero_le _)
  exact (congrArg (fun s => val_main_v6 (F := Ideal) (cv a.h) (cv a.w) (ix3 0 s p)) (Fin.ext (Nat.add_comm 2 s.val))).trans ((e6 a 0 (by omega) s p).trans (by rw [f0]))

/-- The convolution and its two halves. -/
theorem e30 (s : Fin 4096) (p : Fin 5632) : val_main_v30 (F := Ideal) (cv a.h) (cv a.w) (cv a.cw) (cv a.cb) (ix3 0 s p)
    = ((y a s p : ℝ) : EReal) := by
  pointwise [val_main_v30, val_main_v29, val_main_v28, val_main_v3, val_main_v27, val_main_v26, val_main_v25, val_main_v24, val_main_v23, val_main_v22, val_main_v20, val_main_v19, val_main_v18, val_main_v17, val_main_v16, val_main_v15, val_main_v13, val_main_v12, val_main_v11, val_main_v10, val_main_v9, val_main_v2, e8, e14, e21, cv_apply]
  simp only [← EReal.coe_mul, ← EReal.coe_add]
  rfl

theorem e31 (s : Fin 4096) (q : Fin 2816) : val_main_v31 (F := Ideal) (cv a.h) (cv a.w) (cv a.cw) (cv a.cb) (ix3 0 s q)
    = ((y a s (lo q) : ℝ) : EReal) := by
  pointwise [val_main_v31, e30]
  all_goals rfl

theorem e33 (s : Fin 4096) (q : Fin 2816) : val_main_v33 (F := Ideal) (cv a.h) (cv a.w) (cv a.cw) (cv a.cb) (ix3 0 s q)
    = ((y a s (hi q) : ℝ) : EReal) := by
  pointwise [val_main_v33, e30]
  all_goals rfl

/-- The gate. -/
theorem e32s (s : Fin 4096) (q : Fin 2816) : val_main_v32_2 (F := Ideal) (cv a.h) (cv a.w) (cv a.cw) (cv a.cb) (ix3 0 s q)
    = ((sg (y a s (lo q)) : ℝ) : EReal) := by
  have h : ∀ x : ℝ, 1 + Real.exp (-x) ≠ 0 := fun x => by positivity
  pointwise [val_main_v32_2, val_main_call0_v4, val_main_call0_cst_0, val_main_call0_v3, val_main_call0_v2, val_main_call0_cst, val_main_call0_v1, val_main_call0_v0, e31]
  simp only [← EReal.coe_neg, Ideal.exp_coe, ← EReal.coe_one, ← EReal.coe_add, div_coe _ _ (h _)]
  rfl

theorem e32d (s : Fin 4096) (q : Fin 2816) : val_main_v32_1 (F := Ideal) (cv a.h) (cv a.w) (cv a.cw) (cv a.cb) (ix3 0 s q)
    = ((sg (y a s (lo q)) * (1 - sg (y a s (lo q))) : ℝ) : EReal) := by
  pointwise [val_main_v32_1, val_main_call0_v7, val_main_call0_v6, val_main_call0_cst_1, e32s]
  simp only [← EReal.coe_one, ← EReal.coe_sub, ← EReal.coe_mul]

theorem e32g (s : Fin 4096) (q : Fin 2816) : val_main_v32_0 (F := Ideal) (cv a.h) (cv a.w) (cv a.cw) (cv a.cb) (ix3 0 s q)
    = ((y a s (lo q) * sg (y a s (lo q)) : ℝ) : EReal) := by
  pointwise [val_main_v32_0, e31, e32s]
  simp only [← EReal.coe_mul]

theorem e34 (s : Fin 4096) (q : Fin 2816) : val_main_v34 (F := Ideal) (cv a.h) (cv a.w) (cv a.cw) (cv a.cb) (ix3 0 s q)
    = ((act a s q : ℝ) : EReal) := by
  pointwise [val_main_v34, e32g, e33]
  simp only [← EReal.coe_mul]
  rfl

/-- The gradient of the gated rows, and of the convolution's halves. -/
theorem e38 (s : Fin 4096) (q : Fin 2816) : val_main_v38 (F := Ideal) (cv a.wd) (cv a.df) (ix3 0 s q)
    = ((dAct a s q : ℝ) : EReal) := by
  pointwise [val_main_v38, val_main_v4, cv_apply]
  simp only [← EReal.coe_mul, sum_coe]
  rfl

theorem e39 (s : Fin 4096) (q : Fin 2816) : val_main_v39 (F := Ideal) (cv a.h) (cv a.w) (cv a.cw) (cv a.cb) (cv a.wd) (cv a.df) (ix3 0 s q)
    = ((dYb a s q : ℝ) : EReal) := by
  pointwise [val_main_v39, e32g, e38]
  simp only [← EReal.coe_mul]
  refine congrArg (fun x : ℝ => (x : EReal)) ?_
  unfold dYb
  ring

theorem e40 (s : Fin 4096) (q : Fin 2816) : val_main_v40 (F := Ideal) (cv a.h) (cv a.w) (cv a.cw) (cv a.cb) (cv a.wd) (cv a.df) (ix3 0 s q)
    = ((dAct a s q * y a s (hi q) : ℝ) : EReal) := by
  pointwise [val_main_v40, e38, e33]
  simp only [← EReal.coe_mul]

theorem e42 (s : Fin 4096) (q : Fin 2816) : val_main_v42 (F := Ideal) (cv a.h) (cv a.w) (cv a.cw) (cv a.cb) (cv a.wd) (cv a.df) (ix3 0 s q)
    = ((dYa a s q : ℝ) : EReal) := by
  pointwise [val_main_v42, val_main_call1_v1, val_main_call1_v2, val_main_call1_v0, e40, e31, e32d, e32s]
  simp only [← EReal.coe_mul, ← EReal.coe_add]
  refine congrArg (fun x : ℝ => (x : EReal)) ?_
  unfold dYa
  ring

theorem e41 (s : Fin 4096) (p : Fin 5632) : val_main_v41 (F := Ideal) (cv a.h) (cv a.w) (cv a.cw) (cv a.cb) (cv a.wd) (cv a.df) (ix3 0 s p)
    = ((if h : 2816 ≤ p.val ∧ p.val - 2816 < 2816 then dYb a s ⟨p - 2816, h.2⟩ else 0 : ℝ) : EReal) := by
  exact pad_col _ _ _ _ (dYb a) (fun s q => e39 a s q) (zero_at _) s p

theorem e43 (s : Fin 4096) (p : Fin 5632) : val_main_v43 (F := Ideal) (cv a.h) (cv a.w) (cv a.cw) (cv a.cb) (cv a.wd) (cv a.df) (ix3 0 s p)
    = ((if h : 0 ≤ p.val ∧ p.val - 0 < 2816 then dYa a s ⟨p - 0, h.2⟩ else 0 : ℝ) : EReal) := by
  exact pad_col _ _ _ _ (dYa a) (fun s q => e42 a s q) (zero_at _) s p

/-- The gradient of the convolution. -/
theorem e44 (s : Fin 4096) (p : Fin 5632) : val_main_v44 (F := Ideal) (cv a.h) (cv a.w) (cv a.cw) (cv a.cb) (cv a.wd) (cv a.df) (ix3 0 s p)
    = ((dY a s p : ℝ) : EReal) := by
  rw [val_main_v44_apply, e41, e43]
  refine Eq.trans (EReal.coe_add _ _).symm (congrArg (fun x : ℝ => (x : EReal)) ?_)
  unfold dY
  by_cases h : p.val < 2816
  · have h1 : ¬(2816 ≤ p.val ∧ p.val - 2816 < 2816) := by omega
    have h2 : 0 ≤ p.val ∧ p.val - 0 < 2816 := by omega
    rw [dif_neg h1, dif_pos h2, dif_pos h, zero_add]
    all_goals rfl
  · have h1 : 2816 ≤ p.val ∧ p.val - 2816 < 2816 := by omega
    have h2 : ¬(0 ≤ p.val ∧ p.val - 0 < 2816) := by omega
    rw [dif_pos h1, dif_neg h2, dif_neg h, add_zero]

end Cert.FfnDownRefIdeal.Real
-- ==== Proof.FfnDownRefGrads.lean ====
/- The reference of the down projection's backward call, from the gradient of the convolution on: every tap's product is padded back and
   the three are added. -/
module

public import proofs.«01_k».proof.Proof.FfnDownRefRows

@[expose] public section

set_option maxRecDepth 16384

noncomputable section

namespace Cert.FfnDownRefIdeal.Real

open Cert.FfnDownRefIdeal Cert.FfnDownRefIdeal.Read Cert.FfnSpec Cert.FfnPad
open Idealize.ShloMosaic Cert.Lift

variable (a : Args)

theorem taps2 (p : Fin 5632) : dCw a 2 p = ∑ s, up a s p * dY a s p := by
  unfold dCw
  exact Finset.sum_congr rfl fun s _ => (congrArg (fun x : ℝ => x * up a s p) (early_zero (fun s => dY a s p) s)).trans (mul_comm _ _)

/-- The gradient of the bias, and of the taps. -/
theorem e47 (p : Fin 5632) : val_main_v47 (F := Ideal) (cv a.h) (cv a.w) (cv a.cw) (cv a.cb) (cv a.wd) (cv a.df) (ix1 p)
    = ((dCb a p : ℝ) : EReal) := by
  refine (hostReduceAdd_lead2 _ _ _ p).trans ?_
  pointwise [val_main_v46, val_main_v45, val_main_cst_3, val_main_cst_4, e44]
  simp only [sum_coe, zero_add]
  rfl

theorem e53 (p : Fin 5632) : val_main_v53 (F := Ideal) (cv a.h) (cv a.w) (cv a.cw) (cv a.cb) (cv a.wd) (cv a.df) (ix1 p)
    = ((dCw a 2 p : ℝ) : EReal) := by
  refine (hostReduceAdd_lead2 _ _ _ p).trans ?_
  pointwise [val_main_v50, val_main_v49, val_main_v48, val_main_cst_5, val_main_cst_6, e21, e44]
  simp only [← EReal.coe_mul, sum_coe, zero_add]
  exact congrArg (fun x : ℝ => (x : EReal)) (taps2 a p).symm

theorem e62 (p : Fin 5632) : val_main_v62 (F := Ideal) (cv a.h) (cv a.w) (cv a.cw) (cv a.cb) (cv a.wd) (cv a.df) (ix1 p)
    = ((dCw a 1 p : ℝ) : EReal) := by
  refine (hostReduceAdd_lead2 _ _ _ p).trans ?_
  pointwise [val_main_v59, val_main_v58, val_main_v57, val_main_cst_9, val_main_cst_10, e14, e44]
  simp only [← EReal.coe_mul, sum_coe, zero_add]
  exact congrArg (fun x : ℝ => (x : EReal)) (sum_early 1 (fun s => dY a s p) (fun s => up a s p)).symm

theorem e73 (p : Fin 5632) : val_main_v73 (F := Ideal) (cv a.h) (cv a.w) (cv a.cw) (cv a.cb) (cv a.wd) (cv a.df) (ix1 p)
    = ((dCw a 0 p : ℝ) : EReal) := by
  refine (hostReduceAdd_lead2 _ _ _ p).trans ?_
  pointwise [val_main_v70, val_main_v69, val_main_v68, val_main_cst_13, val_main_cst_14, e8, e44]
  simp only [← EReal.coe_mul, sum_coe, zero_add]
  exact congrArg (fun x : ℝ => (x : EReal)) (sum_early 2 (fun s => dY a s p) (fun s => up a s p)).symm

theorem e54 (z : Fin 1) (p : Fin 5632) : val_main_v54 (F := Ideal) (cv a.h) (cv a.w) (cv a.cw) (cv a.cb) (cv a.wd) (cv a.df) (ix2 z p)
    = ((dCw a 2 p : ℝ) : EReal) := by
  pointwise [val_main_v54, e53]

theorem e55 (k : Fin 3) (p : Fin 5632) : val_main_v55 (F := Ideal) (cv a.h) (cv a.w) (cv a.cw) (cv a.cb) (cv a.wd) (cv a.df) (ix2 k p)
    = ((if h : 2 ≤ k.val ∧ k.val - 2 < 1 then dCw a 2 p else 0 : ℝ) : EReal) := by
  exact pad_top _ _ _ _ (fun _ p => dCw a 2 p) (fun z p => e54 a z p) (zero_at _) k p

theorem e63 (z : Fin 1) (p : Fin 5632) : val_main_v63 (F := Ideal) (cv a.h) (cv a.w) (cv a.cw) (cv a.cb) (cv a.wd) (cv a.df) (ix2 z p)
    = ((dCw a 1 p : ℝ) : EReal) := by
  pointwise [val_main_v63, e62]

theorem e64 (k : Fin 3) (p : Fin 5632) : val_main_v64 (F := Ideal) (cv a.h) (cv a.w) (cv a.cw) (cv a.cb) (cv a.wd) (cv a.df) (ix2 k p)
    = ((if h : 1 ≤ k.val ∧ k.val - 1 < 1 then dCw a 1 p else 0 : ℝ) : EReal) := by
  exact pad_top _ _ _ _ (fun _ p => dCw a 1 p) (fun z p => e63 a z p) (zero_at _) k p

theorem e74 (z : Fin 1) (p : Fin 5632) : val_main_v74 (F := Ideal) (cv a.h) (cv a.w) (cv a.cw) (cv a.cb) (cv a.wd) (cv a.df) (ix2 z p)
    = ((dCw a 0 p : ℝ) : EReal) := by
  pointwise [val_main_v74, e73]

theorem e75 (k : Fin 3) (p : Fin 5632) : val_main_v75 (F := Ideal) (cv a.h) (cv a.w) (cv a.cw) (cv a.cb) (cv a.wd) (cv a.df) (ix2 k p)
    = ((if h : 0 ≤ k.val ∧ k.val - 0 < 1 then dCw a 0 p else 0 : ℝ) : EReal) := by
  exact pad_top _ _ _ _ (fun _ p => dCw a 0 p) (fun z p => e74 a z p) (zero_at _) k p

theorem e76 (k : Fin 3) (p : Fin 5632) : val_main_v76 (F := Ideal) (cv a.h) (cv a.w) (cv a.cw) (cv a.cb) (cv a.wd) (cv a.df) (ix2 k p)
    = ((dCw a k p : ℝ) : EReal) := by
  rw [val_main_v76_apply, val_main_v65_apply, e55, e64, e75]
  refine Eq.trans (add3 _ _ _) (congrArg (fun x : ℝ => (x : EReal)) ?_)
  fin_cases k <;> simp

/-- The gradient of the up projection's rows. -/
theorem e52 (s : Fin 4096) (p : Fin 5632) : val_main_v52 (F := Ideal) (cv a.h) (cv a.w) (cv a.cw) (cv a.cb) (cv a.wd) (cv a.df) (ix3 0 s p)
    = ((dY a s p * a.cw (ix3 0 2 p) : ℝ) : EReal) := by
  pointwise [val_main_v52, val_main_v51, val_main_v24, val_main_v23, val_main_v22, val_main_v2, e44, cv_apply]
  simp only [← EReal.coe_mul]
  all_goals rfl

theorem e61 (s : Fin 4096) (p : Fin 5632) : val_main_v61 (F := Ideal) (cv a.h) (cv a.w) (cv a.cw) (cv a.cb) (cv a.wd) (cv a.df) (ix3 0 s p)
    = ((dY a s p * a.cw (ix3 0 1 p) : ℝ) : EReal) := by
  pointwise [val_main_v61, val_main_v60, val_main_v17, val_main_v16, val_main_v15, val_main_v2, e44, cv_apply]
  simp only [← EReal.coe_mul]
  all_goals rfl

theorem e72 (s : Fin 4096) (p : Fin 5632) : val_main_v72 (F := Ideal) (cv a.h) (cv a.w) (cv a.cw) (cv a.cb) (cv a.wd) (cv a.df) (ix3 0 s p)
    = ((dY a s p * a.cw (ix3 0 0 p) : ℝ) : EReal) := by
  pointwise [val_main_v72, val_main_v71, val_main_v11, val_main_v10, val_main_v9, val_main_v2, e44, cv_apply]
  simp only [← EReal.coe_mul]
  all_goals rfl

theorem e56 (r : Fin 4098) (p : Fin 5632) : val_main_v56 (F := Ideal) (cv a.h) (cv a.w) (cv a.cw) (cv a.cb) (cv a.wd) (cv a.df) (ix3 0 r p)
    = ((if h : 2 ≤ r.val ∧ r.val - 2 < 4096 then dY a ⟨r - 2, h.2⟩ p * a.cw (ix3 0 2 p) else 0 : ℝ) : EReal) := by
  exact pad_row _ _ _ _ (fun s p => dY a s p * a.cw (ix3 0 2 p)) (fun s p => e52 a s p) (zero_at _) r p

theorem e66 (r : Fin 4098) (p : Fin 5632) : val_main_v66 (F := Ideal) (cv a.h) (cv a.w) (cv a.cw) (cv a.cb) (cv a.wd) (cv a.df) (ix3 0 r p)
    = ((if h : 1 ≤ r.val ∧ r.val - 1 < 4096 then dY a ⟨r - 1, h.2⟩ p * a.cw (ix3 0 1 p) else 0 : ℝ) : EReal) := by
  exact pad_row _ _ _ _ (fun s p => dY a s p * a.cw (ix3 0 1 p)) (fun s p => e61 a s p) (zero_at _) r p

theorem e77 (r : Fin 4098) (p : Fin 5632) : val_main_v77 (F := Ideal) (cv a.h) (cv a.w) (cv a.cw) (cv a.cb) (cv a.wd) (cv a.df) (ix3 0 r p)
    = ((if h : 0 ≤ r.val ∧ r.val - 0 < 4096 then dY a ⟨r - 0, h.2⟩ p * a.cw (ix3 0 0 p) else 0 : ℝ) : EReal) := by
  exact pad_row _ _ _ _ (fun s p => dY a s p * a.cw (ix3 0 0 p)) (fun s p => e72 a s p) (zero_at _) r p

theorem e78 (s : Fin 4096) (p : Fin 5632) : val_main_v78 (F := Ideal) (cv a.h) (cv a.w) (cv a.cw) (cv a.cb) (cv a.wd) (cv a.df) (ix3 0 ⟨2 + s, by omega⟩ p)
    = ((dU a s p : ℝ) : EReal) := by
  rw [val_main_v78_apply, val_main_v67_apply, e56, e66, e77]
  refine Eq.trans (add3 _ _ _) (congrArg (fun x : ℝ => (x : EReal)) ?_)
  unfold dU
  exact congrArg₂ (fun x y : ℝ => x + y) (congrArg₂ (fun x y : ℝ => x + y) ((shifted 0 (by omega) s (fun s => dY a s p) _).trans (by rw [early_zero]))
    (shifted 1 (by omega) s (fun s => dY a s p) _)) (shifted 2 (by omega) s (fun s => dY a s p) _)

theorem e80 (s : Fin 4096) (p : Fin 5632) : val_main_v80 (F := Ideal) (cv a.h) (cv a.w) (cv a.cw) (cv a.cb) (cv a.wd) (cv a.df) (ix3 0 s p)
    = ((dU a s p : ℝ) : EReal) := by
  pointwise [val_main_v80]
  exact e78 a s p

/-- The gradients of the two weights. -/
theorem e82 (d : Fin 1024) (p : Fin 5632) : val_main_v82 (F := Ideal) (cv a.h) (cv a.w) (cv a.cw) (cv a.cb) (cv a.wd) (cv a.df) (ix2 d p)
    = ((dWu a p d : ℝ) : EReal) := by
  pointwise [val_main_v82]
  refine (dot_lead2 _ _ _ p d).trans ?_
  simp only [e80, cv_apply, ← EReal.coe_mul, sum_coe]
  rfl

theorem e37 (q : Fin 2816) (d : Fin 1024) : val_main_v37 (F := Ideal) (cv a.h) (cv a.w) (cv a.cw) (cv a.cb) (cv a.df) (ix2 q d)
    = ((dWd a q d : ℝ) : EReal) := by
  pointwise [val_main_v37]
  refine (dot_lead2 _ _ _ d q).trans ?_
  simp only [e34, cv_apply, ← EReal.coe_mul, sum_coe]
  refine congrArg (fun x : ℝ => (x : EReal)) ?_
  unfold dWd
  exact Finset.sum_congr rfl fun s _ => mul_comm _ _

end Cert.FfnDownRefIdeal.Real
-- ==== Proof.FfnDownRef.lean ====
/- The five results of the reference of the down projection's backward call. -/
module

public import proofs.«01_k».proof.Proof.FfnDownTile
public import proofs.«01_k».proof.Proof.FfnDownRefGrads

@[expose] public section

set_option maxRecDepth 16384

noncomputable section

namespace Cert.FfnDownRefIdeal.Real

open Cert.FfnDownRefIdeal Cert.FfnDownRefIdeal.Read Cert.FfnSpec Cert.FfnPad
open Cert.FfnDownIdeal.Tile (col qq)
open Idealize.ShloMosaic Cert.Lift

variable (a : Args)

theorem flat (p : Fin 2) (j : Fin 4) (n : Fin 704) (h : p.val * 2816 + j.val * 704 + n.val < 5632) :
    (⟨p.val * 2816 + j.val * 704 + n.val, h⟩ : Fin 5632) = col p j n :=
  Fin.ext (by show p.val * 2816 + j.val * 704 + n.val = (p.val * 4 + j.val) * 704 + n.val; omega)

attribute [local irreducible] dU dCw dCb dWd dWu

theorem out92 : val_main_v92 (F := Ideal) (cv a.h) (cv a.w) (cv a.cw) (cv a.cb) (cv a.wd) (cv a.df)
    = cv (fun i : S4x2x4096x704.Idx => dU a (i 2) (col (i 1) (i 0) (i 3))) := by
  funext i
  idx_vars i
  pointwise [val_main_v92, val_main_v85, val_main_v84, val_main_v83, e80, cv_apply]
  exact congrArg (fun p => ((dU a i2 p : ℝ) : EReal)) (flat ..)

theorem out87 : val_main_v87 (F := Ideal) (cv a.h) (cv a.w) (cv a.cw) (cv a.cb) (cv a.wd) (cv a.df)
    = cv (fun i : S4x2x3x704.Idx => dCw a (i 2) (col (i 1) (i 0) (i 3))) := by
  funext i
  idx_vars i
  pointwise [val_main_v87, val_main_v86, e76, cv_apply]
  exact congrArg (fun p => ((dCw a i2 p : ℝ) : EReal)) (flat ..)

theorem out89 : val_main_v89 (F := Ideal) (cv a.h) (cv a.w) (cv a.cw) (cv a.cb) (cv a.wd) (cv a.df)
    = cv (fun i : S4x2x1x704.Idx => dCb a (col (i 1) (i 0) (i 3))) := by
  funext i
  idx_vars i
  pointwise [val_main_v89, val_main_v88, e47, cv_apply]
  exact congrArg (fun p => ((dCb a p : ℝ) : EReal)) (flat ..)

theorem out94 : val_main_v94 (F := Ideal) (cv a.h) (cv a.w) (cv a.cw) (cv a.cb) (cv a.df)
    = cv (fun i : S4x704x1024.Idx => dWd a (qq (i 0) (i 1)) (i 2)) := by
  funext i
  idx_vars i
  pointwise [val_main_v94, val_main_v93, e37, cv_apply]
  all_goals rfl

theorem out95 : val_main_v95 (F := Ideal) (cv a.h) (cv a.w) (cv a.cw) (cv a.cb) (cv a.wd) (cv a.df)
    = cv (fun i : S4x2x704x1024.Idx => dWu a (col (i 1) (i 0) (i 2)) (i 3)) := by
  funext i
  idx_vars i
  pointwise [val_main_v95, val_main_v91, val_main_v90, e82, cv_apply]
  exact congrArg (fun p => ((dWu a p i3 : ℝ) : EReal)) (flat ..)

end Cert.FfnDownRefIdeal.Real
-- ==== Proof.FfnDownPair.lean ====
/- The down projection's backward call: the kernel's five results are the reference's, for finite arguments. -/
module

public import proofs.«01_k».proof.Defs
public import proofs.«01_k».proof.Proof.FfnDownArr
public import proofs.«01_k».proof.Proof.FfnDownRef
public import proofs.«01_k».proof.Proof.DownLossPair
public import proofs.«01_k».proof.Proof.Gen.Pre_finite_ffn
public import Idealize.ShloMosaic.Lib.Claim

@[expose] public section

set_option maxRecDepth 16384

noncomputable section

namespace Cert.FfnDownPair

open Idealize.ShloMosaic Idealize.ShloMosaic.TcCoe Idealize.SL.Sem Cert.Lift Cert.FfnSpec
open Cert.FfnDownRefIdeal Cert.FfnDownRefIdeal.Real Cert.FfnDownIdeal.Arr Cert.DownLossPair

/-- The precondition makes every argument a real array. -/
theorem args_real (m : (ℓ : Loc Cert.FfnDownIdeal.nD Cert.FfnDownIdeal.τ Cert.FfnDownIdeal.sig) → Buf (Elt Ideal) ℓ)
    (hpre : Cert.Pre_FfnDownIdeal_finite_ffn m) (c : Dev Cert.FfnDownIdeal.nD) : ∃ a : Args, Cert.FfnDownIdeal.Host.IsReal m c a := by
  have h := congrFun (hpre c) (fun a => a.elim0)
  obtain ⟨h, h5⟩ := and_parts h
  obtain ⟨h, h4⟩ := and_parts h
  obtain ⟨h, h3⟩ := and_parts h
  obtain ⟨h, h2⟩ := and_parts h
  obtain ⟨h0, h1⟩ := and_parts h
  obtain ⟨r0, e0⟩ := real_of_all _ _ (fun _ => rfl) _ _ _ _ h0
  obtain ⟨r1, e1⟩ := real_of_all _ _ (fun _ => rfl) _ _ _ _ h1
  obtain ⟨r2, e2⟩ := real_of_all _ _ (fun _ => rfl) _ _ _ _ h2
  obtain ⟨r3, e3⟩ := real_of_all _ _ (fun _ => rfl) _ _ _ _ h3
  obtain ⟨r4, e4⟩ := real_of_all _ _ (fun _ => rfl) _ _ _ _ h4
  obtain ⟨r5, e5⟩ := real_of_all _ _ (fun _ => rfl) _ _ _ _ h5
  exact ⟨⟨r0, r1, r2, r3, r4, r5⟩, ⟨e0, e1, e2, e3, e4, e5⟩⟩

set_option maxHeartbeats 4000000 in
theorem algebraic : Cert.algebraic_FfnDownIdeal_FfnDownRefIdeal_pre_finite_ffn := by
  pair_intro
  · run_from Cert.FfnDownIdeal.Value.run_blocks m g
  · run_from Cert.FfnDownRefIdeal.Value.run m' g'
    all_goals
      obtain ⟨a, hr⟩ := args_real m hpre c
      have e0 := (hagree c).1.trans hr.h0
      have e1 := (hagree c).2.1.trans hr.h1
      have e2 := (hagree c).2.2.1.trans hr.h2
      have e3 := (hagree c).2.2.2.1.trans hr.h3
      have e4 := (hagree c).2.2.2.2.1.trans hr.h4
      have e5 := (hagree c).2.2.2.2.2.trans hr.h5
    · exact (Read.val_main_v92_eq ..).trans
        ((by first | rw [e0, e1, e2, e3, e4, e5] | simp only [e0, e1, e2, e3, e4, e5, hr.h0, hr.h1, hr.h2, hr.h3, hr.h4, hr.h5] : _ = _).trans ((out92 a).trans (arr10 hr).symm))
    · exact (Read.val_main_v87_eq ..).trans
        ((by first | rw [e0, e1, e2, e3, e4, e5] | simp only [e0, e1, e2, e3, e4, e5, hr.h0, hr.h1, hr.h2, hr.h3, hr.h4, hr.h5] : _ = _).trans ((out87 a).trans (arr11 hr).symm))
    · exact (Read.val_main_v89_eq ..).trans
        ((by first | rw [e0, e1, e2, e3, e4, e5] | simp only [e0, e1, e2, e3, e4, e5, hr.h0, hr.h1, hr.h2, hr.h3, hr.h4, hr.h5] : _ = _).trans ((out89 a).trans (arr12 hr).symm))
    · exact (Read.val_main_v94_eq ..).trans
        ((by first | rw [e0, e1, e2, e3, e4, e5] | simp only [e0, e1, e2, e3, e4, e5, hr.h0, hr.h1, hr.h2, hr.h3, hr.h4, hr.h5] : _ = _).trans ((out94 a).trans (arr13 hr).symm))
    · exact (Read.val_main_v95_eq ..).trans
        ((by first | rw [e0, e1, e2, e3, e4, e5] | simp only [e0, e1, e2, e3, e4, e5, hr.h0, hr.h1, hr.h2, hr.h3, hr.h4, hr.h5] : _ = _).trans ((out95 a).trans (arr14 hr).symm))

/-- The reference runs to its end and leaves its arguments. -/
theorem quiescent_ref : Cert.quiescent_FfnDownRefIdeal := fun m ρ _ =>
  (θ_run Cert.FfnDownRefIdeal.defs _ _).mono (fun r h => ⟨fun c => (h c).2.2.2.2.2, sem_eq_zero_of_no_sems (by decide) r.2⟩)
    (Cert.FfnDownRefIdeal.Value.run (F := Ideal) m ρ)

end Cert.FfnDownPair
-- ==== Proof.lean ====
module

public import proofs.«01_k».proof.Proof.Gen.DownLossIdeal.Value
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Loops
public import proofs.«01_k».proof.Proof.Gen.AttnBwdIdeal.Frame
public import proofs.«01_k».proof.Proof.Gen.AttnBwdRefIdeal
public import proofs.«01_k».proof.Proof.Gen.AttnBwdRefIdeal.Read
public import proofs.«01_k».proof.Proof.Gen.DownLossRefIdeal.Read
public import proofs.«01_k».proof.Proof.DownLossPair
public import proofs.«01_k».proof.Defs
public import proofs.«01_k».proof.Proof.AttnBwdKernel
public import proofs.«01_k».proof.Proof.AttnBwdPair
public import proofs.«01_k».proof.Proof.OutProjPair
public import proofs.«01_k».proof.Proof.FfnUpPair
public import proofs.«01_k».proof.Proof.FfnDownPair
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossRefIdeal
public import proofs.«01_k».proof.Proof.Gen.Pre_finite_down
public import proofs.«01_k».proof.Proof.Gen.Pre_finite_attn
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Pre_finite_ffn
public import proofs.«01_k».proof.Proof.Gen.Pre_finite_up
public import Idealize.ShloMosaic.Adequacy
public import Idealize.ShloMosaic.Init

@[expose] public section

noncomputable section

namespace Cert.Proof

open Idealize.ShloMosaic Idealize.SL.Sem

theorem claim : Cert.Claim :=
  ⟨Cert.DownLoss.Gen.facts, Cert.DownLossIdeal.Gen.facts, Cert.DownLossRefIdeal.Gen.facts,
    Cert.AttnBwd.Gen.facts, Cert.AttnBwdIdeal.Gen.facts, Cert.AttnBwdRefIdeal.Gen.facts,
    Cert.OutProj.Gen.facts, Cert.OutProjIdeal.Gen.facts, Cert.OutProjRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.Pre_finite_down.Gen.facts, Cert.Pre_finite_attn.Gen.facts, Cert.Pre_finite_up.Gen.facts, Cert.Pre_finite_ffn.Gen.facts,
    fun m ρ _ => Cert.DownLoss.Gen.frame m ρ,
    fun m ρ _ => Cert.DownLossIdeal.Gen.frame m ρ,
    fun m ρ _ => Cert.DownLossIdeal.Gen.frame m ρ,
    Cert.DownLossPair.quiescent_ref,
    fun m ρ _ => Cert.DownLossPair.quiescent_ref m ρ trivial,
    Cert.AttnBwdKernel.frame_kernel,
    Cert.AttnBwdKernel.frame_ideal,
    fun m ρ _ => Cert.AttnBwdKernel.frame_ideal m ρ trivial,
    Cert.AttnBwdKernel.frame_ref,
    fun m ρ _ => Cert.AttnBwdKernel.frame_ref m ρ trivial,
    fun m ρ _ => Cert.OutProj.Gen.frame m ρ,
    fun m ρ _ => Cert.OutProjIdeal.Gen.frame m ρ,
    Cert.OutProjPair.quiescent_ref,
    fun m ρ _ => Cert.FfnUp.Gen.frame m ρ,
    fun m ρ _ => Cert.FfnUpIdeal.Gen.frame m ρ,
    fun m ρ _ => Cert.FfnUpIdeal.Gen.frame m ρ,
    Cert.FfnUpPair.quiescent_ref,
    fun m ρ _ => Cert.FfnUpPair.quiescent_ref m ρ trivial,
    fun m ρ _ => Cert.FfnDown.Gen.frame m ρ,
    fun m ρ _ => Cert.FfnDownIdeal.Gen.frame m ρ,
    fun m ρ _ => Cert.FfnDownIdeal.Gen.frame m ρ,
    Cert.FfnDownPair.quiescent_ref,
    fun m ρ _ => Cert.FfnDownPair.quiescent_ref m ρ trivial,
    trivial,
    Cert.DownLossPair.algebraic,
    Cert.AttnBwdKernel.preserves,
    Cert.AttnBwdPair.algebraic,
    trivial,
    Cert.OutProjPair.algebraic,
    trivial,
    Cert.FfnUpPair.algebraic,
    trivial,
    Cert.FfnDownPair.algebraic⟩

end Cert.Proof

end
